-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Image (m : (ℓ : Loc Cert.Image.nD Cert.Image.τ Cert.Image.sig) → Buf (Elt Bits) ℓ) : Prop :=
  True

def Pre_ImageIdeal (m : (ℓ : Loc Cert.ImageIdeal.nD Cert.ImageIdeal.τ Cert.ImageIdeal.sig) → Buf (Elt Ideal) ℓ) : Prop :=
  True

def Pre_ImageReferenceIdeal (m : (ℓ : Loc Cert.ImageReferenceIdeal.nD Cert.ImageReferenceIdeal.τ Cert.ImageReferenceIdeal.sig) → Buf (Elt Ideal) ℓ) : Prop :=
  True

def Pre_Self (m : (ℓ : Loc Cert.Self.nD Cert.Self.τ Cert.Self.sig) → Buf (Elt Bits) ℓ) : Prop :=
  True

def Pre_SelfIdeal (m : (ℓ : Loc Cert.SelfIdeal.nD Cert.SelfIdeal.τ Cert.SelfIdeal.sig) → Buf (Elt Ideal) ℓ) : Prop :=
  True

def Pre_SelfIdeal_finite [hPre_finite : Cert.Pre_finite.Facts] (m : (ℓ : Loc Cert.SelfIdeal.nD Cert.SelfIdeal.τ Cert.SelfIdeal.sig) → Buf (Elt Ideal) ℓ) : Prop :=
  ∀ c : Dev Cert.SelfIdeal.nD,
    (Cert.Pre_finite.fn (F := Ideal) (m ((c.tc : Thread Cert.SelfIdeal.nD Cert.SelfIdeal.τ).loc Cert.SelfIdeal.main_arg0)) (m ((c.tc : Thread Cert.SelfIdeal.nD Cert.SelfIdeal.τ).loc Cert.SelfIdeal.main_arg1)) (m ((c.tc : Thread Cert.SelfIdeal.nD Cert.SelfIdeal.τ).loc Cert.SelfIdeal.main_arg2)) (m ((c.tc : Thread Cert.SelfIdeal.nD Cert.SelfIdeal.τ).loc Cert.SelfIdeal.main_arg3)) (m ((c.tc : Thread Cert.SelfIdeal.nD Cert.SelfIdeal.τ).loc Cert.SelfIdeal.main_arg4)) (m ((c.tc : Thread Cert.SelfIdeal.nD Cert.SelfIdeal.τ).loc Cert.SelfIdeal.main_arg5)) (m ((c.tc : Thread Cert.SelfIdeal.nD Cert.SelfIdeal.τ).loc Cert.SelfIdeal.main_arg6)) (m ((c.tc : Thread Cert.SelfIdeal.nD Cert.SelfIdeal.τ).loc Cert.SelfIdeal.main_arg7)) (m ((c.tc : Thread Cert.SelfIdeal.nD Cert.SelfIdeal.τ).loc Cert.SelfIdeal.main_arg8)) (m ((c.tc : Thread Cert.SelfIdeal.nD Cert.SelfIdeal.τ).loc Cert.SelfIdeal.main_arg9)) (m ((c.tc : Thread Cert.SelfIdeal.nD Cert.SelfIdeal.τ).loc Cert.SelfIdeal.main_arg10)) (m ((c.tc : Thread Cert.SelfIdeal.nD Cert.SelfIdeal.τ).loc Cert.SelfIdeal.main_arg11)) (m ((c.tc : Thread Cert.SelfIdeal.nD Cert.SelfIdeal.τ).loc Cert.SelfIdeal.main_arg12))) = (fun _ => 1#1)

def Pre_SelfReferenceIdeal (m : (ℓ : Loc Cert.SelfReferenceIdeal.nD Cert.SelfReferenceIdeal.τ Cert.SelfReferenceIdeal.sig) → Buf (Elt Ideal) ℓ) : Prop :=
  True

def Pre_SelfReferenceIdeal_finite [hPre_finite : Cert.Pre_finite.Facts] (m : (ℓ : Loc Cert.SelfReferenceIdeal.nD Cert.SelfReferenceIdeal.τ Cert.SelfReferenceIdeal.sig) → Buf (Elt Ideal) ℓ) : Prop :=
  ∀ c : Dev Cert.SelfReferenceIdeal.nD,
    (Cert.Pre_finite.fn (F := Ideal) (m ((c.tc : Thread Cert.SelfReferenceIdeal.nD Cert.SelfReferenceIdeal.τ).loc Cert.SelfReferenceIdeal.main_arg0)) (m ((c.tc : Thread Cert.SelfReferenceIdeal.nD Cert.SelfReferenceIdeal.τ).loc Cert.SelfReferenceIdeal.main_arg1)) (m ((c.tc : Thread Cert.SelfReferenceIdeal.nD Cert.SelfReferenceIdeal.τ).loc Cert.SelfReferenceIdeal.main_arg2)) (m ((c.tc : Thread Cert.SelfReferenceIdeal.nD Cert.SelfReferenceIdeal.τ).loc Cert.SelfReferenceIdeal.main_arg3)) (m ((c.tc : Thread Cert.SelfReferenceIdeal.nD Cert.SelfReferenceIdeal.τ).loc Cert.SelfReferenceIdeal.main_arg4)) (m ((c.tc : Thread Cert.SelfReferenceIdeal.nD Cert.SelfReferenceIdeal.τ).loc Cert.SelfReferenceIdeal.main_arg5)) (m ((c.tc : Thread Cert.SelfReferenceIdeal.nD Cert.SelfReferenceIdeal.τ).loc Cert.SelfReferenceIdeal.main_arg6)) (m ((c.tc : Thread Cert.SelfReferenceIdeal.nD Cert.SelfReferenceIdeal.τ).loc Cert.SelfReferenceIdeal.main_arg7)) (m ((c.tc : Thread Cert.SelfReferenceIdeal.nD Cert.SelfReferenceIdeal.τ).loc Cert.SelfReferenceIdeal.main_arg8)) (m ((c.tc : Thread Cert.SelfReferenceIdeal.nD Cert.SelfReferenceIdeal.τ).loc Cert.SelfReferenceIdeal.main_arg9)) (m ((c.tc : Thread Cert.SelfReferenceIdeal.nD Cert.SelfReferenceIdeal.τ).loc Cert.SelfReferenceIdeal.main_arg10)) (m ((c.tc : Thread Cert.SelfReferenceIdeal.nD Cert.SelfReferenceIdeal.τ).loc Cert.SelfReferenceIdeal.main_arg11)) (m ((c.tc : Thread Cert.SelfReferenceIdeal.nD Cert.SelfReferenceIdeal.τ).loc Cert.SelfReferenceIdeal.main_arg12))) = (fun _ => 1#1)

def Pre_Token (m : (ℓ : Loc Cert.Token.nD Cert.Token.τ Cert.Token.sig) → Buf (Elt Bits) ℓ) : Prop :=
  True

def Pre_TokenIdeal (m : (ℓ : Loc Cert.TokenIdeal.nD Cert.TokenIdeal.τ Cert.TokenIdeal.sig) → Buf (Elt Ideal) ℓ) : Prop :=
  True

def Pre_TokenReferenceIdeal (m : (ℓ : Loc Cert.TokenReferenceIdeal.nD Cert.TokenReferenceIdeal.τ Cert.TokenReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Image [hImage : Cert.Image.Facts] : Prop :=
  ∀ (m : (ℓ : Loc Cert.Image.nD Cert.Image.τ Cert.Image.sig) → Buf (Elt Bits) ℓ) (g : Dev Cert.Image.nD → PrngReg), Pre_Image m →
    θ_run (Cert.Image.defs (F := Bits)) (onTc (τ := Cert.Image.τ) (Cert.Image.main (F := Bits))) ⟨m, fun _ => 0, g⟩ (fun r => (∀ c : Dev Cert.Image.nD,
      r.2.mem ((c.tc : Thread Cert.Image.nD Cert.Image.τ).loc Cert.Image.main_arg0) = m ((c.tc : Thread Cert.Image.nD Cert.Image.τ).loc Cert.Image.main_arg0)
      ∧ r.2.mem ((c.tc : Thread Cert.Image.nD Cert.Image.τ).loc Cert.Image.main_arg1) = m ((c.tc : Thread Cert.Image.nD Cert.Image.τ).loc Cert.Image.main_arg1)
      ∧ r.2.mem ((c.tc : Thread Cert.Image.nD Cert.Image.τ).loc Cert.Image.main_arg2) = m ((c.tc : Thread Cert.Image.nD Cert.Image.τ).loc Cert.Image.main_arg2)
      ∧ r.2.mem ((c.tc : Thread Cert.Image.nD Cert.Image.τ).loc Cert.Image.main_arg3) = m ((c.tc : Thread Cert.Image.nD Cert.Image.τ).loc Cert.Image.main_arg3)
      ∧ r.2.mem ((c.tc : Thread Cert.Image.nD Cert.Image.τ).loc Cert.Image.main_arg4) = m ((c.tc : Thread Cert.Image.nD Cert.Image.τ).loc Cert.Image.main_arg4)
      ∧ r.2.mem ((c.tc : Thread Cert.Image.nD Cert.Image.τ).loc Cert.Image.main_arg5) = m ((c.tc : Thread Cert.Image.nD Cert.Image.τ).loc Cert.Image.main_arg5)
      ∧ r.2.mem ((c.tc : Thread Cert.Image.nD Cert.Image.τ).loc Cert.Image.main_arg6) = m ((c.tc : Thread Cert.Image.nD Cert.Image.τ).loc Cert.Image.main_arg6)
      ∧ r.2.mem ((c.tc : Thread Cert.Image.nD Cert.Image.τ).loc Cert.Image.main_arg7) = m ((c.tc : Thread Cert.Image.nD Cert.Image.τ).loc Cert.Image.main_arg7)
      ∧ r.2.mem ((c.tc : Thread Cert.Image.nD Cert.Image.τ).loc Cert.Image.main_arg8) = m ((c.tc : Thread Cert.Image.nD Cert.Image.τ).loc Cert.Image.main_arg8)
      ∧ r.2.mem ((c.tc : Thread Cert.Image.nD Cert.Image.τ).loc Cert.Image.main_arg9) = m ((c.tc : Thread Cert.Image.nD Cert.Image.τ).loc Cert.Image.main_arg9)
      ∧ r.2.mem ((c.tc : Thread Cert.Image.nD Cert.Image.τ).loc Cert.Image.main_arg10) = m ((c.tc : Thread Cert.Image.nD Cert.Image.τ).loc Cert.Image.main_arg10)
      ∧ r.2.mem ((c.tc : Thread Cert.Image.nD Cert.Image.τ).loc Cert.Image.main_arg11) = m ((c.tc : Thread Cert.Image.nD Cert.Image.τ).loc Cert.Image.main_arg11)
      ∧ r.2.mem ((c.tc : Thread Cert.Image.nD Cert.Image.τ).loc Cert.Image.main_arg12) = m ((c.tc : Thread Cert.Image.nD Cert.Image.τ).loc Cert.Image.main_arg12))
      ∧ r.2.sem = fun _ => 0)

def quiescent_ImageIdeal [hImageIdeal : Cert.ImageIdeal.Facts] : Prop :=
  ∀ (m : (ℓ : Loc Cert.ImageIdeal.nD Cert.ImageIdeal.τ Cert.ImageIdeal.sig) → Buf (Elt Ideal) ℓ) (g : Dev Cert.ImageIdeal.nD → PrngReg), Pre_ImageIdeal m →
    θ_run (Cert.ImageIdeal.defs (F := Ideal)) (onTc (τ := Cert.ImageIdeal.τ) (Cert.ImageIdeal.main (F := Ideal))) ⟨m, fun _ => 0, g⟩ (fun r => (∀ c : Dev Cert.ImageIdeal.nD,
      r.2.mem ((c.tc : Thread Cert.ImageIdeal.nD Cert.ImageIdeal.τ).loc Cert.ImageIdeal.main_arg0) = m ((c.tc : Thread Cert.ImageIdeal.nD Cert.ImageIdeal.τ).loc Cert.ImageIdeal.main_arg0)
      ∧ r.2.mem ((c.tc : Thread Cert.ImageIdeal.nD Cert.ImageIdeal.τ).loc Cert.ImageIdeal.main_arg1) = m ((c.tc : Thread Cert.ImageIdeal.nD Cert.ImageIdeal.τ).loc Cert.ImageIdeal.main_arg1)
      ∧ r.2.mem ((c.tc : Thread Cert.ImageIdeal.nD Cert.ImageIdeal.τ).loc Cert.ImageIdeal.main_arg2) = m ((c.tc : Thread Cert.ImageIdeal.nD Cert.ImageIdeal.τ).loc Cert.ImageIdeal.main_arg2)
      ∧ r.2.mem ((c.tc : Thread Cert.ImageIdeal.nD Cert.ImageIdeal.τ).loc Cert.ImageIdeal.main_arg3) = m ((c.tc : Thread Cert.ImageIdeal.nD Cert.ImageIdeal.τ).loc Cert.ImageIdeal.main_arg3)
      ∧ r.2.mem ((c.tc : Thread Cert.ImageIdeal.nD Cert.ImageIdeal.τ).loc Cert.ImageIdeal.main_arg4) = m ((c.tc : Thread Cert.ImageIdeal.nD Cert.ImageIdeal.τ).loc Cert.ImageIdeal.main_arg4)
      ∧ r.2.mem ((c.tc : Thread Cert.ImageIdeal.nD Cert.ImageIdeal.τ).loc Cert.ImageIdeal.main_arg5) = m ((c.tc : Thread Cert.ImageIdeal.nD Cert.ImageIdeal.τ).loc Cert.ImageIdeal.main_arg5)
      ∧ r.2.mem ((c.tc : Thread Cert.ImageIdeal.nD Cert.ImageIdeal.τ).loc Cert.ImageIdeal.main_arg6) = m ((c.tc : Thread Cert.ImageIdeal.nD Cert.ImageIdeal.τ).loc Cert.ImageIdeal.main_arg6)
      ∧ r.2.mem ((c.tc : Thread Cert.ImageIdeal.nD Cert.ImageIdeal.τ).loc Cert.ImageIdeal.main_arg7) = m ((c.tc : Thread Cert.ImageIdeal.nD Cert.ImageIdeal.τ).loc Cert.ImageIdeal.main_arg7)
      ∧ r.2.mem ((c.tc : Thread Cert.ImageIdeal.nD Cert.ImageIdeal.τ).loc Cert.ImageIdeal.main_arg8) = m ((c.tc : Thread Cert.ImageIdeal.nD Cert.ImageIdeal.τ).loc Cert.ImageIdeal.main_arg8)
      ∧ r.2.mem ((c.tc : Thread Cert.ImageIdeal.nD Cert.ImageIdeal.τ).loc Cert.ImageIdeal.main_arg9) = m ((c.tc : Thread Cert.ImageIdeal.nD Cert.ImageIdeal.τ).loc Cert.ImageIdeal.main_arg9)
      ∧ r.2.mem ((c.tc : Thread Cert.ImageIdeal.nD Cert.ImageIdeal.τ).loc Cert.ImageIdeal.main_arg10) = m ((c.tc : Thread Cert.ImageIdeal.nD Cert.ImageIdeal.τ).loc Cert.ImageIdeal.main_arg10)
      ∧ r.2.mem ((c.tc : Thread Cert.ImageIdeal.nD Cert.ImageIdeal.τ).loc Cert.ImageIdeal.main_arg11) = m ((c.tc : Thread Cert.ImageIdeal.nD Cert.ImageIdeal.τ).loc Cert.ImageIdeal.main_arg11)
      ∧ r.2.mem ((c.tc : Thread Cert.ImageIdeal.nD Cert.ImageIdeal.τ).loc Cert.ImageIdeal.main_arg12) = m ((c.tc : Thread Cert.ImageIdeal.nD Cert.ImageIdeal.τ).loc Cert.ImageIdeal.main_arg12))
      ∧ r.2.sem = fun _ => 0)

def quiescent_ImageReferenceIdeal [hImageReferenceIdeal : Cert.ImageReferenceIdeal.Facts] : Prop :=
  ∀ (m : (ℓ : Loc Cert.ImageReferenceIdeal.nD Cert.ImageReferenceIdeal.τ Cert.ImageReferenceIdeal.sig) → Buf (Elt Ideal) ℓ) (g : Dev Cert.ImageReferenceIdeal.nD → PrngReg), Pre_ImageReferenceIdeal m →
    θ_run (Cert.ImageReferenceIdeal.defs (F := Ideal)) (onTc (τ := Cert.ImageReferenceIdeal.τ) (Cert.ImageReferenceIdeal.main (F := Ideal))) ⟨m, fun _ => 0, g⟩ (fun r => (∀ c : Dev Cert.ImageReferenceIdeal.nD,
      r.2.mem ((c.tc : Thread Cert.ImageReferenceIdeal.nD Cert.ImageReferenceIdeal.τ).loc Cert.ImageReferenceIdeal.main_arg0) = m ((c.tc : Thread Cert.ImageReferenceIdeal.nD Cert.ImageReferenceIdeal.τ).loc Cert.ImageReferenceIdeal.main_arg0)
      ∧ r.2.mem ((c.tc : Thread Cert.ImageReferenceIdeal.nD Cert.ImageReferenceIdeal.τ).loc Cert.ImageReferenceIdeal.main_arg1) = m ((c.tc : Thread Cert.ImageReferenceIdeal.nD Cert.ImageReferenceIdeal.τ).loc Cert.ImageReferenceIdeal.main_arg1)
      ∧ r.2.mem ((c.tc : Thread Cert.ImageReferenceIdeal.nD Cert.ImageReferenceIdeal.τ).loc Cert.ImageReferenceIdeal.main_arg2) = m ((c.tc : Thread Cert.ImageReferenceIdeal.nD Cert.ImageReferenceIdeal.τ).loc Cert.ImageReferenceIdeal.main_arg2)
      ∧ r.2.mem ((c.tc : Thread Cert.ImageReferenceIdeal.nD Cert.ImageReferenceIdeal.τ).loc Cert.ImageReferenceIdeal.main_arg3) = m ((c.tc : Thread Cert.ImageReferenceIdeal.nD Cert.ImageReferenceIdeal.τ).loc Cert.ImageReferenceIdeal.main_arg3)
      ∧ r.2.mem ((c.tc : Thread Cert.ImageReferenceIdeal.nD Cert.ImageReferenceIdeal.τ).loc Cert.ImageReferenceIdeal.main_arg4) = m ((c.tc : Thread Cert.ImageReferenceIdeal.nD Cert.ImageReferenceIdeal.τ).loc Cert.ImageReferenceIdeal.main_arg4)
      ∧ r.2.mem ((c.tc : Thread Cert.ImageReferenceIdeal.nD Cert.ImageReferenceIdeal.τ).loc Cert.ImageReferenceIdeal.main_arg5) = m ((c.tc : Thread Cert.ImageReferenceIdeal.nD Cert.ImageReferenceIdeal.τ).loc Cert.ImageReferenceIdeal.main_arg5)
      ∧ r.2.mem ((c.tc : Thread Cert.ImageReferenceIdeal.nD Cert.ImageReferenceIdeal.τ).loc Cert.ImageReferenceIdeal.main_arg6) = m ((c.tc : Thread Cert.ImageReferenceIdeal.nD Cert.ImageReferenceIdeal.τ).loc Cert.ImageReferenceIdeal.main_arg6)
      ∧ r.2.mem ((c.tc : Thread Cert.ImageReferenceIdeal.nD Cert.ImageReferenceIdeal.τ).loc Cert.ImageReferenceIdeal.main_arg7) = m ((c.tc : Thread Cert.ImageReferenceIdeal.nD Cert.ImageReferenceIdeal.τ).loc Cert.ImageReferenceIdeal.main_arg7)
      ∧ r.2.mem ((c.tc : Thread Cert.ImageReferenceIdeal.nD Cert.ImageReferenceIdeal.τ).loc Cert.ImageReferenceIdeal.main_arg8) = m ((c.tc : Thread Cert.ImageReferenceIdeal.nD Cert.ImageReferenceIdeal.τ).loc Cert.ImageReferenceIdeal.main_arg8)
      ∧ r.2.mem ((c.tc : Thread Cert.ImageReferenceIdeal.nD Cert.ImageReferenceIdeal.τ).loc Cert.ImageReferenceIdeal.main_arg9) = m ((c.tc : Thread Cert.ImageReferenceIdeal.nD Cert.ImageReferenceIdeal.τ).loc Cert.ImageReferenceIdeal.main_arg9)
      ∧ r.2.mem ((c.tc : Thread Cert.ImageReferenceIdeal.nD Cert.ImageReferenceIdeal.τ).loc Cert.ImageReferenceIdeal.main_arg10) = m ((c.tc : Thread Cert.ImageReferenceIdeal.nD Cert.ImageReferenceIdeal.τ).loc Cert.ImageReferenceIdeal.main_arg10)
      ∧ r.2.mem ((c.tc : Thread Cert.ImageReferenceIdeal.nD Cert.ImageReferenceIdeal.τ).loc Cert.ImageReferenceIdeal.main_arg11) = m ((c.tc : Thread Cert.ImageReferenceIdeal.nD Cert.ImageReferenceIdeal.τ).loc Cert.ImageReferenceIdeal.main_arg11)
      ∧ r.2.mem ((c.tc : Thread Cert.ImageReferenceIdeal.nD Cert.ImageReferenceIdeal.τ).loc Cert.ImageReferenceIdeal.main_arg12) = m ((c.tc : Thread Cert.ImageReferenceIdeal.nD Cert.ImageReferenceIdeal.τ).loc Cert.ImageReferenceIdeal.main_arg12))
      ∧ r.2.sem = fun _ => 0)

def quiescent_Self [hSelf : Cert.Self.Facts] : Prop :=
  ∀ (m : (ℓ : Loc Cert.Self.nD Cert.Self.τ Cert.Self.sig) → Buf (Elt Bits) ℓ) (g : Dev Cert.Self.nD → PrngReg), Pre_Self m →
    θ_run (Cert.Self.defs (F := Bits)) (onTc (τ := Cert.Self.τ) (Cert.Self.main (F := Bits))) ⟨m, fun _ => 0, g⟩ (fun r => (∀ c : Dev Cert.Self.nD,
      r.2.mem ((c.tc : Thread Cert.Self.nD Cert.Self.τ).loc Cert.Self.main_arg0) = m ((c.tc : Thread Cert.Self.nD Cert.Self.τ).loc Cert.Self.main_arg0)
      ∧ r.2.mem ((c.tc : Thread Cert.Self.nD Cert.Self.τ).loc Cert.Self.main_arg1) = m ((c.tc : Thread Cert.Self.nD Cert.Self.τ).loc Cert.Self.main_arg1)
      ∧ r.2.mem ((c.tc : Thread Cert.Self.nD Cert.Self.τ).loc Cert.Self.main_arg2) = m ((c.tc : Thread Cert.Self.nD Cert.Self.τ).loc Cert.Self.main_arg2)
      ∧ r.2.mem ((c.tc : Thread Cert.Self.nD Cert.Self.τ).loc Cert.Self.main_arg3) = m ((c.tc : Thread Cert.Self.nD Cert.Self.τ).loc Cert.Self.main_arg3)
      ∧ r.2.mem ((c.tc : Thread Cert.Self.nD Cert.Self.τ).loc Cert.Self.main_arg4) = m ((c.tc : Thread Cert.Self.nD Cert.Self.τ).loc Cert.Self.main_arg4)
      ∧ r.2.mem ((c.tc : Thread Cert.Self.nD Cert.Self.τ).loc Cert.Self.main_arg5) = m ((c.tc : Thread Cert.Self.nD Cert.Self.τ).loc Cert.Self.main_arg5)
      ∧ r.2.mem ((c.tc : Thread Cert.Self.nD Cert.Self.τ).loc Cert.Self.main_arg6) = m ((c.tc : Thread Cert.Self.nD Cert.Self.τ).loc Cert.Self.main_arg6)
      ∧ r.2.mem ((c.tc : Thread Cert.Self.nD Cert.Self.τ).loc Cert.Self.main_arg7) = m ((c.tc : Thread Cert.Self.nD Cert.Self.τ).loc Cert.Self.main_arg7)
      ∧ r.2.mem ((c.tc : Thread Cert.Self.nD Cert.Self.τ).loc Cert.Self.main_arg8) = m ((c.tc : Thread Cert.Self.nD Cert.Self.τ).loc Cert.Self.main_arg8)
      ∧ r.2.mem ((c.tc : Thread Cert.Self.nD Cert.Self.τ).loc Cert.Self.main_arg9) = m ((c.tc : Thread Cert.Self.nD Cert.Self.τ).loc Cert.Self.main_arg9)
      ∧ r.2.mem ((c.tc : Thread Cert.Self.nD Cert.Self.τ).loc Cert.Self.main_arg10) = m ((c.tc : Thread Cert.Self.nD Cert.Self.τ).loc Cert.Self.main_arg10)
      ∧ r.2.mem ((c.tc : Thread Cert.Self.nD Cert.Self.τ).loc Cert.Self.main_arg11) = m ((c.tc : Thread Cert.Self.nD Cert.Self.τ).loc Cert.Self.main_arg11)
      ∧ r.2.mem ((c.tc : Thread Cert.Self.nD Cert.Self.τ).loc Cert.Self.main_arg12) = m ((c.tc : Thread Cert.Self.nD Cert.Self.τ).loc Cert.Self.main_arg12))
      ∧ r.2.sem = fun _ => 0)

def quiescent_SelfIdeal [hSelfIdeal : Cert.SelfIdeal.Facts] : Prop :=
  ∀ (m : (ℓ : Loc Cert.SelfIdeal.nD Cert.SelfIdeal.τ Cert.SelfIdeal.sig) → Buf (Elt Ideal) ℓ) (g : Dev Cert.SelfIdeal.nD → PrngReg), Pre_SelfIdeal m →
    θ_run (Cert.SelfIdeal.defs (F := Ideal)) (onTc (τ := Cert.SelfIdeal.τ) (Cert.SelfIdeal.main (F := Ideal))) ⟨m, fun _ => 0, g⟩ (fun r => (∀ c : Dev Cert.SelfIdeal.nD,
      r.2.mem ((c.tc : Thread Cert.SelfIdeal.nD Cert.SelfIdeal.τ).loc Cert.SelfIdeal.main_arg0) = m ((c.tc : Thread Cert.SelfIdeal.nD Cert.SelfIdeal.τ).loc Cert.SelfIdeal.main_arg0)
      ∧ r.2.mem ((c.tc : Thread Cert.SelfIdeal.nD Cert.SelfIdeal.τ).loc Cert.SelfIdeal.main_arg1) = m ((c.tc : Thread Cert.SelfIdeal.nD Cert.SelfIdeal.τ).loc Cert.SelfIdeal.main_arg1)
      ∧ r.2.mem ((c.tc : Thread Cert.SelfIdeal.nD Cert.SelfIdeal.τ).loc Cert.SelfIdeal.main_arg2) = m ((c.tc : Thread Cert.SelfIdeal.nD Cert.SelfIdeal.τ).loc Cert.SelfIdeal.main_arg2)
      ∧ r.2.mem ((c.tc : Thread Cert.SelfIdeal.nD Cert.SelfIdeal.τ).loc Cert.SelfIdeal.main_arg3) = m ((c.tc : Thread Cert.SelfIdeal.nD Cert.SelfIdeal.τ).loc Cert.SelfIdeal.main_arg3)
      ∧ r.2.mem ((c.tc : Thread Cert.SelfIdeal.nD Cert.SelfIdeal.τ).loc Cert.SelfIdeal.main_arg4) = m ((c.tc : Thread Cert.SelfIdeal.nD Cert.SelfIdeal.τ).loc Cert.SelfIdeal.main_arg4)
      ∧ r.2.mem ((c.tc : Thread Cert.SelfIdeal.nD Cert.SelfIdeal.τ).loc Cert.SelfIdeal.main_arg5) = m ((c.tc : Thread Cert.SelfIdeal.nD Cert.SelfIdeal.τ).loc Cert.SelfIdeal.main_arg5)
      ∧ r.2.mem ((c.tc : Thread Cert.SelfIdeal.nD Cert.SelfIdeal.τ).loc Cert.SelfIdeal.main_arg6) = m ((c.tc : Thread Cert.SelfIdeal.nD Cert.SelfIdeal.τ).loc Cert.SelfIdeal.main_arg6)
      ∧ r.2.mem ((c.tc : Thread Cert.SelfIdeal.nD Cert.SelfIdeal.τ).loc Cert.SelfIdeal.main_arg7) = m ((c.tc : Thread Cert.SelfIdeal.nD Cert.SelfIdeal.τ).loc Cert.SelfIdeal.main_arg7)
      ∧ r.2.mem ((c.tc : Thread Cert.SelfIdeal.nD Cert.SelfIdeal.τ).loc Cert.SelfIdeal.main_arg8) = m ((c.tc : Thread Cert.SelfIdeal.nD Cert.SelfIdeal.τ).loc Cert.SelfIdeal.main_arg8)
      ∧ r.2.mem ((c.tc : Thread Cert.SelfIdeal.nD Cert.SelfIdeal.τ).loc Cert.SelfIdeal.main_arg9) = m ((c.tc : Thread Cert.SelfIdeal.nD Cert.SelfIdeal.τ).loc Cert.SelfIdeal.main_arg9)
      ∧ r.2.mem ((c.tc : Thread Cert.SelfIdeal.nD Cert.SelfIdeal.τ).loc Cert.SelfIdeal.main_arg10) = m ((c.tc : Thread Cert.SelfIdeal.nD Cert.SelfIdeal.τ).loc Cert.SelfIdeal.main_arg10)
      ∧ r.2.mem ((c.tc : Thread Cert.SelfIdeal.nD Cert.SelfIdeal.τ).loc Cert.SelfIdeal.main_arg11) = m ((c.tc : Thread Cert.SelfIdeal.nD Cert.SelfIdeal.τ).loc Cert.SelfIdeal.main_arg11)
      ∧ r.2.mem ((c.tc : Thread Cert.SelfIdeal.nD Cert.SelfIdeal.τ).loc Cert.SelfIdeal.main_arg12) = m ((c.tc : Thread Cert.SelfIdeal.nD Cert.SelfIdeal.τ).loc Cert.SelfIdeal.main_arg12))
      ∧ r.2.sem = fun _ => 0)

def quiescent_SelfIdeal_pre_finite [hSelfIdeal : Cert.SelfIdeal.Facts] [hPre_finite : Cert.Pre_finite.Facts] : Prop :=
  ∀ (m : (ℓ : Loc Cert.SelfIdeal.nD Cert.SelfIdeal.τ Cert.SelfIdeal.sig) → Buf (Elt Ideal) ℓ) (g : Dev Cert.SelfIdeal.nD → PrngReg), Pre_SelfIdeal_finite m →
    θ_run (Cert.SelfIdeal.defs (F := Ideal)) (onTc (τ := Cert.SelfIdeal.τ) (Cert.SelfIdeal.main (F := Ideal))) ⟨m, fun _ => 0, g⟩ (fun r => (∀ c : Dev Cert.SelfIdeal.nD,
      r.2.mem ((c.tc : Thread Cert.SelfIdeal.nD Cert.SelfIdeal.τ).loc Cert.SelfIdeal.main_arg0) = m ((c.tc : Thread Cert.SelfIdeal.nD Cert.SelfIdeal.τ).loc Cert.SelfIdeal.main_arg0)
      ∧ r.2.mem ((c.tc : Thread Cert.SelfIdeal.nD Cert.SelfIdeal.τ).loc Cert.SelfIdeal.main_arg1) = m ((c.tc : Thread Cert.SelfIdeal.nD Cert.SelfIdeal.τ).loc Cert.SelfIdeal.main_arg1)
      ∧ r.2.mem ((c.tc : Thread Cert.SelfIdeal.nD Cert.SelfIdeal.τ).loc Cert.SelfIdeal.main_arg2) = m ((c.tc : Thread Cert.SelfIdeal.nD Cert.SelfIdeal.τ).loc Cert.SelfIdeal.main_arg2)
      ∧ r.2.mem ((c.tc : Thread Cert.SelfIdeal.nD Cert.SelfIdeal.τ).loc Cert.SelfIdeal.main_arg3) = m ((c.tc : Thread Cert.SelfIdeal.nD Cert.SelfIdeal.τ).loc Cert.SelfIdeal.main_arg3)
      ∧ r.2.mem ((c.tc : Thread Cert.SelfIdeal.nD Cert.SelfIdeal.τ).loc Cert.SelfIdeal.main_arg4) = m ((c.tc : Thread Cert.SelfIdeal.nD Cert.SelfIdeal.τ).loc Cert.SelfIdeal.main_arg4)
      ∧ r.2.mem ((c.tc : Thread Cert.SelfIdeal.nD Cert.SelfIdeal.τ).loc Cert.SelfIdeal.main_arg5) = m ((c.tc : Thread Cert.SelfIdeal.nD Cert.SelfIdeal.τ).loc Cert.SelfIdeal.main_arg5)
      ∧ r.2.mem ((c.tc : Thread Cert.SelfIdeal.nD Cert.SelfIdeal.τ).loc Cert.SelfIdeal.main_arg6) = m ((c.tc : Thread Cert.SelfIdeal.nD Cert.SelfIdeal.τ).loc Cert.SelfIdeal.main_arg6)
      ∧ r.2.mem ((c.tc : Thread Cert.SelfIdeal.nD Cert.SelfIdeal.τ).loc Cert.SelfIdeal.main_arg7) = m ((c.tc : Thread Cert.SelfIdeal.nD Cert.SelfIdeal.τ).loc Cert.SelfIdeal.main_arg7)
      ∧ r.2.mem ((c.tc : Thread Cert.SelfIdeal.nD Cert.SelfIdeal.τ).loc Cert.SelfIdeal.main_arg8) = m ((c.tc : Thread Cert.SelfIdeal.nD Cert.SelfIdeal.τ).loc Cert.SelfIdeal.main_arg8)
      ∧ r.2.mem ((c.tc : Thread Cert.SelfIdeal.nD Cert.SelfIdeal.τ).loc Cert.SelfIdeal.main_arg9) = m ((c.tc : Thread Cert.SelfIdeal.nD Cert.SelfIdeal.τ).loc Cert.SelfIdeal.main_arg9)
      ∧ r.2.mem ((c.tc : Thread Cert.SelfIdeal.nD Cert.SelfIdeal.τ).loc Cert.SelfIdeal.main_arg10) = m ((c.tc : Thread Cert.SelfIdeal.nD Cert.SelfIdeal.τ).loc Cert.SelfIdeal.main_arg10)
      ∧ r.2.mem ((c.tc : Thread Cert.SelfIdeal.nD Cert.SelfIdeal.τ).loc Cert.SelfIdeal.main_arg11) = m ((c.tc : Thread Cert.SelfIdeal.nD Cert.SelfIdeal.τ).loc Cert.SelfIdeal.main_arg11)
      ∧ r.2.mem ((c.tc : Thread Cert.SelfIdeal.nD Cert.SelfIdeal.τ).loc Cert.SelfIdeal.main_arg12) = m ((c.tc : Thread Cert.SelfIdeal.nD Cert.SelfIdeal.τ).loc Cert.SelfIdeal.main_arg12))
      ∧ r.2.sem = fun _ => 0)

def quiescent_SelfReferenceIdeal [hSelfReferenceIdeal : Cert.SelfReferenceIdeal.Facts] : Prop :=
  ∀ (m : (ℓ : Loc Cert.SelfReferenceIdeal.nD Cert.SelfReferenceIdeal.τ Cert.SelfReferenceIdeal.sig) → Buf (Elt Ideal) ℓ) (g : Dev Cert.SelfReferenceIdeal.nD → PrngReg), Pre_SelfReferenceIdeal m →
    θ_run (Cert.SelfReferenceIdeal.defs (F := Ideal)) (onTc (τ := Cert.SelfReferenceIdeal.τ) (Cert.SelfReferenceIdeal.main (F := Ideal))) ⟨m, fun _ => 0, g⟩ (fun r => (∀ c : Dev Cert.SelfReferenceIdeal.nD,
      r.2.mem ((c.tc : Thread Cert.SelfReferenceIdeal.nD Cert.SelfReferenceIdeal.τ).loc Cert.SelfReferenceIdeal.main_arg0) = m ((c.tc : Thread Cert.SelfReferenceIdeal.nD Cert.SelfReferenceIdeal.τ).loc Cert.SelfReferenceIdeal.main_arg0)
      ∧ r.2.mem ((c.tc : Thread Cert.SelfReferenceIdeal.nD Cert.SelfReferenceIdeal.τ).loc Cert.SelfReferenceIdeal.main_arg1) = m ((c.tc : Thread Cert.SelfReferenceIdeal.nD Cert.SelfReferenceIdeal.τ).loc Cert.SelfReferenceIdeal.main_arg1)
      ∧ r.2.mem ((c.tc : Thread Cert.SelfReferenceIdeal.nD Cert.SelfReferenceIdeal.τ).loc Cert.SelfReferenceIdeal.main_arg2) = m ((c.tc : Thread Cert.SelfReferenceIdeal.nD Cert.SelfReferenceIdeal.τ).loc Cert.SelfReferenceIdeal.main_arg2)
      ∧ r.2.mem ((c.tc : Thread Cert.SelfReferenceIdeal.nD Cert.SelfReferenceIdeal.τ).loc Cert.SelfReferenceIdeal.main_arg3) = m ((c.tc : Thread Cert.SelfReferenceIdeal.nD Cert.SelfReferenceIdeal.τ).loc Cert.SelfReferenceIdeal.main_arg3)
      ∧ r.2.mem ((c.tc : Thread Cert.SelfReferenceIdeal.nD Cert.SelfReferenceIdeal.τ).loc Cert.SelfReferenceIdeal.main_arg4) = m ((c.tc : Thread Cert.SelfReferenceIdeal.nD Cert.SelfReferenceIdeal.τ).loc Cert.SelfReferenceIdeal.main_arg4)
      ∧ r.2.mem ((c.tc : Thread Cert.SelfReferenceIdeal.nD Cert.SelfReferenceIdeal.τ).loc Cert.SelfReferenceIdeal.main_arg5) = m ((c.tc : Thread Cert.SelfReferenceIdeal.nD Cert.SelfReferenceIdeal.τ).loc Cert.SelfReferenceIdeal.main_arg5)
      ∧ r.2.mem ((c.tc : Thread Cert.SelfReferenceIdeal.nD Cert.SelfReferenceIdeal.τ).loc Cert.SelfReferenceIdeal.main_arg6) = m ((c.tc : Thread Cert.SelfReferenceIdeal.nD Cert.SelfReferenceIdeal.τ).loc Cert.SelfReferenceIdeal.main_arg6)
      ∧ r.2.mem ((c.tc : Thread Cert.SelfReferenceIdeal.nD Cert.SelfReferenceIdeal.τ).loc Cert.SelfReferenceIdeal.main_arg7) = m ((c.tc : Thread Cert.SelfReferenceIdeal.nD Cert.SelfReferenceIdeal.τ).loc Cert.SelfReferenceIdeal.main_arg7)
      ∧ r.2.mem ((c.tc : Thread Cert.SelfReferenceIdeal.nD Cert.SelfReferenceIdeal.τ).loc Cert.SelfReferenceIdeal.main_arg8) = m ((c.tc : Thread Cert.SelfReferenceIdeal.nD Cert.SelfReferenceIdeal.τ).loc Cert.SelfReferenceIdeal.main_arg8)
      ∧ r.2.mem ((c.tc : Thread Cert.SelfReferenceIdeal.nD Cert.SelfReferenceIdeal.τ).loc Cert.SelfReferenceIdeal.main_arg9) = m ((c.tc : Thread Cert.SelfReferenceIdeal.nD Cert.SelfReferenceIdeal.τ).loc Cert.SelfReferenceIdeal.main_arg9)
      ∧ r.2.mem ((c.tc : Thread Cert.SelfReferenceIdeal.nD Cert.SelfReferenceIdeal.τ).loc Cert.SelfReferenceIdeal.main_arg10) = m ((c.tc : Thread Cert.SelfReferenceIdeal.nD Cert.SelfReferenceIdeal.τ).loc Cert.SelfReferenceIdeal.main_arg10)
      ∧ r.2.mem ((c.tc : Thread Cert.SelfReferenceIdeal.nD Cert.SelfReferenceIdeal.τ).loc Cert.SelfReferenceIdeal.main_arg11) = m ((c.tc : Thread Cert.SelfReferenceIdeal.nD Cert.SelfReferenceIdeal.τ).loc Cert.SelfReferenceIdeal.main_arg11)
      ∧ r.2.mem ((c.tc : Thread Cert.SelfReferenceIdeal.nD Cert.SelfReferenceIdeal.τ).loc Cert.SelfReferenceIdeal.main_arg12) = m ((c.tc : Thread Cert.SelfReferenceIdeal.nD Cert.SelfReferenceIdeal.τ).loc Cert.SelfReferenceIdeal.main_arg12))
      ∧ r.2.sem = fun _ => 0)

def quiescent_SelfReferenceIdeal_pre_finite [hSelfReferenceIdeal : Cert.SelfReferenceIdeal.Facts] [hPre_finite : Cert.Pre_finite.Facts] : Prop :=
  ∀ (m : (ℓ : Loc Cert.SelfReferenceIdeal.nD Cert.SelfReferenceIdeal.τ Cert.SelfReferenceIdeal.sig) → Buf (Elt Ideal) ℓ) (g : Dev Cert.SelfReferenceIdeal.nD → PrngReg), Pre_SelfReferenceIdeal_finite m →
    θ_run (Cert.SelfReferenceIdeal.defs (F := Ideal)) (onTc (τ := Cert.SelfReferenceIdeal.τ) (Cert.SelfReferenceIdeal.main (F := Ideal))) ⟨m, fun _ => 0, g⟩ (fun r => (∀ c : Dev Cert.SelfReferenceIdeal.nD,
      r.2.mem ((c.tc : Thread Cert.SelfReferenceIdeal.nD Cert.SelfReferenceIdeal.τ).loc Cert.SelfReferenceIdeal.main_arg0) = m ((c.tc : Thread Cert.SelfReferenceIdeal.nD Cert.SelfReferenceIdeal.τ).loc Cert.SelfReferenceIdeal.main_arg0)
      ∧ r.2.mem ((c.tc : Thread Cert.SelfReferenceIdeal.nD Cert.SelfReferenceIdeal.τ).loc Cert.SelfReferenceIdeal.main_arg1) = m ((c.tc : Thread Cert.SelfReferenceIdeal.nD Cert.SelfReferenceIdeal.τ).loc Cert.SelfReferenceIdeal.main_arg1)
      ∧ r.2.mem ((c.tc : Thread Cert.SelfReferenceIdeal.nD Cert.SelfReferenceIdeal.τ).loc Cert.SelfReferenceIdeal.main_arg2) = m ((c.tc : Thread Cert.SelfReferenceIdeal.nD Cert.SelfReferenceIdeal.τ).loc Cert.SelfReferenceIdeal.main_arg2)
      ∧ r.2.mem ((c.tc : Thread Cert.SelfReferenceIdeal.nD Cert.SelfReferenceIdeal.τ).loc Cert.SelfReferenceIdeal.main_arg3) = m ((c.tc : Thread Cert.SelfReferenceIdeal.nD Cert.SelfReferenceIdeal.τ).loc Cert.SelfReferenceIdeal.main_arg3)
      ∧ r.2.mem ((c.tc : Thread Cert.SelfReferenceIdeal.nD Cert.SelfReferenceIdeal.τ).loc Cert.SelfReferenceIdeal.main_arg4) = m ((c.tc : Thread Cert.SelfReferenceIdeal.nD Cert.SelfReferenceIdeal.τ).loc Cert.SelfReferenceIdeal.main_arg4)
      ∧ r.2.mem ((c.tc : Thread Cert.SelfReferenceIdeal.nD Cert.SelfReferenceIdeal.τ).loc Cert.SelfReferenceIdeal.main_arg5) = m ((c.tc : Thread Cert.SelfReferenceIdeal.nD Cert.SelfReferenceIdeal.τ).loc Cert.SelfReferenceIdeal.main_arg5)
      ∧ r.2.mem ((c.tc : Thread Cert.SelfReferenceIdeal.nD Cert.SelfReferenceIdeal.τ).loc Cert.SelfReferenceIdeal.main_arg6) = m ((c.tc : Thread Cert.SelfReferenceIdeal.nD Cert.SelfReferenceIdeal.τ).loc Cert.SelfReferenceIdeal.main_arg6)
      ∧ r.2.mem ((c.tc : Thread Cert.SelfReferenceIdeal.nD Cert.SelfReferenceIdeal.τ).loc Cert.SelfReferenceIdeal.main_arg7) = m ((c.tc : Thread Cert.SelfReferenceIdeal.nD Cert.SelfReferenceIdeal.τ).loc Cert.SelfReferenceIdeal.main_arg7)
      ∧ r.2.mem ((c.tc : Thread Cert.SelfReferenceIdeal.nD Cert.SelfReferenceIdeal.τ).loc Cert.SelfReferenceIdeal.main_arg8) = m ((c.tc : Thread Cert.SelfReferenceIdeal.nD Cert.SelfReferenceIdeal.τ).loc Cert.SelfReferenceIdeal.main_arg8)
      ∧ r.2.mem ((c.tc : Thread Cert.SelfReferenceIdeal.nD Cert.SelfReferenceIdeal.τ).loc Cert.SelfReferenceIdeal.main_arg9) = m ((c.tc : Thread Cert.SelfReferenceIdeal.nD Cert.SelfReferenceIdeal.τ).loc Cert.SelfReferenceIdeal.main_arg9)
      ∧ r.2.mem ((c.tc : Thread Cert.SelfReferenceIdeal.nD Cert.SelfReferenceIdeal.τ).loc Cert.SelfReferenceIdeal.main_arg10) = m ((c.tc : Thread Cert.SelfReferenceIdeal.nD Cert.SelfReferenceIdeal.τ).loc Cert.SelfReferenceIdeal.main_arg10)
      ∧ r.2.mem ((c.tc : Thread Cert.SelfReferenceIdeal.nD Cert.SelfReferenceIdeal.τ).loc Cert.SelfReferenceIdeal.main_arg11) = m ((c.tc : Thread Cert.SelfReferenceIdeal.nD Cert.SelfReferenceIdeal.τ).loc Cert.SelfReferenceIdeal.main_arg11)
      ∧ r.2.mem ((c.tc : Thread Cert.SelfReferenceIdeal.nD Cert.SelfReferenceIdeal.τ).loc Cert.SelfReferenceIdeal.main_arg12) = m ((c.tc : Thread Cert.SelfReferenceIdeal.nD Cert.SelfReferenceIdeal.τ).loc Cert.SelfReferenceIdeal.main_arg12))
      ∧ r.2.sem = fun _ => 0)

def quiescent_Token [hToken : Cert.Token.Facts] : Prop :=
  ∀ (m : (ℓ : Loc Cert.Token.nD Cert.Token.τ Cert.Token.sig) → Buf (Elt Bits) ℓ) (g : Dev Cert.Token.nD → PrngReg), Pre_Token m →
    θ_run (Cert.Token.defs (F := Bits)) (onTc (τ := Cert.Token.τ) (Cert.Token.main (F := Bits))) ⟨m, fun _ => 0, g⟩ (fun r => (∀ c : Dev Cert.Token.nD,
      r.2.mem ((c.tc : Thread Cert.Token.nD Cert.Token.τ).loc Cert.Token.main_arg0) = m ((c.tc : Thread Cert.Token.nD Cert.Token.τ).loc Cert.Token.main_arg0)
      ∧ r.2.mem ((c.tc : Thread Cert.Token.nD Cert.Token.τ).loc Cert.Token.main_arg1) = m ((c.tc : Thread Cert.Token.nD Cert.Token.τ).loc Cert.Token.main_arg1)
      ∧ r.2.mem ((c.tc : Thread Cert.Token.nD Cert.Token.τ).loc Cert.Token.main_arg2) = m ((c.tc : Thread Cert.Token.nD Cert.Token.τ).loc Cert.Token.main_arg2)
      ∧ r.2.mem ((c.tc : Thread Cert.Token.nD Cert.Token.τ).loc Cert.Token.main_arg3) = m ((c.tc : Thread Cert.Token.nD Cert.Token.τ).loc Cert.Token.main_arg3)
      ∧ r.2.mem ((c.tc : Thread Cert.Token.nD Cert.Token.τ).loc Cert.Token.main_arg4) = m ((c.tc : Thread Cert.Token.nD Cert.Token.τ).loc Cert.Token.main_arg4)
      ∧ r.2.mem ((c.tc : Thread Cert.Token.nD Cert.Token.τ).loc Cert.Token.main_arg5) = m ((c.tc : Thread Cert.Token.nD Cert.Token.τ).loc Cert.Token.main_arg5)
      ∧ r.2.mem ((c.tc : Thread Cert.Token.nD Cert.Token.τ).loc Cert.Token.main_arg6) = m ((c.tc : Thread Cert.Token.nD Cert.Token.τ).loc Cert.Token.main_arg6)
      ∧ r.2.mem ((c.tc : Thread Cert.Token.nD Cert.Token.τ).loc Cert.Token.main_arg7) = m ((c.tc : Thread Cert.Token.nD Cert.Token.τ).loc Cert.Token.main_arg7)
      ∧ r.2.mem ((c.tc : Thread Cert.Token.nD Cert.Token.τ).loc Cert.Token.main_arg8) = m ((c.tc : Thread Cert.Token.nD Cert.Token.τ).loc Cert.Token.main_arg8)
      ∧ r.2.mem ((c.tc : Thread Cert.Token.nD Cert.Token.τ).loc Cert.Token.main_arg9) = m ((c.tc : Thread Cert.Token.nD Cert.Token.τ).loc Cert.Token.main_arg9)
      ∧ r.2.mem ((c.tc : Thread Cert.Token.nD Cert.Token.τ).loc Cert.Token.main_arg10) = m ((c.tc : Thread Cert.Token.nD Cert.Token.τ).loc Cert.Token.main_arg10)
      ∧ r.2.mem ((c.tc : Thread Cert.Token.nD Cert.Token.τ).loc Cert.Token.main_arg11) = m ((c.tc : Thread Cert.Token.nD Cert.Token.τ).loc Cert.Token.main_arg11)
      ∧ r.2.mem ((c.tc : Thread Cert.Token.nD Cert.Token.τ).loc Cert.Token.main_arg12) = m ((c.tc : Thread Cert.Token.nD Cert.Token.τ).loc Cert.Token.main_arg12)
      ∧ r.2.mem ((c.tc : Thread Cert.Token.nD Cert.Token.τ).loc Cert.Token.main_arg13) = m ((c.tc : Thread Cert.Token.nD Cert.Token.τ).loc Cert.Token.main_arg13)
      ∧ r.2.mem ((c.tc : Thread Cert.Token.nD Cert.Token.τ).loc Cert.Token.main_arg14) = m ((c.tc : Thread Cert.Token.nD Cert.Token.τ).loc Cert.Token.main_arg14)
      ∧ r.2.mem ((c.tc : Thread Cert.Token.nD Cert.Token.τ).loc Cert.Token.main_arg15) = m ((c.tc : Thread Cert.Token.nD Cert.Token.τ).loc Cert.Token.main_arg15))
      ∧ r.2.sem = fun _ => 0)

def quiescent_TokenIdeal [hTokenIdeal : Cert.TokenIdeal.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
      ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
      ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
      ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8)
      ∧ r.2.mem ((c.tc : Thread Cert.TokenIdeal.nD Cert.TokenIdeal.τ).loc Cert.TokenIdeal.main_arg9) = m ((c.tc : Thread Cert.TokenIdeal.nD Cert.TokenIdeal.τ).loc Cert.TokenIdeal.main_arg9)
      ∧ r.2.mem ((c.tc : Thread Cert.TokenIdeal.nD Cert.TokenIdeal.τ).loc Cert.TokenIdeal.main_arg10) = m ((c.tc : Thread Cert.TokenIdeal.nD Cert.TokenIdeal.τ).loc Cert.TokenIdeal.main_arg10)
      ∧ r.2.mem ((c.tc : Thread Cert.TokenIdeal.nD Cert.TokenIdeal.τ).loc Cert.TokenIdeal.main_arg11) = m ((c.tc : Thread Cert.TokenIdeal.nD Cert.TokenIdeal.τ).loc Cert.TokenIdeal.main_arg11)
      ∧ r.2.mem ((c.tc : Thread Cert.TokenIdeal.nD Cert.TokenIdeal.τ).loc Cert.TokenIdeal.main_arg12) = m ((c.tc : Thread Cert.TokenIdeal.nD Cert.TokenIdeal.τ).loc Cert.TokenIdeal.main_arg12)
      ∧ r.2.mem ((c.tc : Thread Cert.TokenIdeal.nD Cert.TokenIdeal.τ).loc Cert.TokenIdeal.main_arg13) = m ((c.tc : Thread Cert.TokenIdeal.nD Cert.TokenIdeal.τ).loc Cert.TokenIdeal.main_arg13)
      ∧ r.2.mem ((c.tc : Thread Cert.TokenIdeal.nD Cert.TokenIdeal.τ).loc Cert.TokenIdeal.main_arg14) = m ((c.tc : Thread Cert.TokenIdeal.nD Cert.TokenIdeal.τ).loc Cert.TokenIdeal.main_arg14)
      ∧ r.2.mem ((c.tc : Thread Cert.TokenIdeal.nD Cert.TokenIdeal.τ).loc Cert.TokenIdeal.main_arg15) = m ((c.tc : Thread Cert.TokenIdeal.nD Cert.TokenIdeal.τ).loc Cert.TokenIdeal.main_arg15))
      ∧ r.2.sem = fun _ => 0)

def quiescent_TokenReferenceIdeal [hTokenReferenceIdeal : Cert.TokenReferenceIdeal.Facts] : Prop :=
  ∀ (m : (ℓ : Loc Cert.TokenReferenceIdeal.nD Cert.TokenReferenceIdeal.τ Cert.TokenReferenceIdeal.sig) → Buf (Elt Ideal) ℓ) (g : Dev Cert.TokenReferenceIdeal.nD → PrngReg), Pre_TokenReferenceIdeal m →
    θ_run (Cert.TokenReferenceIdeal.defs (F := Ideal)) (onTc (τ := Cert.TokenReferenceIdeal.τ) (Cert.TokenReferenceIdeal.main (F := Ideal))) ⟨m, fun _ => 0, g⟩ (fun r => (∀ c : Dev Cert.TokenReferenceIdeal.nD,
      r.2.mem ((c.tc : Thread Cert.TokenReferenceIdeal.nD Cert.TokenReferenceIdeal.τ).loc Cert.TokenReferenceIdeal.main_arg0) = m ((c.tc : Thread Cert.TokenReferenceIdeal.nD Cert.TokenReferenceIdeal.τ).loc Cert.TokenReferenceIdeal.main_arg0)
      ∧ r.2.mem ((c.tc : Thread Cert.TokenReferenceIdeal.nD Cert.TokenReferenceIdeal.τ).loc Cert.TokenReferenceIdeal.main_arg1) = m ((c.tc : Thread Cert.TokenReferenceIdeal.nD Cert.TokenReferenceIdeal.τ).loc Cert.TokenReferenceIdeal.main_arg1)
      ∧ r.2.mem ((c.tc : Thread Cert.TokenReferenceIdeal.nD Cert.TokenReferenceIdeal.τ).loc Cert.TokenReferenceIdeal.main_arg2) = m ((c.tc : Thread Cert.TokenReferenceIdeal.nD Cert.TokenReferenceIdeal.τ).loc Cert.TokenReferenceIdeal.main_arg2)
      ∧ r.2.mem ((c.tc : Thread Cert.TokenReferenceIdeal.nD Cert.TokenReferenceIdeal.τ).loc Cert.TokenReferenceIdeal.main_arg3) = m ((c.tc : Thread Cert.TokenReferenceIdeal.nD Cert.TokenReferenceIdeal.τ).loc Cert.TokenReferenceIdeal.main_arg3)
      ∧ r.2.mem ((c.tc : Thread Cert.TokenReferenceIdeal.nD Cert.TokenReferenceIdeal.τ).loc Cert.TokenReferenceIdeal.main_arg4) = m ((c.tc : Thread Cert.TokenReferenceIdeal.nD Cert.TokenReferenceIdeal.τ).loc Cert.TokenReferenceIdeal.main_arg4)
      ∧ r.2.mem ((c.tc : Thread Cert.TokenReferenceIdeal.nD Cert.TokenReferenceIdeal.τ).loc Cert.TokenReferenceIdeal.main_arg5) = m ((c.tc : Thread Cert.TokenReferenceIdeal.nD Cert.TokenReferenceIdeal.τ).loc Cert.TokenReferenceIdeal.main_arg5)
      ∧ r.2.mem ((c.tc : Thread Cert.TokenReferenceIdeal.nD Cert.TokenReferenceIdeal.τ).loc Cert.TokenReferenceIdeal.main_arg6) = m ((c.tc : Thread Cert.TokenReferenceIdeal.nD Cert.TokenReferenceIdeal.τ).loc Cert.TokenReferenceIdeal.main_arg6)
      ∧ r.2.mem ((c.tc : Thread Cert.TokenReferenceIdeal.nD Cert.TokenReferenceIdeal.τ).loc Cert.TokenReferenceIdeal.main_arg7) = m ((c.tc : Thread Cert.TokenReferenceIdeal.nD Cert.TokenReferenceIdeal.τ).loc Cert.TokenReferenceIdeal.main_arg7)
      ∧ r.2.mem ((c.tc : Thread Cert.TokenReferenceIdeal.nD Cert.TokenReferenceIdeal.τ).loc Cert.TokenReferenceIdeal.main_arg8) = m ((c.tc : Thread Cert.TokenReferenceIdeal.nD Cert.TokenReferenceIdeal.τ).loc Cert.TokenReferenceIdeal.main_arg8)
      ∧ r.2.mem ((c.tc : Thread Cert.TokenReferenceIdeal.nD Cert.TokenReferenceIdeal.τ).loc Cert.TokenReferenceIdeal.main_arg9) = m ((c.tc : Thread Cert.TokenReferenceIdeal.nD Cert.TokenReferenceIdeal.τ).loc Cert.TokenReferenceIdeal.main_arg9)
      ∧ r.2.mem ((c.tc : Thread Cert.TokenReferenceIdeal.nD Cert.TokenReferenceIdeal.τ).loc Cert.TokenReferenceIdeal.main_arg10) = m ((c.tc : Thread Cert.TokenReferenceIdeal.nD Cert.TokenReferenceIdeal.τ).loc Cert.TokenReferenceIdeal.main_arg10)
      ∧ r.2.mem ((c.tc : Thread Cert.TokenReferenceIdeal.nD Cert.TokenReferenceIdeal.τ).loc Cert.TokenReferenceIdeal.main_arg11) = m ((c.tc : Thread Cert.TokenReferenceIdeal.nD Cert.TokenReferenceIdeal.τ).loc Cert.TokenReferenceIdeal.main_arg11)
      ∧ r.2.mem ((c.tc : Thread Cert.TokenReferenceIdeal.nD Cert.TokenReferenceIdeal.τ).loc Cert.TokenReferenceIdeal.main_arg12) = m ((c.tc : Thread Cert.TokenReferenceIdeal.nD Cert.TokenReferenceIdeal.τ).loc Cert.TokenReferenceIdeal.main_arg12)
      ∧ r.2.mem ((c.tc : Thread Cert.TokenReferenceIdeal.nD Cert.TokenReferenceIdeal.τ).loc Cert.TokenReferenceIdeal.main_arg13) = m ((c.tc : Thread Cert.TokenReferenceIdeal.nD Cert.TokenReferenceIdeal.τ).loc Cert.TokenReferenceIdeal.main_arg13)
      ∧ r.2.mem ((c.tc : Thread Cert.TokenReferenceIdeal.nD Cert.TokenReferenceIdeal.τ).loc Cert.TokenReferenceIdeal.main_arg14) = m ((c.tc : Thread Cert.TokenReferenceIdeal.nD Cert.TokenReferenceIdeal.τ).loc Cert.TokenReferenceIdeal.main_arg14)
      ∧ r.2.mem ((c.tc : Thread Cert.TokenReferenceIdeal.nD Cert.TokenReferenceIdeal.τ).loc Cert.TokenReferenceIdeal.main_arg15) = m ((c.tc : Thread Cert.TokenReferenceIdeal.nD Cert.TokenReferenceIdeal.τ).loc Cert.TokenReferenceIdeal.main_arg15))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v67_0) = v1 c
          ∧ r.2.mem ((c.tc : Thread Cert.ReferenceIdeal.nD Cert.ReferenceIdeal.τ).loc Cert.ReferenceIdeal.main_v67_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Image_ImageIdeal : Prop :=
  IdealRules.named_const.Statement Cert.ImageIdeal.κ "log2e" .f32 0x3FB8AA3B#32 (((Real.log 2)⁻¹ : ℝ) : EReal)

def algebraic_ImageIdeal_ImageReferenceIdeal [hImageIdeal : Cert.ImageIdeal.Facts] [hImageReferenceIdeal : Cert.ImageReferenceIdeal.Facts] : Prop :=
  ∀ (m : (ℓ : Loc Cert.ImageIdeal.nD Cert.ImageIdeal.τ Cert.ImageIdeal.sig) → Buf (Elt Ideal) ℓ) (g : Dev Cert.ImageIdeal.nD → PrngReg)
    (m' : (ℓ : Loc Cert.ImageReferenceIdeal.nD Cert.ImageReferenceIdeal.τ Cert.ImageReferenceIdeal.sig) → Buf (Elt Ideal) ℓ) (g' : Dev Cert.ImageReferenceIdeal.nD → PrngReg), Pre_ImageIdeal m →
    (∀ c : Dev Cert.ImageIdeal.nD,
      m' ((c.tc : Thread Cert.ImageReferenceIdeal.nD Cert.ImageReferenceIdeal.τ).loc Cert.ImageReferenceIdeal.main_arg0) = m ((c.tc : Thread Cert.ImageIdeal.nD Cert.ImageIdeal.τ).loc Cert.ImageIdeal.main_arg0)
      ∧ m' ((c.tc : Thread Cert.ImageReferenceIdeal.nD Cert.ImageReferenceIdeal.τ).loc Cert.ImageReferenceIdeal.main_arg1) = m ((c.tc : Thread Cert.ImageIdeal.nD Cert.ImageIdeal.τ).loc Cert.ImageIdeal.main_arg1)
      ∧ m' ((c.tc : Thread Cert.ImageReferenceIdeal.nD Cert.ImageReferenceIdeal.τ).loc Cert.ImageReferenceIdeal.main_arg2) = m ((c.tc : Thread Cert.ImageIdeal.nD Cert.ImageIdeal.τ).loc Cert.ImageIdeal.main_arg2)
      ∧ m' ((c.tc : Thread Cert.ImageReferenceIdeal.nD Cert.ImageReferenceIdeal.τ).loc Cert.ImageReferenceIdeal.main_arg3) = m ((c.tc : Thread Cert.ImageIdeal.nD Cert.ImageIdeal.τ).loc Cert.ImageIdeal.main_arg3)
      ∧ m' ((c.tc : Thread Cert.ImageReferenceIdeal.nD Cert.ImageReferenceIdeal.τ).loc Cert.ImageReferenceIdeal.main_arg4) = m ((c.tc : Thread Cert.ImageIdeal.nD Cert.ImageIdeal.τ).loc Cert.ImageIdeal.main_arg4)
      ∧ m' ((c.tc : Thread Cert.ImageReferenceIdeal.nD Cert.ImageReferenceIdeal.τ).loc Cert.ImageReferenceIdeal.main_arg5) = m ((c.tc : Thread Cert.ImageIdeal.nD Cert.ImageIdeal.τ).loc Cert.ImageIdeal.main_arg5)
      ∧ m' ((c.tc : Thread Cert.ImageReferenceIdeal.nD Cert.ImageReferenceIdeal.τ).loc Cert.ImageReferenceIdeal.main_arg6) = m ((c.tc : Thread Cert.ImageIdeal.nD Cert.ImageIdeal.τ).loc Cert.ImageIdeal.main_arg6)
      ∧ m' ((c.tc : Thread Cert.ImageReferenceIdeal.nD Cert.ImageReferenceIdeal.τ).loc Cert.ImageReferenceIdeal.main_arg7) = m ((c.tc : Thread Cert.ImageIdeal.nD Cert.ImageIdeal.τ).loc Cert.ImageIdeal.main_arg7)
      ∧ m' ((c.tc : Thread Cert.ImageReferenceIdeal.nD Cert.ImageReferenceIdeal.τ).loc Cert.ImageReferenceIdeal.main_arg8) = m ((c.tc : Thread Cert.ImageIdeal.nD Cert.ImageIdeal.τ).loc Cert.ImageIdeal.main_arg8)
      ∧ m' ((c.tc : Thread Cert.ImageReferenceIdeal.nD Cert.ImageReferenceIdeal.τ).loc Cert.ImageReferenceIdeal.main_arg9) = m ((c.tc : Thread Cert.ImageIdeal.nD Cert.ImageIdeal.τ).loc Cert.ImageIdeal.main_arg9)
      ∧ m' ((c.tc : Thread Cert.ImageReferenceIdeal.nD Cert.ImageReferenceIdeal.τ).loc Cert.ImageReferenceIdeal.main_arg10) = m ((c.tc : Thread Cert.ImageIdeal.nD Cert.ImageIdeal.τ).loc Cert.ImageIdeal.main_arg10)
      ∧ m' ((c.tc : Thread Cert.ImageReferenceIdeal.nD Cert.ImageReferenceIdeal.τ).loc Cert.ImageReferenceIdeal.main_arg11) = m ((c.tc : Thread Cert.ImageIdeal.nD Cert.ImageIdeal.τ).loc Cert.ImageIdeal.main_arg11)
      ∧ m' ((c.tc : Thread Cert.ImageReferenceIdeal.nD Cert.ImageReferenceIdeal.τ).loc Cert.ImageReferenceIdeal.main_arg12) = m ((c.tc : Thread Cert.ImageIdeal.nD Cert.ImageIdeal.τ).loc Cert.ImageIdeal.main_arg12)) →
    ∃ (v0 : (c : Dev Cert.ImageIdeal.nD) → Buf (Elt Ideal) ((c.tc : Thread Cert.ImageIdeal.nD Cert.ImageIdeal.τ).loc Cert.ImageIdeal.main_v7_0)) (v1 : (c : Dev Cert.ImageIdeal.nD) → Buf (Elt Ideal) ((c.tc : Thread Cert.ImageIdeal.nD Cert.ImageIdeal.τ).loc Cert.ImageIdeal.main_v7_1)) (v2 : (c : Dev Cert.ImageIdeal.nD) → Buf (Elt Ideal) ((c.tc : Thread Cert.ImageIdeal.nD Cert.ImageIdeal.τ).loc Cert.ImageIdeal.main_v7_2)) (v3 : (c : Dev Cert.ImageIdeal.nD) → Buf (Elt Ideal) ((c.tc : Thread Cert.ImageIdeal.nD Cert.ImageIdeal.τ).loc Cert.ImageIdeal.main_v7_3)) (v4 : (c : Dev Cert.ImageIdeal.nD) → Buf (Elt Ideal) ((c.tc : Thread Cert.ImageIdeal.nD Cert.ImageIdeal.τ).loc Cert.ImageIdeal.main_v7_6)) (v5 : (c : Dev Cert.ImageIdeal.nD) → Buf (Elt Ideal) ((c.tc : Thread Cert.ImageIdeal.nD Cert.ImageIdeal.τ).loc Cert.ImageIdeal.main_v7_7)),
      θ_run (Cert.ImageIdeal.defs (F := Ideal)) (onTc (τ := Cert.ImageIdeal.τ) (Cert.ImageIdeal.main (F := Ideal))) ⟨m, fun _ => 0, g⟩ (fun r => ∀ c : Dev Cert.ImageIdeal.nD,
          r.2.mem ((c.tc : Thread Cert.ImageIdeal.nD Cert.ImageIdeal.τ).loc Cert.ImageIdeal.main_v7_0) = v0 c
          ∧ r.2.mem ((c.tc : Thread Cert.ImageIdeal.nD Cert.ImageIdeal.τ).loc Cert.ImageIdeal.main_v7_1) = v1 c
          ∧ r.2.mem ((c.tc : Thread Cert.ImageIdeal.nD Cert.ImageIdeal.τ).loc Cert.ImageIdeal.main_v7_2) = v2 c
          ∧ r.2.mem ((c.tc : Thread Cert.ImageIdeal.nD Cert.ImageIdeal.τ).loc Cert.ImageIdeal.main_v7_3) = v3 c
          ∧ r.2.mem ((c.tc : Thread Cert.ImageIdeal.nD Cert.ImageIdeal.τ).loc Cert.ImageIdeal.main_v7_6) = v4 c
          ∧ r.2.mem ((c.tc : Thread Cert.ImageIdeal.nD Cert.ImageIdeal.τ).loc Cert.ImageIdeal.main_v7_7) = v5 c
          ∧ r.2.mem ((c.tc : Thread Cert.ImageIdeal.nD Cert.ImageIdeal.τ).loc Cert.ImageIdeal.main_arg0) = m ((c.tc : Thread Cert.ImageIdeal.nD Cert.ImageIdeal.τ).loc Cert.ImageIdeal.main_arg0)
          ∧ r.2.mem ((c.tc : Thread Cert.ImageIdeal.nD Cert.ImageIdeal.τ).loc Cert.ImageIdeal.main_arg1) = m ((c.tc : Thread Cert.ImageIdeal.nD Cert.ImageIdeal.τ).loc Cert.ImageIdeal.main_arg1)
          ∧ r.2.mem ((c.tc : Thread Cert.ImageIdeal.nD Cert.ImageIdeal.τ).loc Cert.ImageIdeal.main_arg2) = m ((c.tc : Thread Cert.ImageIdeal.nD Cert.ImageIdeal.τ).loc Cert.ImageIdeal.main_arg2)
          ∧ r.2.mem ((c.tc : Thread Cert.ImageIdeal.nD Cert.ImageIdeal.τ).loc Cert.ImageIdeal.main_arg3) = m ((c.tc : Thread Cert.ImageIdeal.nD Cert.ImageIdeal.τ).loc Cert.ImageIdeal.main_arg3)
          ∧ r.2.mem ((c.tc : Thread Cert.ImageIdeal.nD Cert.ImageIdeal.τ).loc Cert.ImageIdeal.main_arg4) = m ((c.tc : Thread Cert.ImageIdeal.nD Cert.ImageIdeal.τ).loc Cert.ImageIdeal.main_arg4)
          ∧ r.2.mem ((c.tc : Thread Cert.ImageIdeal.nD Cert.ImageIdeal.τ).loc Cert.ImageIdeal.main_arg5) = m ((c.tc : Thread Cert.ImageIdeal.nD Cert.ImageIdeal.τ).loc Cert.ImageIdeal.main_arg5)
          ∧ r.2.mem ((c.tc : Thread Cert.ImageIdeal.nD Cert.ImageIdeal.τ).loc Cert.ImageIdeal.main_arg6) = m ((c.tc : Thread Cert.ImageIdeal.nD Cert.ImageIdeal.τ).loc Cert.ImageIdeal.main_arg6)
          ∧ r.2.mem ((c.tc : Thread Cert.ImageIdeal.nD Cert.ImageIdeal.τ).loc Cert.ImageIdeal.main_arg7) = m ((c.tc : Thread Cert.ImageIdeal.nD Cert.ImageIdeal.τ).loc Cert.ImageIdeal.main_arg7)
          ∧ r.2.mem ((c.tc : Thread Cert.ImageIdeal.nD Cert.ImageIdeal.τ).loc Cert.ImageIdeal.main_arg8) = m ((c.tc : Thread Cert.ImageIdeal.nD Cert.ImageIdeal.τ).loc Cert.ImageIdeal.main_arg8)
          ∧ r.2.mem ((c.tc : Thread Cert.ImageIdeal.nD Cert.ImageIdeal.τ).loc Cert.ImageIdeal.main_arg9) = m ((c.tc : Thread Cert.ImageIdeal.nD Cert.ImageIdeal.τ).loc Cert.ImageIdeal.main_arg9)
          ∧ r.2.mem ((c.tc : Thread Cert.ImageIdeal.nD Cert.ImageIdeal.τ).loc Cert.ImageIdeal.main_arg10) = m ((c.tc : Thread Cert.ImageIdeal.nD Cert.ImageIdeal.τ).loc Cert.ImageIdeal.main_arg10)
          ∧ r.2.mem ((c.tc : Thread Cert.ImageIdeal.nD Cert.ImageIdeal.τ).loc Cert.ImageIdeal.main_arg11) = m ((c.tc : Thread Cert.ImageIdeal.nD Cert.ImageIdeal.τ).loc Cert.ImageIdeal.main_arg11)
          ∧ r.2.mem ((c.tc : Thread Cert.ImageIdeal.nD Cert.ImageIdeal.τ).loc Cert.ImageIdeal.main_arg12) = m ((c.tc : Thread Cert.ImageIdeal.nD Cert.ImageIdeal.τ).loc Cert.ImageIdeal.main_arg12))
      ∧ θ_run (Cert.ImageReferenceIdeal.defs (F := Ideal)) (onTc (τ := Cert.ImageReferenceIdeal.τ) (Cert.ImageReferenceIdeal.main (F := Ideal))) ⟨m', fun _ => 0, g'⟩ (fun r => ∀ c : Dev Cert.ImageReferenceIdeal.nD,
          r.2.mem ((c.tc : Thread Cert.ImageReferenceIdeal.nD Cert.ImageReferenceIdeal.τ).loc Cert.ImageReferenceIdeal.main_v0_0) = v0 c
          ∧ r.2.mem ((c.tc : Thread Cert.ImageReferenceIdeal.nD Cert.ImageReferenceIdeal.τ).loc Cert.ImageReferenceIdeal.main_v34) = v1 c
          ∧ r.2.mem ((c.tc : Thread Cert.ImageReferenceIdeal.nD Cert.ImageReferenceIdeal.τ).loc Cert.ImageReferenceIdeal.main_v0_2) = v2 c
          ∧ r.2.mem ((c.tc : Thread Cert.ImageReferenceIdeal.nD Cert.ImageReferenceIdeal.τ).loc Cert.ImageReferenceIdeal.main_v35) = v3 c
          ∧ r.2.mem ((c.tc : Thread Cert.ImageReferenceIdeal.nD Cert.ImageReferenceIdeal.τ).loc Cert.ImageReferenceIdeal.main_v23) = v4 c
          ∧ r.2.mem ((c.tc : Thread Cert.ImageReferenceIdeal.nD Cert.ImageReferenceIdeal.τ).loc Cert.ImageReferenceIdeal.main_v36) = v5 c
          ∧ r.2.mem ((c.tc : Thread Cert.ImageReferenceIdeal.nD Cert.ImageReferenceIdeal.τ).loc Cert.ImageReferenceIdeal.main_arg0) = m' ((c.tc : Thread Cert.ImageReferenceIdeal.nD Cert.ImageReferenceIdeal.τ).loc Cert.ImageReferenceIdeal.main_arg0)
          ∧ r.2.mem ((c.tc : Thread Cert.ImageReferenceIdeal.nD Cert.ImageReferenceIdeal.τ).loc Cert.ImageReferenceIdeal.main_arg1) = m' ((c.tc : Thread Cert.ImageReferenceIdeal.nD Cert.ImageReferenceIdeal.τ).loc Cert.ImageReferenceIdeal.main_arg1)
          ∧ r.2.mem ((c.tc : Thread Cert.ImageReferenceIdeal.nD Cert.ImageReferenceIdeal.τ).loc Cert.ImageReferenceIdeal.main_arg2) = m' ((c.tc : Thread Cert.ImageReferenceIdeal.nD Cert.ImageReferenceIdeal.τ).loc Cert.ImageReferenceIdeal.main_arg2)
          ∧ r.2.mem ((c.tc : Thread Cert.ImageReferenceIdeal.nD Cert.ImageReferenceIdeal.τ).loc Cert.ImageReferenceIdeal.main_arg3) = m' ((c.tc : Thread Cert.ImageReferenceIdeal.nD Cert.ImageReferenceIdeal.τ).loc Cert.ImageReferenceIdeal.main_arg3)
          ∧ r.2.mem ((c.tc : Thread Cert.ImageReferenceIdeal.nD Cert.ImageReferenceIdeal.τ).loc Cert.ImageReferenceIdeal.main_arg4) = m' ((c.tc : Thread Cert.ImageReferenceIdeal.nD Cert.ImageReferenceIdeal.τ).loc Cert.ImageReferenceIdeal.main_arg4)
          ∧ r.2.mem ((c.tc : Thread Cert.ImageReferenceIdeal.nD Cert.ImageReferenceIdeal.τ).loc Cert.ImageReferenceIdeal.main_arg5) = m' ((c.tc : Thread Cert.ImageReferenceIdeal.nD Cert.ImageReferenceIdeal.τ).loc Cert.ImageReferenceIdeal.main_arg5)
          ∧ r.2.mem ((c.tc : Thread Cert.ImageReferenceIdeal.nD Cert.ImageReferenceIdeal.τ).loc Cert.ImageReferenceIdeal.main_arg6) = m' ((c.tc : Thread Cert.ImageReferenceIdeal.nD Cert.ImageReferenceIdeal.τ).loc Cert.ImageReferenceIdeal.main_arg6)
          ∧ r.2.mem ((c.tc : Thread Cert.ImageReferenceIdeal.nD Cert.ImageReferenceIdeal.τ).loc Cert.ImageReferenceIdeal.main_arg7) = m' ((c.tc : Thread Cert.ImageReferenceIdeal.nD Cert.ImageReferenceIdeal.τ).loc Cert.ImageReferenceIdeal.main_arg7)
          ∧ r.2.mem ((c.tc : Thread Cert.ImageReferenceIdeal.nD Cert.ImageReferenceIdeal.τ).loc Cert.ImageReferenceIdeal.main_arg8) = m' ((c.tc : Thread Cert.ImageReferenceIdeal.nD Cert.ImageReferenceIdeal.τ).loc Cert.ImageReferenceIdeal.main_arg8)
          ∧ r.2.mem ((c.tc : Thread Cert.ImageReferenceIdeal.nD Cert.ImageReferenceIdeal.τ).loc Cert.ImageReferenceIdeal.main_arg9) = m' ((c.tc : Thread Cert.ImageReferenceIdeal.nD Cert.ImageReferenceIdeal.τ).loc Cert.ImageReferenceIdeal.main_arg9)
          ∧ r.2.mem ((c.tc : Thread Cert.ImageReferenceIdeal.nD Cert.ImageReferenceIdeal.τ).loc Cert.ImageReferenceIdeal.main_arg10) = m' ((c.tc : Thread Cert.ImageReferenceIdeal.nD Cert.ImageReferenceIdeal.τ).loc Cert.ImageReferenceIdeal.main_arg10)
          ∧ r.2.mem ((c.tc : Thread Cert.ImageReferenceIdeal.nD Cert.ImageReferenceIdeal.τ).loc Cert.ImageReferenceIdeal.main_arg11) = m' ((c.tc : Thread Cert.ImageReferenceIdeal.nD Cert.ImageReferenceIdeal.τ).loc Cert.ImageReferenceIdeal.main_arg11)
          ∧ r.2.mem ((c.tc : Thread Cert.ImageReferenceIdeal.nD Cert.ImageReferenceIdeal.τ).loc Cert.ImageReferenceIdeal.main_arg12) = m' ((c.tc : Thread Cert.ImageReferenceIdeal.nD Cert.ImageReferenceIdeal.τ).loc Cert.ImageReferenceIdeal.main_arg12))

def preserves_Self_SelfIdeal : Prop :=
  True

def algebraic_SelfIdeal_SelfReferenceIdeal_pre_finite [hSelfIdeal : Cert.SelfIdeal.Facts] [hSelfReferenceIdeal : Cert.SelfReferenceIdeal.Facts] [hPre_finite : Cert.Pre_finite.Facts] : Prop :=
  ∀ (m : (ℓ : Loc Cert.SelfIdeal.nD Cert.SelfIdeal.τ Cert.SelfIdeal.sig) → Buf (Elt Ideal) ℓ) (g : Dev Cert.SelfIdeal.nD → PrngReg)
    (m' : (ℓ : Loc Cert.SelfReferenceIdeal.nD Cert.SelfReferenceIdeal.τ Cert.SelfReferenceIdeal.sig) → Buf (Elt Ideal) ℓ) (g' : Dev Cert.SelfReferenceIdeal.nD → PrngReg), Pre_SelfIdeal_finite m →
    (∀ c : Dev Cert.SelfIdeal.nD,
      m' ((c.tc : Thread Cert.SelfReferenceIdeal.nD Cert.SelfReferenceIdeal.τ).loc Cert.SelfReferenceIdeal.main_arg0) = m ((c.tc : Thread Cert.SelfIdeal.nD Cert.SelfIdeal.τ).loc Cert.SelfIdeal.main_arg0)
      ∧ m' ((c.tc : Thread Cert.SelfReferenceIdeal.nD Cert.SelfReferenceIdeal.τ).loc Cert.SelfReferenceIdeal.main_arg1) = m ((c.tc : Thread Cert.SelfIdeal.nD Cert.SelfIdeal.τ).loc Cert.SelfIdeal.main_arg1)
      ∧ m' ((c.tc : Thread Cert.SelfReferenceIdeal.nD Cert.SelfReferenceIdeal.τ).loc Cert.SelfReferenceIdeal.main_arg2) = m ((c.tc : Thread Cert.SelfIdeal.nD Cert.SelfIdeal.τ).loc Cert.SelfIdeal.main_arg2)
      ∧ m' ((c.tc : Thread Cert.SelfReferenceIdeal.nD Cert.SelfReferenceIdeal.τ).loc Cert.SelfReferenceIdeal.main_arg3) = m ((c.tc : Thread Cert.SelfIdeal.nD Cert.SelfIdeal.τ).loc Cert.SelfIdeal.main_arg3)
      ∧ m' ((c.tc : Thread Cert.SelfReferenceIdeal.nD Cert.SelfReferenceIdeal.τ).loc Cert.SelfReferenceIdeal.main_arg4) = m ((c.tc : Thread Cert.SelfIdeal.nD Cert.SelfIdeal.τ).loc Cert.SelfIdeal.main_arg4)
      ∧ m' ((c.tc : Thread Cert.SelfReferenceIdeal.nD Cert.SelfReferenceIdeal.τ).loc Cert.SelfReferenceIdeal.main_arg5) = m ((c.tc : Thread Cert.SelfIdeal.nD Cert.SelfIdeal.τ).loc Cert.SelfIdeal.main_arg5)
      ∧ m' ((c.tc : Thread Cert.SelfReferenceIdeal.nD Cert.SelfReferenceIdeal.τ).loc Cert.SelfReferenceIdeal.main_arg6) = m ((c.tc : Thread Cert.SelfIdeal.nD Cert.SelfIdeal.τ).loc Cert.SelfIdeal.main_arg6)
      ∧ m' ((c.tc : Thread Cert.SelfReferenceIdeal.nD Cert.SelfReferenceIdeal.τ).loc Cert.SelfReferenceIdeal.main_arg7) = m ((c.tc : Thread Cert.SelfIdeal.nD Cert.SelfIdeal.τ).loc Cert.SelfIdeal.main_arg7)
      ∧ m' ((c.tc : Thread Cert.SelfReferenceIdeal.nD Cert.SelfReferenceIdeal.τ).loc Cert.SelfReferenceIdeal.main_arg8) = m ((c.tc : Thread Cert.SelfIdeal.nD Cert.SelfIdeal.τ).loc Cert.SelfIdeal.main_arg8)
      ∧ m' ((c.tc : Thread Cert.SelfReferenceIdeal.nD Cert.SelfReferenceIdeal.τ).loc Cert.SelfReferenceIdeal.main_arg9) = m ((c.tc : Thread Cert.SelfIdeal.nD Cert.SelfIdeal.τ).loc Cert.SelfIdeal.main_arg9)
      ∧ m' ((c.tc : Thread Cert.SelfReferenceIdeal.nD Cert.SelfReferenceIdeal.τ).loc Cert.SelfReferenceIdeal.main_arg10) = m ((c.tc : Thread Cert.SelfIdeal.nD Cert.SelfIdeal.τ).loc Cert.SelfIdeal.main_arg10)
      ∧ m' ((c.tc : Thread Cert.SelfReferenceIdeal.nD Cert.SelfReferenceIdeal.τ).loc Cert.SelfReferenceIdeal.main_arg11) = m ((c.tc : Thread Cert.SelfIdeal.nD Cert.SelfIdeal.τ).loc Cert.SelfIdeal.main_arg11)
      ∧ m' ((c.tc : Thread Cert.SelfReferenceIdeal.nD Cert.SelfReferenceIdeal.τ).loc Cert.SelfReferenceIdeal.main_arg12) = m ((c.tc : Thread Cert.SelfIdeal.nD Cert.SelfIdeal.τ).loc Cert.SelfIdeal.main_arg12)) →
    ∃ (v0 : (c : Dev Cert.SelfIdeal.nD) → Buf (Elt Ideal) ((c.tc : Thread Cert.SelfIdeal.nD Cert.SelfIdeal.τ).loc Cert.SelfIdeal.main_v8_0)) (v1 : (c : Dev Cert.SelfIdeal.nD) → Buf (Elt Ideal) ((c.tc : Thread Cert.SelfIdeal.nD Cert.SelfIdeal.τ).loc Cert.SelfIdeal.main_v8_1)),
      θ_run (Cert.SelfIdeal.defs (F := Ideal)) (onTc (τ := Cert.SelfIdeal.τ) (Cert.SelfIdeal.main (F := Ideal))) ⟨m, fun _ => 0, g⟩ (fun r => ∀ c : Dev Cert.SelfIdeal.nD,
          r.2.mem ((c.tc : Thread Cert.SelfIdeal.nD Cert.SelfIdeal.τ).loc Cert.SelfIdeal.main_v8_0) = v0 c
          ∧ r.2.mem ((c.tc : Thread Cert.SelfIdeal.nD Cert.SelfIdeal.τ).loc Cert.SelfIdeal.main_v8_1) = v1 c
          ∧ r.2.mem ((c.tc : Thread Cert.SelfIdeal.nD Cert.SelfIdeal.τ).loc Cert.SelfIdeal.main_arg0) = m ((c.tc : Thread Cert.SelfIdeal.nD Cert.SelfIdeal.τ).loc Cert.SelfIdeal.main_arg0)
          ∧ r.2.mem ((c.tc : Thread Cert.SelfIdeal.nD Cert.SelfIdeal.τ).loc Cert.SelfIdeal.main_arg1) = m ((c.tc : Thread Cert.SelfIdeal.nD Cert.SelfIdeal.τ).loc Cert.SelfIdeal.main_arg1)
          ∧ r.2.mem ((c.tc : Thread Cert.SelfIdeal.nD Cert.SelfIdeal.τ).loc Cert.SelfIdeal.main_arg2) = m ((c.tc : Thread Cert.SelfIdeal.nD Cert.SelfIdeal.τ).loc Cert.SelfIdeal.main_arg2)
          ∧ r.2.mem ((c.tc : Thread Cert.SelfIdeal.nD Cert.SelfIdeal.τ).loc Cert.SelfIdeal.main_arg3) = m ((c.tc : Thread Cert.SelfIdeal.nD Cert.SelfIdeal.τ).loc Cert.SelfIdeal.main_arg3)
          ∧ r.2.mem ((c.tc : Thread Cert.SelfIdeal.nD Cert.SelfIdeal.τ).loc Cert.SelfIdeal.main_arg4) = m ((c.tc : Thread Cert.SelfIdeal.nD Cert.SelfIdeal.τ).loc Cert.SelfIdeal.main_arg4)
          ∧ r.2.mem ((c.tc : Thread Cert.SelfIdeal.nD Cert.SelfIdeal.τ).loc Cert.SelfIdeal.main_arg5) = m ((c.tc : Thread Cert.SelfIdeal.nD Cert.SelfIdeal.τ).loc Cert.SelfIdeal.main_arg5)
          ∧ r.2.mem ((c.tc : Thread Cert.SelfIdeal.nD Cert.SelfIdeal.τ).loc Cert.SelfIdeal.main_arg6) = m ((c.tc : Thread Cert.SelfIdeal.nD Cert.SelfIdeal.τ).loc Cert.SelfIdeal.main_arg6)
          ∧ r.2.mem ((c.tc : Thread Cert.SelfIdeal.nD Cert.SelfIdeal.τ).loc Cert.SelfIdeal.main_arg7) = m ((c.tc : Thread Cert.SelfIdeal.nD Cert.SelfIdeal.τ).loc Cert.SelfIdeal.main_arg7)
          ∧ r.2.mem ((c.tc : Thread Cert.SelfIdeal.nD Cert.SelfIdeal.τ).loc Cert.SelfIdeal.main_arg8) = m ((c.tc : Thread Cert.SelfIdeal.nD Cert.SelfIdeal.τ).loc Cert.SelfIdeal.main_arg8)
          ∧ r.2.mem ((c.tc : Thread Cert.SelfIdeal.nD Cert.SelfIdeal.τ).loc Cert.SelfIdeal.main_arg9) = m ((c.tc : Thread Cert.SelfIdeal.nD Cert.SelfIdeal.τ).loc Cert.SelfIdeal.main_arg9)
          ∧ r.2.mem ((c.tc : Thread Cert.SelfIdeal.nD Cert.SelfIdeal.τ).loc Cert.SelfIdeal.main_arg10) = m ((c.tc : Thread Cert.SelfIdeal.nD Cert.SelfIdeal.τ).loc Cert.SelfIdeal.main_arg10)
          ∧ r.2.mem ((c.tc : Thread Cert.SelfIdeal.nD Cert.SelfIdeal.τ).loc Cert.SelfIdeal.main_arg11) = m ((c.tc : Thread Cert.SelfIdeal.nD Cert.SelfIdeal.τ).loc Cert.SelfIdeal.main_arg11)
          ∧ r.2.mem ((c.tc : Thread Cert.SelfIdeal.nD Cert.SelfIdeal.τ).loc Cert.SelfIdeal.main_arg12) = m ((c.tc : Thread Cert.SelfIdeal.nD Cert.SelfIdeal.τ).loc Cert.SelfIdeal.main_arg12))
      ∧ θ_run (Cert.SelfReferenceIdeal.defs (F := Ideal)) (onTc (τ := Cert.SelfReferenceIdeal.τ) (Cert.SelfReferenceIdeal.main (F := Ideal))) ⟨m', fun _ => 0, g'⟩ (fun r => ∀ c : Dev Cert.SelfReferenceIdeal.nD,
          r.2.mem ((c.tc : Thread Cert.SelfReferenceIdeal.nD Cert.SelfReferenceIdeal.τ).loc Cert.SelfReferenceIdeal.main_v58) = v0 c
          ∧ r.2.mem ((c.tc : Thread Cert.SelfReferenceIdeal.nD Cert.SelfReferenceIdeal.τ).loc Cert.SelfReferenceIdeal.main_v64) = v1 c
          ∧ r.2.mem ((c.tc : Thread Cert.SelfReferenceIdeal.nD Cert.SelfReferenceIdeal.τ).loc Cert.SelfReferenceIdeal.main_arg0) = m' ((c.tc : Thread Cert.SelfReferenceIdeal.nD Cert.SelfReferenceIdeal.τ).loc Cert.SelfReferenceIdeal.main_arg0)
          ∧ r.2.mem ((c.tc : Thread Cert.SelfReferenceIdeal.nD Cert.SelfReferenceIdeal.τ).loc Cert.SelfReferenceIdeal.main_arg1) = m' ((c.tc : Thread Cert.SelfReferenceIdeal.nD Cert.SelfReferenceIdeal.τ).loc Cert.SelfReferenceIdeal.main_arg1)
          ∧ r.2.mem ((c.tc : Thread Cert.SelfReferenceIdeal.nD Cert.SelfReferenceIdeal.τ).loc Cert.SelfReferenceIdeal.main_arg2) = m' ((c.tc : Thread Cert.SelfReferenceIdeal.nD Cert.SelfReferenceIdeal.τ).loc Cert.SelfReferenceIdeal.main_arg2)
          ∧ r.2.mem ((c.tc : Thread Cert.SelfReferenceIdeal.nD Cert.SelfReferenceIdeal.τ).loc Cert.SelfReferenceIdeal.main_arg3) = m' ((c.tc : Thread Cert.SelfReferenceIdeal.nD Cert.SelfReferenceIdeal.τ).loc Cert.SelfReferenceIdeal.main_arg3)
          ∧ r.2.mem ((c.tc : Thread Cert.SelfReferenceIdeal.nD Cert.SelfReferenceIdeal.τ).loc Cert.SelfReferenceIdeal.main_arg4) = m' ((c.tc : Thread Cert.SelfReferenceIdeal.nD Cert.SelfReferenceIdeal.τ).loc Cert.SelfReferenceIdeal.main_arg4)
          ∧ r.2.mem ((c.tc : Thread Cert.SelfReferenceIdeal.nD Cert.SelfReferenceIdeal.τ).loc Cert.SelfReferenceIdeal.main_arg5) = m' ((c.tc : Thread Cert.SelfReferenceIdeal.nD Cert.SelfReferenceIdeal.τ).loc Cert.SelfReferenceIdeal.main_arg5)
          ∧ r.2.mem ((c.tc : Thread Cert.SelfReferenceIdeal.nD Cert.SelfReferenceIdeal.τ).loc Cert.SelfReferenceIdeal.main_arg6) = m' ((c.tc : Thread Cert.SelfReferenceIdeal.nD Cert.SelfReferenceIdeal.τ).loc Cert.SelfReferenceIdeal.main_arg6)
          ∧ r.2.mem ((c.tc : Thread Cert.SelfReferenceIdeal.nD Cert.SelfReferenceIdeal.τ).loc Cert.SelfReferenceIdeal.main_arg7) = m' ((c.tc : Thread Cert.SelfReferenceIdeal.nD Cert.SelfReferenceIdeal.τ).loc Cert.SelfReferenceIdeal.main_arg7)
          ∧ r.2.mem ((c.tc : Thread Cert.SelfReferenceIdeal.nD Cert.SelfReferenceIdeal.τ).loc Cert.SelfReferenceIdeal.main_arg8) = m' ((c.tc : Thread Cert.SelfReferenceIdeal.nD Cert.SelfReferenceIdeal.τ).loc Cert.SelfReferenceIdeal.main_arg8)
          ∧ r.2.mem ((c.tc : Thread Cert.SelfReferenceIdeal.nD Cert.SelfReferenceIdeal.τ).loc Cert.SelfReferenceIdeal.main_arg9) = m' ((c.tc : Thread Cert.SelfReferenceIdeal.nD Cert.SelfReferenceIdeal.τ).loc Cert.SelfReferenceIdeal.main_arg9)
          ∧ r.2.mem ((c.tc : Thread Cert.SelfReferenceIdeal.nD Cert.SelfReferenceIdeal.τ).loc Cert.SelfReferenceIdeal.main_arg10) = m' ((c.tc : Thread Cert.SelfReferenceIdeal.nD Cert.SelfReferenceIdeal.τ).loc Cert.SelfReferenceIdeal.main_arg10)
          ∧ r.2.mem ((c.tc : Thread Cert.SelfReferenceIdeal.nD Cert.SelfReferenceIdeal.τ).loc Cert.SelfReferenceIdeal.main_arg11) = m' ((c.tc : Thread Cert.SelfReferenceIdeal.nD Cert.SelfReferenceIdeal.τ).loc Cert.SelfReferenceIdeal.main_arg11)
          ∧ r.2.mem ((c.tc : Thread Cert.SelfReferenceIdeal.nD Cert.SelfReferenceIdeal.τ).loc Cert.SelfReferenceIdeal.main_arg12) = m' ((c.tc : Thread Cert.SelfReferenceIdeal.nD Cert.SelfReferenceIdeal.τ).loc Cert.SelfReferenceIdeal.main_arg12))

def preserves_Token_TokenIdeal : Prop :=
  True

def algebraic_TokenIdeal_TokenReferenceIdeal [hTokenIdeal : Cert.TokenIdeal.Facts] [hTokenReferenceIdeal : Cert.TokenReferenceIdeal.Facts] : Prop :=
  ∀ (m : (ℓ : Loc Cert.TokenIdeal.nD Cert.TokenIdeal.τ Cert.TokenIdeal.sig) → Buf (Elt Ideal) ℓ) (g : Dev Cert.TokenIdeal.nD → PrngReg)
    (m' : (ℓ : Loc Cert.TokenReferenceIdeal.nD Cert.TokenReferenceIdeal.τ Cert.TokenReferenceIdeal.sig) → Buf (Elt Ideal) ℓ) (g' : Dev Cert.TokenReferenceIdeal.nD → PrngReg), Pre_TokenIdeal m →
    (∀ c : Dev Cert.TokenIdeal.nD,
      m' ((c.tc : Thread Cert.TokenReferenceIdeal.nD Cert.TokenReferenceIdeal.τ).loc Cert.TokenReferenceIdeal.main_arg0) = m ((c.tc : Thread Cert.TokenIdeal.nD Cert.TokenIdeal.τ).loc Cert.TokenIdeal.main_arg0)
      ∧ m' ((c.tc : Thread Cert.TokenReferenceIdeal.nD Cert.TokenReferenceIdeal.τ).loc Cert.TokenReferenceIdeal.main_arg1) = m ((c.tc : Thread Cert.TokenIdeal.nD Cert.TokenIdeal.τ).loc Cert.TokenIdeal.main_arg1)
      ∧ m' ((c.tc : Thread Cert.TokenReferenceIdeal.nD Cert.TokenReferenceIdeal.τ).loc Cert.TokenReferenceIdeal.main_arg2) = m ((c.tc : Thread Cert.TokenIdeal.nD Cert.TokenIdeal.τ).loc Cert.TokenIdeal.main_arg2)
      ∧ m' ((c.tc : Thread Cert.TokenReferenceIdeal.nD Cert.TokenReferenceIdeal.τ).loc Cert.TokenReferenceIdeal.main_arg3) = m ((c.tc : Thread Cert.TokenIdeal.nD Cert.TokenIdeal.τ).loc Cert.TokenIdeal.main_arg3)
      ∧ m' ((c.tc : Thread Cert.TokenReferenceIdeal.nD Cert.TokenReferenceIdeal.τ).loc Cert.TokenReferenceIdeal.main_arg4) = m ((c.tc : Thread Cert.TokenIdeal.nD Cert.TokenIdeal.τ).loc Cert.TokenIdeal.main_arg4)
      ∧ m' ((c.tc : Thread Cert.TokenReferenceIdeal.nD Cert.TokenReferenceIdeal.τ).loc Cert.TokenReferenceIdeal.main_arg5) = m ((c.tc : Thread Cert.TokenIdeal.nD Cert.TokenIdeal.τ).loc Cert.TokenIdeal.main_arg5)
      ∧ m' ((c.tc : Thread Cert.TokenReferenceIdeal.nD Cert.TokenReferenceIdeal.τ).loc Cert.TokenReferenceIdeal.main_arg6) = m ((c.tc : Thread Cert.TokenIdeal.nD Cert.TokenIdeal.τ).loc Cert.TokenIdeal.main_arg6)
      ∧ m' ((c.tc : Thread Cert.TokenReferenceIdeal.nD Cert.TokenReferenceIdeal.τ).loc Cert.TokenReferenceIdeal.main_arg7) = m ((c.tc : Thread Cert.TokenIdeal.nD Cert.TokenIdeal.τ).loc Cert.TokenIdeal.main_arg7)
      ∧ m' ((c.tc : Thread Cert.TokenReferenceIdeal.nD Cert.TokenReferenceIdeal.τ).loc Cert.TokenReferenceIdeal.main_arg8) = m ((c.tc : Thread Cert.TokenIdeal.nD Cert.TokenIdeal.τ).loc Cert.TokenIdeal.main_arg8)
      ∧ m' ((c.tc : Thread Cert.TokenReferenceIdeal.nD Cert.TokenReferenceIdeal.τ).loc Cert.TokenReferenceIdeal.main_arg9) = m ((c.tc : Thread Cert.TokenIdeal.nD Cert.TokenIdeal.τ).loc Cert.TokenIdeal.main_arg9)
      ∧ m' ((c.tc : Thread Cert.TokenReferenceIdeal.nD Cert.TokenReferenceIdeal.τ).loc Cert.TokenReferenceIdeal.main_arg10) = m ((c.tc : Thread Cert.TokenIdeal.nD Cert.TokenIdeal.τ).loc Cert.TokenIdeal.main_arg10)
      ∧ m' ((c.tc : Thread Cert.TokenReferenceIdeal.nD Cert.TokenReferenceIdeal.τ).loc Cert.TokenReferenceIdeal.main_arg11) = m ((c.tc : Thread Cert.TokenIdeal.nD Cert.TokenIdeal.τ).loc Cert.TokenIdeal.main_arg11)
      ∧ m' ((c.tc : Thread Cert.TokenReferenceIdeal.nD Cert.TokenReferenceIdeal.τ).loc Cert.TokenReferenceIdeal.main_arg12) = m ((c.tc : Thread Cert.TokenIdeal.nD Cert.TokenIdeal.τ).loc Cert.TokenIdeal.main_arg12)
      ∧ m' ((c.tc : Thread Cert.TokenReferenceIdeal.nD Cert.TokenReferenceIdeal.τ).loc Cert.TokenReferenceIdeal.main_arg13) = m ((c.tc : Thread Cert.TokenIdeal.nD Cert.TokenIdeal.τ).loc Cert.TokenIdeal.main_arg13)
      ∧ m' ((c.tc : Thread Cert.TokenReferenceIdeal.nD Cert.TokenReferenceIdeal.τ).loc Cert.TokenReferenceIdeal.main_arg14) = m ((c.tc : Thread Cert.TokenIdeal.nD Cert.TokenIdeal.τ).loc Cert.TokenIdeal.main_arg14)
      ∧ m' ((c.tc : Thread Cert.TokenReferenceIdeal.nD Cert.TokenReferenceIdeal.τ).loc Cert.TokenReferenceIdeal.main_arg15) = m ((c.tc : Thread Cert.TokenIdeal.nD Cert.TokenIdeal.τ).loc Cert.TokenIdeal.main_arg15)) →
    ∃ (v0 : (c : Dev Cert.TokenIdeal.nD) → Buf (Elt Ideal) ((c.tc : Thread Cert.TokenIdeal.nD Cert.TokenIdeal.τ).loc Cert.TokenIdeal.main_v8_0)),
      θ_run (Cert.TokenIdeal.defs (F := Ideal)) (onTc (τ := Cert.TokenIdeal.τ) (Cert.TokenIdeal.main (F := Ideal))) ⟨m, fun _ => 0, g⟩ (fun r => ∀ c : Dev Cert.TokenIdeal.nD,
          r.2.mem ((c.tc : Thread Cert.TokenIdeal.nD Cert.TokenIdeal.τ).loc Cert.TokenIdeal.main_v8_0) = v0 c
          ∧ r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
          ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
          ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
          ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
          ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
          ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
          ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
          ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
          ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8)
          ∧ r.2.mem ((c.tc : Thread Cert.TokenIdeal.nD Cert.TokenIdeal.τ).loc Cert.TokenIdeal.main_arg9) = m ((c.tc : Thread Cert.TokenIdeal.nD Cert.TokenIdeal.τ).loc Cert.TokenIdeal.main_arg9)
          ∧ r.2.mem ((c.tc : Thread Cert.TokenIdeal.nD Cert.TokenIdeal.τ).loc Cert.TokenIdeal.main_arg10) = m ((c.tc : Thread Cert.TokenIdeal.nD Cert.TokenIdeal.τ).loc Cert.TokenIdeal.main_arg10)
          ∧ r.2.mem ((c.tc : Thread Cert.TokenIdeal.nD Cert.TokenIdeal.τ).loc Cert.TokenIdeal.main_arg11) = m ((c.tc : Thread Cert.TokenIdeal.nD Cert.TokenIdeal.τ).loc Cert.TokenIdeal.main_arg11)
          ∧ r.2.mem ((c.tc : Thread Cert.TokenIdeal.nD Cert.TokenIdeal.τ).loc Cert.TokenIdeal.main_arg12) = m ((c.tc : Thread Cert.TokenIdeal.nD Cert.TokenIdeal.τ).loc Cert.TokenIdeal.main_arg12)
          ∧ r.2.mem ((c.tc : Thread Cert.TokenIdeal.nD Cert.TokenIdeal.τ).loc Cert.TokenIdeal.main_arg13) = m ((c.tc : Thread Cert.TokenIdeal.nD Cert.TokenIdeal.τ).loc Cert.TokenIdeal.main_arg13)
          ∧ r.2.mem ((c.tc : Thread Cert.TokenIdeal.nD Cert.TokenIdeal.τ).loc Cert.TokenIdeal.main_arg14) = m ((c.tc : Thread Cert.TokenIdeal.nD Cert.TokenIdeal.τ).loc Cert.TokenIdeal.main_arg14)
          ∧ r.2.mem ((c.tc : Thread Cert.TokenIdeal.nD Cert.TokenIdeal.τ).loc Cert.TokenIdeal.main_arg15) = m ((c.tc : Thread Cert.TokenIdeal.nD Cert.TokenIdeal.τ).loc Cert.TokenIdeal.main_arg15))
      ∧ θ_run (Cert.TokenReferenceIdeal.defs (F := Ideal)) (onTc (τ := Cert.TokenReferenceIdeal.τ) (Cert.TokenReferenceIdeal.main (F := Ideal))) ⟨m', fun _ => 0, g'⟩ (fun r => ∀ c : Dev Cert.TokenReferenceIdeal.nD,
          r.2.mem ((c.tc : Thread Cert.TokenReferenceIdeal.nD Cert.TokenReferenceIdeal.τ).loc Cert.TokenReferenceIdeal.main_v60) = v0 c
          ∧ r.2.mem ((c.tc : Thread Cert.TokenReferenceIdeal.nD Cert.TokenReferenceIdeal.τ).loc Cert.TokenReferenceIdeal.main_arg0) = m' ((c.tc : Thread Cert.TokenReferenceIdeal.nD Cert.TokenReferenceIdeal.τ).loc Cert.TokenReferenceIdeal.main_arg0)
          ∧ r.2.mem ((c.tc : Thread Cert.TokenReferenceIdeal.nD Cert.TokenReferenceIdeal.τ).loc Cert.TokenReferenceIdeal.main_arg1) = m' ((c.tc : Thread Cert.TokenReferenceIdeal.nD Cert.TokenReferenceIdeal.τ).loc Cert.TokenReferenceIdeal.main_arg1)
          ∧ r.2.mem ((c.tc : Thread Cert.TokenReferenceIdeal.nD Cert.TokenReferenceIdeal.τ).loc Cert.TokenReferenceIdeal.main_arg2) = m' ((c.tc : Thread Cert.TokenReferenceIdeal.nD Cert.TokenReferenceIdeal.τ).loc Cert.TokenReferenceIdeal.main_arg2)
          ∧ r.2.mem ((c.tc : Thread Cert.TokenReferenceIdeal.nD Cert.TokenReferenceIdeal.τ).loc Cert.TokenReferenceIdeal.main_arg3) = m' ((c.tc : Thread Cert.TokenReferenceIdeal.nD Cert.TokenReferenceIdeal.τ).loc Cert.TokenReferenceIdeal.main_arg3)
          ∧ r.2.mem ((c.tc : Thread Cert.TokenReferenceIdeal.nD Cert.TokenReferenceIdeal.τ).loc Cert.TokenReferenceIdeal.main_arg4) = m' ((c.tc : Thread Cert.TokenReferenceIdeal.nD Cert.TokenReferenceIdeal.τ).loc Cert.TokenReferenceIdeal.main_arg4)
          ∧ r.2.mem ((c.tc : Thread Cert.TokenReferenceIdeal.nD Cert.TokenReferenceIdeal.τ).loc Cert.TokenReferenceIdeal.main_arg5) = m' ((c.tc : Thread Cert.TokenReferenceIdeal.nD Cert.TokenReferenceIdeal.τ).loc Cert.TokenReferenceIdeal.main_arg5)
          ∧ r.2.mem ((c.tc : Thread Cert.TokenReferenceIdeal.nD Cert.TokenReferenceIdeal.τ).loc Cert.TokenReferenceIdeal.main_arg6) = m' ((c.tc : Thread Cert.TokenReferenceIdeal.nD Cert.TokenReferenceIdeal.τ).loc Cert.TokenReferenceIdeal.main_arg6)
          ∧ r.2.mem ((c.tc : Thread Cert.TokenReferenceIdeal.nD Cert.TokenReferenceIdeal.τ).loc Cert.TokenReferenceIdeal.main_arg7) = m' ((c.tc : Thread Cert.TokenReferenceIdeal.nD Cert.TokenReferenceIdeal.τ).loc Cert.TokenReferenceIdeal.main_arg7)
          ∧ r.2.mem ((c.tc : Thread Cert.TokenReferenceIdeal.nD Cert.TokenReferenceIdeal.τ).loc Cert.TokenReferenceIdeal.main_arg8) = m' ((c.tc : Thread Cert.TokenReferenceIdeal.nD Cert.TokenReferenceIdeal.τ).loc Cert.TokenReferenceIdeal.main_arg8)
          ∧ r.2.mem ((c.tc : Thread Cert.TokenReferenceIdeal.nD Cert.TokenReferenceIdeal.τ).loc Cert.TokenReferenceIdeal.main_arg9) = m' ((c.tc : Thread Cert.TokenReferenceIdeal.nD Cert.TokenReferenceIdeal.τ).loc Cert.TokenReferenceIdeal.main_arg9)
          ∧ r.2.mem ((c.tc : Thread Cert.TokenReferenceIdeal.nD Cert.TokenReferenceIdeal.τ).loc Cert.TokenReferenceIdeal.main_arg10) = m' ((c.tc : Thread Cert.TokenReferenceIdeal.nD Cert.TokenReferenceIdeal.τ).loc Cert.TokenReferenceIdeal.main_arg10)
          ∧ r.2.mem ((c.tc : Thread Cert.TokenReferenceIdeal.nD Cert.TokenReferenceIdeal.τ).loc Cert.TokenReferenceIdeal.main_arg11) = m' ((c.tc : Thread Cert.TokenReferenceIdeal.nD Cert.TokenReferenceIdeal.τ).loc Cert.TokenReferenceIdeal.main_arg11)
          ∧ r.2.mem ((c.tc : Thread Cert.TokenReferenceIdeal.nD Cert.TokenReferenceIdeal.τ).loc Cert.TokenReferenceIdeal.main_arg12) = m' ((c.tc : Thread Cert.TokenReferenceIdeal.nD Cert.TokenReferenceIdeal.τ).loc Cert.TokenReferenceIdeal.main_arg12)
          ∧ r.2.mem ((c.tc : Thread Cert.TokenReferenceIdeal.nD Cert.TokenReferenceIdeal.τ).loc Cert.TokenReferenceIdeal.main_arg13) = m' ((c.tc : Thread Cert.TokenReferenceIdeal.nD Cert.TokenReferenceIdeal.τ).loc Cert.TokenReferenceIdeal.main_arg13)
          ∧ r.2.mem ((c.tc : Thread Cert.TokenReferenceIdeal.nD Cert.TokenReferenceIdeal.τ).loc Cert.TokenReferenceIdeal.main_arg14) = m' ((c.tc : Thread Cert.TokenReferenceIdeal.nD Cert.TokenReferenceIdeal.τ).loc Cert.TokenReferenceIdeal.main_arg14)
          ∧ r.2.mem ((c.tc : Thread Cert.TokenReferenceIdeal.nD Cert.TokenReferenceIdeal.τ).loc Cert.TokenReferenceIdeal.main_arg15) = m' ((c.tc : Thread Cert.TokenReferenceIdeal.nD Cert.TokenReferenceIdeal.τ).loc Cert.TokenReferenceIdeal.main_arg15))

def Claim : Prop :=
  ∃ (hKernel : Cert.Kernel.Facts) (hKernelIdeal : Cert.KernelIdeal.Facts) (hReferenceIdeal : Cert.ReferenceIdeal.Facts) (hImage : Cert.Image.Facts) (hImageIdeal : Cert.ImageIdeal.Facts) (hImageReferenceIdeal : Cert.ImageReferenceIdeal.Facts) (hSelf : Cert.Self.Facts) (hSelfIdeal : Cert.SelfIdeal.Facts) (hSelfReferenceIdeal : Cert.SelfReferenceIdeal.Facts) (hToken : Cert.Token.Facts) (hTokenIdeal : Cert.TokenIdeal.Facts) (hTokenReferenceIdeal : Cert.TokenReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Image (hImage := hImage)
    ∧ quiescent_ImageIdeal (hImageIdeal := hImageIdeal)
    ∧ quiescent_ImageReferenceIdeal (hImageReferenceIdeal := hImageReferenceIdeal)
    ∧ quiescent_Self (hSelf := hSelf)
    ∧ quiescent_SelfIdeal (hSelfIdeal := hSelfIdeal)
    ∧ quiescent_SelfIdeal_pre_finite (hSelfIdeal := hSelfIdeal) (hPre_finite := hPre_finite)
    ∧ quiescent_SelfReferenceIdeal (hSelfReferenceIdeal := hSelfReferenceIdeal)
    ∧ quiescent_SelfReferenceIdeal_pre_finite (hSelfReferenceIdeal := hSelfReferenceIdeal) (hPre_finite := hPre_finite)
    ∧ quiescent_Token (hToken := hToken)
    ∧ quiescent_TokenIdeal (hTokenIdeal := hTokenIdeal)
    ∧ quiescent_TokenReferenceIdeal (hTokenReferenceIdeal := hTokenReferenceIdeal)
    ∧ preserves_Kernel_KernelIdeal
    ∧ algebraic_KernelIdeal_ReferenceIdeal (hKernelIdeal := hKernelIdeal) (hReferenceIdeal := hReferenceIdeal)
    ∧ preserves_Image_ImageIdeal
    ∧ algebraic_ImageIdeal_ImageReferenceIdeal (hImageIdeal := hImageIdeal) (hImageReferenceIdeal := hImageReferenceIdeal)
    ∧ preserves_Self_SelfIdeal
    ∧ algebraic_SelfIdeal_SelfReferenceIdeal_pre_finite (hSelfIdeal := hSelfIdeal) (hSelfReferenceIdeal := hSelfReferenceIdeal) (hPre_finite := hPre_finite)
    ∧ preserves_Token_TokenIdeal
    ∧ algebraic_TokenIdeal_TokenReferenceIdeal (hTokenIdeal := hTokenIdeal) (hTokenReferenceIdeal := hTokenReferenceIdeal)
-- ==== Pre_finite.lean ====
abbrev S224x10x256 : Shape := ⟨3, ![224, 10, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2240x256 : Shape := ⟨2, ![2240, 256]⟩
abbrev S_ : Shape := ⟨0, ![]⟩
abbrev S1x256 : Shape := ⟨2, ![1, 256]⟩
abbrev S4993x256 : Shape := ⟨2, ![4993, 256]⟩

class Facts : Prop where
  bitsLt_bf16_f32 : FTy.bits .bf16 < FTy.bits .f32
  shapeCasts_S224x10x256_S2240x256 : S224x10x256.ShapeCasts S2240x256
  bcast_S_S2240x256 : S_.BroadcastsInDim S2240x256 (![] : Fin 0 → Fin S2240x256.rank)
  bcast_S_S256x256 : S_.BroadcastsInDim S256x256 (![] : Fin 0 → Fin S256x256.rank)
  shapeCasts_S256_S1x256 : S256.ShapeCasts S1x256
  bcast_S_S1x256 : S_.BroadcastsInDim S1x256 (![] : Fin 0 → Fin S1x256.rank)
  concatenates_S2240x256_S2240x256_S256x256_S256x256_S1x256_S4993x256_d0 : Shape.Concatenates [S2240x256, S2240x256, S256x256, S256x256, S1x256] S4993x256 0

variable [Facts]

def fn_part1 {F : FTy → Type} [FloatOps F] (main_v4 : IVec S2240x256 1) (main_v9 : IVec S2240x256 1) (main_v12 : IVec S256x256 1) (main_v15 : IVec S256x256 1) (main_v17 : FVec F S1x256 .f32) (main_v18 : FVec F S1x256 .f32) : IVec S4993x256 1 :=
  let main_v19 : IVec S1x256 1 := cmpf .olt main_v17 main_v18
  let main_v20 : IVec S4993x256 1 := concatenate S4993x256 0 [⟨S2240x256, main_v4⟩, ⟨S2240x256, main_v9⟩, ⟨S256x256, main_v12⟩, ⟨S256x256, main_v15⟩, ⟨S1x256, main_v19⟩] concatenates_S2240x256_S2240x256_S256x256_S256x256_S1x256_S4993x256_d0
  main_v20

def fn {F : FTy → Type} [FloatOps F] (main_arg0 : FVec F S224x10x256 .bf16) (main_arg1 : FVec F S224x10x256 .bf16) (main_arg2 : FVec F S256x256 .f32) (main_arg3 : FVec F S256x256 .f32) (main_arg4 : FVec F S256x256 .f32) (main_arg5 : FVec F S256x256 .f32) (main_arg6 : FVec F S256 .f32) (main_arg7 : FVec F S256 .f32) (main_arg8 : FVec F S256 .f32) (main_arg9 : FVec F S256 .f32) (main_arg10 : FVec F S256 .f32) (main_arg11 : FVec F S256x128 .f32) (main_arg12 : FVec F S128 .f32) : IVec S4993x256 1 :=
  let main_v0 : FVec F S224x10x256 .f32 := (extf .f32 · bitsLt_bf16_f32) main_arg0
  let main_v1 : FVec F S2240x256 .f32 := shapeCast S2240x256 main_v0 shapeCasts_S224x10x256_S2240x256
  let main_v2 : FVec F S2240x256 .f32 := Host.absf main_v1
  let main_cst : FVec F S_ .f32 := constant S_ .f32 0x7F800000#32
  let main_v3 : FVec F S2240x256 .f32 := broadcastInDim S2240x256 ![] bcast_S_S2240x256 main_cst
  let main_v4 : IVec S2240x256 1 := cmpf .olt main_v2 main_v3
  let main_v5 : FVec F S224x10x256 .f32 := (extf .f32 · bitsLt_bf16_f32) main_arg1
  let main_v6 : FVec F S2240x256 .f32 := shapeCast S2240x256 main_v5 shapeCasts_S224x10x256_S2240x256
  let main_v7 : FVec F S2240x256 .f32 := Host.absf main_v6
  let main_cst_0 : FVec F S_ .f32 := constant S_ .f32 0x7F800000#32
  let main_v8 : FVec F S2240x256 .f32 := broadcastInDim S2240x256 ![] bcast_S_S2240x256 main_cst_0
  let main_v9 : IVec S2240x256 1 := cmpf .olt main_v7 main_v8
  let main_v10 : FVec F S256x256 .f32 := Host.absf main_arg2
  let main_cst_1 : FVec F S_ .f32 := constant S_ .f32 0x7F800000#32
  let main_v11 : FVec F S256x256 .f32 := broadcastInDim S256x256 ![] bcast_S_S256x256 main_cst_1
  let main_v12 : IVec S256x256 1 := cmpf .olt main_v10 main_v11
  let main_v13 : FVec F S256x256 .f32 := Host.absf main_arg3
  let main_cst_2 : FVec F S_ .f32 := constant S_ .f32 0x7F800000#32
  let main_v14 : FVec F S256x256 .f32 := broadcastInDim S256x256 ![] bcast_S_S256x256 main_cst_2
  let main_v15 : IVec S256x256 1 := cmpf .olt main_v13 main_v14
  let main_v16 : FVec F S1x256 .f32 := shapeCast S1x256 main_arg6 shapeCasts_S256_S1x256
  let main_v17 : FVec F S1x256 .f32 := Host.absf main_v16
  let main_cst_3 : FVec F S_ .f32 := constant S_ .f32 0x7F800000#32
  let main_v18 : FVec F S1x256 .f32 := broadcastInDim S1x256 ![] bcast_S_S1x256 main_cst_3
  fn_part1 (F := F) main_v4 main_v9 main_v12 main_v15 main_v17 main_v18
-- ==== Kernel.lean ====
abbrev S8960x384 : Shape := ⟨2, ![8960, 384]⟩
abbrev S224x128x240 : Shape := ⟨3, ![224, 128, 240]⟩
abbrev S384x4096 : Shape := ⟨2, ![384, 4096]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S224x4096x256 : Shape := ⟨3, ![224, 4096, 256]⟩
abbrev S224x4096x128 : Shape := ⟨3, ![224, 4096, 128]⟩
abbrev S224x4096 : Shape := ⟨2, ![224, 4096]⟩
abbrev S320x384 : Shape := ⟨2, ![320, 384]⟩
abbrev S8x128x240 : Shape := ⟨3, ![8, 128, 240]⟩
abbrev S8x1024x256 : Shape := ⟨3, ![8, 1024, 256]⟩
abbrev S8x1024x128 : Shape := ⟨3, ![8, 1024, 128]⟩
abbrev S8x1024 : Shape := ⟨2, ![8, 1024]⟩
abbrev S320x128 : Shape := ⟨2, ![320, 128]⟩
abbrev S128x256 : Shape := ⟨2, ![128, 256]⟩
abbrev S320x768 : Shape := ⟨2, ![320, 768]⟩
abbrev S768x256 : Shape := ⟨2, ![768, 256]⟩
abbrev S320x256 : Shape := ⟨2, ![320, 256]⟩
abbrev S8x5x8x256 : Shape := ⟨4, ![8, 5, 8, 256]⟩
abbrev S1x5x8x256 : Shape := ⟨4, ![1, 5, 8, 256]⟩
abbrev S5x8x256 : Shape := ⟨3, ![5, 8, 256]⟩
abbrev S8x256 : Shape := ⟨2, ![8, 256]⟩
abbrev S1x8x256 : Shape := ⟨3, ![1, 8, 256]⟩
abbrev S40x256 : Shape := ⟨2, ![40, 256]⟩
abbrev S1x128x240 : Shape := ⟨3, ![1, 128, 240]⟩
abbrev S128x240 : Shape := ⟨2, ![128, 240]⟩
abbrev S32x256 : Shape := ⟨2, ![32, 256]⟩
abbrev S16x256 : Shape := ⟨2, ![16, 256]⟩
abbrev S240x256 : Shape := ⟨2, ![240, 256]⟩
abbrev S1x256 : Shape := ⟨2, ![1, 256]⟩
abbrev S1x256x128 : Shape := ⟨3, ![1, 256, 128]⟩
abbrev S1x256x256 : Shape := ⟨3, ![1, 256, 256]⟩

abbrev nBuf : Space → Nat
  | .hbm => 14
  | .vmem => 15
  | .smem => 0
  | _ => 0

abbrev bufTy : (tb : Table) → Fin (tcTables nBuf tb) → BufTy
  | .hbm, ⟨0, _⟩ => ⟨S8960x384, .bf16⟩
  | .hbm, ⟨1, _⟩ => ⟨S224x128x240, .bf16⟩
  | .hbm, ⟨2, _⟩ => ⟨S384x4096, .bf16⟩
  | .hbm, ⟨3, _⟩ => ⟨S256x4096, .f32⟩
  | .hbm, ⟨4, _⟩ => ⟨S256x256, .bf16⟩
  | .hbm, ⟨5, _⟩ => ⟨S256, .f32⟩
  | .hbm, ⟨6, _⟩ => ⟨S256, .f32⟩
  | .hbm, ⟨7, _⟩ => ⟨S256x1, .f32⟩
  | .hbm, ⟨8, _⟩ => ⟨S256x128, .f32⟩
  | .hbm, ⟨9, _⟩ => ⟨S256x1, .f32⟩
  | .hbm, ⟨10, _⟩ => ⟨S256x128, .f32⟩
  | .hbm, ⟨11, _⟩ => ⟨S224x4096x256, .bf16⟩
  | .hbm, ⟨12, _⟩ => ⟨S224x4096x128, .fp8e4m3⟩
  | .hbm, ⟨13, _⟩ => ⟨S224x4096, .f32⟩
  | .local _ .vmem, ⟨0, _⟩ => ⟨S320x384, .bf16⟩
  | .local _ .vmem, ⟨1, _⟩ => ⟨S320x384, .bf16⟩
  | .local _ .vmem, ⟨2, _⟩ => ⟨S8x128x240, .bf16⟩
  | .local _ .vmem, ⟨3, _⟩ => ⟨S8x128x240, .bf16⟩
  | .local _ .vmem, ⟨4, _⟩ => ⟨S384x4096, .bf16⟩
  | .local _ .vmem, ⟨5, _⟩ => ⟨S256x4096, .f32⟩
  | .local _ .vmem, ⟨6, _⟩ => ⟨S256x256, .bf16⟩
  | .local _ .vmem, ⟨7, _⟩ => ⟨S256x128, .f32⟩
  | .local _ .vmem, ⟨8, _⟩ => ⟨S256x128, .f32⟩
  | .local _ .vmem, ⟨9, _⟩ => ⟨S8x1024x256, .bf16⟩
  | .local _ .vmem, ⟨10, _⟩ => ⟨S8x1024x256, .bf16⟩
  | .local _ .vmem, ⟨11, _⟩ => ⟨S8x1024x128, .fp8e4m3⟩
  | .local _ .vmem, ⟨12, _⟩ => ⟨S8x1024x128, .fp8e4m3⟩
  | .local _ .vmem, ⟨13, _⟩ => ⟨S8x1024, .f32⟩
  | .local _ .vmem, ⟨14, _⟩ => ⟨S8x1024, .f32⟩
  | _, _ => ⟨S8960x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![28, 4], ![false, false]⟩

@[reducible] def k0_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  v6
def k0_mult2 (i : grid0.Coords) (k0_t1 : Fin k0_t1_loop.trips) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v8 : BitVec 32 := Scalar.addi v0 v7
  v8
def k0_off1 (i : grid0.Coords) (k0_t1 : Fin k0_t1_loop.trips) : Fin 2 → Nat :=
  let c0_6 : Index := 0#32
  let arg1 : BitVec 32 := BitVec.ofNat 32 (i 1).val
  let c1024_i32 : BitVec 32 := 1024#32
  let v0 : BitVec 32 := Scalar.muli arg1 c1024_i32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v8 : BitVec 32 := Scalar.addi v0 v7
  let v9 : BitVec 32 := v8
  let v10 : Index := Scalar.indexCast v9
  ![0, v10.toNat]
def k0_off2 (i : grid0.Coords) (k0_t1 : Fin k0_t1_loop.trips) : Fin 2 → Nat :=
  let c128_7 : Index := 128#32
  let arg1 : BitVec 32 := BitVec.ofNat 32 (i 1).val
  let c1024_i32 : BitVec 32 := 1024#32
  let v0 : BitVec 32 := Scalar.muli arg1 c1024_i32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v8 : BitVec 32 := Scalar.addi v0 v7
  let v9 : BitVec 32 := v8
  let v12 : Index := Scalar.indexCast v9
  ![128, v12.toNat]
def k0_off3 (i : grid0.Coords) (k0_t1 : Fin k0_t1_loop.trips) : Fin 2 → Nat :=
  let c256_8 : Index := 256#32
  let arg1 : BitVec 32 := BitVec.ofNat 32 (i 1).val
  let c1024_i32 : BitVec 32 := 1024#32
  let v0 : BitVec 32 := Scalar.muli arg1 c1024_i32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v8 : BitVec 32 := Scalar.addi v0 v7
  let v9 : BitVec 32 := v8
  let v14 : Index := Scalar.indexCast v9
  ![256, v14.toNat]
def k0_off4 (k0_t1 : Fin k0_t1_loop.trips) : Fin 2 → Nat :=
  let c0_25 : Index := 0#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v80 : Index := Scalar.indexCast v7
  ![0, v80.toNat]
def k0_off5 (k0_t1 : Fin k0_t1_loop.trips) : Fin 3 → Nat :=
  let c0_28 : Index := 0#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v92 : Index := Scalar.indexCast v7
  let c0_29 : Index := 0#32
  ![0, v92.toNat, 0]
def k0_off6 (i : grid0.Coords) (k0_t1 : Fin k0_t1_loop.trips) : Fin 2 → Nat :=
  let c0_31 : Index := 0#32
  let arg1 : BitVec 32 := BitVec.ofNat 32 (i 1).val
  let c1024_i32 : BitVec 32 := 1024#32
  let v0 : BitVec 32 := Scalar.muli arg1 c1024_i32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v8 : BitVec 32 := Scalar.addi v0 v7
  let v9 : BitVec 32 := v8
  let v101 : Index := Scalar.indexCast v9
  ![0, v101.toNat]
def k0_off7 (k0_t1 : Fin k0_t1_loop.trips) : Fin 3 → Nat :=
  let c0_39 : Index := 0#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v124 : Index := Scalar.indexCast v7
  let c0_40 : Index := 0#32
  ![0, v124.toNat, 0]
def k0_off8 (k0_t1 : Fin k0_t1_loop.trips) : Fin 2 → Nat :=
  let c1_56 : Index := 1#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v188 : Index := Scalar.indexCast v7
  ![1, v188.toNat]
def k0_off9 (k0_t1 : Fin k0_t1_loop.trips) : Fin 3 → Nat :=
  let c1_59 : Index := 1#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v200 : Index := Scalar.indexCast v7
  let c0_60 : Index := 0#32
  ![1, v200.toNat, 0]
def k0_off10 (k0_t1 : Fin k0_t1_loop.trips) : Fin 3 → Nat :=
  let c1_70 : Index := 1#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v232 : Index := Scalar.indexCast v7
  let c0_71 : Index := 0#32
  ![1, v232.toNat, 0]
def k0_off11 (k0_t1 : Fin k0_t1_loop.trips) : Fin 2 → Nat :=
  let c2_87 : Index := 2#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v296 : Index := Scalar.indexCast v7
  ![2, v296.toNat]
def k0_off12 (k0_t1 : Fin k0_t1_loop.trips) : Fin 3 → Nat :=
  let c2_90 : Index := 2#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v308 : Index := Scalar.indexCast v7
  let c0_91 : Index := 0#32
  ![2, v308.toNat, 0]
def k0_off13 (k0_t1 : Fin k0_t1_loop.trips) : Fin 3 → Nat :=
  let c2_101 : Index := 2#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v340 : Index := Scalar.indexCast v7
  let c0_102 : Index := 0#32
  ![2, v340.toNat, 0]
def k0_off14 (k0_t1 : Fin k0_t1_loop.trips) : Fin 2 → Nat :=
  let c3_118 : Index := 3#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v404 : Index := Scalar.indexCast v7
  ![3, v404.toNat]
def k0_off15 (k0_t1 : Fin k0_t1_loop.trips) : Fin 3 → Nat :=
  let c3_121 : Index := 3#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v416 : Index := Scalar.indexCast v7
  let c0_122 : Index := 0#32
  ![3, v416.toNat, 0]
def k0_off16 (k0_t1 : Fin k0_t1_loop.trips) : Fin 3 → Nat :=
  let c3_132 : Index := 3#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v448 : Index := Scalar.indexCast v7
  let c0_133 : Index := 0#32
  ![3, v448.toNat, 0]
def k0_off17 (k0_t1 : Fin k0_t1_loop.trips) : Fin 2 → Nat :=
  let c4_149 : Index := 4#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v512 : Index := Scalar.indexCast v7
  ![4, v512.toNat]
def k0_off18 (k0_t1 : Fin k0_t1_loop.trips) : Fin 3 → Nat :=
  let c4_152 : Index := 4#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v524 : Index := Scalar.indexCast v7
  let c0_153 : Index := 0#32
  ![4, v524.toNat, 0]
def k0_off19 (k0_t1 : Fin k0_t1_loop.trips) : Fin 3 → Nat :=
  let c4_163 : Index := 4#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v556 : Index := Scalar.indexCast v7
  let c0_164 : Index := 0#32
  ![4, v556.toNat, 0]
def k0_off20 (k0_t1 : Fin k0_t1_loop.trips) : Fin 2 → Nat :=
  let c5_180 : Index := 5#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v620 : Index := Scalar.indexCast v7
  ![5, v620.toNat]
def k0_off21 (k0_t1 : Fin k0_t1_loop.trips) : Fin 3 → Nat :=
  let c5_183 : Index := 5#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v632 : Index := Scalar.indexCast v7
  let c0_184 : Index := 0#32
  ![5, v632.toNat, 0]
def k0_off22 (k0_t1 : Fin k0_t1_loop.trips) : Fin 3 → Nat :=
  let c5_194 : Index := 5#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v664 : Index := Scalar.indexCast v7
  let c0_195 : Index := 0#32
  ![5, v664.toNat, 0]
def k0_off23 (k0_t1 : Fin k0_t1_loop.trips) : Fin 2 → Nat :=
  let c6_211 : Index := 6#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v728 : Index := Scalar.indexCast v7
  ![6, v728.toNat]
def k0_off24 (k0_t1 : Fin k0_t1_loop.trips) : Fin 3 → Nat :=
  let c6_214 : Index := 6#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v740 : Index := Scalar.indexCast v7
  let c0_215 : Index := 0#32
  ![6, v740.toNat, 0]
def k0_off25 (k0_t1 : Fin k0_t1_loop.trips) : Fin 3 → Nat :=
  let c6_225 : Index := 6#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v772 : Index := Scalar.indexCast v7
  let c0_226 : Index := 0#32
  ![6, v772.toNat, 0]
def k0_off26 (k0_t1 : Fin k0_t1_loop.trips) : Fin 2 → Nat :=
  let c7_242 : Index := 7#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v836 : Index := Scalar.indexCast v7
  ![7, v836.toNat]
def k0_off27 (k0_t1 : Fin k0_t1_loop.trips) : Fin 3 → Nat :=
  let c7_245 : Index := 7#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v848 : Index := Scalar.indexCast v7
  let c0_246 : Index := 0#32
  ![7, v848.toNat, 0]
def k0_off28 (k0_t1 : Fin k0_t1_loop.trips) : Fin 3 → Nat :=
  let c7_256 : Index := 7#32
  let c0_i32 : BitVec 32 := 0#32
  let c1_i32 : BitVec 32 := 1#32
  let arg12 : BitVec 32 := Scf.iv c0_i32 c1_i32 k0_t1
  let c256_i32 : BitVec 32 := 256#32
  let v6 : BitVec 32 := Scalar.muli arg12 c256_i32
  let v7 : BitVec 32 := v6
  let v880 : Index := Scalar.indexCast v7
  let c0_257 : Index := 0#32
  ![7, v880.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S320x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S384x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8960x384 : Shape := ⟨2, ![8960, 384]⟩
abbrev S224x128x240 : Shape := ⟨3, ![224, 128, 240]⟩
abbrev S384x4096 : Shape := ⟨2, ![384, 4096]⟩
abbrev S256x4096 : Shape := ⟨2, ![256, 4096]⟩
abbrev S256x256 : Shape := ⟨2, ![256, 256]⟩
abbrev S256 : Shape := ⟨1, ![256]⟩
abbrev S224x10x4x3x128 : Shape := ⟨5, ![224, 10, 4, 3, 128]⟩
abbrev S3x128x4096 : Shape := ⟨3, ![3, 128, 4096]⟩
abbrev S224x10x4x1x128 : Shape := ⟨5, ![224, 10, 4, 1, 128]⟩
abbrev S224x10x4x128 : Shape := ⟨4, ![224, 10, 4, 128]⟩
abbrev S1x128x4096 : Shape := ⟨3, ![1, 128, 4096]⟩
abbrev S128x4096 : Shape := ⟨2, ![128, 4096]⟩
abbrev S224x10x4x4096 : Shape := ⟨4, ![224, 10, 4, 4096]⟩
abbrev S_ : Shape := ⟨0, ![]⟩
abbrev S224x4x4096 : Shape := ⟨3, ![224, 4, 4096]⟩
abbrev S224x1x4x4096 : Shape := ⟨4, ![224, 1, 4, 4096]⟩
abbrev S224x128x32 : Shape := ⟨3, ![224, 128, 32]⟩
abbrev S224x128x8 : Shape := ⟨3, ![224, 128, 8]⟩
abbrev S224x128x40 : Shape := ⟨3, ![224, 128, 40]⟩
abbrev S224x128x10x4 : Shape := ⟨4, ![224, 128, 10, 4]⟩
abbrev S224x4096x128 : Shape := ⟨3, ![224, 4096, 128]⟩
abbrev S224x4096 : Shape := ⟨2, ![224, 4096]⟩
abbrev S224x4096x1 : Shape := ⟨3, ![224, 4096, 1]⟩
abbrev S256x128 : Shape := ⟨2, ![256, 128]⟩
abbrev S224x4096x256 : Shape := ⟨3, ![224, 4096, 256]⟩
abbrev S4096x256 : Shape := ⟨2, ![4096, 256]⟩
abbrev S1x4096x256 : Shape := ⟨3, ![1, 4096, 256]⟩
abbrev S1x1x256 : Shape := ⟨3, ![1, 1, 256]⟩

abbrev nBuf : Space → Nat
  | .hbm => 111
  | .vmem => 4
  | .smem => 0
  | _ => 0

abbrev bufTy : (tb : Table) → Fin (tcTables nBuf tb) → BufTy
  | .hbm, ⟨0, _⟩ => ⟨S8960x384, .bf16⟩
  | .hbm, ⟨1, _⟩ => ⟨S224x128x240, .bf16⟩
  | .hbm, ⟨2, _⟩ => ⟨S384x4096, .bf16⟩
  | .hbm, ⟨3, _⟩ => ⟨S256x4096, .f32⟩
  | .hbm, ⟨4, _⟩ => ⟨S256x256, .bf16⟩
  | .hbm, ⟨5, _⟩ => ⟨S256, .f32⟩
  | .hbm, ⟨6, _⟩ => ⟨S256, .f32⟩
  | .hbm, ⟨7, _⟩ => ⟨S8960x384, .f32⟩
  | .hbm, ⟨8, _⟩ => ⟨S224x10x4x3x128, .f32⟩
  | .hbm, ⟨9, _⟩ => ⟨S384x4096, .f32⟩
  | .hbm, ⟨10, _⟩ => ⟨S3x128x4096, .f32⟩
  | .hbm, ⟨11, _⟩ => ⟨S224x10x4x1x128, .f32⟩
  | .hbm, ⟨12, _⟩ => ⟨S224x10x4x128, .f32⟩
  | .hbm, ⟨13, _⟩ => ⟨S1x128x4096, .f32⟩
  | .hbm, ⟨14, _⟩ => ⟨S128x4096, .f32⟩
  | .hbm, ⟨15, _⟩ => ⟨S224x10x4x4096, .f32⟩
  | .hbm, ⟨16, _⟩ => ⟨S224x10x4x1x128, .f32⟩
  | .hbm, ⟨17, _⟩ => ⟨S224x10x4x128, .f32⟩
  | .hbm, ⟨18, _⟩ => ⟨S1x128x4096, .f32⟩
  | .hbm, ⟨19, _⟩ => ⟨S128x4096, .f32⟩
  | .hbm, ⟨20, _⟩ => ⟨S224x10x4x4096, .f32⟩
  | .hbm, ⟨21, _⟩ => ⟨S224x10x4x4096, .f32⟩
  | .hbm, ⟨22, _⟩ => ⟨S224x10x4x1x128, .f32⟩
  | .hbm, ⟨23, _⟩ => ⟨S224x10x4x128, .f32⟩
  | .hbm, ⟨24, _⟩ => ⟨S1x128x4096, .f32⟩
  | .hbm, ⟨25, _⟩ => ⟨S128x4096, .f32⟩
  | .hbm, ⟨26, _⟩ => ⟨S224x10x4x4096, .f32⟩
  | .hbm, ⟨27, _⟩ => ⟨S224x10x4x4096, .f32⟩
  | .hbm, ⟨28, _⟩ => ⟨S224x10x4x1x128, .f32⟩
  | .hbm, ⟨29, _⟩ => ⟨S224x10x4x128, .f32⟩
  | .hbm, ⟨30, _⟩ => ⟨S1x128x4096, .f32⟩
  | .hbm, ⟨31, _⟩ => ⟨S128x4096, .f32⟩
  | .hbm, ⟨32, _⟩ => ⟨S224x10x4x4096, .f32⟩
  | .hbm, ⟨33, _⟩ => ⟨S224x10x4x4096, .f32⟩
  | .hbm, ⟨34, _⟩ => ⟨S224x10x4x1x128, .f32⟩
  | .hbm, ⟨35, _⟩ => ⟨S224x10x4x128, .f32⟩
  | .hbm, ⟨36, _⟩ => ⟨S1x128x4096, .f32⟩
  | .hbm, ⟨37, _⟩ => ⟨S128x4096, .f32⟩
  | .hbm, ⟨38, _⟩ => ⟨S224x10x4x4096, .f32⟩
  | .hbm, ⟨39, _⟩ => ⟨S224x10x4x4096, .f32⟩
  | .hbm, ⟨40, _⟩ => ⟨S224x10x4x1x128, .f32⟩
  | .hbm, ⟨41, _⟩ => ⟨S224x10x4x128, .f32⟩
  | .hbm, ⟨42, _⟩ => ⟨S1x128x4096, .f32⟩
  | .hbm, ⟨43, _⟩ => ⟨S128x4096, .f32⟩
  | .hbm, ⟨44, _⟩ => ⟨S224x10x4x4096, .f32⟩
  | .hbm, ⟨45, _⟩ => ⟨S224x10x4x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S224x4x4096, .f32⟩
  | .hbm, ⟨50, _⟩ => ⟨S224x1x4x4096, .f32⟩
  | .hbm, ⟨51, _⟩ => ⟨S224x10x4x4096, .f32⟩
  | .hbm, ⟨52, _⟩ => ⟨S224x10x4x4096, .f32⟩
  | .hbm, ⟨53, _⟩ => ⟨S224x10x4x4096, .f32⟩
  | .hbm, ⟨54, _⟩ => ⟨S224x10x4x4096, .f32⟩
  | .hbm, ⟨55, _⟩ => ⟨S224x10x4x4096, .f32⟩
  | .hbm, ⟨56, _⟩ => ⟨S_, .f32⟩
  | .hbm, ⟨57, _⟩ => ⟨S224x4x4096, .f32⟩
  | .hbm, ⟨58, _⟩ => ⟨S224x1x4x4096, .f32⟩
  | .hbm, ⟨59, _⟩ => ⟨S_, .f32⟩
  | .hbm, ⟨60, _⟩ => ⟨S224x1x4x4096, .f32⟩
  | .hbm, ⟨61, _⟩ => ⟨S224x1x4x4096, .f32⟩
  | .hbm, ⟨62, _⟩ => ⟨S224x10x4x4096, .f32⟩
  | .hbm, ⟨63, _⟩ => ⟨S224x10x4x4096, .f32⟩
  | .hbm, ⟨64, _⟩ => ⟨S224x128x240, .f32⟩
  | .hbm, ⟨65, _⟩ => ⟨S224x128x32, .f32⟩
  | .hbm, ⟨66, _⟩ => ⟨S224x128x32, .f32⟩
  | .hbm, ⟨67, _⟩ => ⟨S224x128x32, .f32⟩
  | .hbm, ⟨68, _⟩ => ⟨S224x128x32, .f32⟩
  | .hbm, ⟨69, _⟩ => ⟨S224x128x32, .f32⟩
  | .hbm, ⟨70, _⟩ => ⟨S224x128x8, .f32⟩
  | .hbm, ⟨71, _⟩ => ⟨S224x128x8, .f32⟩
  | .hbm, ⟨72, _⟩ => ⟨S224x128x8, .f32⟩
  | .hbm, ⟨73, _⟩ => ⟨S224x128x8, .f32⟩
  | .hbm, ⟨74, _⟩ => ⟨S224x128x8, .f32⟩
  | .hbm, ⟨75, _⟩ => ⟨S224x128x40, .f32⟩
  | .hbm, ⟨76, _⟩ => ⟨S224x128x10x4, .f32⟩
  | .hbm, ⟨77, _⟩ => ⟨S224x4096x128, .f32⟩
  | .hbm, ⟨78, _⟩ => ⟨S224x4096x128, .fp8e4m3⟩
  | .hbm, ⟨79, _⟩ => ⟨S224x4096x128, .f32⟩
  | .hbm, ⟨80, _⟩ => ⟨S224x4096, .f32⟩
  | .hbm, ⟨81, _⟩ => ⟨S256x256, .f32⟩
  | .hbm, ⟨82, _⟩ => ⟨S256x128, .f32⟩
  | .hbm, ⟨83, _⟩ => ⟨S224x4096x256, .f32⟩
  | .hbm, ⟨84, _⟩ => ⟨S256x128, .f32⟩
  | .hbm, ⟨85, _⟩ => ⟨S224x4096x256, .f32⟩
  | .hbm, ⟨86, _⟩ => ⟨S224x4096x256, .f32⟩
  | .hbm, ⟨87, _⟩ => ⟨S4096x256, .f32⟩
  | .hbm, ⟨88, _⟩ => ⟨S1x4096x256, .f32⟩
  | .hbm, ⟨89, _⟩ => ⟨S224x4096x256, .f32⟩
  | .hbm, ⟨90, _⟩ => ⟨S224x4096x256, .f32⟩
  | .hbm, ⟨91, _⟩ => ⟨S224x4096x256, .f32⟩
  | .hbm, ⟨92, _⟩ => ⟨S_, .f32⟩
  | .hbm, ⟨93, _⟩ => ⟨S224x4096, .f32⟩
  | .hbm, ⟨94, _⟩ => ⟨S224x4096x1, .f32⟩
  | .hbm, ⟨95, _⟩ => ⟨S_, .f32⟩
  | .hbm, ⟨96, _⟩ => ⟨S224x4096x1, .f32⟩
  | .hbm, ⟨97, _⟩ => ⟨S224x4096x1, .f32⟩
  | .hbm, ⟨98, _⟩ => ⟨S_, .f32⟩
  | .hbm, ⟨99, _⟩ => ⟨S224x4096x1, .f32⟩
  | .hbm, ⟨100, _⟩ => ⟨S224x4096x1, .f32⟩
  | .hbm, ⟨101, _⟩ => ⟨S224x4096x1, .f32⟩
  | .hbm, ⟨102, _⟩ => ⟨S224x4096x256, .f32⟩
  | .hbm, ⟨103, _⟩ => ⟨S224x4096x256, .f32⟩
  | .hbm, ⟨104, _⟩ => ⟨S1x1x256, .f32⟩
  | .hbm, ⟨105, _⟩ => ⟨S224x4096x256, .f32⟩
  | .hbm, ⟨106, _⟩ => ⟨S224x4096x256, .f32⟩
  | .hbm, ⟨107, _⟩ => ⟨S1x1x256, .f32⟩
  | .hbm, ⟨108, _⟩ => ⟨S224x4096x256, .f32⟩
  | .hbm, ⟨109, _⟩ => ⟨S224x4096x256, .f32⟩
  | .hbm, ⟨110, _⟩ => ⟨S224x4096x256, .bf16⟩
  | .local _ .vmem, ⟨0, _⟩ => ⟨S224x4096x128, .f32⟩
  | .local _ .vmem, ⟨1, _⟩ => ⟨S224x4096x128, .fp8e4m3⟩
  | .local _ .vmem, ⟨2, _⟩ => ⟨S224x4096x128, .f32⟩
  | .local _ .vmem, ⟨3, _⟩ => ⟨S224x4096, .f32⟩
  | _, _ => ⟨S8960x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst : Ref sig .tc := ⟨.hbm, 46, rfl⟩
abbrev main_v39 : Ref sig .tc := ⟨.hbm, 47, rfl⟩
abbrev main_cst_0 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_1 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67_0 : Ref sig .tc := ⟨.hbm, 78, rfl⟩
abbrev main_v67_1 : Ref sig .tc := ⟨.hbm, 79, rfl⟩
abbrev main_v67_2 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_3 : Ref sig .tc := ⟨.hbm, 92, rfl⟩
abbrev main_v79 : Ref sig .tc := ⟨.hbm, 93, rfl⟩
abbrev main_v80 : Ref sig .tc := ⟨.hbm, 94, rfl⟩
abbrev main_cst_4 : Ref sig .tc := ⟨.hbm, 95, rfl⟩
abbrev main_v81 : Ref sig .tc := ⟨.hbm, 96, rfl⟩
abbrev main_v82 : Ref sig .tc := ⟨.hbm, 97, rfl⟩
abbrev main_cst_5 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S224x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x4096x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S224x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Image.lean ====
abbrev S4096x256 : Shape := ⟨2, ![4096, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S1x128 : Shape := ⟨2, ![1, 128]⟩
abbrev S1x256 : Shape := ⟨2, ![1, 256]⟩
abbrev S256x1 : Shape := ⟨2, ![256, 1]⟩
abbrev S1x4096 : Shape := ⟨2, ![1, 4096]⟩
abbrev S4x4096x192 : Shape := ⟨3, ![4, 4096, 192]⟩
abbrev S4x112x4096 : Shape := ⟨3, ![4, 112, 4096]⟩
abbrev S384x4096 : Shape := ⟨2, ![384, 4096]⟩
abbrev S256x4096 : Shape := ⟨2, ![256, 4096]⟩
abbrev S256x256 : Shape := ⟨2, ![256, 256]⟩
abbrev S512x256 : Shape := ⟨2, ![512, 256]⟩
abbrev S1x512 : Shape := ⟨2, ![1, 512]⟩
abbrev S4x512x192 : Shape := ⟨3, ![4, 512, 192]⟩
abbrev S4x112x512 : Shape := ⟨3, ![4, 112, 512]⟩
abbrev S384x512 : Shape := ⟨2, ![384, 512]⟩
abbrev S256x512 : Shape := ⟨2, ![256, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S32x512 : Shape := ⟨2, ![32, 512]⟩
abbrev S192x512 : Shape := ⟨2, ![192, 512]⟩
abbrev S512x192 : Shape := ⟨2, ![512, 192]⟩
abbrev S1x512x192 : Shape := ⟨3, ![1, 512, 192]⟩
abbrev S16x512 : Shape := ⟨2, ![16, 512]⟩
abbrev S112x512 : Shape := ⟨2, ![112, 512]⟩
abbrev S1x112x512 : Shape := ⟨3, ![1, 112, 512]⟩
abbrev S128x1 : Shape := ⟨2, ![128, 1]⟩

abbrev nBuf : Space → Nat
  | .hbm => 29
  | .vmem => 32
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S256x128, .fp8e4m3⟩
  | .hbm, ⟨3, _⟩ => ⟨S128, .f32⟩
  | .hbm, ⟨4, _⟩ => ⟨S256x128, .fp8e4m3⟩
  | .hbm, ⟨5, _⟩ => ⟨S128, .f32⟩
  | .hbm, ⟨6, _⟩ => ⟨S128, .f32⟩
  | .hbm, ⟨7, _⟩ => ⟨S256x128, .fp8e4m3⟩
  | .hbm, ⟨8, _⟩ => ⟨S128, .f32⟩
  | .hbm, ⟨9, _⟩ => ⟨S128, .f32⟩
  | .hbm, ⟨10, _⟩ => ⟨S128x256, .fp8e4m3⟩
  | .hbm, ⟨11, _⟩ => ⟨S256, .f32⟩
  | .hbm, ⟨12, _⟩ => ⟨S256, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x256, .f32⟩
  | .hbm, ⟨19, _⟩ => ⟨S256x1, .f32⟩
  | .hbm, ⟨20, _⟩ => ⟨S4096x256, .fp8e4m3⟩
  | .hbm, ⟨21, _⟩ => ⟨S1x4096, .f32⟩
  | .hbm, ⟨22, _⟩ => ⟨S4096x256, .fp8e4m3⟩
  | .hbm, ⟨23, _⟩ => ⟨S1x4096, .f32⟩
  | .hbm, ⟨24, _⟩ => ⟨S4x4096x192, .bf16⟩
  | .hbm, ⟨25, _⟩ => ⟨S4x112x4096, .bf16⟩
  | .hbm, ⟨26, _⟩ => ⟨S384x4096, .bf16⟩
  | .hbm, ⟨27, _⟩ => ⟨S256x4096, .f32⟩
  | .hbm, ⟨28, _⟩ => ⟨S256x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x128, .fp8e4m3⟩
  | .local _ .vmem, ⟨5, _⟩ => ⟨S1x128, .f32⟩
  | .local _ .vmem, ⟨6, _⟩ => ⟨S256x128, .fp8e4m3⟩
  | .local _ .vmem, ⟨7, _⟩ => ⟨S1x128, .f32⟩
  | .local _ .vmem, ⟨8, _⟩ => ⟨S1x128, .f32⟩
  | .local _ .vmem, ⟨9, _⟩ => ⟨S256x128, .fp8e4m3⟩
  | .local _ .vmem, ⟨10, _⟩ => ⟨S1x128, .f32⟩
  | .local _ .vmem, ⟨11, _⟩ => ⟨S1x128, .f32⟩
  | .local _ .vmem, ⟨12, _⟩ => ⟨S128x256, .fp8e4m3⟩
  | .local _ .vmem, ⟨13, _⟩ => ⟨S1x256, .f32⟩
  | .local _ .vmem, ⟨14, _⟩ => ⟨S256x1, .f32⟩
  | .local _ .vmem, ⟨15, _⟩ => ⟨S512x256, .fp8e4m3⟩
  | .local _ .vmem, ⟨16, _⟩ => ⟨S512x256, .fp8e4m3⟩
  | .local _ .vmem, ⟨17, _⟩ => ⟨S1x512, .f32⟩
  | .local _ .vmem, ⟨18, _⟩ => ⟨S1x512, .f32⟩
  | .local _ .vmem, ⟨19, _⟩ => ⟨S512x256, .fp8e4m3⟩
  | .local _ .vmem, ⟨20, _⟩ => ⟨S512x256, .fp8e4m3⟩
  | .local _ .vmem, ⟨21, _⟩ => ⟨S1x512, .f32⟩
  | .local _ .vmem, ⟨22, _⟩ => ⟨S1x512, .f32⟩
  | .local _ .vmem, ⟨23, _⟩ => ⟨S4x512x192, .bf16⟩
  | .local _ .vmem, ⟨24, _⟩ => ⟨S4x512x192, .bf16⟩
  | .local _ .vmem, ⟨25, _⟩ => ⟨S4x112x512, .bf16⟩
  | .local _ .vmem, ⟨26, _⟩ => ⟨S4x112x512, .bf16⟩
  | .local _ .vmem, ⟨27, _⟩ => ⟨S384x512, .bf16⟩
  | .local _ .vmem, ⟨28, _⟩ => ⟨S384x512, .bf16⟩
  | .local _ .vmem, ⟨29, _⟩ => ⟨S256x512, .f32⟩
  | .local _ .vmem, ⟨30, _⟩ => ⟨S256x512, .f32⟩
  | .local _ .vmem, ⟨31, _⟩ => ⟨S256x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_v7_6 : Ref sig .tc := ⟨.hbm, 26, rfl⟩
abbrev main_v7_7 : Ref sig .tc := ⟨.hbm, 27, rfl⟩
abbrev main_v7_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_89 : BitVec 32 := 0#32
  let v251 : BitVec 1 := Scalar.cmpi .eq arg0 c0_i32_89
  let v252 : BitVec 32 := Scalar.extui v251
  let c0_i32_90 : BitVec 32 := 0#32
  let v253 : BitVec 1 := Scalar.cmpi .ne v252 c0_i32_90
  v253

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x256 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x192 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x112x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S384x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ImageIdeal.lean ====
variable {F : FTy → Type} [FloatOps F] [Named F]
def κ : String → Option EReal := fun
  | "log2e" => some (((Real.log 2)⁻¹ : ℝ) : EReal)
  | _ => none
-- ==== ImageReferenceIdeal.lean ====
abbrev S4096x256 : Shape := ⟨2, ![4096, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S4096x1 : Shape := ⟨2, ![4096, 1]⟩
abbrev S4096x128 : Shape := ⟨2, ![4096, 128]⟩
abbrev S4096 : Shape := ⟨1, ![4096]⟩
abbrev S1x128 : Shape := ⟨2, ![1, 128]⟩
abbrev S_ : Shape := ⟨0, ![]⟩
abbrev S128x4096 : Shape := ⟨2, ![128, 4096]⟩
abbrev S384x4096 : Shape := ⟨2, ![384, 4096]⟩
abbrev S1x256 : Shape := ⟨2, ![1, 256]⟩
abbrev S1x4096 : Shape := ⟨2, ![1, 4096]⟩
abbrev S256x4096 : Shape := ⟨2, ![256, 4096]⟩

abbrev nBuf : Space → Nat
  | .hbm => 57
  | .vmem => 8
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S256x128, .fp8e4m3⟩
  | .hbm, ⟨3, _⟩ => ⟨S128, .f32⟩
  | .hbm, ⟨4, _⟩ => ⟨S256x128, .fp8e4m3⟩
  | .hbm, ⟨5, _⟩ => ⟨S128, .f32⟩
  | .hbm, ⟨6, _⟩ => ⟨S128, .f32⟩
  | .hbm, ⟨7, _⟩ => ⟨S256x128, .fp8e4m3⟩
  | .hbm, ⟨8, _⟩ => ⟨S128, .f32⟩
  | .hbm, ⟨9, _⟩ => ⟨S128, .f32⟩
  | .hbm, ⟨10, _⟩ => ⟨S128x256, .fp8e4m3⟩
  | .hbm, ⟨11, _⟩ => ⟨S256, .f32⟩
  | .hbm, ⟨12, _⟩ => ⟨S256, .f32⟩
  | .hbm, ⟨13, _⟩ => ⟨S4096x256, .fp8e4m3⟩
  | .hbm, ⟨14, _⟩ => ⟨S4096x1, .f32⟩
  | .hbm, ⟨15, _⟩ => ⟨S4096x256, .fp8e4m3⟩
  | .hbm, ⟨16, _⟩ => ⟨S4096x1, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S1x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .bf16⟩
  | .hbm, ⟨30, _⟩ => ⟨S4096x128, .f32⟩
  | .hbm, ⟨31, _⟩ => ⟨S4096x128, .f32⟩
  | .hbm, ⟨32, _⟩ => ⟨S4096x128, .bf16⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .bf16⟩
  | .hbm, ⟨38, _⟩ => ⟨S128x4096, .bf16⟩
  | .hbm, ⟨39, _⟩ => ⟨S128x4096, .bf16⟩
  | .hbm, ⟨40, _⟩ => ⟨S128x4096, .bf16⟩
  | .hbm, ⟨41, _⟩ => ⟨S384x4096, .bf16⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x256, .f32⟩
  | .hbm, ⟨53, _⟩ => ⟨S4096x256, .f32⟩
  | .hbm, ⟨54, _⟩ => ⟨S1x4096, .f32⟩
  | .hbm, ⟨55, _⟩ => ⟨S1x4096, .f32⟩
  | .hbm, ⟨56, _⟩ => ⟨S256x4096, .f32⟩
  | .local _ .vmem, ⟨0, _⟩ => ⟨S4096x256, .bf16⟩
  | .local _ .vmem, ⟨1, _⟩ => ⟨S4096x256, .bf16⟩
  | .local _ .vmem, ⟨2, _⟩ => ⟨S256x128, .fp8e4m3⟩
  | .local _ .vmem, ⟨3, _⟩ => ⟨S4096x256, .fp8e4m3⟩
  | .local _ .vmem, ⟨4, _⟩ => ⟨S4096x1, .f32⟩
  | .local _ .vmem, ⟨5, _⟩ => ⟨S4096x256, .fp8e4m3⟩
  | .local _ .vmem, ⟨6, _⟩ => ⟨S4096x1, .f32⟩
  | .local _ .vmem, ⟨7, _⟩ => ⟨S4096x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_0 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Self.lean ====
abbrev S224x10x256 : Shape := ⟨3, ![224, 10, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2240x256 : Shape := ⟨2, ![2240, 256]⟩
abbrev S1x256 : Shape := ⟨2, ![1, 256]⟩
abbrev S1x128 : Shape := ⟨2, ![1, 128]⟩
abbrev S2240x128 : Shape := ⟨2, ![2240, 128]⟩
abbrev S160x256 : Shape := ⟨2, ![160, 256]⟩
abbrev S160x128 : Shape := ⟨2, ![160, 128]⟩
abbrev S160x160 : Shape := ⟨2, ![160, 160]⟩
abbrev S160x64 : Shape := ⟨2, ![160, 64]⟩
abbrev S160 : Shape := ⟨1, ![160]⟩
abbrev S160x1 : Shape := ⟨2, ![160, 1]⟩
abbrev S64x256 : Shape := ⟨2, ![64, 256]⟩

abbrev nBuf : Space → Nat
  | .hbm => 23
  | .vmem => 19
  | .smem => 0
  | _ => 0

abbrev bufTy : (tb : Table) → Fin (tcTables nBuf tb) → BufTy
  | .hbm, ⟨0, _⟩ => ⟨S224x10x256, .bf16⟩
  | .hbm, ⟨1, _⟩ => ⟨S224x10x256, .bf16⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S2240x256, .bf16⟩
  | .hbm, ⟨14, _⟩ => ⟨S2240x256, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x128, .f32⟩
  | .hbm, ⟨21, _⟩ => ⟨S2240x256, .f32⟩
  | .hbm, ⟨22, _⟩ => ⟨S2240x128, .f32⟩
  | .local _ .vmem, ⟨0, _⟩ => ⟨S160x256, .bf16⟩
  | .local _ .vmem, ⟨1, _⟩ => ⟨S160x256, .bf16⟩
  | .local _ .vmem, ⟨2, _⟩ => ⟨S160x256, .bf16⟩
  | .local _ .vmem, ⟨3, _⟩ => ⟨S160x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x128, .f32⟩
  | .local _ .vmem, ⟨14, _⟩ => ⟨S1x128, .f32⟩
  | .local _ .vmem, ⟨15, _⟩ => ⟨S160x256, .f32⟩
  | .local _ .vmem, ⟨16, _⟩ => ⟨S160x256, .f32⟩
  | .local _ .vmem, ⟨17, _⟩ => ⟨S160x128, .f32⟩
  | .local _ .vmem, ⟨18, _⟩ => ⟨S160x128, .f32⟩
  | _, _ => ⟨S224x10x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S160x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S160x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SelfReferenceIdeal.lean ====
abbrev S224x10x256 : Shape := ⟨3, ![224, 10, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1x256 : Shape := ⟨3, ![1, 1, 256]⟩
abbrev S224x10x4x64 : Shape := ⟨4, ![224, 10, 4, 64]⟩
abbrev S224x4x10x10 : Shape := ⟨4, ![224, 4, 10, 10]⟩
abbrev S_ : Shape := ⟨0, ![]⟩
abbrev S224x4x10 : Shape := ⟨3, ![224, 4, 10]⟩
abbrev S224x4x10x1 : Shape := ⟨4, ![224, 4, 10, 1]⟩
abbrev S224x4x64x10 : Shape := ⟨4, ![224, 4, 64, 10]⟩
abbrev S224x10 : Shape := ⟨2, ![224, 10]⟩
abbrev S224x10x1 : Shape := ⟨3, ![224, 10, 1]⟩
abbrev S2240x256 : Shape := ⟨2, ![2240, 256]⟩
abbrev S224x10x128 : Shape := ⟨3, ![224, 10, 128]⟩
abbrev S1x1x128 : Shape := ⟨3, ![1, 1, 128]⟩
abbrev S2240x128 : Shape := ⟨2, ![2240, 128]⟩

abbrev nBuf : Space → Nat
  | .hbm => 86
  | .vmem => 0
  | .smem => 0
  | _ => 0

abbrev bufTy : (tb : Table) → Fin (tcTables nBuf tb) → BufTy
  | .hbm, ⟨0, _⟩ => ⟨S224x10x256, .bf16⟩
  | .hbm, ⟨1, _⟩ => ⟨S224x10x256, .bf16⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S224x10x256, .f32⟩
  | .hbm, ⟨14, _⟩ => ⟨S224x10x256, .f32⟩
  | .hbm, ⟨15, _⟩ => ⟨S224x10x256, .f32⟩
  | .hbm, ⟨16, _⟩ => ⟨S224x10x256, .f32⟩
  | .hbm, ⟨17, _⟩ => ⟨S1x1x256, .f32⟩
  | .hbm, ⟨18, _⟩ => ⟨S224x10x256, .f32⟩
  | .hbm, ⟨19, _⟩ => ⟨S224x10x256, .f32⟩
  | .hbm, ⟨20, _⟩ => ⟨S224x10x4x64, .f32⟩
  | .hbm, ⟨21, _⟩ => ⟨S224x10x256, .f32⟩
  | .hbm, ⟨22, _⟩ => ⟨S224x10x256, .f32⟩
  | .hbm, ⟨23, _⟩ => ⟨S224x10x4x64, .f32⟩
  | .hbm, ⟨24, _⟩ => ⟨S224x10x256, .f32⟩
  | .hbm, ⟨25, _⟩ => ⟨S1x1x256, .f32⟩
  | .hbm, ⟨26, _⟩ => ⟨S224x10x256, .f32⟩
  | .hbm, ⟨27, _⟩ => ⟨S224x10x256, .f32⟩
  | .hbm, ⟨28, _⟩ => ⟨S224x10x4x64, .f32⟩
  | .hbm, ⟨29, _⟩ => ⟨S224x4x10x10, .f32⟩
  | .hbm, ⟨30, _⟩ => ⟨S_, .f32⟩
  | .hbm, ⟨31, _⟩ => ⟨S224x4x10x10, .f32⟩
  | .hbm, ⟨32, _⟩ => ⟨S224x4x10x10, .f32⟩
  | .hbm, ⟨33, _⟩ => ⟨S_, .f32⟩
  | .hbm, ⟨34, _⟩ => ⟨S224x4x10, .f32⟩
  | .hbm, ⟨35, _⟩ => ⟨S224x4x10x1, .f32⟩
  | .hbm, ⟨36, _⟩ => ⟨S224x4x10x10, .f32⟩
  | .hbm, ⟨37, _⟩ => ⟨S224x4x10x10, .f32⟩
  | .hbm, ⟨38, _⟩ => ⟨S224x4x10x10, .f32⟩
  | .hbm, ⟨39, _⟩ => ⟨S_, .f32⟩
  | .hbm, ⟨40, _⟩ => ⟨S224x4x10, .f32⟩
  | .hbm, ⟨41, _⟩ => ⟨S224x4x10x1, .f32⟩
  | .hbm, ⟨42, _⟩ => ⟨S224x4x10x10, .f32⟩
  | .hbm, ⟨43, _⟩ => ⟨S224x4x10x10, .f32⟩
  | .hbm, ⟨44, _⟩ => ⟨S224x4x64x10, .f32⟩
  | .hbm, ⟨45, _⟩ => ⟨S224x10x4x64, .f32⟩
  | .hbm, ⟨46, _⟩ => ⟨S224x10x256, .f32⟩
  | .hbm, ⟨47, _⟩ => ⟨S224x10x256, .f32⟩
  | .hbm, ⟨48, _⟩ => ⟨S1x1x256, .f32⟩
  | .hbm, ⟨49, _⟩ => ⟨S224x10x256, .f32⟩
  | .hbm, ⟨50, _⟩ => ⟨S224x10x256, .f32⟩
  | .hbm, ⟨51, _⟩ => ⟨S224x10x256, .f32⟩
  | .hbm, ⟨52, _⟩ => ⟨S_, .f32⟩
  | .hbm, ⟨53, _⟩ => ⟨S224x10, .f32⟩
  | .hbm, ⟨54, _⟩ => ⟨S224x10x1, .f32⟩
  | .hbm, ⟨55, _⟩ => ⟨S_, .f32⟩
  | .hbm, ⟨56, _⟩ => ⟨S224x10x1, .f32⟩
  | .hbm, ⟨57, _⟩ => ⟨S224x10x1, .f32⟩
  | .hbm, ⟨58, _⟩ => ⟨S224x10x256, .f32⟩
  | .hbm, ⟨59, _⟩ => ⟨S224x10x256, .f32⟩
  | .hbm, ⟨60, _⟩ => ⟨S224x10x256, .f32⟩
  | .hbm, ⟨61, _⟩ => ⟨S_, .f32⟩
  | .hbm, ⟨62, _⟩ => ⟨S224x10, .f32⟩
  | .hbm, ⟨63, _⟩ => ⟨S224x10x1, .f32⟩
  | .hbm, ⟨64, _⟩ => ⟨S_, .f32⟩
  | .hbm, ⟨65, _⟩ => ⟨S224x10x1, .f32⟩
  | .hbm, ⟨66, _⟩ => ⟨S224x10x1, .f32⟩
  | .hbm, ⟨67, _⟩ => ⟨S_, .f32⟩
  | .hbm, ⟨68, _⟩ => ⟨S224x10x1, .f32⟩
  | .hbm, ⟨69, _⟩ => ⟨S224x10x1, .f32⟩
  | .hbm, ⟨70, _⟩ => ⟨S224x10x1, .f32⟩
  | .hbm, ⟨71, _⟩ => ⟨S224x10x256, .f32⟩
  | .hbm, ⟨72, _⟩ => ⟨S224x10x256, .f32⟩
  | .hbm, ⟨73, _⟩ => ⟨S1x1x256, .f32⟩
  | .hbm, ⟨74, _⟩ => ⟨S224x10x256, .f32⟩
  | .hbm, ⟨75, _⟩ => ⟨S224x10x256, .f32⟩
  | .hbm, ⟨76, _⟩ => ⟨S1x1x256, .f32⟩
  | .hbm, ⟨77, _⟩ => ⟨S224x10x256, .f32⟩
  | .hbm, ⟨78, _⟩ => ⟨S224x10x256, .f32⟩
  | .hbm, ⟨79, _⟩ => ⟨S2240x256, .f32⟩
  | .hbm, ⟨80, _⟩ => ⟨S224x10x256, .f32⟩
  | .hbm, ⟨81, _⟩ => ⟨S224x10x128, .f32⟩
  | .hbm, ⟨82, _⟩ => ⟨S1x1x128, .f32⟩
  | .hbm, ⟨83, _⟩ => ⟨S224x10x128, .f32⟩
  | .hbm, ⟨84, _⟩ => ⟨S224x10x128, .f32⟩
  | .hbm, ⟨85, _⟩ => ⟨S2240x128, .f32⟩
  | _, _ => ⟨S224x10x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Token.lean ====
abbrev S2240x128 : Shape := ⟨2, ![2240, 128]⟩
abbrev S2240x256 : Shape := ⟨2, ![2240, 256]⟩
abbrev S128x256 : Shape := ⟨2, ![128, 256]⟩
abbrev S256 : Shape := ⟨1, ![256]⟩
abbrev S256x2048 : Shape := ⟨2, ![256, 2048]⟩
abbrev S2048 : Shape := ⟨1, ![2048]⟩
abbrev S2048x256 : Shape := ⟨2, ![2048, 256]⟩
abbrev S256x128 : Shape := ⟨2, ![256, 128]⟩
abbrev S128 : Shape := ⟨1, ![128]⟩
abbrev S1x256 : Shape := ⟨2, ![1, 256]⟩
abbrev S1x2048 : Shape := ⟨2, ![1, 2048]⟩
abbrev S1x128 : Shape := ⟨2, ![1, 128]⟩
abbrev S8960x384 : Shape := ⟨2, ![8960, 384]⟩
abbrev S224x128x240 : Shape := ⟨3, ![224, 128, 240]⟩
abbrev S160x128 : Shape := ⟨2, ![160, 128]⟩
abbrev S160x256 : Shape := ⟨2, ![160, 256]⟩
abbrev S640x384 : Shape := ⟨2, ![640, 384]⟩
abbrev S16x128x240 : Shape := ⟨3, ![16, 128, 240]⟩
abbrev S160 : Shape := ⟨1, ![160]⟩
abbrev S160x1 : Shape := ⟨2, ![160, 1]⟩
abbrev S160x2048 : Shape := ⟨2, ![160, 2048]⟩
abbrev S640x160 : Shape := ⟨2, ![640, 160]⟩
abbrev S640x128 : Shape := ⟨2, ![640, 128]⟩
abbrev S40x128 : Shape := ⟨2, ![40, 128]⟩
abbrev S32x128 : Shape := ⟨2, ![32, 128]⟩
abbrev S8x128 : Shape := ⟨2, ![8, 128]⟩
abbrev S240x128 : Shape := ⟨2, ![240, 128]⟩
abbrev S128x240 : Shape := ⟨2, ![128, 240]⟩
abbrev S1x128x240 : Shape := ⟨3, ![1, 128, 240]⟩

abbrev nBuf : Space → Nat
  | .hbm => 27
  | .vmem => 25
  | .smem => 0
  | _ => 0

abbrev bufTy : (tb : Table) → Fin (tcTables nBuf tb) → BufTy
  | .hbm, ⟨0, _⟩ => ⟨S2240x128, .f32⟩
  | .hbm, ⟨1, _⟩ => ⟨S2240x256, .f32⟩
  | .hbm, ⟨2, _⟩ => ⟨S2240x256, .bf16⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x2048, .f32⟩
  | .hbm, ⟨8, _⟩ => ⟨S2048, .f32⟩
  | .hbm, ⟨9, _⟩ => ⟨S2048x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x128, .f32⟩
  | .hbm, ⟨14, _⟩ => ⟨S256x128, .f32⟩
  | .hbm, ⟨15, _⟩ => ⟨S128, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x2048, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x128, .f32⟩
  | .hbm, ⟨24, _⟩ => ⟨S2240x256, .bf16⟩
  | .hbm, ⟨25, _⟩ => ⟨S8960x384, .bf16⟩
  | .hbm, ⟨26, _⟩ => ⟨S224x128x240, .bf16⟩
  | .local _ .vmem, ⟨0, _⟩ => ⟨S160x128, .f32⟩
  | .local _ .vmem, ⟨1, _⟩ => ⟨S160x128, .f32⟩
  | .local _ .vmem, ⟨2, _⟩ => ⟨S160x256, .f32⟩
  | .local _ .vmem, ⟨3, _⟩ => ⟨S160x256, .f32⟩
  | .local _ .vmem, ⟨4, _⟩ => ⟨S160x256, .bf16⟩
  | .local _ .vmem, ⟨5, _⟩ => ⟨S160x256, .bf16⟩
  | .local _ .vmem, ⟨6, _⟩ => ⟨S128x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x2048, .f32⟩
  | .local _ .vmem, ⟨11, _⟩ => ⟨S1x2048, .f32⟩
  | .local _ .vmem, ⟨12, _⟩ => ⟨S2048x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S256x128, .f32⟩
  | .local _ .vmem, ⟨18, _⟩ => ⟨S1x128, .f32⟩
  | .local _ .vmem, ⟨19, _⟩ => ⟨S160x256, .bf16⟩
  | .local _ .vmem, ⟨20, _⟩ => ⟨S160x256, .bf16⟩
  | .local _ .vmem, ⟨21, _⟩ => ⟨S640x384, .bf16⟩
  | .local _ .vmem, ⟨22, _⟩ => ⟨S640x384, .bf16⟩
  | .local _ .vmem, ⟨23, _⟩ => ⟨S16x128x240, .bf16⟩
  | .local _ .vmem, ⟨24, _⟩ => ⟨S16x128x240, .bf16⟩
  | _, _ => ⟨S2240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S160x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S640x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x128x240 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== TokenReferenceIdeal.lean ====
abbrev S2240x128 : Shape := ⟨2, ![2240, 128]⟩
abbrev S2240x256 : Shape := ⟨2, ![2240, 256]⟩
abbrev S128x256 : Shape := ⟨2, ![128, 256]⟩
abbrev S256 : Shape := ⟨1, ![256]⟩
abbrev S256x2048 : Shape := ⟨2, ![256, 2048]⟩
abbrev S2048 : Shape := ⟨1, ![2048]⟩
abbrev S2048x256 : Shape := ⟨2, ![2048, 256]⟩
abbrev S256x128 : Shape := ⟨2, ![256, 128]⟩
abbrev S128 : Shape := ⟨1, ![128]⟩
abbrev S1x256 : Shape := ⟨2, ![1, 256]⟩
abbrev S_ : Shape := ⟨0, ![]⟩
abbrev S2240 : Shape := ⟨1, ![2240]⟩
abbrev S2240x1 : Shape := ⟨2, ![2240, 1]⟩
abbrev S2240x2048 : Shape := ⟨2, ![2240, 2048]⟩
abbrev S1x2048 : Shape := ⟨2, ![1, 2048]⟩

abbrev nBuf : Space → Nat
  | .hbm => 88
  | .vmem => 0
  | .smem => 0
  | _ => 0

abbrev bufTy : (tb : Table) → Fin (tcTables nBuf tb) → BufTy
  | .hbm, ⟨0, _⟩ => ⟨S2240x128, .f32⟩
  | .hbm, ⟨1, _⟩ => ⟨S2240x256, .f32⟩
  | .hbm, ⟨2, _⟩ => ⟨S2240x256, .bf16⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x2048, .f32⟩
  | .hbm, ⟨8, _⟩ => ⟨S2048, .f32⟩
  | .hbm, ⟨9, _⟩ => ⟨S2048x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x128, .f32⟩
  | .hbm, ⟨14, _⟩ => ⟨S256x128, .f32⟩
  | .hbm, ⟨15, _⟩ => ⟨S128, .f32⟩
  | .hbm, ⟨16, _⟩ => ⟨S2240x256, .f32⟩
  | .hbm, ⟨17, _⟩ => ⟨S1x256, .f32⟩
  | .hbm, ⟨18, _⟩ => ⟨S2240x256, .f32⟩
  | .hbm, ⟨19, _⟩ => ⟨S2240x256, .f32⟩
  | .hbm, ⟨20, _⟩ => ⟨S2240x256, .f32⟩
  | .hbm, ⟨21, _⟩ => ⟨S_, .f32⟩
  | .hbm, ⟨22, _⟩ => ⟨S2240, .f32⟩
  | .hbm, ⟨23, _⟩ => ⟨S2240x1, .f32⟩
  | .hbm, ⟨24, _⟩ => ⟨S_, .f32⟩
  | .hbm, ⟨25, _⟩ => ⟨S2240x1, .f32⟩
  | .hbm, ⟨26, _⟩ => ⟨S2240x1, .f32⟩
  | .hbm, ⟨27, _⟩ => ⟨S2240x256, .f32⟩
  | .hbm, ⟨28, _⟩ => ⟨S2240x256, .f32⟩
  | .hbm, ⟨29, _⟩ => ⟨S2240x256, .f32⟩
  | .hbm, ⟨30, _⟩ => ⟨S_, .f32⟩
  | .hbm, ⟨31, _⟩ => ⟨S2240, .f32⟩
  | .hbm, ⟨32, _⟩ => ⟨S2240x1, .f32⟩
  | .hbm, ⟨33, _⟩ => ⟨S_, .f32⟩
  | .hbm, ⟨34, _⟩ => ⟨S2240x1, .f32⟩
  | .hbm, ⟨35, _⟩ => ⟨S2240x1, .f32⟩
  | .hbm, ⟨36, _⟩ => ⟨S_, .f32⟩
  | .hbm, ⟨37, _⟩ => ⟨S2240x1, .f32⟩
  | .hbm, ⟨38, _⟩ => ⟨S2240x1, .f32⟩
  | .hbm, ⟨39, _⟩ => ⟨S2240x1, .f32⟩
  | .hbm, ⟨40, _⟩ => ⟨S2240x256, .f32⟩
  | .hbm, ⟨41, _⟩ => ⟨S2240x256, .f32⟩
  | .hbm, ⟨42, _⟩ => ⟨S1x256, .f32⟩
  | .hbm, ⟨43, _⟩ => ⟨S2240x256, .f32⟩
  | .hbm, ⟨44, _⟩ => ⟨S2240x256, .f32⟩
  | .hbm, ⟨45, _⟩ => ⟨S1x256, .f32⟩
  | .hbm, ⟨46, _⟩ => ⟨S2240x256, .f32⟩
  | .hbm, ⟨47, _⟩ => ⟨S2240x256, .f32⟩
  | .hbm, ⟨48, _⟩ => ⟨S2240x2048, .f32⟩
  | .hbm, ⟨49, _⟩ => ⟨S1x2048, .f32⟩
  | .hbm, ⟨50, _⟩ => ⟨S2240x2048, .f32⟩
  | .hbm, ⟨51, _⟩ => ⟨S2240x2048, .f32⟩
  | .hbm, ⟨52, _⟩ => ⟨S_, .f32⟩
  | .hbm, ⟨53, _⟩ => ⟨S2240x2048, .f32⟩
  | .hbm, ⟨54, _⟩ => ⟨S2240x2048, .f32⟩
  | .hbm, ⟨55, _⟩ => ⟨S2240x256, .f32⟩
  | .hbm, ⟨56, _⟩ => ⟨S2240x256, .f32⟩
  | .hbm, ⟨57, _⟩ => ⟨S1x256, .f32⟩
  | .hbm, ⟨58, _⟩ => ⟨S2240x256, .f32⟩
  | .hbm, ⟨59, _⟩ => ⟨S2240x256, .f32⟩
  | .hbm, ⟨60, _⟩ => ⟨S_, .f32⟩
  | .hbm, ⟨61, _⟩ => ⟨S2240, .f32⟩
  | .hbm, ⟨62, _⟩ => ⟨S2240x1, .f32⟩
  | .hbm, ⟨63, _⟩ => ⟨S_, .f32⟩
  | .hbm, ⟨64, _⟩ => ⟨S2240x1, .f32⟩
  | .hbm, ⟨65, _⟩ => ⟨S2240x1, .f32⟩
  | .hbm, ⟨66, _⟩ => ⟨S2240x256, .f32⟩
  | .hbm, ⟨67, _⟩ => ⟨S2240x256, .f32⟩
  | .hbm, ⟨68, _⟩ => ⟨S2240x256, .f32⟩
  | .hbm, ⟨69, _⟩ => ⟨S_, .f32⟩
  | .hbm, ⟨70, _⟩ => ⟨S2240, .f32⟩
  | .hbm, ⟨71, _⟩ => ⟨S2240x1, .f32⟩
  | .hbm, ⟨72, _⟩ => ⟨S_, .f32⟩
  | .hbm, ⟨73, _⟩ => ⟨S2240x1, .f32⟩
  | .hbm, ⟨74, _⟩ => ⟨S2240x1, .f32⟩
  | .hbm, ⟨75, _⟩ => ⟨S_, .f32⟩
  | .hbm, ⟨76, _⟩ => ⟨S2240x1, .f32⟩
  | .hbm, ⟨77, _⟩ => ⟨S2240x1, .f32⟩
  | .hbm, ⟨78, _⟩ => ⟨S2240x1, .f32⟩
  | .hbm, ⟨79, _⟩ => ⟨S2240x256, .f32⟩
  | .hbm, ⟨80, _⟩ => ⟨S2240x256, .f32⟩
  | .hbm, ⟨81, _⟩ => ⟨S1x256, .f32⟩
  | .hbm, ⟨82, _⟩ => ⟨S2240x256, .f32⟩
  | .hbm, ⟨83, _⟩ => ⟨S2240x256, .f32⟩
  | .hbm, ⟨84, _⟩ => ⟨S1x256, .f32⟩
  | .hbm, ⟨85, _⟩ => ⟨S2240x256, .f32⟩
  | .hbm, ⟨86, _⟩ => ⟨S2240x256, .f32⟩
  | .hbm, ⟨87, _⟩ => ⟨S2240x256, .bf16⟩
  | _, _ => ⟨S2240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Proof.Tile.lean ====
/- One tile of the image-to-token call, as functions of what the body reads: the arithmetic that the kernel applies to each
   of a point's eight sets, in the order in which its body writes it. The body prints the eight sets one after another, cut
   into payloads without regard to the sets; the payloads of every set are these functions (Proof/Pieces.lean). -/
module

public import proofs.«01_k».proof.Proof.Gen.KernelIdeal

@[expose] public section

set_option maxRecDepth 16384

noncomputable section

namespace Cert.Tile

open Cert.KernelIdeal Cert.KernelIdeal.Gen Idealize.ShloMosaic

variable {F : FTy → Type} [FloatOps F] [Named F]

/-- The scores of a tile: one product over the six pairs of limbs, split into the eight sets. -/
def score (kh km kl : FVec F S320x128 .bf16) (qh qm ql : FVec F S128x256 .bf16) : FVec F S8x5x8x256 .f32 :=
  shapeCast S8x5x8x256
    (matmul dot_S320x768_S768x256_S320x256_1_0_0_1_n_n none
      (concatenate S320x768 1 [⟨S320x128, kh⟩, ⟨S320x128, km⟩, ⟨S320x128, kh⟩, ⟨S320x128, kl⟩, ⟨S320x128, km⟩, ⟨S320x128, kh⟩] concatenates_S320x128_S320x128_S320x128_S320x128_S320x128_S320x128_S320x768_d1)
      (concatenate S768x256 0 [⟨S128x256, qh⟩, ⟨S128x256, qh⟩, ⟨S128x256, qm⟩, ⟨S128x256, qh⟩, ⟨S128x256, qm⟩, ⟨S128x256, ql⟩] concatenates_S128x256_S128x256_S128x256_S128x256_S128x256_S128x256_S768x256_d0)
      (constant S320x256 .f32 0x00000000#32)) shapeCasts_S320x256_S8x5x8x256

/-- One set's scores. -/
def setScore (s : FVec F S8x5x8x256 .f32) (off : Fin 4 → ℕ) (h : S8x5x8x256.Slices off S1x5x8x256) : FVec F S5x8x256 .f32 :=
  shapeCast S5x8x256 (extractStridedSlice S1x5x8x256 off s h) shapeCasts_S1x5x8x256_S5x8x256

/-- The exponentials of one set's scores, less the largest of the position's scores. -/
def expo (s : FVec F S5x8x256 .f32) : FVec F S5x8x256 .f32 :=
  have m : FVec F S8x256 .f32 := multiReduction .maximumf [0] S8x256 s 0xFF800000#32 reduces_S5x8x256_S8x256 (.inl rfl) rfl
  exp2 (subf s (broadcastTo S5x8x256 (shapeCast S1x8x256 (maximumf m (dynamicRotate 0 4#32 none m rotates_S8x256_d0)) shapeCasts_S8x256_S1x8x256) broadcasts_S1x8x256_S5x8x256))

/-- The softmax of one set: the exponentials times the reciprocal of their sum. -/
def prob (e : FVec F S5x8x256 .f32) : FVec F S40x256 .f32 :=
  have z : FVec F S8x256 .f32 := multiReduction .add [0] S8x256 e 0x00000000#32 reduces_S5x8x256_S8x256 (.inl rfl) rfl
  shapeCast S40x256 (mulf e (broadcastTo S5x8x256 (shapeCast S1x8x256 (divf (broadcast S8x256 (Scalar.ofBits .f32 0x3F800000#32)) (addf z (dynamicRotate 0 4#32 none z rotates_S8x256_d0))) shapeCasts_S8x256_S1x8x256) broadcasts_S1x8x256_S5x8x256)) shapeCasts_S5x8x256_S40x256

/-- The high limb of the first eight tokens' weights. -/
def hp (p : FVec F S40x256 .f32) : FVec F S32x256 .bf16 :=
  truncf .bf16 (extractStridedSlice S32x256 ![0, 0] p slices_S40x256_o0_0_S32x256) bitsLt_bf16_f32

/-- The first eight tokens' weights less their high limb. -/
def rp (p : FVec F S40x256 .f32) : FVec F S32x256 .f32 :=
  subf (extractStridedSlice S32x256 ![0, 0] p slices_S40x256_o0_0_S32x256) (extf .f32 (hp p) bitsLt_bf16_f32)

/-- The middle limb of the first eight tokens' weights. -/
def mp (p : FVec F S40x256 .f32) : FVec F S32x256 .bf16 := truncf .bf16 (rp p) bitsLt_bf16_f32

/-- The low limb of the first eight tokens' weights. -/
def lp (p : FVec F S40x256 .f32) : FVec F S32x256 .bf16 :=
  truncf .bf16 (subf (rp p) (extf .f32 (mp p) bitsLt_bf16_f32)) bitsLt_bf16_f32

/-- The last two tokens' weights rounded to their high limb. -/
def hq (p : FVec F S40x256 .f32) : FVec F S8x256 .f32 :=
  extf .f32 (truncf .bf16 (extractStridedSlice S8x256 ![32, 0] p slices_S40x256_o32_0_S8x256) bitsLt_bf16_f32) bitsLt_bf16_f32

/-- The last two tokens' weights less their high limb. -/
def rq (p : FVec F S40x256 .f32) : FVec F S8x256 .f32 :=
  subf (extractStridedSlice S8x256 ![32, 0] p slices_S40x256_o32_0_S8x256) (hq p)

/-- The last two tokens' middle limb. -/
def mq (p : FVec F S40x256 .f32) : FVec F S8x256 .f32 := extf .f32 (truncf .bf16 (rq p) bitsLt_bf16_f32) bitsLt_bf16_f32

/-- The weights' limbs in the order of the values' columns. -/
def rows (p : FVec F S40x256 .f32) : FVec F S240x256 .bf16 :=
  have hm : FVec F S16x256 .bf16 := truncf .bf16 (concatenate S16x256 0 [⟨S8x256, hq p⟩, ⟨S8x256, mq p⟩] concatenates_S8x256_S8x256_S16x256_d0) bitsLt_bf16_f32
  have hl : FVec F S16x256 .bf16 := truncf .bf16 (concatenate S16x256 0 [⟨S8x256, hq p⟩, ⟨S8x256, subf (rq p) (mq p)⟩] concatenates_S8x256_S8x256_S16x256_d0) bitsLt_bf16_f32
  concatenate S240x256 0 [⟨S32x256, hp p⟩, ⟨S32x256, hp p⟩, ⟨S32x256, hp p⟩, ⟨S16x256, hm⟩, ⟨S16x256, hm⟩, ⟨S16x256, hl⟩, ⟨S32x256, mp p⟩, ⟨S32x256, mp p⟩, ⟨S32x256, lp p⟩] concatenates_S32x256_S32x256_S32x256_S16x256_S16x256_S16x256_S32x256_S32x256_S32x256_S240x256_d0

/-- The attention of one set: the values times the weights. -/
def attn (v : FVec F S1x128x240 .bf16) (p : FVec F S40x256 .f32) : FVec F S128x256 .f32 :=
  matmul dot_S128x240_S240x256_S128x256_1_0_0_1_n_n none (shapeCast S128x240 v shapeCasts_S1x128x240_S128x240) (rows p) (constant S128x256 .f32 0x00000000#32)

/-- The exponent of a position's scale. -/
def expon (o : FVec F S128x256 .f32) : FVec F S1x256 .f32 :=
  have a : FVec F S1x256 .f32 := shapeCast S1x256 (multiReduction .maximumf [0] S256 (absf o) 0xFF800000#32 reduces_S128x256_S256 (.inl rfl) rfl) shapeCasts_S256_S1x256
  select (cmpf .oeq a (broadcast S1x256 (Scalar.ofBits .f32 0x00000000#32))) (broadcast S1x256 (Scalar.ofBits .f32 0x00000000#32))
    (addf (floor (mulf (log (mulf a (broadcast S1x256 (Scalar.ofBits .f32 0x3B124925#32)))) (broadcast S1x256 (Named.named κ "log2e" 0x3FB8AA3B#32)))) (broadcast S1x256 (Scalar.ofBits .f32 0x3F800000#32)))

/-- A position's scale. -/
def scale (o : FVec F S128x256 .f32) : FVec F S1x256 .f32 := exp2 (expon o)

/-- The codes of a set's attention. -/
def code (o : FVec F S128x256 .f32) : FVec F S128x256 .bf16 :=
  extf .bf16 (truncf .fp8e4m3 (minimumf (broadcast S128x256 (Scalar.ofBits .f32 0x43E00000#32)) (maximumf (broadcast S128x256 (Scalar.ofBits .f32 0xC3E00000#32)) (mulf o (broadcastTo S128x256 (exp2 (subf (broadcast S1x256 (Scalar.ofBits .f32 0x00000000#32)) (expon o))) broadcasts_S1x256_S128x256)))) bitsLt_fp8e4m3_f32) bitsLt_fp8e4m3_bf16

/-- The codes as the kernel stores them: a row per position. -/
def codeRows (o : FVec F S128x256 .f32) : FVec F S1x256x128 .fp8e4m3 :=
  shapeCast S1x256x128 (truncf .fp8e4m3 (transpose S256x128 [1, 0] (code o) transposes_S128x256_p1_0_S256x128) bitsLt_fp8e4m3_bf16) shapeCasts_S256x128_S1x256x128

/-- What the codes stand for: each times its position's scale. -/
def deq (o : FVec F S128x256 .f32) : FVec F S128x256 .bf16 :=
  mulf (code o) (broadcastTo S128x256 (truncf .bf16 (scale o) bitsLt_bf16_f32) broadcasts_S1x256_S128x256)

/-- The output projection of the decoded attention, plus the residual. -/
def resid (w : FVec F S256x256 .bf16) (x : FVec F S256x256 .f32) (d : FVec F S128x256 .bf16) : FVec F S256x256 .f32 :=
  addf (matmul dot_S256x256_S256x256_S256x256_1_0_0_1_n_n none w (concatenate S256x256 0 [⟨S128x256, d⟩, ⟨S128x256, d⟩] concatenates_S128x256_S128x256_S256x256_d0) (constant S256x256 .f32 0x00000000#32)) x

/-- The normalisation of one set, a row per position. -/
def normed (d : FVec F S256x256 .f32) (g b : FVec F S256x128 .f32) : FVec F S1x256x256 .bf16 :=
  have r : FVec F S1x256 .f32 := rsqrt (addf (divf (shapeCast S1x256 (multiReduction .add [0] S256 (mulf d d) 0x00000000#32 reduces_S256x256_S256 (.inl rfl) rfl) shapeCasts_S256_S1x256) (broadcast S1x256 (Scalar.ofBits .f32 0x43800000#32))) (broadcast S1x256 (Scalar.ofBits .f32 0x3727C5AC#32)))
  have lanes : FVec F S256x128 .f32 → FVec F S256x256 .f32 := fun a =>
    concatenate S256x256 1 [⟨S256x128, shapeCast S256x128 a shapeCasts_S256x128_S256x128⟩, ⟨S256x128, shapeCast S256x128 a shapeCasts_S256x128_S256x128⟩] concatenates_S256x128_S256x128_S256x256_d1
  shapeCast S1x256x256 (transpose S256x256 [1, 0] (truncf .bf16 (addf (mulf (mulf d (broadcastTo S256x256 r broadcasts_S1x256_S256x256)) (lanes g)) (lanes b)) bitsLt_bf16_f32) transposes_S256x256_p1_0_S256x256) shapeCasts_S256x256_S1x256x256

/-- One set's attention, of the tile's scores. -/
def setAttn (s : FVec F S8x5x8x256 .f32) (off : Fin 4 → ℕ) (h : S8x5x8x256.Slices off S1x5x8x256) (v : FVec F S1x128x240 .bf16) : FVec F S128x256 .f32 :=
  attn v (prob (expo (setScore s off h)))

/-- One set's image rows, of its attention. -/
def setImg (w : FVec F S256x256 .bf16) (x : FVec F S256x256 .f32) (g b : FVec F S256x128 .f32) (o : FVec F S128x256 .f32) : FVec F S1x256x256 .bf16 :=
  normed (resid w x (deq o)) g b

end Cert.Tile

end
-- ==== Proof.Pieces.lean ====
/- The pieces that one trip of the body's loop stores: eight per result, one per set, each a function of the tile
   (Proof/Tile.lean) of what the trip reads. -/
module

public import proofs.«01_k».proof.Proof.Tile
public import proofs.«01_k».proof.Proof.Gen.KernelIdeal.Value

@[expose] public section

set_option maxRecDepth 16384

noncomputable section

namespace Cert.Tile

open Cert.KernelIdeal Cert.KernelIdeal.Gen Idealize.ShloMosaic

variable {F : FTy → Type} [FloatOps F] [Named F]

/-- A set's slice of the scores lies inside them. -/
theorem slices_set : ∀ j : Fin 8, S8x5x8x256.Slices ![j.val, 0, 0, 0] S1x5x8x256 := by decide

/-- A set's values lie inside the point's block of values. -/
theorem inb_val : ∀ j : Fin 8, ∀ a, (![j.val, 0, 0] : Fin 3 → ℕ) a + S1x128x240.size a ≤ S8x128x240.size a := by decide

/-- One set's attention in one trip, of the point's blocks of keys' limbs, values and queries' limbs. -/
def tripAttn (i : grid0.Coords) (k : Fin k0_t1_loop.trips) (v1 v2 v3 : FVec F S320x128 .bf16) (x1 : Vec F S8x128x240 .bf16) (x2 : Vec F S384x4096 .bf16)
    (j : Fin 8) : FVec F S128x256 .f32 :=
  setAttn (score v1 v2 v3 (View.ld x2 (Rect.unit (s := S384x4096) (k0_off1 i k) S128x256.size (k0_off1_inb i k)))
    (View.ld x2 (Rect.unit (s := S384x4096) (k0_off2 i k) S128x256.size (k0_off2_inb i k)))
    (View.ld x2 (Rect.unit (s := S384x4096) (k0_off3 i k) S128x256.size (k0_off3_inb i k))))
    ![j.val, 0, 0, 0] (slices_set j) (View.ld x1 (Rect.unit (s := S8x128x240) ![j.val, 0, 0] S1x128x240.size (inb_val j)))

/-- One set's image rows in one trip. -/
def tripImg (i : grid0.Coords) (k : Fin k0_t1_loop.trips) (w : FVec F S256x256 .bf16) (x3 : Vec F S256x4096 .f32) (x5 x6 : Vec F S256x128 .f32)
    (o : FVec F S128x256 .f32) : FVec F S1x256x256 .bf16 :=
  setImg w (View.ld x3 (Rect.unit (s := S256x4096) (k0_off6 i k) S256x256.size (k0_off6_inb i k)))
    (View.ld x5 (Rect.unit (s := S256x128) ![0, 0] S256x128.size inb_S256x128_S256x128_0_0))
    (View.ld x6 (Rect.unit (s := S256x128) ![0, 0] S256x128.size inb_S256x128_S256x128_0_0)) o

/-- Two pieces at the same offsets with the same contents are the same piece. -/
theorem piece_eq {Val : EltTy → Type} {s : Shape} {e : EltTy} {off off' : Fin s.rank → ℕ} {size : Fin s.rank → ℕ} (h : ∀ a, off a + size a ≤ s.size a)
    (hoff : off = off') (h' : ∀ a, off' a + size a ≤ s.size a) (w w' : (⟨s.rank, size⟩ : Shape).Idx → Val e) (hw : w = w') :
    (⟨Rect.unit off size h, w⟩ : View.Piece Val s e) = ⟨Rect.unit off' size h', w'⟩ := by
  subst hoff hw; rfl

variable (𝒱 : Variants) (c : Dev nD) (bd : Option 𝒱.V) (i : grid0.Coords)
  (arg2 : Memref sig .tc .vmem S320x384 .bf16) (harg2 : arg2.IsWhole)
  (arg3 : Memref sig .tc .vmem S8x128x240 .bf16) (harg3 : arg3.IsWhole)
  (arg4 : Memref sig .tc .vmem S384x4096 .bf16) (harg4 : arg4.IsWhole)
  (arg5 : Memref sig .tc .vmem S256x4096 .f32) (harg5 : arg5.IsWhole)
  (arg6 : Memref sig .tc .vmem S256x256 .bf16) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S8x1024x256 .bf16) (harg9 : arg9.IsWhole)
  (arg10 : Memref sig .tc .vmem S8x1024x128 .fp8e4m3) (harg10 : arg10.IsWhole)
  (arg11 : Memref sig .tc .vmem S8x1024 .f32) (harg11 : arg11.IsWhole)
  (v0 : BitVec 32) (v1 v2 v3 : Vec F S320x128 .bf16) (v4 : Vec F S256x256 .bf16)
  (X3 : BufTy.Contents (Elt F) arg3.view.ty)  (X4 : BufTy.Contents (Elt F) arg4.view.ty)  (X5 : BufTy.Contents (Elt F) arg5.view.ty)  (X7 : BufTy.Contents (Elt F) arg7.view.ty)  (X8 : BufTy.Contents (Elt F) arg8.view.ty)

/-- A trip's pieces of the scales are the eight sets' scales, each at its set and the trip's positions. -/
theorem trip_pieces_s (k : Fin k0_t1_loop.trips) : ∀ p ∈ (trip_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 k).2.2.1,
    ∃ (j : Fin 8) (h : ∀ a, (![j.val, 256 * k.val] : Fin S8x1024.rank → ℕ) a + S1x256.size a ≤ S8x1024.size a),
      p = ⟨Rect.unit ![j.val, 256 * k.val] S1x256.size h, scale (tripAttn i k v1 v2 v3 (arg3.view.read (Elt F) X3) (arg4.view.read (Elt F) X4) j)⟩ := by
  intro p hp
  unfold trip_k0_t1 at hp
  dsimp only at hp
  simp only [List.mem_cons, List.not_mem_nil, or_false] at hp
  rcases hp with rfl | rfl | rfl | rfl | rfl | rfl | rfl | rfl
  · refine ⟨7, (k0_off26_eq k) ▸ k0_off26_inb k, ?_⟩; refine piece_eq (Val := Elt F) (e := .f32) (s := S8x1024) (size := S1x256.size) (off := k0_off26 k) (k0_off26_inb k) (k0_off26_eq k) _ _ _ ?_; rfl
  · refine ⟨6, (k0_off23_eq k) ▸ k0_off23_inb k, ?_⟩; refine piece_eq (Val := Elt F) (e := .f32) (s := S8x1024) (size := S1x256.size) (off := k0_off23 k) (k0_off23_inb k) (k0_off23_eq k) _ _ _ ?_; rfl
  · refine ⟨5, (k0_off20_eq k) ▸ k0_off20_inb k, ?_⟩; refine piece_eq (Val := Elt F) (e := .f32) (s := S8x1024) (size := S1x256.size) (off := k0_off20 k) (k0_off20_inb k) (k0_off20_eq k) _ _ _ ?_; rfl
  · refine ⟨4, (k0_off17_eq k) ▸ k0_off17_inb k, ?_⟩; refine piece_eq (Val := Elt F) (e := .f32) (s := S8x1024) (size := S1x256.size) (off := k0_off17 k) (k0_off17_inb k) (k0_off17_eq k) _ _ _ ?_; rfl
  · refine ⟨3, (k0_off14_eq k) ▸ k0_off14_inb k, ?_⟩; refine piece_eq (Val := Elt F) (e := .f32) (s := S8x1024) (size := S1x256.size) (off := k0_off14 k) (k0_off14_inb k) (k0_off14_eq k) _ _ _ ?_; rfl
  · refine ⟨2, (k0_off11_eq k) ▸ k0_off11_inb k, ?_⟩; refine piece_eq (Val := Elt F) (e := .f32) (s := S8x1024) (size := S1x256.size) (off := k0_off11 k) (k0_off11_inb k) (k0_off11_eq k) _ _ _ ?_; rfl
  · refine ⟨1, (k0_off8_eq k) ▸ k0_off8_inb k, ?_⟩; refine piece_eq (Val := Elt F) (e := .f32) (s := S8x1024) (size := S1x256.size) (off := k0_off8 k) (k0_off8_inb k) (k0_off8_eq k) _ _ _ ?_; rfl
  · refine ⟨0, (k0_off4_eq k) ▸ k0_off4_inb k, ?_⟩; refine piece_eq (Val := Elt F) (e := .f32) (s := S8x1024) (size := S1x256.size) (off := k0_off4 k) (k0_off4_inb k) (k0_off4_eq k) _ _ _ ?_; rfl

/-- A trip's pieces of the codes are the eight sets' codes, each at its set and the trip's positions. -/
theorem trip_pieces_c (k : Fin k0_t1_loop.trips) : ∀ p ∈ (trip_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 k).2.1,
    ∃ (j : Fin 8) (h : ∀ a, (![j.val, 256 * k.val, 0] : Fin S8x1024x128.rank → ℕ) a + S1x256x128.size a ≤ S8x1024x128.size a),
      p = ⟨Rect.unit ![j.val, 256 * k.val, 0] S1x256x128.size h, codeRows (tripAttn i k v1 v2 v3 (arg3.view.read (Elt F) X3) (arg4.view.read (Elt F) X4) j)⟩ := by
  intro p hp
  unfold trip_k0_t1 at hp
  dsimp only at hp
  simp only [List.mem_cons, List.not_mem_nil, or_false] at hp
  rcases hp with rfl | rfl | rfl | rfl | rfl | rfl | rfl | rfl
  · refine ⟨7, (k0_off27_eq k) ▸ k0_off27_inb k, ?_⟩; refine piece_eq (Val := Elt F) (e := .fp8e4m3) (s := S8x1024x128) (size := S1x256x128.size) (off := k0_off27 k) (k0_off27_inb k) (k0_off27_eq k) _ _ _ ?_; rfl
  · refine ⟨6, (k0_off24_eq k) ▸ k0_off24_inb k, ?_⟩; refine piece_eq (Val := Elt F) (e := .fp8e4m3) (s := S8x1024x128) (size := S1x256x128.size) (off := k0_off24 k) (k0_off24_inb k) (k0_off24_eq k) _ _ _ ?_; rfl
  · refine ⟨5, (k0_off21_eq k) ▸ k0_off21_inb k, ?_⟩; refine piece_eq (Val := Elt F) (e := .fp8e4m3) (s := S8x1024x128) (size := S1x256x128.size) (off := k0_off21 k) (k0_off21_inb k) (k0_off21_eq k) _ _ _ ?_; rfl
  · refine ⟨4, (k0_off18_eq k) ▸ k0_off18_inb k, ?_⟩; refine piece_eq (Val := Elt F) (e := .fp8e4m3) (s := S8x1024x128) (size := S1x256x128.size) (off := k0_off18 k) (k0_off18_inb k) (k0_off18_eq k) _ _ _ ?_; rfl
  · refine ⟨3, (k0_off15_eq k) ▸ k0_off15_inb k, ?_⟩; refine piece_eq (Val := Elt F) (e := .fp8e4m3) (s := S8x1024x128) (size := S1x256x128.size) (off := k0_off15 k) (k0_off15_inb k) (k0_off15_eq k) _ _ _ ?_; rfl
  · refine ⟨2, (k0_off12_eq k) ▸ k0_off12_inb k, ?_⟩; refine piece_eq (Val := Elt F) (e := .fp8e4m3) (s := S8x1024x128) (size := S1x256x128.size) (off := k0_off12 k) (k0_off12_inb k) (k0_off12_eq k) _ _ _ ?_; rfl
  · refine ⟨1, (k0_off9_eq k) ▸ k0_off9_inb k, ?_⟩; refine piece_eq (Val := Elt F) (e := .fp8e4m3) (s := S8x1024x128) (size := S1x256x128.size) (off := k0_off9 k) (k0_off9_inb k) (k0_off9_eq k) _ _ _ ?_; rfl
  · refine ⟨0, (k0_off5_eq k) ▸ k0_off5_inb k, ?_⟩; refine piece_eq (Val := Elt F) (e := .fp8e4m3) (s := S8x1024x128) (size := S1x256x128.size) (off := k0_off5 k) (k0_off5_inb k) (k0_off5_eq k) _ _ _ ?_; rfl

/-- A trip's pieces of the image rows are the eight sets' image rows, each at its set and the trip's positions. -/
theorem trip_pieces_i (k : Fin k0_t1_loop.trips) : ∀ p ∈ (trip_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 k).1,
    ∃ (j : Fin 8) (h : ∀ a, (![j.val, 256 * k.val, 0] : Fin S8x1024x256.rank → ℕ) a + S1x256x256.size a ≤ S8x1024x256.size a),
      p = ⟨Rect.unit ![j.val, 256 * k.val, 0] S1x256x256.size h, tripImg i k v4 (arg5.view.read (Elt F) X5) (arg7.view.read (Elt F) X7) (arg8.view.read (Elt F) X8) (tripAttn i k v1 v2 v3 (arg3.view.read (Elt F) X3) (arg4.view.read (Elt F) X4) j)⟩ := by
  intro p hp
  unfold trip_k0_t1 at hp
  dsimp only at hp
  simp only [List.mem_cons, List.not_mem_nil, or_false] at hp
  rcases hp with rfl | rfl | rfl | rfl | rfl | rfl | rfl | rfl
  · refine ⟨7, (k0_off28_eq k) ▸ k0_off28_inb k, ?_⟩; refine piece_eq (Val := Elt F) (e := .bf16) (s := S8x1024x256) (size := S1x256x256.size) (off := k0_off28 k) (k0_off28_inb k) (k0_off28_eq k) _ _ _ ?_; rfl
  · refine ⟨6, (k0_off25_eq k) ▸ k0_off25_inb k, ?_⟩; refine piece_eq (Val := Elt F) (e := .bf16) (s := S8x1024x256) (size := S1x256x256.size) (off := k0_off25 k) (k0_off25_inb k) (k0_off25_eq k) _ _ _ ?_; rfl
  · refine ⟨5, (k0_off22_eq k) ▸ k0_off22_inb k, ?_⟩; refine piece_eq (Val := Elt F) (e := .bf16) (s := S8x1024x256) (size := S1x256x256.size) (off := k0_off22 k) (k0_off22_inb k) (k0_off22_eq k) _ _ _ ?_; rfl
  · refine ⟨4, (k0_off19_eq k) ▸ k0_off19_inb k, ?_⟩; refine piece_eq (Val := Elt F) (e := .bf16) (s := S8x1024x256) (size := S1x256x256.size) (off := k0_off19 k) (k0_off19_inb k) (k0_off19_eq k) _ _ _ ?_; rfl
  · refine ⟨3, (k0_off16_eq k) ▸ k0_off16_inb k, ?_⟩; refine piece_eq (Val := Elt F) (e := .bf16) (s := S8x1024x256) (size := S1x256x256.size) (off := k0_off16 k) (k0_off16_inb k) (k0_off16_eq k) _ _ _ ?_; rfl
  · refine ⟨2, (k0_off13_eq k) ▸ k0_off13_inb k, ?_⟩; refine piece_eq (Val := Elt F) (e := .bf16) (s := S8x1024x256) (size := S1x256x256.size) (off := k0_off13 k) (k0_off13_inb k) (k0_off13_eq k) _ _ _ ?_; rfl
  · refine ⟨1, (k0_off10_eq k) ▸ k0_off10_inb k, ?_⟩; refine piece_eq (Val := Elt F) (e := .bf16) (s := S8x1024x256) (size := S1x256x256.size) (off := k0_off10 k) (k0_off10_inb k) (k0_off10_eq k) _ _ _ ?_; rfl
  · refine ⟨0, (k0_off7_eq k) ▸ k0_off7_inb k, ?_⟩; refine piece_eq (Val := Elt F) (e := .bf16) (s := S8x1024x256) (size := S1x256x256.size) (off := k0_off7 k) (k0_off7_inb k) (k0_off7_eq k) _ _ _ ?_; rfl

end Cert.Tile

end
-- ==== Proof.Blocks.lean ====
/- The pieces that the whole body stores at a grid point: those of its trips. -/
module

public import proofs.«01_k».proof.Proof.Pieces

@[expose] public section

set_option maxRecDepth 16384

noncomputable section

namespace Cert.Tile

open Cert.KernelIdeal Cert.KernelIdeal.Gen Idealize.ShloMosaic

variable {F : FTy → Type} [FloatOps F] [Named F]

section Loop

variable (𝒱 : Variants) (c : Dev nD) (bd : Option 𝒱.V) (i : grid0.Coords)
  (arg2 : Memref sig .tc .vmem S320x384 .bf16) (harg2 : arg2.IsWhole)
  (arg3 : Memref sig .tc .vmem S8x128x240 .bf16) (harg3 : arg3.IsWhole)
  (arg4 : Memref sig .tc .vmem S384x4096 .bf16) (harg4 : arg4.IsWhole)
  (arg5 : Memref sig .tc .vmem S256x4096 .f32) (harg5 : arg5.IsWhole)
  (arg6 : Memref sig .tc .vmem S256x256 .bf16) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S8x1024x256 .bf16) (harg9 : arg9.IsWhole)
  (arg10 : Memref sig .tc .vmem S8x1024x128 .fp8e4m3) (harg10 : arg10.IsWhole)
  (arg11 : Memref sig .tc .vmem S8x1024 .f32) (harg11 : arg11.IsWhole)
  (v0 : BitVec 32) (v1 v2 v3 : Vec F S320x128 .bf16) (v4 : Vec F S256x256 .bf16)
  (X3 : BufTy.Contents (Elt F) arg3.view.ty)  (X4 : BufTy.Contents (Elt F) arg4.view.ty)  (X5 : BufTy.Contents (Elt F) arg5.view.ty)  (X7 : BufTy.Contents (Elt F) arg7.view.ty)  (X8 : BufTy.Contents (Elt F) arg8.view.ty)

/-- The loop's pieces of the scales are its trips'. -/
theorem loop_pieces_s (n : ℕ) (hn : n ≤ k0_t1_loop.trips) : ∀ p ∈ (pb_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 n).2.2,
    ∃ k : Fin k0_t1_loop.trips, p ∈ (trip_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 k).2.2.1 := by
  induction n with
  | zero => intro p hp; exact absurd hp List.not_mem_nil
  | succ n ih =>
    intro p hp
    rw [pb_k0_t1_succ (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 ⟨n, hn⟩] at hp
    rcases List.mem_append.mp hp with h | h
    · exact ⟨⟨n, hn⟩, h⟩
    · exact ih (by omega) p h

/-- The loop's pieces of the codes are its trips'. -/
theorem loop_pieces_c (n : ℕ) (hn : n ≤ k0_t1_loop.trips) : ∀ p ∈ (pb_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 n).2.1,
    ∃ k : Fin k0_t1_loop.trips, p ∈ (trip_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 k).2.1 := by
  induction n with
  | zero => intro p hp; exact absurd hp List.not_mem_nil
  | succ n ih =>
    intro p hp
    rw [pb_k0_t1_succ (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 ⟨n, hn⟩] at hp
    rcases List.mem_append.mp hp with h | h
    · exact ⟨⟨n, hn⟩, h⟩
    · exact ih (by omega) p h

/-- The loop's pieces of the image rows are its trips'. -/
theorem loop_pieces_i (n : ℕ) (hn : n ≤ k0_t1_loop.trips) : ∀ p ∈ (pb_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 n).1,
    ∃ k : Fin k0_t1_loop.trips, p ∈ (trip_k0_t1 (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 k).1 := by
  induction n with
  | zero => intro p hp; exact absurd hp List.not_mem_nil
  | succ n ih =>
    intro p hp
    rw [pb_k0_t1_succ (F := F) 𝒱 c bd i arg2 harg2 arg3 harg3 arg4 harg4 arg5 harg5 arg6 harg6 arg7 harg7 arg8 harg8 arg9 harg9 arg10 harg10 arg11 harg11 v0 v1 v2 v3 v4 X3 X4 X5 X7 X8 ⟨n, hn⟩] at hp
    rcases List.mem_append.mp hp with h | h
    · exact ⟨⟨n, hn⟩, h⟩
    · exact ih (by omega) p h

end Loop

variable (c : Dev nD) (i : grid0.Coords)
  (arg2 : Memref sig .tc .vmem S320x384 .bf16) (harg2 : arg2.IsWhole)
  (arg3 : Memref sig .tc .vmem S8x128x240 .bf16) (harg3 : arg3.IsWhole)
  (arg4 : Memref sig .tc .vmem S384x4096 .bf16) (harg4 : arg4.IsWhole)
  (arg5 : Memref sig .tc .vmem S256x4096 .f32) (harg5 : arg5.IsWhole)
  (arg6 : Memref sig .tc .vmem S256x256 .bf16) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S8x1024x256 .bf16) (harg9 : arg9.IsWhole)
  (arg10 : Memref sig .tc .vmem S8x1024x128 .fp8e4m3) (harg10 : arg10.IsWhole)
  (arg11 : Memref sig .tc .vmem S8x1024 .f32) (harg11 : arg11.IsWhole)
  (x0 : Vec F S320x384 .bf16) (x1 : Vec F S8x128x240 .bf16) (x2 : Vec F S384x4096 .bf16) (x3 : Vec F S256x4096 .f32) (x4 : Vec F S256x256 .bf16) (x5 x6 : Vec F S256x128 .f32)

/-- The columns of one limb lie inside the block of keys. -/
theorem inb_key : ∀ l : Fin 3, ∀ a, (![0, l.val * 128] : Fin 2 → ℕ) a + S320x128.size a ≤ S320x384.size a := by decide

/-- One limb of a block of keys. -/
def limb (x0 : Vec F S320x384 .bf16) (l : Fin 3) : FVec F S320x128 .bf16 :=
  View.ld x0 (Rect.unit (s := S320x384) ![0, l.val * 128] S320x128.size (inb_key l))

/-- One set's attention in one trip, of the point's blocks. -/
def pointAttn (i : grid0.Coords) (k : Fin k0_t1_loop.trips) (x0 : Vec F S320x384 .bf16) (x1 : Vec F S8x128x240 .bf16) (x2 : Vec F S384x4096 .bf16)
    (j : Fin 8) : FVec F S128x256 .f32 :=
  tripAttn i k (limb x0 0) (limb x0 1) (limb x0 2) x1 x2 j

/-- The point's pieces of the scales. -/
theorem run_pieces_s : ∀ p ∈ (kernelRun0_A (F := F) c i arg2 harg2 arg3 harg3 arg4 harg4 arg5 harg5 arg6 harg6 arg7 harg7 arg8 harg8 arg9 harg9 arg10 harg10 arg11 harg11 x0 x1 x2 x3 x4 x5 x6).2.2.1,
    ∃ (k : Fin k0_t1_loop.trips) (j : Fin 8) (h : ∀ a, (![j.val, 256 * k.val] : Fin S8x1024.rank → ℕ) a + S1x256.size a ≤ S8x1024.size a),
      p = ⟨Rect.unit ![j.val, 256 * k.val] S1x256.size h, scale (pointAttn i k x0 x1 x2 j)⟩ := by
  intro p hp
  dsimp only [kernelRun0_A] at hp
  obtain ⟨k, hk⟩ := loop_pieces_s _ _ _ _ _ _ _ _ _ _ _ _ _ _ _ _ _ _ _ _ _ _ _ _ _ _ _ _ _ _ _ _ _ _ _ le_rfl p hp
  obtain ⟨j, h, e⟩ := trip_pieces_s _ _ _ _ _ _ _ _ _ _ _ _ _ _ _ _ _ _ _ _ _ _ _ _ _ _ _ _ _ _ _ _ _ _ k p hk
  refine ⟨k, j, h, e.trans ?_⟩
  simp only [View.readAt_eq_ld, harg2.read_unread, harg3.read_unread, harg4.read_unread, harg5.read_unread, harg6.read_unread, harg7.read_unread, harg8.read_unread]
  rfl

/-- The point's pieces of the codes. -/
theorem run_pieces_c : ∀ p ∈ (kernelRun0_A (F := F) c i arg2 harg2 arg3 harg3 arg4 harg4 arg5 harg5 arg6 harg6 arg7 harg7 arg8 harg8 arg9 harg9 arg10 harg10 arg11 harg11 x0 x1 x2 x3 x4 x5 x6).2.1,
    ∃ (k : Fin k0_t1_loop.trips) (j : Fin 8) (h : ∀ a, (![j.val, 256 * k.val, 0] : Fin S8x1024x128.rank → ℕ) a + S1x256x128.size a ≤ S8x1024x128.size a),
      p = ⟨Rect.unit ![j.val, 256 * k.val, 0] S1x256x128.size h, codeRows (pointAttn i k x0 x1 x2 j)⟩ := by
  intro p hp
  dsimp only [kernelRun0_A] at hp
  obtain ⟨k, hk⟩ := loop_pieces_c _ _ _ _ _ _ _ _ _ _ _ _ _ _ _ _ _ _ _ _ _ _ _ _ _ _ _ _ _ _ _ _ _ _ _ le_rfl p hp
  obtain ⟨j, h, e⟩ := trip_pieces_c _ _ _ _ _ _ _ _ _ _ _ _ _ _ _ _ _ _ _ _ _ _ _ _ _ _ _ _ _ _ _ _ _ _ k p hk
  refine ⟨k, j, h, e.trans ?_⟩
  simp only [View.readAt_eq_ld, harg2.read_unread, harg3.read_unread, harg4.read_unread, harg5.read_unread, harg6.read_unread, harg7.read_unread, harg8.read_unread]
  rfl

/-- The point's pieces of the image rows. -/
theorem run_pieces_i : ∀ p ∈ (kernelRun0_A (F := F) c i arg2 harg2 arg3 harg3 arg4 harg4 arg5 harg5 arg6 harg6 arg7 harg7 arg8 harg8 arg9 harg9 arg10 harg10 arg11 harg11 x0 x1 x2 x3 x4 x5 x6).1,
    ∃ (k : Fin k0_t1_loop.trips) (j : Fin 8) (h : ∀ a, (![j.val, 256 * k.val, 0] : Fin S8x1024x256.rank → ℕ) a + S1x256x256.size a ≤ S8x1024x256.size a),
      p = ⟨Rect.unit ![j.val, 256 * k.val, 0] S1x256x256.size h, tripImg i k (View.ld x4 (Rect.unit (s := S256x256) ![0, 0] S256x256.size inb_S256x256_S256x256_0_0)) x3 x5 x6 (pointAttn i k x0 x1 x2 j)⟩ := by
  intro p hp
  dsimp only [kernelRun0_A] at hp
  obtain ⟨k, hk⟩ := loop_pieces_i _ _ _ _ _ _ _ _ _ _ _ _ _ _ _ _ _ _ _ _ _ _ _ _ _ _ _ _ _ _ _ _ _ _ _ le_rfl p hp
  obtain ⟨j, h, e⟩ := trip_pieces_i _ _ _ _ _ _ _ _ _ _ _ _ _ _ _ _ _ _ _ _ _ _ _ _ _ _ _ _ _ _ _ _ _ _ k p hk
  refine ⟨k, j, h, e.trans ?_⟩
  simp only [View.readAt_eq_ld, harg2.read_unread, harg3.read_unread, harg4.read_unread, harg5.read_unread, harg6.read_unread, harg7.read_unread, harg8.read_unread]
  rfl

end Cert.Tile

end
-- ==== Proof.Core.lean ====
/- The arithmetic of one image position over the extended reals: the softmax over the tokens, the weighted sum of the
   values from their limbs, and the facts about the weights that let the limbs be put together again. -/
module

public import Idealize.ShloMosaic.Lib.Pointwise

@[expose] public section

noncomputable section

namespace Cert.Core

open Idealize.ShloMosaic

/-- Minus infinity, as the maxima start from it. -/
abbrev ninf : EReal := Ideal.ofBits .f32 0xFF800000#32

/-- The largest score of head `h`. -/
def mx (sc : Fin 10 → Fin 4 → EReal) (h : Fin 4) : EReal := Finset.univ.fold max ninf fun n => sc n h

/-- The exponential of a score less the largest. -/
def ex (sc : Fin 10 → Fin 4 → EReal) (n : Fin 10) (h : Fin 4) : EReal := Ideal.exp2 (sc n h - mx sc h)

/-- The softmax weight of token `n` in head `h`. -/
def pr (sc : Fin 10 → Fin 4 → EReal) (n : Fin 10) (h : Fin 4) : EReal := ex sc n h * Ideal.div 1 (∑ k, ex sc k h)

/-- The token of row `r` of group `a`. -/
abbrev tok (a : Fin 5) (r : Fin 8) : Fin 10 := ⟨2 * a.val + r.val / 4, by omega⟩
/-- The head of row `r`. -/
abbrev head (r : Fin 8) : Fin 4 := ⟨r.val % 4, by omega⟩
/-- The row with the other token of the pair. -/
abbrev other (r : Fin 8) : Fin 8 := ⟨(r.val + 8 - 4) % 8, by omega⟩

/-- The maximum over the five groups, joined with that of the other row of the pair, is the maximum over the ten tokens. -/
theorem max_pair (sc : Fin 10 → Fin 4 → EReal) (r : Fin 8) :
    max (Finset.univ.fold max ninf fun a => sc (tok a r) (head r)) (Finset.univ.fold max ninf fun a => sc (tok a (other r)) (head (other r)))
      = mx sc (head r) := by
  have hh : head (other r) = head r := Fin.ext (by simp only [head, other]; omega)
  refine eq_of_forall_ge_iff fun c => ?_
  simp only [mx, max_le_iff, Finset.fold_max_le, Finset.mem_univ, true_implies, hh]
  constructor
  · rintro ⟨⟨h0, h1⟩, -, h2⟩
    refine ⟨h0, fun n => ?_⟩
    by_cases hn : n.val % 2 = r.val / 4
    · have := h1 ⟨n.val / 2, by omega⟩
      rwa [show tok ⟨n.val / 2, by omega⟩ r = n from Fin.ext (by simp only [tok]; omega)] at this
    · have := h2 ⟨n.val / 2, by omega⟩
      rwa [show tok ⟨n.val / 2, by omega⟩ (other r) = n from Fin.ext (by simp only [tok, other]; omega)] at this
  · rintro ⟨h0, h1⟩
    exact ⟨⟨h0, fun a => h1 _⟩, h0, fun a => h1 _⟩

/-- Ten terms are the even ones and the odd ones. -/
theorem sum_even_odd (g : Fin 10 → EReal) : ∑ n, g n = (∑ a : Fin 5, g ⟨2 * a.val, by omega⟩) + ∑ a : Fin 5, g ⟨2 * a.val + 1, by omega⟩ := by
  rw [Fin.sum_univ_five, Fin.sum_univ_five]
  show _ = (g 0 + g 2 + g 4 + g 6 + g 8) + (g 1 + g 3 + g 5 + g 7 + g 9)
  rw [show ∑ n, g n = g 0 + g 1 + g 2 + g 3 + g 4 + g 5 + g 6 + g 7 + g 8 + g 9 by simp only [Fin.sum_univ_castSucc, Fin.sum_univ_zero, zero_add]; rfl]
  abel

/-- The sum over the five groups, plus that of the other row of the pair, is the sum over the ten tokens. -/
theorem sum_pair (e : Fin 10 → Fin 4 → EReal) (r : Fin 8) :
    (∑ a, e (tok a r) (head r)) + (∑ a, e (tok a (other r)) (head (other r))) = ∑ n, e n (head r) := by
  have hh : head (other r) = head r := Fin.ext (by simp only [head, other]; omega)
  rw [hh]
  generalize head r = h
  have key : ∀ r : Fin 8, (∑ a, e (tok a r) h) + (∑ a, e (tok a (other r)) h) = ∑ n, e n h := by
    intro r
    have hr : r.val / 4 = 0 ∨ r.val / 4 = 1 := by omega
    rcases hr with hr | hr
    · have h1 : ∀ a, tok a r = ⟨2 * a.val, by omega⟩ := fun a => Fin.ext (by simp only [tok]; omega)
      have h2 : ∀ a, tok a (other r) = ⟨2 * a.val + 1, by omega⟩ := fun a => Fin.ext (by simp only [tok, other]; omega)
      simp only [h1, h2]
      exact (sum_even_odd fun n => e n h).symm
    · have h1 : ∀ a, tok a r = ⟨2 * a.val + 1, by omega⟩ := fun a => Fin.ext (by simp only [tok]; omega)
      have h2 : ∀ a, tok a (other r) = ⟨2 * a.val, by omega⟩ := fun a => Fin.ext (by simp only [tok, other]; omega)
      simp only [h1, h2]
      rw [add_comm]
      exact (sum_even_odd fun n => e n h).symm
  exact key r

/-- The weights are real and not negative. -/
theorem ex_real (sc : Fin 10 → Fin 4 → EReal) (n : Fin 10) (h : Fin 4) : ∃ x : ℝ, 0 ≤ x ∧ ex sc n h = x := by
  have hle : sc n h ≤ mx sc h := (Finset.fold_max_le (b := ninf) (f := fun n => sc n h) (c := mx sc h)).1 le_rfl |>.2 n (Finset.mem_univ n)
  unfold ex
  generalize sc n h = s at *
  generalize mx sc h = m at *
  induction m using EReal.rec with
  | bot => exact ⟨0, le_rfl, by rw [le_bot_iff.1 hle]; simp⟩
  | top => exact ⟨0, le_rfl, by simp⟩
  | coe m =>
    induction s using EReal.rec with
    | bot => exact ⟨0, le_rfl, by simp⟩
    | top => simp at hle
    | coe s => exact ⟨(2 : ℝ) ^ (s - m), by positivity, by rw [← EReal.coe_sub]; rfl⟩

theorem pr_real (sc : Fin 10 → Fin 4 → EReal) (n : Fin 10) (h : Fin 4) : ∃ x : ℝ, 0 ≤ x ∧ pr sc n h = x := by
  choose x hx0 hx using fun n => ex_real sc n h
  have hs : ∑ k, ex sc k h = ((∑ k, x k : ℝ) : EReal) := by
    rw [Finset.sum_congr rfl fun k _ => hx k]
    exact (map_sum (⟨⟨Real.toEReal, EReal.coe_zero⟩, EReal.coe_add⟩ : ℝ →+ EReal) x Finset.univ).symm
  unfold pr
  rw [hs, hx]
  have hz0 : 0 ≤ ∑ k, x k := Finset.sum_nonneg fun k _ => hx0 k
  rcases hz0.eq_or_lt with hz | hz
  · have : x n = 0 := (Finset.sum_eq_zero_iff_of_nonneg fun k _ => hx0 k).1 hz.symm n (Finset.mem_univ n)
    exact ⟨0, le_rfl, by rw [this]; simp⟩
  · refine ⟨x n * (1 / ∑ k, x k), mul_nonneg (hx0 n) (by positivity), ?_⟩
    rw [EReal.coe_mul]
    congr 1
    have h0 : ((∑ k, x k : ℝ) : EReal) ≠ 0 := by exact_mod_cast hz.ne'
    rw [Ideal.div, if_neg h0, one_div, EReal.coe_inv, one_mul]

/-- A sum cut in two. -/
theorem sum_cut {n : ℕ} (a b : ℕ) (h : a + b = n) (f : Fin n → EReal) :
    ∑ x, f x = ∑ x : Fin a, f ⟨x.val, by omega⟩ + ∑ x : Fin b, f ⟨a + x.val, by omega⟩ := by
  subst h
  rw [Fin.sum_univ_add]; rfl

/-- The product of one limb of a key (its channels from `a`) with one of a query (from `b`). -/
def dotE (a b : ℕ) (ha : a ≤ 256) (hb : b ≤ 256) (k q : Fin 384 → EReal) : EReal :=
  ∑ x : Fin 128, k ⟨a + x.val, by omega⟩ * q ⟨b + x.val, by omega⟩

/-- The score of a key with a query, of three limbs each: the six products of the largest limbs. -/
def scE (k q : Fin 384 → EReal) : EReal :=
  dotE 0 0 (by omega) (by omega) k q + dotE 128 0 (by omega) (by omega) k q + dotE 0 128 (by omega) (by omega) k q
    + dotE 256 0 (by omega) (by omega) k q + dotE 128 128 (by omega) (by omega) k q + dotE 0 256 (by omega) (by omega) k q

/-- A channel's value for row `r` of the 40 rows of tokens and heads, from its limbs. -/
def valE (v : Fin 240 → EReal) (r : Fin 40) : EReal :=
  if h : r.val < 32 then v ⟨r.val, by omega⟩ + v ⟨32 + r.val, by omega⟩ + v ⟨64 + r.val, by omega⟩
  else v ⟨96 + (r.val - 32), by omega⟩ + v ⟨112 + (r.val - 32), by omega⟩ + v ⟨128 + (r.val - 32), by omega⟩

/-- The row of a token and a head. -/
abbrev row (n : Fin 10) (h : Fin 4) : Fin 40 := ⟨n.val * 4 + h.val, by omega⟩
/-- The softmax weight of a row. -/
def prow (sc : Fin 10 → Fin 4 → EReal) (r : Fin 40) : EReal := pr sc ⟨r.val / 4, by omega⟩ ⟨r.val % 4, by omega⟩

/-- One channel of the attention of a position. -/
def attE (sc : Fin 10 → Fin 4 → EReal) (v : Fin 240 → EReal) : EReal := ∑ h : Fin 4, ∑ n : Fin 10, pr sc n h * valE v (row n h)

/-- The sum over heads and tokens is the sum over the 40 rows. -/
theorem sum_rows (f : Fin 40 → EReal) : ∑ h : Fin 4, ∑ n : Fin 10, f (row n h) = ∑ r, f r := by
  rw [Finset.sum_comm, ← Fintype.sum_prod_type']
  exact Fintype.sum_equiv (finProdFinEquiv (m := 10) (n := 4)) _ _ fun p => congrArg f (Fin.ext (by simp [finProdFinEquiv]; omega))

/-- The limbs of the weights in the order of the values' columns, where the smaller limbs vanish. -/
def rowsE (p : Fin 40 → EReal) (x : Fin 240) : EReal :=
  if x.val < 96 then p ⟨x.val % 32, by omega⟩
  else if h : x.val < 144 then (if (x.val - 96) % 16 < 8 then p ⟨32 + x.val % 8, by omega⟩ else 0) else 0

theorem rowsE_lo (p : Fin 40 → EReal) (x : ℕ) (hx : x < 240) (r : Fin 40) (h : x < 96) (hr : r.val = x % 32) : rowsE p ⟨x, hx⟩ = p r := by
  rw [rowsE, if_pos h]; exact congrArg p (Fin.ext hr.symm)
theorem rowsE_hi (p : Fin 40 → EReal) (x : ℕ) (hx : x < 240) (r : Fin 40) (h : 96 ≤ x) (h' : x < 144) (h'' : (x - 96) % 16 < 8) (hr : r.val = 32 + x % 8) :
    rowsE p ⟨x, hx⟩ = p r := by
  rw [rowsE, if_neg (by simpa using h), dif_pos h', if_pos h'']; exact congrArg p (Fin.ext hr.symm)
theorem rowsE_zero (p : Fin 40 → EReal) (x : ℕ) (hx : x < 240) (h : 144 ≤ x ∨ (96 ≤ x ∧ 8 ≤ (x - 96) % 16)) : rowsE p ⟨x, hx⟩ = 0 := by
  unfold rowsE; split_ifs <;> first | rfl | (simp only at *; omega)

/-- The weights times the values' limbs, column by column, is the weights times the values, row by row: the larger limbs of
    a value add up under its weight, which is real and not negative, and the smaller limbs of the weights are zero. -/
theorem sum_limbs (v : Fin 240 → EReal) (p : Fin 40 → EReal) (hp : ∀ r, ∃ x : ℝ, 0 ≤ x ∧ p r = x) :
    ∑ x, v x * rowsE p x = ∑ r, p r * valE v r := by
  have dist : ∀ (a b c : EReal) (r : Fin 40), p r * (a + b + c) = a * p r + b * p r + c * p r := by
    intro a b c r
    obtain ⟨x, hx, e⟩ := hp r
    have h0 : (0 : EReal) ≤ p r := by rw [e]; exact_mod_cast hx
    have h1 : p r ≠ ⊤ := by rw [e]; exact EReal.coe_ne_top x
    rw [mul_comm, EReal.right_distrib_of_nonneg_of_ne_top h0 h1, EReal.right_distrib_of_nonneg_of_ne_top h0 h1]
  rw [sum_cut 32 208 rfl, sum_cut 32 176 rfl, sum_cut 32 144 rfl, sum_cut 8 136 rfl, sum_cut 8 128 rfl, sum_cut 8 120 rfl, sum_cut 8 112 rfl,
    sum_cut 8 104 rfl, sum_cut 8 96 rfl, sum_cut 32 8 rfl (fun r => p r * valE v r)]
  simp only
  have c0 : ∀ x : Fin 32, rowsE p ⟨x.val, by omega⟩ = p ⟨x.val, by omega⟩ := fun x => rowsE_lo p _ _ _ (by omega) (by simp only; omega)
  have c1 : ∀ x : Fin 32, rowsE p ⟨32 + x.val, by omega⟩ = p ⟨x.val, by omega⟩ := fun x => rowsE_lo p _ _ _ (by omega) (by simp only; omega)
  have c2 : ∀ x : Fin 32, rowsE p ⟨32 + (32 + x.val), by omega⟩ = p ⟨x.val, by omega⟩ := fun x => rowsE_lo p _ _ _ (by omega) (by simp only; omega)
  have d0 : ∀ x : Fin 8, rowsE p ⟨32 + (32 + (32 + x.val)), by omega⟩ = p ⟨32 + x.val, by omega⟩ := fun x => rowsE_hi p _ _ _ (by omega) (by omega) (by omega) (by simp only; omega)
  have d1 : ∀ x : Fin 8, rowsE p ⟨32 + (32 + (32 + (8 + x.val))), by omega⟩ = 0 := fun x => rowsE_zero p _ _ (by omega)
  have d2 : ∀ x : Fin 8, rowsE p ⟨32 + (32 + (32 + (8 + (8 + x.val)))), by omega⟩ = p ⟨32 + x.val, by omega⟩ := fun x => rowsE_hi p _ _ _ (by omega) (by omega) (by omega) (by simp only; omega)
  have d3 : ∀ x : Fin 8, rowsE p ⟨32 + (32 + (32 + (8 + (8 + (8 + x.val))))), by omega⟩ = 0 := fun x => rowsE_zero p _ _ (by omega)
  have d4 : ∀ x : Fin 8, rowsE p ⟨32 + (32 + (32 + (8 + (8 + (8 + (8 + x.val)))))), by omega⟩ = p ⟨32 + x.val, by omega⟩ := fun x => rowsE_hi p _ _ _ (by omega) (by omega) (by omega) (by simp only; omega)
  have d5 : ∀ x : Fin 8, rowsE p ⟨32 + (32 + (32 + (8 + (8 + (8 + (8 + (8 + x.val))))))), by omega⟩ = 0 := fun x => rowsE_zero p _ _ (by omega)
  have d6 : ∀ x : Fin 96, rowsE p ⟨32 + (32 + (32 + (8 + (8 + (8 + (8 + (8 + (8 + x.val)))))))), by omega⟩ = 0 := fun x => rowsE_zero p _ _ (by omega)
  have hv : ∀ (a b : ℕ) (ha : a < 240) (hb : b < 240), a = b → v ⟨a, ha⟩ = v ⟨b, hb⟩ := fun a b ha hb h => by subst h; rfl
  have e0 : ∀ x : Fin 32, p ⟨x.val, by omega⟩ * valE v ⟨x.val, by omega⟩
      = v ⟨x.val, by omega⟩ * p ⟨x.val, by omega⟩ + v ⟨32 + x.val, by omega⟩ * p ⟨x.val, by omega⟩ + v ⟨32 + (32 + x.val), by omega⟩ * p ⟨x.val, by omega⟩ := fun x => by
    rw [valE, dif_pos (by simp), dist]
    rw [hv (64 + x.val) (32 + (32 + x.val)) (by omega) (by omega) (by omega)]
  have e1 : ∀ x : Fin 8, p ⟨32 + x.val, by omega⟩ * valE v ⟨32 + x.val, by omega⟩
      = v ⟨32 + (32 + (32 + x.val)), by omega⟩ * p ⟨32 + x.val, by omega⟩ + v ⟨32 + (32 + (32 + (8 + (8 + x.val)))), by omega⟩ * p ⟨32 + x.val, by omega⟩
        + v ⟨32 + (32 + (32 + (8 + (8 + (8 + (8 + x.val)))))), by omega⟩ * p ⟨32 + x.val, by omega⟩ := fun x => by
    rw [valE, dif_neg (by simp), dist]
    rw [hv (96 + (32 + x.val - 32)) (32 + (32 + (32 + x.val))) (by omega) (by omega) (by omega),
      hv (112 + (32 + x.val - 32)) (32 + (32 + (32 + (8 + (8 + x.val))))) (by omega) (by omega) (by omega),
      hv (128 + (32 + x.val - 32)) (32 + (32 + (32 + (8 + (8 + (8 + (8 + x.val))))))) (by omega) (by omega) (by omega)]
  simp only [c0, c1, c2, d0, d1, d2, d3, d4, d5, d6, e0, e1, mul_zero, Finset.sum_const_zero, add_zero, zero_add, Finset.sum_add_distrib]
  abel

/-- So one channel of the attention, column by column. -/
theorem attE_eq (sc : Fin 10 → Fin 4 → EReal) (v : Fin 240 → EReal) : ∑ x, v x * rowsE (prow sc) x = attE sc v := by
  rw [sum_limbs v (prow sc) fun r => pr_real sc _ _, ← sum_rows]
  refine Finset.sum_congr rfl fun h _ => Finset.sum_congr rfl fun n _ => ?_
  congr 1
  unfold prow
  exact congrArg₂ (pr sc) (Fin.ext (show (n.val * 4 + h.val) / 4 = n.val by omega)) (Fin.ext (show (n.val * 4 + h.val) % 4 = h.val by omega))

/-! ### The quantiser, the projection and the normalisation of one position -/

/-- The named logarithm of e to base two. -/
abbrev log2e : EReal := (((Real.log 2)⁻¹ : ℝ) : EReal)

/-- The largest magnitude. -/
def amE (o : Fin 128 → EReal) : EReal := Finset.univ.fold max ninf fun c => (FloatOps.absf (F := Ideal) (φ := .f32) (o c) : EReal)

/-- The exponent of the scale: of the power of two above the largest magnitude over 448, and 0 for a zero row. -/
def expE (o : Fin 128 → EReal) : EReal :=
  if amE o = 0 then 0 else Ideal.liftRound Int.floor (Ideal.log (amE o * Ideal.ofBits .f32 0x3B124925#32) * log2e) + 1

/-- The scale. -/
def scaleE (o : Fin 128 → EReal) : EReal := Ideal.exp2 (expE o)

/-- The code of a channel. -/
def codeE (o : Fin 128 → EReal) (c : Fin 128) : EReal :=
  min (Ideal.ofBits .f32 0x43E00000#32) (max (Ideal.ofBits .f32 0xC3E00000#32) (o c * Ideal.exp2 (0 - expE o)))

/-- What a code stands for. -/
def deqE (o : Fin 128 → EReal) (c : Fin 128) : EReal := codeE o c * scaleE o

/-- The output projection, by the two limbs of the weight, plus the residual. -/
def resE (w : Fin 256 → Fin 256 → EReal) (x : Fin 256 → EReal) (o : Fin 128 → EReal) (d : Fin 256) : EReal :=
  (∑ c : Fin 128, w d ⟨c.val, by omega⟩ * deqE o c) + (∑ c : Fin 128, w d ⟨128 + c.val, by omega⟩ * deqE o c) + x d

/-- The normalised image row. -/
def imgE (r g b : Fin 256 → EReal) (d : Fin 256) : EReal :=
  r d * Ideal.rsqrt (Ideal.div (∑ e, r e * r e) (Ideal.ofBits .f32 0x43800000#32) + Ideal.ofBits .f32 0x3727C5AC#32) * g d + b d

end Cert.Core

end
-- ==== Proof.Point.lean ====
/- The functions of a tile read at an index, over the extended reals: each is a position's arithmetic (Proof/Core.lean). -/
module

public import proofs.«01_k».proof.Proof.Tile
public import proofs.«01_k».proof.Proof.Core

@[expose] public section

set_option maxRecDepth 16384

noncomputable section

namespace Cert.Tile

open Cert.KernelIdeal Cert.KernelIdeal.Gen Idealize.ShloMosaic Cert.Core

/-- The named constant's value. -/
theorem log2e_eq : (Named.named (F := Ideal) Cert.KernelIdeal.κ "log2e" (φ := .f32) 0x3FB8AA3B#32 : EReal) = log2e := rfl

set_option maxHeartbeats 1000000 in
/-- A score is the six products of the limbs. -/
theorem score_apply (kh km kl : FVec Ideal S320x128 .bf16) (qh qm ql : FVec Ideal S128x256 .bf16) (k q : Fin 384 → EReal)
    (j : Fin 8) (a : Fin 5) (r : Fin 8) (l : Fin 256)
    (hkh : ∀ x : Fin 128, kh (ix2 ⟨j.val * 40 + a.val * 8 + r.val, by omega⟩ x) = k ⟨0 + x.val, by omega⟩)
    (hkm : ∀ x : Fin 128, km (ix2 ⟨j.val * 40 + a.val * 8 + r.val, by omega⟩ x) = k ⟨128 + x.val, by omega⟩)
    (hkl : ∀ x : Fin 128, kl (ix2 ⟨j.val * 40 + a.val * 8 + r.val, by omega⟩ x) = k ⟨256 + x.val, by omega⟩)
    (hqh : ∀ x : Fin 128, qh (ix2 x l) = q ⟨0 + x.val, by omega⟩)
    (hqm : ∀ x : Fin 128, qm (ix2 x l) = q ⟨128 + x.val, by omega⟩)
    (hql : ∀ x : Fin 128, ql (ix2 x l) = q ⟨256 + x.val, by omega⟩) :
    score kh km kl qh qm ql (ix4 j a r l) = scE k q := by
  have K : ∀ (w : FVec Ideal S320x128 .bf16) (o : ℕ) (ho : o + 128 ≤ 384)
      (_ : ∀ x : Fin 128, w (ix2 ⟨j.val * 40 + a.val * 8 + r.val, by omega⟩ x) = k ⟨o + x.val, by omega⟩) (y z : ℕ) (hy : y < 128) (hz : z < 384)
      (x : Fin 128), y = x.val → z = o + x.val → w (ix2 ⟨j.val * 40 + a.val * 8 + r.val, by omega⟩ ⟨y, hy⟩) = k ⟨z, hz⟩ :=
    fun w o ho h y z hy hz x e f => by subst e; subst f; exact h x
  have Q : ∀ (w : FVec Ideal S128x256 .bf16) (o : ℕ) (ho : o + 128 ≤ 384) (_ : ∀ x : Fin 128, w (ix2 x l) = q ⟨o + x.val, by omega⟩)
      (y z : ℕ) (hy : y < 128) (hz : z < 384) (x : Fin 128), y = x.val → z = o + x.val → w (ix2 ⟨y, hy⟩ l) = q ⟨z, hz⟩ :=
    fun w o ho h y z hy hz x e f => by subst e; subst f; exact h x
  pointwise [score]
  rw [sum_cut 128 640 rfl, sum_cut 128 512 rfl, sum_cut 128 384 rfl, sum_cut 128 256 rfl, sum_cut 128 128 rfl]
  unfold scE dotE
  simp only [← add_assoc]
  congr 1
  · congr 1
    · congr 1
      · congr 1
        · congr 1
          · refine Finset.sum_congr rfl fun x _ => ?_
            have hx := x.isLt
            split_ifs <;> first | omega | exact congrArg₂ (· * ·) (K kh 0 (by omega) hkh _ _ _ _ x (by omega) (by omega)) (Q qh 0 (by omega) hqh _ _ _ _ x (by omega) (by omega))
          · refine Finset.sum_congr rfl fun x _ => ?_
            have hx := x.isLt
            split_ifs <;> first | omega | exact congrArg₂ (· * ·) (K km 128 (by omega) hkm _ _ _ _ x (by omega) (by omega)) (Q qh 0 (by omega) hqh _ _ _ _ x (by omega) (by omega))
        · refine Finset.sum_congr rfl fun x _ => ?_
          have hx := x.isLt
          split_ifs <;> first | omega | exact congrArg₂ (· * ·) (K kh 0 (by omega) hkh _ _ _ _ x (by omega) (by omega)) (Q qm 128 (by omega) hqm _ _ _ _ x (by omega) (by omega))
      · refine Finset.sum_congr rfl fun x _ => ?_
        have hx := x.isLt
        split_ifs <;> first | omega | exact congrArg₂ (· * ·) (K kl 256 (by omega) hkl _ _ _ _ x (by omega) (by omega)) (Q qh 0 (by omega) hqh _ _ _ _ x (by omega) (by omega))
    · refine Finset.sum_congr rfl fun x _ => ?_
      have hx := x.isLt
      split_ifs <;> first | omega | exact congrArg₂ (· * ·) (K km 128 (by omega) hkm _ _ _ _ x (by omega) (by omega)) (Q qm 128 (by omega) hqm _ _ _ _ x (by omega) (by omega))
  · refine Finset.sum_congr rfl fun x _ => ?_
    have hx := x.isLt
    split_ifs <;> first | omega | exact congrArg₂ (· * ·) (K kh 0 (by omega) hkh _ _ _ _ x (by omega) (by omega)) (Q ql 256 (by omega) hql _ _ _ _ x (by omega) (by omega))

/-- The exponentials of a set's scores. -/
theorem expo_apply (s : FVec Ideal S5x8x256 .f32) (sc : Fin 10 → Fin 4 → EReal) (l : Fin 256)
    (hs : ∀ (a : Fin 5) (r : Fin 8), s (ix3 a r l) = sc (tok a r) (head r)) (a : Fin 5) (r : Fin 8) :
    expo s (ix3 a r l) = ex sc (tok a r) (head r) := by
  pointwise [expo]
  simp only [hs]
  exact congrArg Ideal.exp2 (congrArg (sc (tok a r) (head r) - ·) (max_pair sc r))

/-- The softmax weights of a set. -/
theorem prob_apply (e : FVec Ideal S5x8x256 .f32) (sc : Fin 10 → Fin 4 → EReal) (l : Fin 256)
    (he : ∀ (a : Fin 5) (r : Fin 8), e (ix3 a r l) = ex sc (tok a r) (head r)) (p : Fin 40) :
    prob e (ix2 p l) = prow sc p := by
  pointwise [prob]
  simp only [he]
  unfold prow pr
  have ht : tok ⟨p.val / 8, by omega⟩ ⟨p.val % 8, by omega⟩ = ⟨p.val / 4, by omega⟩ := Fin.ext (by simp only [tok]; omega)
  have hh : head ⟨p.val % 8, by omega⟩ = ⟨p.val % 4, by omega⟩ := Fin.ext (by simp only [head]; omega)
  rw [← ht, ← hh]
  exact congrArg (fun z => ex sc (tok ⟨p.val / 8, by omega⟩ ⟨p.val % 8, by omega⟩) (head ⟨p.val % 8, by omega⟩) * Ideal.div 1 z) (sum_pair (ex sc) ⟨p.val % 8, by omega⟩)

/-- The limbs of real weights: the weights, and zero. -/
theorem rows_apply (p : FVec Ideal S40x256 .f32) (f : Fin 40 → EReal) (l : Fin 256) (e : ∀ r, p (ix2 r l) = f r)
    (hf : ∀ r, ∃ x : ℝ, 0 ≤ x ∧ f r = x) (x : Fin 240) : rows p (ix2 x l) = rowsE f x := by
  have sub0 : ∀ r, f r - f r = 0 := fun r => by obtain ⟨y, -, e⟩ := hf r; rw [e, ← EReal.coe_sub, sub_self]; rfl
  have h1 : ∀ r : Fin 32, hp p (ix2 r l) = f ⟨r.val, by omega⟩ := fun r => by pointwise [hp]; exact e _
  have h2 : ∀ r : Fin 32, mp p (ix2 r l) = 0 := fun r => by pointwise [mp, rp, hp]; rw [e]; exact sub0 _
  have h3 : ∀ r : Fin 32, lp p (ix2 r l) = 0 := fun r => by pointwise [lp, mp, rp, hp]; rw [e, sub0]; simp
  have h4 : ∀ r : Fin 8, hq p (ix2 r l) = f ⟨32 + r.val, by omega⟩ := fun r => by pointwise [hq]; exact e _
  have h5 : ∀ r : Fin 8, mq p (ix2 r l) = 0 := fun r => by pointwise [mq, rq, hq]; rw [e]; exact sub0 _
  have h6 : ∀ r : Fin 8, rq p (ix2 r l) = 0 := fun r => by pointwise [rq, hq]; rw [e]; exact sub0 _
  pointwise [rows]
  simp only [h1, h2, h3, h4, h5, h6]
  have hx := x.isLt
  split_ifs
  all_goals first
    | exact (rowsE_lo f x.val hx _ (by omega) (by dsimp only; omega)).symm
    | exact (rowsE_hi f x.val hx _ (by omega) (by omega) (by omega) (by dsimp only; omega)).symm
    | exact (rowsE_zero f x.val hx (by omega)).symm
    | exact (sub_zero (0 : EReal)).trans (rowsE_zero f x.val hx (by omega)).symm

/-- The attention of a set. -/
theorem attn_apply (v : FVec Ideal S1x128x240 .bf16) (p : FVec Ideal S40x256 .f32) (sc : Fin 10 → Fin 4 → EReal) (l : Fin 256)
    (e : ∀ r, p (ix2 r l) = prow sc r) (c : Fin 128) : attn v p (ix2 c l) = attE sc fun x => v (ix3 0 c x) := by
  pointwise [attn]
  rw [← attE_eq]
  exact Finset.sum_congr rfl fun x _ => by rw [rows_apply p (prow sc) l e fun r => pr_real sc _ _]

/-- The exponent of a position's scale. -/
theorem expon_apply (o : FVec Ideal S128x256 .f32) (l : Fin 256) : expon o (ix2 0 l) = expE fun c => o (ix2 c l) := by
  pointwise [expon]
  rfl

/-- A position's scale. -/
theorem scale_apply (o : FVec Ideal S128x256 .f32) (l : Fin 256) : scale o (ix2 0 l) = scaleE fun c => o (ix2 c l) := by
  pointwise [scale]
  rw [expon_apply]
  rfl

/-- The codes. -/
theorem code_apply (o : FVec Ideal S128x256 .f32) (c : Fin 128) (l : Fin 256) : code o (ix2 c l) = codeE (fun c => o (ix2 c l)) c := by
  pointwise [code]
  rw [expon_apply]
  rfl

/-- The codes as stored. -/
theorem codeRows_apply (o : FVec Ideal S128x256 .f32) (c : Fin 128) (l : Fin 256) : codeRows o (ix3 0 l c) = codeE (fun c => o (ix2 c l)) c := by
  pointwise [codeRows]
  exact code_apply o c l

/-- The decoded attention. -/
theorem deq_apply (o : FVec Ideal S128x256 .f32) (c : Fin 128) (l : Fin 256) : deq o (ix2 c l) = deqE (fun c => o (ix2 c l)) c := by
  pointwise [deq]
  rw [code_apply, scale_apply]
  rfl

/-- The projection plus the residual. -/
theorem resid_apply (w : FVec Ideal S256x256 .bf16) (x : FVec Ideal S256x256 .f32) (o : FVec Ideal S128x256 .f32) (d l : Fin 256) :
    resid w x (deq o) (ix2 d l) = resE (fun d c => w (ix2 d c)) (fun d => x (ix2 d l)) (fun c => o (ix2 c l)) d := by
  pointwise [resid]
  simp only [deq_apply]
  rfl

/-- The image rows, of a scale and an offset that each lane repeats. -/
theorem setImg_apply (w : FVec Ideal S256x256 .bf16) (x : FVec Ideal S256x256 .f32) (g b : FVec Ideal S256x128 .f32) (o : FVec Ideal S128x256 .f32)
    (g' b' : Fin 256 → EReal) (hg : ∀ d l, g (ix2 d l) = g' d) (hb : ∀ d l, b (ix2 d l) = b' d) (d l : Fin 256) :
    setImg w x g b o (ix3 0 l d) = imgE (resE (fun d c => w (ix2 d c)) (fun d => x (ix2 d l)) fun c => o (ix2 c l)) g' b' d := by
  unfold setImg
  pointwise [normed]
  simp only [hg, hb, resid_apply, dite_eq_ite, ite_self]
  rfl

/-- One set's scores are the tile's. -/
theorem setScore_apply (s : FVec Ideal S8x5x8x256 .f32) (j : Fin 8) (h : S8x5x8x256.Slices ![j.val, 0, 0, 0] S1x5x8x256) (a : Fin 5) (r : Fin 8) (l : Fin 256) :
    setScore s ![j.val, 0, 0, 0] h (ix3 a r l) = s (ix4 j a r l) := by
  pointwise [setScore]

/-- One set's attention. -/
theorem setAttn_apply (s : FVec Ideal S8x5x8x256 .f32) (j : Fin 8) (h : S8x5x8x256.Slices ![j.val, 0, 0, 0] S1x5x8x256) (v : FVec Ideal S1x128x240 .bf16)
    (sc : Fin 10 → Fin 4 → EReal) (l : Fin 256) (hs : ∀ (a : Fin 5) (r : Fin 8), s (ix4 j a r l) = sc (tok a r) (head r)) (c : Fin 128) :
    setAttn s ![j.val, 0, 0, 0] h v (ix2 c l) = attE sc fun x => v (ix3 0 c x) :=
  attn_apply v _ sc l (prob_apply _ sc l (expo_apply _ sc l fun a r => (setScore_apply s j h a r l).trans (hs a r))) c

end Cert.Tile

end
-- ==== Proof.BlockVal.lean ====
/- What the body leaves of each result at a grid point, at an index: functions of the point's blocks. -/
module

public import proofs.«01_k».proof.Proof.Blocks
public import proofs.«01_k».proof.Proof.Point
public import Idealize.ShloMosaic.Lib.Pipeline.ValueKit

@[expose] public section

set_option maxRecDepth 16384

noncomputable section

namespace Cert.Tile

open Cert.KernelIdeal Cert.KernelIdeal.Gen Cert.Core Idealize.ShloMosaic

/-- The attention of a block's set at a position. -/
def attnB (x0 : Vec Ideal S320x384 .bf16) (x1 : Vec Ideal S8x128x240 .bf16) (x2 : Vec Ideal S384x4096 .bf16) (j : Fin 8) (s : Fin 4096) : Fin 128 → EReal :=
  fun c => attE (fun n h => scE (fun y => x0 (ix2 ⟨j.val * 40 + n.val * 4 + h.val, by omega⟩ y)) (fun y => x2 (ix2 y s))) (fun x => x1 (ix3 j c x))

/-- A rectangle of a matrix, at an index. -/
theorem ld_apply₂ {A B a b : ℕ} {e : EltTy} (X : (⟨2, ![A, B]⟩ : Shape).Idx → Elt Ideal e) (off : Fin 2 → ℕ)
    (h : ∀ x, off x + (![a, b] : Fin 2 → ℕ) x ≤ (⟨2, ![A, B]⟩ : Shape).size x) (p : Fin a) (q : Fin b) (p' : Fin A) (q' : Fin B)
    (hp' : p'.val = off 0 + p.val) (hq' : q'.val = off 1 + q.val) :
    View.ld X (Rect.unit (s := ⟨2, ![A, B]⟩) off ![a, b] h) (ix2 p q) = X (ix2 p' q') := by
  refine congrArg X (funext fun x => Fin.ext ?_)
  fin_cases x
  · have e := ValueKit.rect_emb_unit_val (s := ⟨2, ![A, B]⟩) off ![a, b] h (ix2 p q) 0
    exact e.trans hp'.symm
  · have e := ValueKit.rect_emb_unit_val (s := ⟨2, ![A, B]⟩) off ![a, b] h (ix2 p q) 1
    exact e.trans hq'.symm

/-- A rectangle of a stack of matrices, at an index. -/
theorem ld_apply₃ {A B C a b c : ℕ} {e : EltTy} (X : (⟨3, ![A, B, C]⟩ : Shape).Idx → Elt Ideal e) (off : Fin 3 → ℕ)
    (h : ∀ x, off x + (![a, b, c] : Fin 3 → ℕ) x ≤ (⟨3, ![A, B, C]⟩ : Shape).size x) (p : Fin a) (q : Fin b) (r : Fin c) (p' : Fin A) (q' : Fin B) (r' : Fin C)
    (hp' : p'.val = off 0 + p.val) (hq' : q'.val = off 1 + q.val) (hr' : r'.val = off 2 + r.val) :
    View.ld X (Rect.unit (s := ⟨3, ![A, B, C]⟩) off ![a, b, c] h) (ix3 p q r) = X (ix3 p' q' r') := by
  refine congrArg X (funext fun x => Fin.ext ?_)
  fin_cases x
  · have e := ValueKit.rect_emb_unit_val (s := ⟨3, ![A, B, C]⟩) off ![a, b, c] h (ix3 p q r) 0
    exact e.trans hp'.symm
  · have e := ValueKit.rect_emb_unit_val (s := ⟨3, ![A, B, C]⟩) off ![a, b, c] h (ix3 p q r) 1
    exact e.trans hq'.symm
  · have e := ValueKit.rect_emb_unit_val (s := ⟨3, ![A, B, C]⟩) off ![a, b, c] h (ix3 p q r) 2
    exact e.trans hr'.symm

/-- A limb of the keys, at an index. -/
theorem limb_apply (x0 : Vec Ideal S320x384 .bf16) (l : Fin 3) (r : Fin 320) (x : Fin 128) :
    limb x0 l (ix2 r x) = x0 (ix2 r ⟨l.val * 128 + x.val, by omega⟩) :=
  ld_apply₂ x0 _ (inb_key l) r x r _ (show r.val = 0 + r.val by omega) rfl

/-- The attention of a set in a trip, at an index. -/
theorem pointAttn_apply (i : grid0.Coords) (k : Fin k0_t1_loop.trips) (x0 : Vec Ideal S320x384 .bf16) (x1 : Vec Ideal S8x128x240 .bf16)
    (x2 : Vec Ideal S384x4096 .bf16) (j : Fin 8) (c : Fin 128) (l : Fin 256) (s : Fin 4096) (hs : s.val = 1024 * (i 1).val + 256 * k.val + l.val) :
    pointAttn i k x0 x1 x2 j (ix2 c l) = attnB x0 x1 x2 j s c := by
  unfold pointAttn tripAttn attnB
  have hval : ∀ x, View.ld x1 (Rect.unit (s := S8x128x240) ![j.val, 0, 0] S1x128x240.size (inb_val j)) (ix3 0 c x) = x1 (ix3 j c x) := fun x =>
    ld_apply₃ x1 _ (inb_val j) 0 c x j c x rfl (show c.val = 0 + c.val by omega) (show x.val = 0 + x.val by omega)
  simp only [← hval]
  refine setAttn_apply _ j (slices_set j) _ (fun n h => scE (fun y => x0 (ix2 ⟨j.val * 40 + n.val * 4 + h.val, by omega⟩ y)) (fun y => x2 (ix2 y s))) l ?_ c
  intro a r
  have hrow : (⟨j.val * 40 + (tok a r).val * 4 + (head r).val, by have := (tok a r).isLt; have := (head r).isLt; omega⟩ : Fin 320) = ⟨j.val * 40 + a.val * 8 + r.val, by omega⟩ :=
    Fin.ext (by simp only [tok, head]; omega)
  dsimp only
  rw [hrow]
  refine score_apply _ _ _ _ _ _ _ _ j a r l (fun x => (limb_apply x0 0 _ x).trans ?_) (fun x => (limb_apply x0 1 _ x).trans ?_) (fun x => (limb_apply x0 2 _ x).trans ?_)
    (fun x => ?_) (fun x => ?_) (fun x => ?_)
  · rfl
  · rfl
  · rfl
  · exact ld_apply₂ x2 (k0_off1 i k) (k0_off1_inb i k) x l _ s (by rw [k0_off1_eq]; rfl) (by rw [k0_off1_eq]; exact hs)
  · exact ld_apply₂ x2 (k0_off2 i k) (k0_off2_inb i k) x l _ s (by rw [k0_off2_eq]; rfl) (by rw [k0_off2_eq]; exact hs)
  · exact ld_apply₂ x2 (k0_off3 i k) (k0_off3_inb i k) x l _ s (by rw [k0_off3_eq]; rfl) (by rw [k0_off3_eq]; exact hs)

/-- The image row of a set in a trip, at an index. -/
theorem pointImg_apply (i : grid0.Coords) (k : Fin k0_t1_loop.trips) (x3 : Vec Ideal S256x4096 .f32) (x4 : Vec Ideal S256x256 .bf16) (x5 x6 : Vec Ideal S256x128 .f32)
    (g b : Fin 256 → EReal) (hg : ∀ d l, x5 (ix2 d l) = g d) (hb : ∀ d l, x6 (ix2 d l) = b d)
    (o : FVec Ideal S128x256 .f32) (o' : Fin 128 → EReal) (l d : Fin 256) (ho : ∀ c, o (ix2 c l) = o' c) (s : Fin 4096) (hs : s.val = 1024 * (i 1).val + 256 * k.val + l.val) :
    tripImg i k (View.ld x4 (Rect.unit (s := S256x256) ![0, 0] S256x256.size inb_S256x256_S256x256_0_0)) x3 x5 x6 o (ix3 0 l d)
      = imgE (resE (fun d c => x4 (ix2 d c)) (fun d => x3 (ix2 d s)) o') g b d := by
  unfold tripImg
  refine (setImg_apply _ _ _ _ o g b (fun d l => (ld_apply₂ x5 _ inb_S256x128_S256x128_0_0 d l d l (show d.val = 0 + d.val by omega) (show l.val = 0 + l.val by omega)).trans (hg d l))
    (fun d l => (ld_apply₂ x6 _ inb_S256x128_S256x128_0_0 d l d l (show d.val = 0 + d.val by omega) (show l.val = 0 + l.val by omega)).trans (hb d l)) d l).trans ?_
  have e4 : ∀ d c : Fin 256, View.ld x4 (Rect.unit (s := S256x256) ![0, 0] S256x256.size inb_S256x256_S256x256_0_0) (ix2 d c) = x4 (ix2 d c) := fun d c =>
    ld_apply₂ x4 _ inb_S256x256_S256x256_0_0 d c d c (show d.val = 0 + d.val by omega) (show c.val = 0 + c.val by omega)
  have e3 : ∀ d : Fin 256, View.ld x3 (Rect.unit (s := S256x4096) (k0_off6 i k) S256x256.size (k0_off6_inb i k)) (ix2 d l) = x3 (ix2 d s) := fun d =>
    ld_apply₂ x3 _ (k0_off6_inb i k) d l d s (by rw [k0_off6_eq]; show d.val = 0 + d.val; omega) (by rw [k0_off6_eq]; exact hs)
  simp only [e4, e3, ho]

variable (c : Dev nD) (i : grid0.Coords)
  (arg2 : Memref sig .tc .vmem S320x384 .bf16) (harg2 : arg2.IsWhole)
  (arg3 : Memref sig .tc .vmem S8x128x240 .bf16) (harg3 : arg3.IsWhole)
  (arg4 : Memref sig .tc .vmem S384x4096 .bf16) (harg4 : arg4.IsWhole)
  (arg5 : Memref sig .tc .vmem S256x4096 .f32) (harg5 : arg5.IsWhole)
  (arg6 : Memref sig .tc .vmem S256x256 .bf16) (harg6 : arg6.IsWhole)
  (arg7 : Memref sig .tc .vmem S256x128 .f32) (harg7 : arg7.IsWhole)
  (arg8 : Memref sig .tc .vmem S256x128 .f32) (harg8 : arg8.IsWhole)
  (arg9 : Memref sig .tc .vmem S8x1024x256 .bf16) (harg9 : arg9.IsWhole)
  (arg10 : Memref sig .tc .vmem S8x1024x128 .fp8e4m3) (harg10 : arg10.IsWhole)
  (arg11 : Memref sig .tc .vmem S8x1024 .f32) (harg11 : arg11.IsWhole)
  (x0 : Vec Ideal S320x384 .bf16) (x1 : Vec Ideal S8x128x240 .bf16) (x2 : Vec Ideal S384x4096 .bf16) (x3 : Vec Ideal S256x4096 .f32) (x4 : Vec Ideal S256x256 .bf16) (x5 x6 : Vec Ideal S256x128 .f32)

/-- The position of a point's column. -/
def pos (i : grid0.Coords) (p : Fin 1024) : Fin 4096 := ⟨1024 * (i 1).val + p.val, by have h : (i 1).val < 4 := (i 1).isLt; omega⟩

/-- The scales a point leaves. -/
theorem out_s (j : Fin 8) (p : Fin 1024) : out0_A_9 (F := Ideal) c i arg2 harg2 arg3 harg3 arg4 harg4 arg5 harg5 arg6 harg6 arg7 harg7 arg8 harg8 arg9 harg9 arg10 harg10 arg11 harg11 x0 x1 x2 x3 x4 x5 x6 (ix2 j p) = scaleE (attnB x0 x1 x2 j (pos i p)) := by
  unfold out0_A_9
  refine View.read_writes_apply_of_pieces VO0_9 _ (fun y : S8x1024.Idx => (scaleE (attnB x0 x1 x2 (y 0) (pos i (y 1))) : EReal)) _ ?_ (ix2 j p) (cover0_A_9 (F := Ideal) c i arg2 harg2 arg3 harg3 arg4 harg4 arg5 harg5 arg6 harg6 arg7 harg7 arg8 harg8 arg9 harg9 arg10 harg10 arg11 harg11 x0 x1 x2 x3 x4 x5 x6 (ix2 j p))
  intro q hq x
  obtain ⟨k, j', h, rfl⟩ := run_pieces_s c i arg2 harg2 arg3 harg3 arg4 harg4 arg5 harg5 arg6 harg6 arg7 harg7 arg8 harg8 arg9 harg9 arg10 harg10 arg11 harg11 x0 x1 x2 x3 x4 x5 x6 q hq
  obtain ⟨u, l, rfl⟩ : ∃ (u : Fin 1) (l : Fin 256), x = ix2 u l := ⟨x 0, x 1, eq_ix2 x⟩
  obtain rfl : u = 0 := Subsingleton.elim _ _
  dsimp only
  refine (scale_apply _ l).trans ?_
  have e0 : (Rect.unit (s := S8x1024) ![j'.val, 256 * k.val] S1x256.size h).emb (ix2 0 l) 0 = j' := Fin.ext (by rw [ValueKit.rect_emb_unit_val]; rfl)
  have e1 : ((Rect.unit (s := S8x1024) ![j'.val, 256 * k.val] S1x256.size h).emb (ix2 0 l) 1).val = 256 * k.val + l.val := by rw [ValueKit.rect_emb_unit_val]; rfl
  rw [e0]
  refine congrArg scaleE (funext fun c => pointAttn_apply i k x0 x1 x2 j' c l _ ?_)
  show 1024 * (i 1).val + _ = _
  rw [e1]; omega

/-- The codes a point leaves. -/
theorem out_c (j : Fin 8) (p : Fin 1024) (ch : Fin 128) : out0_A_8 (F := Ideal) c i arg2 harg2 arg3 harg3 arg4 harg4 arg5 harg5 arg6 harg6 arg7 harg7 arg8 harg8 arg9 harg9 arg10 harg10 arg11 harg11 x0 x1 x2 x3 x4 x5 x6 (ix3 j p ch) = codeE (attnB x0 x1 x2 j (pos i p)) ch := by
  unfold out0_A_8
  refine View.read_writes_apply_of_pieces VO0_8 _ (fun y : S8x1024x128.Idx => (codeE (attnB x0 x1 x2 (y 0) (pos i (y 1))) (y 2) : EReal)) _ ?_ (ix3 j p ch) (cover0_A_8 (F := Ideal) c i arg2 harg2 arg3 harg3 arg4 harg4 arg5 harg5 arg6 harg6 arg7 harg7 arg8 harg8 arg9 harg9 arg10 harg10 arg11 harg11 x0 x1 x2 x3 x4 x5 x6 (ix3 j p ch))
  intro q hq x
  obtain ⟨k, j', h, rfl⟩ := run_pieces_c c i arg2 harg2 arg3 harg3 arg4 harg4 arg5 harg5 arg6 harg6 arg7 harg7 arg8 harg8 arg9 harg9 arg10 harg10 arg11 harg11 x0 x1 x2 x3 x4 x5 x6 q hq
  obtain ⟨u, l, d, rfl⟩ : ∃ (u : Fin 1) (l : Fin 256) (d : Fin 128), x = ix3 u l d := ⟨x 0, x 1, x 2, eq_ix3 x⟩
  obtain rfl : u = 0 := Subsingleton.elim _ _
  dsimp only
  refine (codeRows_apply _ d l).trans ?_
  have e0 : (Rect.unit (s := S8x1024x128) ![j'.val, 256 * k.val, 0] S1x256x128.size h).emb (ix3 0 l d) 0 = j' := Fin.ext (by rw [ValueKit.rect_emb_unit_val]; rfl)
  have e1 : ((Rect.unit (s := S8x1024x128) ![j'.val, 256 * k.val, 0] S1x256x128.size h).emb (ix3 0 l d) 1).val = 256 * k.val + l.val := by rw [ValueKit.rect_emb_unit_val]; rfl
  have e2 : (Rect.unit (s := S8x1024x128) ![j'.val, 256 * k.val, 0] S1x256x128.size h).emb (ix3 0 l d) 2 = d := Fin.ext (by rw [ValueKit.rect_emb_unit_val]; exact Nat.zero_add _)
  rw [e0, e2]
  refine congrArg (codeE · d) (funext fun c => pointAttn_apply i k x0 x1 x2 j' c l _ ?_)
  show 1024 * (i 1).val + _ = _
  rw [e1]; omega

/-- The image rows a point leaves. -/
theorem out_i (g b : Fin 256 → EReal) (hg : ∀ d l, x5 (ix2 d l) = g d) (hb : ∀ d l, x6 (ix2 d l) = b d) (j : Fin 8) (p : Fin 1024) (d : Fin 256) :
    out0_A_7 (F := Ideal) c i arg2 harg2 arg3 harg3 arg4 harg4 arg5 harg5 arg6 harg6 arg7 harg7 arg8 harg8 arg9 harg9 arg10 harg10 arg11 harg11 x0 x1 x2 x3 x4 x5 x6 (ix3 j p d)
      = imgE (resE (fun d c => x4 (ix2 d c)) (fun d => x3 (ix2 d (pos i p))) (attnB x0 x1 x2 j (pos i p))) g b d := by
  unfold out0_A_7
  refine View.read_writes_apply_of_pieces VO0_7 _ (fun y : S8x1024x256.Idx => (imgE (resE (fun d c => x4 (ix2 d c)) (fun d => x3 (ix2 d (pos i (y 1)))) (attnB x0 x1 x2 (y 0) (pos i (y 1)))) g b (y 2) : EReal)) _ ?_ (ix3 j p d) (cover0_A_7 (F := Ideal) c i arg2 harg2 arg3 harg3 arg4 harg4 arg5 harg5 arg6 harg6 arg7 harg7 arg8 harg8 arg9 harg9 arg10 harg10 arg11 harg11 x0 x1 x2 x3 x4 x5 x6 (ix3 j p d))
  intro q hq x
  obtain ⟨k, j', h, rfl⟩ := run_pieces_i c i arg2 harg2 arg3 harg3 arg4 harg4 arg5 harg5 arg6 harg6 arg7 harg7 arg8 harg8 arg9 harg9 arg10 harg10 arg11 harg11 x0 x1 x2 x3 x4 x5 x6 q hq
  obtain ⟨u, l, e, rfl⟩ : ∃ (u : Fin 1) (l : Fin 256) (e : Fin 256), x = ix3 u l e := ⟨x 0, x 1, x 2, eq_ix3 x⟩
  obtain rfl : u = 0 := Subsingleton.elim _ _
  dsimp only
  have e0 : (Rect.unit (s := S8x1024x256) ![j'.val, 256 * k.val, 0] S1x256x256.size h).emb (ix3 0 l e) 0 = j' := Fin.ext (by rw [ValueKit.rect_emb_unit_val]; rfl)
  have e1 : ((Rect.unit (s := S8x1024x256) ![j'.val, 256 * k.val, 0] S1x256x256.size h).emb (ix3 0 l e) 1).val = 256 * k.val + l.val := by rw [ValueKit.rect_emb_unit_val]; rfl
  have e2 : (Rect.unit (s := S8x1024x256) ![j'.val, 256 * k.val, 0] S1x256x256.size h).emb (ix3 0 l e) 2 = e := Fin.ext (by rw [ValueKit.rect_emb_unit_val]; exact Nat.zero_add _)
  rw [e0, e2]
  have hs : (pos i ((Rect.unit (s := S8x1024x256) ![j'.val, 256 * k.val, 0] S1x256x256.size h).emb (ix3 0 l e) 1)).val = 1024 * (i 1).val + 256 * k.val + l.val := by
    show 1024 * (i 1).val + _ = _
    rw [e1]; omega
  exact pointImg_apply i k x3 x4 x5 x6 g b hg hb _ _ l e (fun c => pointAttn_apply i k x0 x1 x2 j' c l _ hs) _ hs

end Cert.Tile

end
-- ==== Proof.Goal.lean ====
/- The results of the whole arrays at an index, as functions of the arguments. -/
module

public import proofs.«01_k».proof.Proof.Core
public import Idealize.ShloMosaic.Lib.Pointwise

@[expose] public section

set_option maxRecDepth 16384

noncomputable section

namespace Cert.Core

open Idealize.ShloMosaic

/-- The attention of a set at a position: its 128 channels. -/
def attG (k : (⟨2, ![8960, 384]⟩ : Shape).Idx → EReal) (v : (⟨3, ![224, 128, 240]⟩ : Shape).Idx → EReal) (q : (⟨2, ![384, 4096]⟩ : Shape).Idx → EReal)
    (b : Fin 224) (s : Fin 4096) : Fin 128 → EReal :=
  fun c => attE (fun n h => scE (fun y => k (ix2 ⟨b.val * 40 + n.val * 4 + h.val, by omega⟩ y)) (fun y => q (ix2 y s))) (fun x => v (ix3 b c x))

/-- The image row of a set at a position: its 256 channels. -/
def imgG (k : (⟨2, ![8960, 384]⟩ : Shape).Idx → EReal) (v : (⟨3, ![224, 128, 240]⟩ : Shape).Idx → EReal) (q : (⟨2, ![384, 4096]⟩ : Shape).Idx → EReal)
    (x : (⟨2, ![256, 4096]⟩ : Shape).Idx → EReal) (w : (⟨2, ![256, 256]⟩ : Shape).Idx → EReal) (g b : (⟨1, ![256]⟩ : Shape).Idx → EReal)
    (n : Fin 224) (s : Fin 4096) : Fin 256 → EReal :=
  imgE (resE (fun d c => w (ix2 d c)) (fun d => x (ix2 d s)) (attG k v q n s)) (fun d => g (ix1 d)) (fun d => b (ix1 d))

end Cert.Core

end
-- ==== Proof.Arrays.lean ====
/- What the kernel's call leaves in its three results, at an index: functions of the arguments. -/
module

public import proofs.«01_k».proof.Proof.BlockVal
public import proofs.«01_k».proof.Proof.Goal
public import proofs.«01_k».proof.Proof.Gen.KernelIdeal.Value

@[expose] public section

set_option maxRecDepth 16384

noncomputable section

namespace Cert.Tile

open Cert.KernelIdeal Cert.KernelIdeal.Gen Cert.Core Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- Argument 0 as launched. -/
abbrev A0 : Vec Ideal S8960x384 .bf16 := m ((c : Thread nD τ).loc main_arg0)
/-- Argument 1 as launched. -/
abbrev A1 : Vec Ideal S224x128x240 .bf16 := m ((c : Thread nD τ).loc main_arg1)
/-- Argument 2 as launched. -/
abbrev A2 : Vec Ideal S384x4096 .bf16 := m ((c : Thread nD τ).loc main_arg2)
/-- Argument 3 as launched. -/
abbrev A3 : Vec Ideal S256x4096 .f32 := m ((c : Thread nD τ).loc main_arg3)
/-- Argument 4 as launched. -/
abbrev A4 : Vec Ideal S256x256 .bf16 := m ((c : Thread nD τ).loc main_arg4)
/-- Argument 5 as launched. -/
abbrev A5 : Vec Ideal S256 .f32 := m ((c : Thread nD τ).loc main_arg5)
/-- Argument 6 as launched. -/
abbrev A6 : Vec Ideal S256 .f32 := m ((c : Thread nD τ).loc main_arg6)

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![(grid0.coords t 0).val, (grid0.coords t 1).val, 0] := (by decide +kernel : ∀ t : Fin grid0.N, _)
theorem e8 : ∀ t : Fin cfg0.N, win0_8.index t = ![(grid0.coords t 0).val, (grid0.coords t 1).val, 0] := (by decide +kernel : ∀ t : Fin grid0.N, _)
theorem e9 : ∀ t : Fin cfg0.N, win0_9.index t = ![(grid0.coords t 0).val, (grid0.coords t 1).val] := (by decide +kernel : ∀ t : Fin grid0.N, _)

/-- The keys' block of a point. -/
theorem blk_0 (t : Fin cfg0.N) (r : Fin 320) (y : Fin 384) (r' : Fin 8960) (h : r'.val = 320 * (grid0.coords t 0).val + r.val) :
    iblk (F := Ideal) m c 0 t (ix2 r y) = A0 m c (ix2 r' y) := by
  unfold A0
  rw [← V_main_arg0 m c]
  refine congrArg (V m c main_arg0) (funext fun a => Fin.ext ?_)
  fin_cases a <;> blk_simp [e0] <;> simp [h] <;> omega

/-- The values' block of a point. -/
theorem blk_1 (t : Fin cfg0.N) (j : Fin 8) (ch : Fin 128) (x : Fin 240) (j' : Fin 224) (h : j'.val = 8 * (grid0.coords t 0).val + j.val) :
    iblk (F := Ideal) m c 1 t (ix3 j ch x) = A1 m c (ix3 j' ch x) := by
  unfold A1
  rw [← V_main_arg1 m c]
  refine congrArg (V m c main_arg1) (funext fun a => Fin.ext ?_)
  fin_cases a <;> blk_simp [e1] <;> simp [h] <;> omega

/-- The queries are read whole. -/
theorem blk_2 (t : Fin cfg0.N) (y : Fin 384) (s : Fin 4096) :
    iblk (F := Ideal) m c 2 t (ix2 y s) = A2 m c (ix2 y s) := by
  unfold A2
  rw [← V_main_arg2 m c]
  refine congrArg (V m c main_arg2) (funext fun a => Fin.ext ?_)
  fin_cases a <;> blk_simp [e2] <;> simp

/-- The residual is read whole. -/
theorem blk_3 (t : Fin cfg0.N) (d : Fin 256) (s : Fin 4096) :
    iblk (F := Ideal) m c 3 t (ix2 d s) = A3 m c (ix2 d s) := by
  unfold A3
  rw [← V_main_arg3 m c]
  refine congrArg (V m c main_arg3) (funext fun a => Fin.ext ?_)
  fin_cases a <;> blk_simp [e3] <;> simp

/-- The weight is read whole. -/
theorem blk_4 (t : Fin cfg0.N) (d e : Fin 256) :
    iblk (F := Ideal) m c 4 t (ix2 d e) = A4 m c (ix2 d e) := by
  unfold A4
  rw [← V_main_arg4 m c]
  refine congrArg (V m c main_arg4) (funext fun a => Fin.ext ?_)
  fin_cases a <;> blk_simp [e4] <;> simp

/-- Every lane of the fifth operand holds the gain. -/
theorem gain_lane (d : Fin 256) (l : Fin 128) : V (F := Ideal) m c main_v1 (ix2 d l) = A5 m c (ix1 d) := by
  have h : V (F := Ideal) m c main_v1 = broadcastInDim S256x128 ![0, 1] bcast_S256x1_S256x128_0_1 (broadcastInDim S256x1 ![0] bcast_S256_S256x1_0 (A5 m c)) := by
    show StableHlo.after hostOps0 _ _ = _
    simp only [hostOps0]
    after_results
  rw [h]
  pointwise []

/-- Every lane of the sixth operand holds the bias. -/
theorem bias_lane (d : Fin 256) (l : Fin 128) : V (F := Ideal) m c main_v3 (ix2 d l) = A6 m c (ix1 d) := by
  have h : V (F := Ideal) m c main_v3 = broadcastInDim S256x128 ![0, 1] bcast_S256x1_S256x128_0_1 (broadcastInDim S256x1 ![0] bcast_S256_S256x1_0 (A6 m c)) := by
    show StableHlo.after hostOps0 _ _ = _
    simp only [hostOps0]
    after_results
  rw [h]
  pointwise []

/-- The gain's block of a point. -/
theorem blk_5 (t : Fin cfg0.N) (d : Fin 256) (l : Fin 128) :
    iblk (F := Ideal) m c 5 t (ix2 d l) = A5 m c (ix1 d) := by
  rw [← gain_lane m c d l]
  refine congrArg (V m c main_v1) (funext fun a => Fin.ext ?_)
  fin_cases a <;> blk_simp [e5] <;> simp

/-- The bias' block of a point. -/
theorem blk_6 (t : Fin cfg0.N) (d : Fin 256) (l : Fin 128) :
    iblk (F := Ideal) m c 6 t (ix2 d l) = A6 m c (ix1 d) := by
  rw [← bias_lane m c d l]
  refine congrArg (V m c main_v3) (funext fun a => Fin.ext ?_)
  fin_cases a <;> blk_simp [e6] <;> simp

/-- The attention of the arguments. -/
abbrev attM (b : Fin 224) (s : Fin 4096) : Fin 128 → EReal :=
  attG (A0 m c) (A1 m c) (A2 m c) b s

/-- A point's attention is that of the arguments. -/
theorem attnB_blk (t : Fin cfg0.N) (j : Fin 8) (p : Fin 1024) (b : Fin 224) (s : Fin 4096) (hb : b.val = 8 * (grid0.coords t 0).val + j.val)
    (hs : s.val = 1024 * (grid0.coords t 1).val + p.val) :
    attnB (iblk m c 0 t) (iblk m c 1 t) (iblk m c 2 t) j (pos (grid0.coords t) p) = attM m c b s := by
  obtain rfl : pos (grid0.coords t) p = s := Fin.ext hs.symm
  funext ch
  unfold attM attG attnB
  simp only [blk_2]
  have e : ∀ (n : Fin 10) (h : Fin 4) (y : Fin 384), iblk (F := Ideal) m c 0 t (ix2 ⟨j.val * 40 + n.val * 4 + h.val, by omega⟩ y)
      = A0 m c (ix2 ⟨b.val * 40 + n.val * 4 + h.val, by omega⟩ y) := fun n h y => blk_0 m c t _ y _ (by dsimp only; omega)
  have e' : ∀ x, iblk (F := Ideal) m c 1 t (ix3 j ch x) = A1 m c (ix3 b ch x) := fun x => blk_1 m c t j ch x b hb
  simp only [e, e']

/-- The call's scales. -/
theorem scales : (dats (F := Ideal) m 0 c).arrAt 9 cfg0.N = (fun y : S224x4096.Idx => scaleE (attM m c (y 0) (y 1)) : S224x4096.Idx → EReal) := by
  refine (dats m 0 c).arrAt_eq_of_covers 9 _ (by decide +kernel) fun t hf y => ?_
  obtain ⟨j, p, rfl⟩ : ∃ (j : Fin 8) (p : Fin 1024), y = ix2 j p := ⟨y 0, y 1, eq_ix2 (n0 := 8) (n1 := 1024) y⟩
  blk_simp
  rw [after0_9]
  unfold outsAt0
  dsimp only
  refine (out_s ..).trans (congrArg scaleE (attnB_blk m c t j p _ _ ?_ ?_))
  · blk_simp [e9]; simp; omega
  · blk_simp [e9]; simp; omega

/-- The call's codes. -/
theorem codes : (dats (F := Ideal) m 0 c).arrAt 8 cfg0.N = (fun y : S224x4096x128.Idx => codeE (attM m c (y 0) (y 1)) (y 2) : S224x4096x128.Idx → EReal) := by
  refine (dats m 0 c).arrAt_eq_of_covers 8 _ (by decide +kernel) fun t hf y => ?_
  obtain ⟨j, p, ch, rfl⟩ : ∃ (j : Fin 8) (p : Fin 1024) (ch : Fin 128), y = ix3 j p ch := ⟨y 0, y 1, y 2, eq_ix3 (n0 := 8) (n1 := 1024) (n2 := 128) y⟩
  blk_simp
  rw [after0_8]
  unfold outsAt0
  dsimp only
  refine (out_c ..).trans (congrArg₂ codeE (attnB_blk m c t j p _ _ ?_ ?_) (Fin.ext ?_))
  · blk_simp [e8]; simp; omega
  · blk_simp [e8]; simp; omega
  · blk_simp [e8]

/-- The call's image. -/
theorem image : (dats (F := Ideal) m 0 c).arrAt 7 cfg0.N
    = (fun y : S224x4096x256.Idx => imgG (A0 m c) (A1 m c) (A2 m c)
        (A3 m c) (A4 m c) (A5 m c) (A6 m c) (y 0) (y 1) (y 2)
        : S224x4096x256.Idx → EReal) := by
  refine (dats m 0 c).arrAt_eq_of_covers 7 _ (by decide +kernel) fun t hf y => ?_
  obtain ⟨j, p, d, rfl⟩ : ∃ (j : Fin 8) (p : Fin 1024) (d : Fin 256), y = ix3 j p d := ⟨y 0, y 1, y 2, eq_ix3 (n0 := 8) (n1 := 1024) (n2 := 256) y⟩
  blk_simp
  rw [after0_7]
  unfold outsAt0
  dsimp only
  refine (out_i (hg := blk_5 m c t) (hb := blk_6 m c t) ..).trans ?_
  have key : ∀ (b : Fin 224) (s : Fin 4096) (d' : Fin 256), b.val = 8 * (grid0.coords t 0).val + j.val → s.val = 1024 * (grid0.coords t 1).val + p.val → d'.val = d.val →
      imgE (resE (fun d e => iblk (F := Ideal) m c 4 t (ix2 d e)) (fun d => iblk (F := Ideal) m c 3 t (ix2 d (pos (grid0.coords t) p)))
        (attnB (iblk m c 0 t) (iblk m c 1 t) (iblk m c 2 t) j (pos (grid0.coords t) p))) (fun d => A5 m c (ix1 d)) (fun d => A6 m c (ix1 d)) d
      = imgG (A0 m c) (A1 m c) (A2 m c) (A3 m c) (A4 m c) (A5 m c) (A6 m c) b s d' := by
    intro b s d' hb hs hd
    obtain rfl : d' = d := Fin.ext hd
    rw [attnB_blk m c t j p b s hb hs]
    obtain rfl : pos (grid0.coords t) p = s := Fin.ext hs.symm
    simp only [blk_4, blk_3]
    rfl
  refine key _ _ _ ?_ ?_ ?_
  · blk_simp [e7]; simp; omega
  · blk_simp [e7]; simp; omega
  · blk_simp [e7]

end Cert.Tile

end
-- ==== Proof.RefTerm.lean ====
/- What the reference computes before its quantiser, as functions of its arguments, and these functions read at an index. -/
module

public import Idealize.ShloMosaic.Lib.Pointwise
public import proofs.«01_k».proof.Proof.Core
public import proofs.«01_k».proof.Proof.Gen.ReferenceIdeal.Run

@[expose] public section

set_option maxRecDepth 16384

noncomputable section

namespace Cert.Ref

open Cert.ReferenceIdeal Cert.ReferenceIdeal.Gen Idealize.ShloMosaic Idealize.ShloMosaic.StableHlo

variable {F : FTy → Type} [FloatOps F] [Named F]

/-- The keys' limbs, by set, token, head, limb and channel. -/
def keys (k : FVec F S8960x384 .bf16) : FVec F S224x10x4x3x128 .f32 :=
  shapeCast S224x10x4x3x128 (extf .f32 k bitsLt_bf16_f32) shapeCasts_S8960x384_S224x10x4x3x128

/-- The queries' limbs, by limb, channel and position. -/
def queries (q : FVec F S384x4096 .bf16) : FVec F S3x128x4096 .f32 :=
  shapeCast S3x128x4096 (extf .f32 q bitsLt_bf16_f32) shapeCasts_S384x4096_S3x128x4096

/-- The products of one limb of the keys with one of the queries. -/
def dots (k : FVec F S8960x384 .bf16) (q : FVec F S384x4096 .bf16) (oi : Fin 5 → ℕ) (hi : S224x10x4x3x128.Slices oi S224x10x4x1x128)
    (oj : Fin 3 → ℕ) (hj : S3x128x4096.Slices oj S1x128x4096) : FVec F S224x10x4x4096 .f32 :=
  Host.dotGeneral dot_S224x10x4x128_S128x4096_S224x10x4x4096_3_0_012_1_n_n (some .fp32)
    (shapeCast S224x10x4x128 (extractStridedSlice S224x10x4x1x128 oi (keys k) hi) shapeCasts_S224x10x4x1x128_S224x10x4x128)
    (shapeCast S128x4096 (extractStridedSlice S1x128x4096 oj (queries q) hj) shapeCasts_S1x128x4096_S128x4096)

/-- The scores. -/
def scores (k : FVec F S8960x384 .bf16) (q : FVec F S384x4096 .bf16) : FVec F S224x10x4x4096 .f32 :=
  addf (addf (addf (addf (addf
    (dots k q ![0, 0, 0, 0, 0] slices_S224x10x4x3x128_S224x10x4x1x128_0_0_0_0_0 ![0, 0, 0] slices_S3x128x4096_S1x128x4096_0_0_0)
    (dots k q ![0, 0, 0, 1, 0] slices_S224x10x4x3x128_S224x10x4x1x128_0_0_0_1_0 ![0, 0, 0] slices_S3x128x4096_S1x128x4096_0_0_0))
    (dots k q ![0, 0, 0, 0, 0] slices_S224x10x4x3x128_S224x10x4x1x128_0_0_0_0_0 ![1, 0, 0] slices_S3x128x4096_S1x128x4096_1_0_0))
    (dots k q ![0, 0, 0, 2, 0] slices_S224x10x4x3x128_S224x10x4x1x128_0_0_0_2_0 ![0, 0, 0] slices_S3x128x4096_S1x128x4096_0_0_0))
    (dots k q ![0, 0, 0, 1, 0] slices_S224x10x4x3x128_S224x10x4x1x128_0_0_0_1_0 ![1, 0, 0] slices_S3x128x4096_S1x128x4096_1_0_0))
    (dots k q ![0, 0, 0, 0, 0] slices_S224x10x4x3x128_S224x10x4x1x128_0_0_0_0_0 ![2, 0, 0] slices_S3x128x4096_S1x128x4096_2_0_0)

/-- The powers of two of the scores less their maximum. -/
def powers (s : FVec F S224x10x4x4096 .f32) : FVec F S224x10x4x4096 .f32 :=
  Host.exp (mulf (broadcastInDim S224x10x4x4096 ![] bcast_S_S224x10x4x4096 (Host.log (constant S_ .f32 0x40000000#32)))
    (subf s (broadcastInDim S224x10x4x4096 ![0, 1, 2, 3] bcast_S224x1x4x4096_S224x10x4x4096_0_1_2_3
      (broadcastInDim S224x1x4x4096 ![0, 2, 3] bcast_S224x4x4096_S224x1x4x4096_0_2_3
        (Host.reduce FloatOps.maximumf s (constant S_ .f32 0xFF800000#32) reducesTo_S224x10x4x4096_S224x4x4096_d1 h_S_)))))

/-- The softmax over the tokens. -/
def weights (e : FVec F S224x10x4x4096 .f32) : FVec F S224x10x4x4096 .f32 :=
  mulf e (broadcastInDim S224x10x4x4096 ![0, 1, 2, 3] bcast_S224x1x4x4096_S224x10x4x4096_0_1_2_3
    (Host.divf (broadcastInDim S224x1x4x4096 ![] bcast_S_S224x1x4x4096 (constant S_ .f32 0x3F800000#32))
      (broadcastInDim S224x1x4x4096 ![0, 2, 3] bcast_S224x4x4096_S224x1x4x4096_0_2_3
        (Host.reduceAdd e (constant S_ .f32 0x00000000#32) reducesTo_S224x10x4x4096_S224x4x4096_d1 h_S_))))

/-- The values, by set, channel, token and head. -/
def values (v : FVec F S224x128x240 .bf16) : FVec F S224x128x10x4 .f32 :=
  have x : FVec F S224x128x240 .f32 := extf .f32 v bitsLt_bf16_f32
  have a : FVec F S224x128x32 .f32 := addf (addf (extractStridedSlice S224x128x32 ![0, 0, 0] x slices_S224x128x240_S224x128x32_0_0_0)
    (extractStridedSlice S224x128x32 ![0, 0, 32] x slices_S224x128x240_S224x128x32_0_0_32)) (extractStridedSlice S224x128x32 ![0, 0, 64] x slices_S224x128x240_S224x128x32_0_0_64)
  have b : FVec F S224x128x8 .f32 := addf (addf (extractStridedSlice S224x128x8 ![0, 0, 96] x slices_S224x128x240_S224x128x8_0_0_96)
    (extractStridedSlice S224x128x8 ![0, 0, 112] x slices_S224x128x240_S224x128x8_0_0_112)) (extractStridedSlice S224x128x8 ![0, 0, 128] x slices_S224x128x240_S224x128x8_0_0_128)
  shapeCast S224x128x10x4 (concatenate S224x128x40 2 [⟨S224x128x32, a⟩, ⟨S224x128x8, b⟩] concatenates_S224x128x32_S224x128x8_S224x128x40_d2) shapeCasts_S224x128x40_S224x128x10x4

/-- The attention. -/
def attention (k : FVec F S8960x384 .bf16) (v : FVec F S224x128x240 .bf16) (q : FVec F S384x4096 .bf16) : FVec F S224x4096x128 .f32 :=
  Host.dotGeneral dot_S224x10x4x4096_S224x128x10x4_S224x4096x128_21_32_3_1_0_0 (some .fp32) (weights (powers (scores k q))) (values v)

set_option maxHeartbeats 4000000 in
/-- The region finds the attention in its operand. -/
theorem entry (V0 : Valuation τ sig (Elt F)) :
    after (List.flatten [hostOps0]) V0 (Proc.devRef .tc main_v66)
      = attention (F := F) (V0 (Proc.devRef .tc main_arg0)) (V0 (Proc.devRef .tc main_arg1)) (V0 (Proc.devRef .tc main_arg2)) := by
  simp only [hostOps0, List.flatten_cons, List.flatten_nil, List.append_nil, List.cons_append, List.nil_append]
  after_results
  rfl

end Cert.Ref

end
-- ==== Proof.RefQuant.lean ====
/- The reference's scales and codes read at an index. -/
module

public import Idealize.ShloMosaic.Lib.Pointwise
public import proofs.«01_k».proof.Proof.Core
public import proofs.«01_k».proof.Proof.Gen.ReferenceIdeal.Run

@[expose] public section

set_option maxRecDepth 16384

noncomputable section

namespace Cert.Ref

open Cert.ReferenceIdeal Cert.ReferenceIdeal.Gen Idealize.ShloMosaic Idealize.ShloMosaic.StableHlo

/-- The named constant's value. -/
theorem log2e_eq : (Named.named (F := Ideal) κ "log2e" (φ := .f32) 0x3FB8AA3B#32 : EReal) = Core.log2e := rfl

/-- The operand, reshaped to its own shape. -/
theorem pay1_apply (v : Vec Ideal S224x4096x128 .f32) (b : Fin 224) (s : Fin 4096) (c : Fin 128) : k0_pay1 v (ix3 b s c) = v (ix3 b s c) := by
  pointwise [k0_pay1]

/-- The largest magnitude of a row. -/
theorem am_apply (w : FVec Ideal S224x4096x128 .f32) (b : Fin 224) (s : Fin 4096) :
    multiReduction .maximumf [2] S224x4096 (absf w) 0xFF800000#32 reduces_S224x4096x128_S224x4096 (.inl rfl) rfl (ix2 b s) = Core.amE fun c => w (ix3 b s c) := by
  pointwise []
  rfl

/-- The exponent's formula at an index. -/
theorem exp_apply {s : Shape} (m : FVec Ideal s .f32) (i : s.Idx) :
    select (cmpf .oeq m (broadcast s (FloatOps.ofBits .f32 0x00000000#32))) (broadcast s (FloatOps.ofBits .f32 0x00000000#32))
      (addf (floor (mulf (log (mulf m (broadcast s (FloatOps.ofBits .f32 0x3B124925#32)))) (broadcast s (Named.named κ "log2e" 0x3FB8AA3B#32))))
        (broadcast s (FloatOps.ofBits .f32 0x3F800000#32))) i
      = if m i = 0 then 0 else Ideal.liftRound Int.floor (Ideal.log (m i * Ideal.ofBits .f32 0x3B124925#32) * Core.log2e) + 1 := by
  pointwise []
  rw [log2e_eq]

/-- The exponent of a row's scale. -/
theorem pay2_apply (v : Vec Ideal S224x4096x128 .f32) (b : Fin 224) (s : Fin 4096) : k0_pay2 v (ix2 b s) = Core.expE fun c => v (ix3 b s c) := by
  have h := am_apply (k0_pay1 v) b s
  simp only [pay1_apply] at h
  unfold k0_pay2
  dsimp only
  unfold Core.expE
  rw [← h]
  exact exp_apply (s := S224x4096) _ _

/-- Two to a number. -/
theorem two_apply {S : Shape} (e : FVec Ideal S .f32) (i : S.Idx) : exp2 e i = Ideal.exp2 (e i) := rfl

/-- A product at an index. -/
theorem mul_apply {S : Shape} (x y : FVec Ideal S .f32) (i : S.Idx) : mulf x y i = x i * y i := rfl

/-- A wider format at an index. -/
theorem ext_apply {S : Shape} (x : FVec Ideal S .fp8e4m3) (i : S.Idx) : extf .f32 x bitsLt_fp8e4m3_f32 i = x i := rfl

/-- The scale of a row. -/
theorem pay3_apply (v : Vec Ideal S224x4096x128 .f32) (b : Fin 224) (s : Fin 4096) : k0_pay3 v (ix2 b s) = Core.scaleE fun c => v (ix3 b s c) := by
  unfold k0_pay3
  refine (two_apply (S := S224x4096) _ _).trans ?_
  rw [pay2_apply]
  unfold Core.scaleE
  with_reducible rfl

/-- The codes' formula at an index. -/
theorem code_apply {S : Shape} (x y : FVec Ideal S .f32) (i : S.Idx) :
    truncf .fp8e4m3 (minimumf (broadcast S (FloatOps.ofBits .f32 0x43E00000#32)) (maximumf (broadcast S (FloatOps.ofBits .f32 0xC3E00000#32)) (mulf x y))) bitsLt_fp8e4m3_f32 i
      = min (Ideal.ofBits .f32 0x43E00000#32) (max (Ideal.ofBits .f32 0xC3E00000#32) (x i * y i)) := rfl

/-- The reciprocal scale, spread over a row. -/
theorem recip_apply (e : FVec Ideal S224x4096 .f32) (b : Fin 224) (s : Fin 4096) (c : Fin 128) :
    broadcastTo S224x4096x128 (shapeCast S224x4096x1 e shapeCasts_S224x4096_S224x4096x1) broadcasts_S224x4096x1_S224x4096x128 (ix3 b s c) = e (ix2 b s) := by
  pointwise []

/-- Two to minus a number. -/
theorem neg_apply {S : Shape} (e : FVec Ideal S .f32) (i : S.Idx) :
    exp2 (subf (broadcast S (FloatOps.ofBits .f32 0x00000000#32)) e) i = Ideal.exp2 (0 - e i) := by
  pointwise []
  rfl

/-- The codes of a row. -/
theorem pay4_apply (v : Vec Ideal S224x4096x128 .f32) (b : Fin 224) (s : Fin 4096) (c : Fin 128) : k0_pay4 v (ix3 b s c) = Core.codeE (fun c => v (ix3 b s c)) c := by
  unfold k0_pay4
  refine (code_apply (S := S224x4096x128) _ _ _).trans ?_
  rw [recip_apply, neg_apply, pay2_apply, pay1_apply]
  unfold Core.codeE
  with_reducible rfl

/-- The codes of a row, rescaled. -/
theorem pay5_apply (v : Vec Ideal S224x4096x128 .f32) (b : Fin 224) (s : Fin 4096) (c : Fin 128) : k0_pay5 v (ix3 b s c) = Core.deqE (fun c => v (ix3 b s c)) c := by
  unfold k0_pay5
  rw [mul_apply, ext_apply, pay4_apply, recip_apply, pay3_apply]
  unfold Core.deqE
  with_reducible rfl

end Cert.Ref

end
-- ==== Proof.RefPoint.lean ====
/- The reference's scores, weights, values, attention and codes read at an index. -/
module

public import Idealize.ShloMosaic.Lib.Pointwise
public import proofs.«01_k».proof.Proof.RefTerm

@[expose] public section

set_option maxRecDepth 16384

noncomputable section

namespace Cert.Ref

open Cert.ReferenceIdeal Cert.ReferenceIdeal.Gen Idealize.ShloMosaic Idealize.ShloMosaic.StableHlo

/-- The keys' limbs at an index. -/
theorem keys_apply (k : FVec Ideal S8960x384 .bf16) (b : Fin 224) (n : Fin 10) (h : Fin 4) (i : Fin 3) (x : Fin 128) :
    keys k (ix5 b n h i x) = k (ix2 ⟨b.val * 40 + n.val * 4 + h.val, by omega⟩ ⟨i.val * 128 + x.val, by omega⟩) := by
  pointwise [keys]

/-- The queries' limbs at an index. -/
theorem queries_apply (q : FVec Ideal S384x4096 .bf16) (j : Fin 3) (x : Fin 128) (s : Fin 4096) :
    queries q (ix3 j x s) = q (ix2 ⟨j.val * 128 + x.val, by omega⟩ s) := by
  pointwise [queries]

/-- One product of limbs. -/
theorem dots_apply (k : FVec Ideal S8960x384 .bf16) (q : FVec Ideal S384x4096 .bf16) (i j : Fin 3)
    (hi : S224x10x4x3x128.Slices ![0, 0, 0, i.val, 0] S224x10x4x1x128) (hj : S3x128x4096.Slices ![j.val, 0, 0] S1x128x4096)
    (b : Fin 224) (n : Fin 10) (h : Fin 4) (s : Fin 4096) :
    dots k q ![0, 0, 0, i.val, 0] hi ![j.val, 0, 0] hj (ix4 b n h s)
      = Core.dotE (i.val * 128) (j.val * 128) (by omega) (by omega) (fun c => k (ix2 ⟨b.val * 40 + n.val * 4 + h.val, by omega⟩ c)) (fun c => q (ix2 c s)) := by
  unfold Core.dotE
  pointwise [dots]
  refine Finset.sum_congr rfl fun x _ => ?_
  rw [keys_apply, queries_apply]

/-- The scores at an index. -/
theorem scores_apply (k : FVec Ideal S8960x384 .bf16) (q : FVec Ideal S384x4096 .bf16) (b : Fin 224) (n : Fin 10) (h : Fin 4) (s : Fin 4096) :
    scores k q (ix4 b n h s)
      = Core.scE (fun i => k (ix2 ⟨b.val * 40 + n.val * 4 + h.val, by omega⟩ i)) (fun i => q (ix2 i s)) := by
  have D := fun (i j : Fin 3) hi hj => dots_apply k q i j hi hj b n h s
  have d00 := D 0 0 slices_S224x10x4x3x128_S224x10x4x1x128_0_0_0_0_0 slices_S3x128x4096_S1x128x4096_0_0_0
  have d10 := D 1 0 slices_S224x10x4x3x128_S224x10x4x1x128_0_0_0_1_0 slices_S3x128x4096_S1x128x4096_0_0_0
  have d01 := D 0 1 slices_S224x10x4x3x128_S224x10x4x1x128_0_0_0_0_0 slices_S3x128x4096_S1x128x4096_1_0_0
  have d20 := D 2 0 slices_S224x10x4x3x128_S224x10x4x1x128_0_0_0_2_0 slices_S3x128x4096_S1x128x4096_0_0_0
  have d11 := D 1 1 slices_S224x10x4x3x128_S224x10x4x1x128_0_0_0_1_0 slices_S3x128x4096_S1x128x4096_1_0_0
  have d02 := D 0 2 slices_S224x10x4x3x128_S224x10x4x1x128_0_0_0_0_0 slices_S3x128x4096_S1x128x4096_2_0_0
  exact congrArg₂ (· + ·) (congrArg₂ (· + ·) (congrArg₂ (· + ·) (congrArg₂ (· + ·) (congrArg₂ (· + ·) d00 d10) d01) d20) d11) d02

/-- The constant two. -/
theorem ofBits_two : Ideal.ofBits .f32 0x40000000#32 = ((2 : ℝ) : EReal) := by
  simp [Ideal.ofBits, Ideal.ieee, -EReal.coe_mul]
  norm_num

/-- The exponential of the logarithm of two times a number is two to the number. -/
theorem exp_log_two (x : EReal) : Ideal.exp (Ideal.log (Ideal.ofBits .f32 0x40000000#32) * x) = Ideal.exp2 x := by
  have h : (0 : ℝ) < Real.log 2 := Real.log_pos (by norm_num)
  have e : Ideal.log ((2 : ℝ) : EReal) = ((Real.log 2 : ℝ) : EReal) := if_neg (by norm_num : ¬ (2 : ℝ) ≤ 0)
  rw [ofBits_two, e]
  induction x using EReal.rec with
  | bot => rw [EReal.coe_mul_bot_of_pos h]; rfl
  | top => rw [EReal.coe_mul_top_of_pos h]; rfl
  | coe x =>
    rw [← EReal.coe_mul]
    exact congrArg Real.toEReal (Real.rpow_def_of_pos (by norm_num : (0 : ℝ) < 2) x).symm

/-- The powers of two. -/
theorem powers_apply (s : FVec Ideal S224x10x4x4096 .f32) (sc : Fin 10 → Fin 4 → EReal) (b : Fin 224) (p : Fin 4096)
    (hs : ∀ n h, s (ix4 b n h p) = sc n h) (n : Fin 10) (h : Fin 4) : powers s (ix4 b n h p) = Core.ex sc n h := by
  pointwise [powers]
  rw [exp_log_two]
  simp only [hs]
  rfl

/-- The softmax weights. -/
theorem weights_apply (e : FVec Ideal S224x10x4x4096 .f32) (sc : Fin 10 → Fin 4 → EReal) (b : Fin 224) (p : Fin 4096)
    (he : ∀ n h, e (ix4 b n h p) = Core.ex sc n h) (n : Fin 10) (h : Fin 4) : weights e (ix4 b n h p) = Core.pr sc n h := by
  pointwise [weights]
  simp only [he]
  unfold Core.pr
  rfl

/-- The values. -/
theorem values_apply (v : FVec Ideal S224x128x240 .bf16) (b : Fin 224) (c : Fin 128) (n : Fin 10) (h : Fin 4) :
    values v (ix4 b c n h) = Core.valE (fun x => v (ix3 b c x)) (Core.row n h) := by
  pointwise [values]
  unfold Core.valE Core.row
  rfl

/-- The attention. -/
theorem attention_apply (k : FVec Ideal S8960x384 .bf16) (v : FVec Ideal S224x128x240 .bf16) (q : FVec Ideal S384x4096 .bf16)
    (b : Fin 224) (s : Fin 4096) (c : Fin 128) :
    attention k v q (ix3 b s c)
      = Core.attE (fun n h => Core.scE (fun i => k (ix2 ⟨b.val * 40 + n.val * 4 + h.val, by omega⟩ i)) (fun i => q (ix2 i s))) (fun x => v (ix3 b c x)) := by
  pointwise [attention]
  unfold Core.attE
  refine Finset.sum_congr rfl fun h _ => Finset.sum_congr rfl fun n _ => ?_
  rw [weights_apply _ _ b s (powers_apply _ _ b s fun n h => scores_apply k q b n h s) n h, values_apply]

end Cert.Ref

end
-- ==== Proof.RefArr.lean ====
/- What the reference leaves in its three results, at an index: functions of the arguments. -/
module

public import proofs.«01_k».proof.Proof.RefTerm
public import proofs.«01_k».proof.Proof.RefQuant
public import proofs.«01_k».proof.Proof.RefPoint
public import proofs.«01_k».proof.Proof.Goal
public import Idealize.ShloMosaic.Lib.Pipeline.ValueKit

@[expose] public section

set_option maxRecDepth 16384

noncomputable section

namespace Cert.Ref

open Cert.ReferenceIdeal Cert.ReferenceIdeal.Gen Cert.Core Idealize.ShloMosaic Idealize.ShloMosaic.TcCoe Idealize.ShloMosaic.StableHlo Idealize.SL.Sem
open Idealize.ShloMosaic.Pipeline (Dat)

section Host

variable {F : FTy → Type} [FloatOps F] [Named F]

/-- The residual row: the weight's two limbs times the codes at their scales, plus the residual. -/
def resT (o : FVec F S224x4096x128 .f32) (w : FVec F S256x256 .bf16) (x : FVec F S256x4096 .f32) : FVec F S224x4096x256 .f32 :=
  addf (addf (Host.dotGeneral dot_S224x4096x128_S256x128_S224x4096x256_2_1_01_0_n_n (some .fp32) o (extractStridedSlice S256x128 ![0, 0] (extf .f32 w bitsLt_bf16_f32) slices_S256x256_S256x128_0_0)) (Host.dotGeneral dot_S224x4096x128_S256x128_S224x4096x256_2_1_01_0_n_n (some .fp32) o (extractStridedSlice S256x128 ![0, 128] (extf .f32 w bitsLt_bf16_f32) slices_S256x256_S256x128_0_128))) (broadcastInDim S224x4096x256 ![0, 1, 2] bcast_S1x4096x256_S224x4096x256_0_1_2 (broadcastInDim S1x4096x256 ![1, 2] bcast_S4096x256_S1x4096x256_1_2 (transpose S4096x256 [1, 0] x transposes_S256x4096_S4096x256_1_0)))

/-- The inverse root of a row's mean square. -/
def rootT (r : FVec F S224x4096x256 .f32) : FVec F S224x4096x1 .f32 :=
  Host.rsqrt (addf (Host.divf (broadcastInDim S224x4096x1 ![0, 1] bcast_S224x4096_S224x4096x1_0_1 (Host.reduceAdd (mulf r r) (constant S_ .f32 0x00000000#32) reducesTo_S224x4096x256_S224x4096_d2 h_S_)) (broadcastInDim S224x4096x1 ![] bcast_S_S224x4096x1 (constant S_ .f32 0x43800000#32))) (broadcastInDim S224x4096x1 ![] bcast_S_S224x4096x1 (constant S_ .f32 0x3727C5AC#32)))

/-- The normalised row with gain and bias. -/
def imgT (r : FVec F S224x4096x256 .f32) (g b : FVec F S256 .f32) : FVec F S224x4096x256 .bf16 :=
  truncf .bf16 (addf (mulf (mulf r (broadcastInDim S224x4096x256 ![0, 1, 2] bcast_S224x4096x1_S224x4096x256_0_1_2 (rootT r))) (broadcastInDim S224x4096x256 ![0, 1, 2] bcast_S1x1x256_S224x4096x256_0_1_2 (broadcastInDim S1x1x256 ![2] bcast_S256_S1x1x256_2 g))) (broadcastInDim S224x4096x256 ![0, 1, 2] bcast_S1x1x256_S224x4096x256_0_1_2 (broadcastInDim S1x1x256 ![2] bcast_S256_S1x1x256_2 b))) bitsLt_bf16_f32

end Host

/-- The residual row, at an index. -/
theorem resT_apply (o : FVec Ideal S224x4096x128 .f32) (w : FVec Ideal S256x256 .bf16) (x : FVec Ideal S256x4096 .f32) (n : Fin 224) (s : Fin 4096) (d : Fin 256)
    (a : Fin 128 → EReal) (ho : ∀ c, o (ix3 n s c) = deqE a c) :
    resT o w x (ix3 n s d) = resE (fun d c => w (ix2 d c)) (fun d => x (ix2 d s)) a d := by
  unfold resE
  simp only [← ho]
  pointwise [resT]
  simp only [mul_comm]

/-- The inverse root, at an index. -/
theorem rootT_apply (r : FVec Ideal S224x4096x256 .f32) (n : Fin 224) (s : Fin 4096) :
    rootT r (ix3 n s 0) = Ideal.rsqrt (Ideal.div (∑ e, r (ix3 n s e) * r (ix3 n s e)) (Ideal.ofBits .f32 0x43800000#32) + Ideal.ofBits .f32 0x3727C5AC#32) := by
  pointwise [rootT]

/-- The normalised row, at an index. -/
theorem imgT_apply (r : FVec Ideal S224x4096x256 .f32) (g b : FVec Ideal S256 .f32) (n : Fin 224) (s : Fin 4096) (d : Fin 256) (r' : Fin 256 → EReal)
    (hr : ∀ d, r (ix3 n s d) = r' d) : imgT r g b (ix3 n s d) = imgE r' (fun d => g (ix1 d)) (fun d => b (ix1 d)) d := by
  unfold imgE
  simp only [← hr]
  rw [← rootT_apply]
  pointwise [imgT]

variable (m : (ℓ : Loc nD τ sig) → Buf (Elt Ideal) ℓ) (c : Dev nD)

/-- Argument 0 as launched. -/
abbrev A0 : Vec Ideal S8960x384 .bf16 := m ((c.tc : Thread nD τ).loc main_arg0)
/-- Argument 1 as launched. -/
abbrev A1 : Vec Ideal S224x128x240 .bf16 := m ((c.tc : Thread nD τ).loc main_arg1)
/-- Argument 2 as launched. -/
abbrev A2 : Vec Ideal S384x4096 .bf16 := m ((c.tc : Thread nD τ).loc main_arg2)
/-- Argument 3 as launched. -/
abbrev A3 : Vec Ideal S256x4096 .f32 := m ((c.tc : Thread nD τ).loc main_arg3)
/-- Argument 4 as launched. -/
abbrev A4 : Vec Ideal S256x256 .bf16 := m ((c.tc : Thread nD τ).loc main_arg4)
/-- Argument 5 as launched. -/
abbrev A5 : Vec Ideal S256 .f32 := m ((c.tc : Thread nD τ).loc main_arg5)
/-- Argument 6 as launched. -/
abbrev A6 : Vec Ideal S256 .f32 := m ((c.tc : Thread nD τ).loc main_arg6)

/-- The attention of the arguments. -/
abbrev attM (b : Fin 224) (s : Fin 4096) : Fin 128 → EReal := attG (A0 m c) (A1 m c) (A2 m c) b s

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0] := (by decide +kernel : ∀ t : Fin grid0.N, _)

/-- The region's operand is the attention of the arguments. -/
theorem operand : V (F := Ideal) m c main_v66 = attention (F := Ideal) (A0 m c) (A1 m c) (A2 m c) := entry _

/-- The region's one window, at an index. -/
theorem blk_apply (t : Fin cfg0.N) (b : Fin 224) (s : Fin 4096) (ch : Fin 128) :
    iblk (F := Ideal) m c 0 t (ix3 b s ch) = attM m c b s ch := by
  have h : iblk (F := Ideal) m c 0 t (ix3 b s ch) = V (F := Ideal) m c main_v66 (ix3 b s ch) := by
    refine congrArg (V m c main_v66) (funext fun a => Fin.ext ?_)
    fin_cases a <;> blk_simp [e0] <;> simp
  rw [h, operand]
  exact attention_apply _ _ _ b s ch

/-- A point's scales, at an index. -/
theorem out_3 (t : Fin cfg0.N) (b : Fin 224) (s : Fin 4096) : out0_3 (F := Ideal) (iblk m c 0 t) (ix2 b s) = scaleE (attM m c b s) := by
  unfold out0_3
  rw [View.canon_unit_zero, View.ld_unit_zero]
  · exact (pay3_apply _ b s).trans (congrArg scaleE (funext fun ch => blk_apply m c t b s ch))
  all_goals exact funext fun x => by fin_cases x <;> rfl

/-- A point's codes, at an index. -/
theorem out_1 (t : Fin cfg0.N) (b : Fin 224) (s : Fin 4096) (ch : Fin 128) : out0_1 (F := Ideal) (iblk m c 0 t) (ix3 b s ch) = codeE (attM m c b s) ch := by
  unfold out0_1
  rw [View.canon_unit_zero, View.ld_unit_zero]
  · exact (pay4_apply _ b s ch).trans (congrArg (codeE · ch) (funext fun ch => blk_apply m c t b s ch))
  all_goals exact funext fun x => by fin_cases x <;> rfl

/-- A point's codes at their scales, at an index. -/
theorem out_2 (t : Fin cfg0.N) (b : Fin 224) (s : Fin 4096) (ch : Fin 128) : out0_2 (F := Ideal) (iblk m c 0 t) (ix3 b s ch) = deqE (attM m c b s) ch := by
  unfold out0_2
  rw [View.canon_unit_zero, View.ld_unit_zero]
  · exact (pay5_apply _ b s ch).trans (congrArg (deqE · ch) (funext fun ch => blk_apply m c t b s ch))
  all_goals exact funext fun x => by fin_cases x <;> rfl

/-- The region's scales. -/
theorem scales : Value.reg_main_v67_2 (F := Ideal) m c = (fun y : S224x4096.Idx => scaleE (attM m c (y 0) (y 1)) : S224x4096.Idx → EReal) := by
  unfold Value.reg_main_v67_2
  refine (dats m 0 c).arrAt_eq_of_covers 3 _ (by decide +kernel) fun t hf y => ?_
  obtain ⟨b, s, rfl⟩ : ∃ (b : Fin 224) (s : Fin 4096), y = ix2 b s := ⟨y 0, y 1, eq_ix2 (n0 := 224) (n1 := 4096) y⟩
  blk_simp
  rw [after0_3]
  have key : ∀ (b' : Fin 224) (s' : Fin 4096), b'.val = b.val → s'.val = s.val → out0_3 (F := Ideal) (iblk m c 0 t) (ix2 b s) = scaleE (attM m c b' s') := by
    intro b' s' hb hs
    obtain rfl := Fin.ext hb
    obtain rfl := Fin.ext hs
    exact out_3 m c t b' s'
  refine key _ _ ?_ ?_ <;> blk_simp [e3] <;> simp

/-- The region's codes. -/
theorem codes : Value.reg_main_v67_0 (F := Ideal) m c = (fun y : S224x4096x128.Idx => codeE (attM m c (y 0) (y 1)) (y 2) : S224x4096x128.Idx → EReal) := by
  unfold Value.reg_main_v67_0
  refine (dats m 0 c).arrAt_eq_of_covers 1 _ (by decide +kernel) fun t hf y => ?_
  obtain ⟨b, s, ch, rfl⟩ : ∃ (b : Fin 224) (s : Fin 4096) (ch : Fin 128), y = ix3 b s ch := ⟨y 0, y 1, y 2, eq_ix3 (n0 := 224) (n1 := 4096) (n2 := 128) y⟩
  blk_simp
  rw [after0_1]
  have key : ∀ (b' : Fin 224) (s' : Fin 4096) (ch' : Fin 128), b'.val = b.val → s'.val = s.val → ch'.val = ch.val → out0_1 (F := Ideal) (iblk m c 0 t) (ix3 b s ch) = codeE (attM m c b' s') ch' := by
    intro b' s' ch' hb hs hc
    obtain rfl := Fin.ext hb
    obtain rfl := Fin.ext hs
    obtain rfl := Fin.ext hc
    exact out_1 m c t b' s' ch'
  refine key _ _ _ ?_ ?_ ?_ <;> blk_simp [e1] <;> simp

/-- The region's codes at their scales. -/
theorem deqs : Value.reg_main_v67_1 (F := Ideal) m c = (fun y : S224x4096x128.Idx => deqE (attM m c (y 0) (y 1)) (y 2) : S224x4096x128.Idx → EReal) := by
  unfold Value.reg_main_v67_1
  refine (dats m 0 c).arrAt_eq_of_covers 2 _ (by decide +kernel) fun t hf y => ?_
  obtain ⟨b, s, ch, rfl⟩ : ∃ (b : Fin 224) (s : Fin 4096) (ch : Fin 128), y = ix3 b s ch := ⟨y 0, y 1, y 2, eq_ix3 (n0 := 224) (n1 := 4096) (n2 := 128) y⟩
  blk_simp
  rw [after0_2]
  have key : ∀ (b' : Fin 224) (s' : Fin 4096) (ch' : Fin 128), b'.val = b.val → s'.val = s.val → ch'.val = ch.val → out0_2 (F := Ideal) (iblk m c 0 t) (ix3 b s ch) = deqE (attM m c b' s') ch' := by
    intro b' s' ch' hb hs hc
    obtain rfl := Fin.ext hb
    obtain rfl := Fin.ext hs
    obtain rfl := Fin.ext hc
    exact out_2 m c t b' s' ch'
  refine key _ _ _ ?_ ?_ ?_ <;> blk_simp [e2] <;> simp

/-- The image, at an index. -/
theorem image (n : Fin 224) (s : Fin 4096) (d : Fin 256) :
    imgT (F := Ideal) (resT (Value.reg_main_v67_1 (F := Ideal) m c) (A4 m c) (A3 m c)) (A5 m c) (A6 m c) (ix3 n s d)
      = imgG (A0 m c) (A1 m c) (A2 m c) (A3 m c) (A4 m c) (A5 m c) (A6 m c) n s d := by
  rw [deqs]
  exact imgT_apply _ _ _ n s d _ fun d => resT_apply _ _ _ n s d (attM m c n s) fun ch => rfl

end Cert.Ref

end
-- ==== Proof.Equal.lean ====
/- The kernel and the reference leave the same results. -/
module

public import proofs.«01_k».proof.Defs
public import proofs.«01_k».proof.Proof.Arrays
public import proofs.«01_k».proof.Proof.RefArr

@[expose] public section

set_option maxRecDepth 16384

noncomputable section

namespace Cert.Proof

open Idealize.ShloMosaic Idealize.SL.Sem

/-- The call and the reference leave the same image, codes and scales of arguments that agree. -/
theorem algebraic : Cert.algebraic_KernelIdeal_ReferenceIdeal := by
  intro m ρ m' ρ' _ hagree
  refine ⟨_, _, _, Cert.KernelIdeal.Value.run_blocks (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6⟩ := hagree c
    refine Eq.trans ?_ (Cert.Tile.image m c).symm
    refine Eq.trans (b := Cert.Ref.imgT (F := Ideal) (Cert.Ref.resT (Cert.ReferenceIdeal.Value.reg_main_v67_1 (F := Ideal) m' c) (Cert.Ref.A4 m' c) (Cert.Ref.A3 m' c)) (Cert.Ref.A5 m' c) (Cert.Ref.A6 m' c)) rfl ?_
    funext y
    obtain ⟨n, s, d, rfl⟩ : ∃ (n : Fin 224) (s : Fin 4096) (d : Fin 256), y = ix3 n s d := ⟨y 0, y 1, y 2, eq_ix3 (n0 := 224) (n1 := 4096) (n2 := 256) y⟩
    refine (Cert.Ref.image m' c n s d).trans ?_
    unfold Cert.Ref.A0 Cert.Ref.A1 Cert.Ref.A2 Cert.Ref.A3 Cert.Ref.A4 Cert.Ref.A5 Cert.Ref.A6
    rw [a0, a1, a2, a3, a4, a5, a6]
    rfl
  · obtain ⟨a0, a1, a2, -⟩ := hagree c
    rw [Cert.Ref.codes, Cert.Tile.codes]
    unfold Cert.Ref.attM Cert.Ref.A0 Cert.Ref.A1 Cert.Ref.A2
    rw [a0, a1, a2]
  · obtain ⟨a0, a1, a2, -⟩ := hagree c
    rw [Cert.Ref.scales, Cert.Tile.scales]
    unfold Cert.Ref.attM Cert.Ref.A0 Cert.Ref.A1 Cert.Ref.A2
    rw [a0, a1, a2]

end Cert.Proof

end
-- ==== Proof.TokCore.lean ====
/- The arithmetic of one token, over the extended reals: what the call and the reference both compute. -/
module

public import Idealize.ShloMosaic.Lib.Pointwise

@[expose] public section

noncomputable section

namespace Cert.TokCore

open Idealize.ShloMosaic

/-- A row's mean. -/
def meanE (v : Fin 256 → EReal) : EReal := Ideal.div (∑ e, v e) (Ideal.ofBits .f32 0x43800000#32)

/-- A row's normalisation, scaled and shifted. -/
def normE (v g b : Fin 256 → EReal) (d : Fin 256) : EReal :=
  (v d - meanE v) * Ideal.rsqrt (Ideal.div (∑ e, (v e - meanE v) * (v e - meanE v)) (Ideal.ofBits .f32 0x43800000#32) + Ideal.ofBits .f32 0x3727C5AC#32) * g d + b d

/-- A row and its attention, projected. -/
def resE (t : Fin 256 → EReal) (a : Fin 128 → EReal) (w : Fin 128 → Fin 256 → EReal) (b : Fin 256 → EReal) (d : Fin 256) : EReal :=
  t d + (∑ x, a x * w x d + b d)

/-- The hidden layer of a row. -/
def hidE (u : Fin 256 → EReal) (w : Fin 256 → Fin 2048 → EReal) (b : Fin 2048 → EReal) (h : Fin 2048) : EReal :=
  max (∑ x, u x * w x h + b h) (Ideal.ofBits .f32 0x00000000#32)

/-- A row and its hidden layer, projected. -/
def outE (u : Fin 256 → EReal) (h : Fin 2048 → EReal) (w : Fin 2048 → Fin 256 → EReal) (b : Fin 256 → EReal) (d : Fin 256) : EReal :=
  u d + ∑ x, h x * w x d + b d

/-- A token's row. -/
def rowE (a : Fin 128 → EReal) (t : Fin 256 → EReal) (wo : Fin 128 → Fin 256 → EReal) (bo g2 b2 : Fin 256 → EReal) (w1 : Fin 256 → Fin 2048 → EReal) (b1 : Fin 2048 → EReal)
    (w2 : Fin 2048 → Fin 256 → EReal) (bm2 g3 b3 : Fin 256 → EReal) : Fin 256 → EReal :=
  normE (outE (normE (resE t a wo bo) g2 b2) (hidE (normE (resE t a wo bo) g2 b2) w1 b1) w2 bm2) g3 b3

end Cert.TokCore

end
-- ==== Proof.TokPoint.lean ====
/- What the token call's body computes at a row, over the extended reals. -/
module

public import proofs.«01_k».proof.Proof.Gen.TokenIdeal.Skeleton
public import proofs.«01_k».proof.Proof.TokCore

@[expose] public section

set_option maxRecDepth 16384

noncomputable section

namespace Cert.Tok

open Cert.TokenIdeal Cert.TokenIdeal.Gen Idealize.ShloMosaic Cert.TokCore

variable {F : FTy → Type} [FloatOps F] [Named F]

/-- The rows with their attention. -/
def resid (v0 : Vec F S160x128 .f32) (v1 : Vec F S128x256 .f32) (v3 : Vec F S1x256 .f32) (v7 : Vec F S160x256 .f32) : FVec F S160x256 .f32 :=
  addf v7 (addf (matmul dot_S160x128_S128x256_S160x256_1_0_0_1_n_n (some .fp32) v0 v1 (constant S160x256 .f32 0x00000000#32))
    (broadcastTo S160x256 (shapeCast S1x256 v3 shapeCasts_S1x256_S1x256) broadcasts_S1x256_S160x256))

/-- The rows normalised. -/
def norm (x : FVec F S160x256 .f32) (g b : Vec F S1x256 .f32) : FVec F S160x256 .f32 :=
  have c : FVec F S160x256 .f32 := subf x (broadcastTo S160x256 (divf (shapeCast S160x1 (multiReduction .add [1] S160 x 0x00000000#32 reduces_S160x256_S160 (.inl rfl) rfl) shapeCasts_S160_S160x1)
    (broadcast S160x1 (Scalar.ofBits .f32 0x43800000#32))) broadcasts_S160x1_S160x256)
  have s : FVec F S160x1 .f32 := rsqrt (addf (divf (shapeCast S160x1 (multiReduction .add [1] S160 (mulf c c) 0x00000000#32 reduces_S160x256_S160 (.inl rfl) rfl) shapeCasts_S160_S160x1)
    (broadcast S160x1 (Scalar.ofBits .f32 0x43800000#32))) (broadcast S160x1 (Scalar.ofBits .f32 0x3727C5AC#32)))
  addf (mulf (mulf c (broadcastTo S160x256 s broadcasts_S160x1_S160x256)) (broadcastTo S160x256 (shapeCast S1x256 g shapeCasts_S1x256_S1x256) broadcasts_S1x256_S160x256))
    (broadcastTo S160x256 (shapeCast S1x256 b shapeCasts_S1x256_S1x256) broadcasts_S1x256_S160x256)

/-- The hidden layer. -/
def hidden (v32 : FVec F S160x256 .f32) (v33 : Vec F S256x2048 .f32) (v35 : Vec F S1x2048 .f32) : FVec F S160x2048 .f32 :=
  maximumf (addf (matmul dot_S160x256_S256x2048_S160x2048_1_0_0_1_n_n (some .fp32) v32 v33 (constant S160x2048 .f32 0x00000000#32)) (broadcastTo S160x2048 (shapeCast S1x2048 v35 shapeCasts_S1x2048_S1x2048) broadcasts_S1x2048_S160x2048)) (broadcast S160x2048 (Scalar.ofBits .f32 0x00000000#32))

/-- The rows with their hidden layer. -/
def mixed (v32 : FVec F S160x256 .f32) (h : FVec F S160x2048 .f32) (v41 : Vec F S2048x256 .f32) (v44 : Vec F S1x256 .f32) : FVec F S160x256 .f32 :=
  addf (addf v32 (matmul dot_S160x2048_S2048x256_S160x256_1_0_0_1_n_n (some .fp32) h v41 (constant S160x256 .f32 0x00000000#32)))
    (broadcastTo S160x256 (shapeCast S1x256 v44 shapeCasts_S1x256_S1x256) broadcasts_S1x256_S160x256)

/-- The body's first rows. -/
theorem pay2_eq (v0 : Vec F S160x128 .f32) (v1 : Vec F S128x256 .f32) (v3 : Vec F S1x256 .f32) (v7 : Vec F S160x256 .f32) (v9 v11 : Vec F S1x256 .f32) :
    k0_pay2 v0 v1 v3 v7 v9 v11 = norm (resid v0 v1 v3 v7) v9 v11 := rfl

/-- The body's last rows. -/
theorem pay5_eq (v0 : Vec F S160x128 .f32) (v1 : Vec F S128x256 .f32) (v3 : Vec F S1x256 .f32) (v7 : Vec F S160x256 .f32) (v9 v11 : Vec F S1x256 .f32) (v33 : Vec F S256x2048 .f32) (v35 : Vec F S1x2048 .f32) (v41 : Vec F S2048x256 .f32) (v44 v48 v50 : Vec F S1x256 .f32) :
    k0_pay5 (k0_pay2 v0 v1 v3 v7 v9 v11) (k0_pay3 v0 v1 v3 v7 v9 v11 v33) v35 v41 v44 v48 v50
      = truncf .bf16 (norm (mixed (k0_pay2 v0 v1 v3 v7 v9 v11) (hidden (k0_pay2 v0 v1 v3 v7 v9 v11) v33 v35) v41 v44) v48 v50) bitsLt_bf16_f32 := rfl

/-- The rows with their attention, at an index. -/
theorem resid_apply (v0 : Vec Ideal S160x128 .f32) (v1 : Vec Ideal S128x256 .f32) (v3 : Vec Ideal S1x256 .f32) (v7 : Vec Ideal S160x256 .f32) (r : Fin 160) (d : Fin 256) :
    resid v0 v1 v3 v7 (ix2 r d) = resE (fun d => v7 (ix2 r d)) (fun x => v0 (ix2 r x)) (fun x d => v1 (ix2 x d)) (fun d => v3 (ix2 0 d)) d := by
  unfold resE
  pointwise [resid]

/-- The rows normalised, at an index. -/
theorem norm_apply (x : FVec Ideal S160x256 .f32) (g b : Vec Ideal S1x256 .f32) (r : Fin 160) (d : Fin 256) :
    norm x g b (ix2 r d) = normE (fun d => x (ix2 r d)) (fun d => g (ix2 0 d)) (fun d => b (ix2 0 d)) d := by
  unfold normE meanE
  pointwise [norm]

/-- The hidden layer, at an index. -/
theorem hidden_apply (u : FVec Ideal S160x256 .f32) (w : Vec Ideal S256x2048 .f32) (b : Vec Ideal S1x2048 .f32) (r : Fin 160) (h : Fin 2048) :
    hidden u w b (ix2 r h)
      = hidE (fun d => u (ix2 r d)) (fun x h => w (ix2 x h)) (fun h => b (ix2 0 h)) h := by
  unfold hidE
  pointwise [hidden]

/-- The rows with their hidden layer, at an index. -/
theorem mixed_apply (u : FVec Ideal S160x256 .f32) (h : FVec Ideal S160x2048 .f32) (w : Vec Ideal S2048x256 .f32) (b : Vec Ideal S1x256 .f32) (r : Fin 160) (d : Fin 256) :
    mixed u h w b (ix2 r d) = outE (fun d => u (ix2 r d)) (fun x => h (ix2 r x)) (fun x d => w (ix2 x d)) (fun d => b (ix2 0 d)) d := by
  unfold outE
  pointwise [mixed]

/-- The body's rows, at an index. -/
theorem row_apply (a : Vec Ideal S160x128 .f32) (t : Vec Ideal S160x256 .f32) (wo : Vec Ideal S128x256 .f32) (bo g2 b2 : Vec Ideal S1x256 .f32) (w1 : Vec Ideal S256x2048 .f32)
    (b1 : Vec Ideal S1x2048 .f32) (w2 : Vec Ideal S2048x256 .f32) (bm2 g3 b3 : Vec Ideal S1x256 .f32) (r : Fin 160) (d : Fin 256) :
    k0_pay5 (k0_pay2 a wo bo t g2 b2) (k0_pay3 a wo bo t g2 b2 w1) b1 w2 bm2 g3 b3 (ix2 r d)
      = rowE (fun x => a (ix2 r x)) (fun d => t (ix2 r d)) (fun x d => wo (ix2 x d)) (fun d => bo (ix2 0 d)) (fun d => g2 (ix2 0 d)) (fun d => b2 (ix2 0 d))
        (fun x h => w1 (ix2 x h)) (fun h => b1 (ix2 0 h)) (fun x d => w2 (ix2 x d)) (fun d => bm2 (ix2 0 d)) (fun d => g3 (ix2 0 d)) (fun d => b3 (ix2 0 d)) d := by
  have hu : (fun d => k0_pay2 a wo bo t g2 b2 (ix2 r d)) = normE (resE (fun d => t (ix2 r d)) (fun x => a (ix2 r x)) (fun x d => wo (ix2 x d)) (fun d => bo (ix2 0 d))) (fun d => g2 (ix2 0 d)) (fun d => b2 (ix2 0 d)) := by
    funext d
    rw [pay2_eq, norm_apply]
    simp only [resid_apply]
  rw [pay5_eq]
  refine (norm_apply _ _ _ r d).trans ?_
  unfold rowE
  simp only [mixed_apply]
  rw [← hu]
  simp only [hidden_apply]

end Cert.Tok

end
-- ==== Proof.TokArr.lean ====
/- What the token call leaves, at an index: a function of the arguments. -/
module

public import proofs.«01_k».proof.Proof.TokPoint
public import proofs.«01_k».proof.Proof.BlockVal
public import proofs.«01_k».proof.Proof.Gen.TokenIdeal.Value

@[expose] public section

set_option maxRecDepth 16384

noncomputable section

namespace Cert.Tok

open Cert.TokenIdeal Cert.TokenIdeal.Gen Cert.TokCore Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- The attention as launched. -/
abbrev Ga : Vec Ideal S2240x128 .f32 := m ((c : Thread nD τ).loc main_arg0)
/-- The tokens as launched. -/
abbrev Gt : Vec Ideal S2240x256 .f32 := m ((c : Thread nD τ).loc main_arg1)
/-- The attention's projection as launched. -/
abbrev Gwo : Vec Ideal S128x256 .f32 := m ((c : Thread nD τ).loc main_arg3)
/-- Its bias as launched. -/
abbrev Gbo : Vec Ideal S256 .f32 := m ((c : Thread nD τ).loc main_arg4)
/-- The first norm's gain as launched. -/
abbrev Gg2 : Vec Ideal S256 .f32 := m ((c : Thread nD τ).loc main_arg5)
/-- The first norm's bias as launched. -/
abbrev Gb2 : Vec Ideal S256 .f32 := m ((c : Thread nD τ).loc main_arg6)
/-- The first layer as launched. -/
abbrev Gw1 : Vec Ideal S256x2048 .f32 := m ((c : Thread nD τ).loc main_arg7)
/-- Its bias as launched. -/
abbrev Gb1 : Vec Ideal S2048 .f32 := m ((c : Thread nD τ).loc main_arg8)
/-- The second layer as launched. -/
abbrev Gw2 : Vec Ideal S2048x256 .f32 := m ((c : Thread nD τ).loc main_arg9)
/-- Its bias as launched. -/
abbrev Gbm : Vec Ideal S256 .f32 := m ((c : Thread nD τ).loc main_arg10)
/-- The second norm's gain as launched. -/
abbrev Gg3 : Vec Ideal S256 .f32 := m ((c : Thread nD τ).loc main_arg11)
/-- The second norm's bias as launched. -/
abbrev Gb3 : Vec Ideal S256 .f32 := m ((c : Thread nD τ).loc main_arg12)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e16 : ∀ t : Fin cfg0.N, win0_16.index t = ![t.val, 0] := (by decide +kernel : ∀ t : Fin grid0.N, _)

/-- A vector as the one row of a matrix. -/
theorem row_of (x : FVec Ideal S256 .f32) (d : Fin 256) : shapeCast S1x256 x shapeCasts_S256_S1x256 (ix2 0 d) = x (ix1 d) := by
  pointwise []

/-- A long vector as the one row of a matrix. -/
theorem row_of_long (x : FVec Ideal S2048 .f32) (d : Fin 2048) : shapeCast S1x2048 x shapeCasts_S2048_S1x2048 (ix2 0 d) = x (ix1 d) := by
  pointwise []

/-- The attention's block of a point. -/
theorem blk_0 (t : Fin cfg0.N) (r : Fin 160) (x : Fin 128) (n : Fin 2240) (h : n.val = 160 * t.val + r.val) :
    iblk (F := Ideal) m c 0 t (ix2 r x) = Ga m c (ix2 n x) := by
  unfold Ga
  rw [← V_main_arg0 m c]
  refine congrArg (V m c main_arg0) (funext fun a => Fin.ext ?_)
  fin_cases a <;> blk_simp [e0] <;> simp [h] <;> omega

/-- The tokens' block of a point. -/
theorem blk_1 (t : Fin cfg0.N) (r : Fin 160) (x : Fin 256) (n : Fin 2240) (h : n.val = 160 * t.val + r.val) :
    iblk (F := Ideal) m c 1 t (ix2 r x) = Gt m c (ix2 n x) := by
  unfold Gt
  rw [← V_main_arg1 m c]
  refine congrArg (V m c main_arg1) (funext fun a => Fin.ext ?_)
  fin_cases a <;> blk_simp [e1] <;> simp [h] <;> omega

theorem blk_3 (t : Fin cfg0.N) (x : Fin 128) (d : Fin 256) : iblk (F := Ideal) m c 3 t (ix2 x d) = Gwo m c (ix2 x d) := by
  unfold Gwo
  rw [← V_main_arg3 m c]
  refine congrArg (V m c main_arg3) (funext fun a => Fin.ext ?_)
  fin_cases a <;> blk_simp [e3] <;> simp

theorem blk_7 (t : Fin cfg0.N) (x : Fin 256) (d : Fin 2048) : iblk (F := Ideal) m c 7 t (ix2 x d) = Gw1 m c (ix2 x d) := by
  unfold Gw1
  rw [← V_main_arg7 m c]
  refine congrArg (V m c main_arg7) (funext fun a => Fin.ext ?_)
  fin_cases a <;> blk_simp [e7] <;> simp

theorem blk_9 (t : Fin cfg0.N) (x : Fin 2048) (d : Fin 256) : iblk (F := Ideal) m c 9 t (ix2 x d) = Gw2 m c (ix2 x d) := by
  unfold Gw2
  rw [← V_main_arg9 m c]
  refine congrArg (V m c main_arg9) (funext fun a => Fin.ext ?_)
  fin_cases a <;> blk_simp [e9] <;> simp

theorem V_0 : V (F := Ideal) m c main_v0 = shapeCast S1x256 (Gbo m c) shapeCasts_S256_S1x256 := by
  show StableHlo.after hostOps0 _ _ = _
  simp only [hostOps0]
  after_results
  rfl

theorem V_1 : V (F := Ideal) m c main_v1 = shapeCast S1x256 (Gg2 m c) shapeCasts_S256_S1x256 := by
  show StableHlo.after hostOps0 _ _ = _
  simp only [hostOps0]
  after_results
  rfl

theorem V_2 : V (F := Ideal) m c main_v2 = shapeCast S1x256 (Gb2 m c) shapeCasts_S256_S1x256 := by
  show StableHlo.after hostOps0 _ _ = _
  simp only [hostOps0]
  after_results
  rfl

theorem V_3 : V (F := Ideal) m c main_v3 = shapeCast S1x2048 (Gb1 m c) shapeCasts_S2048_S1x2048 := by
  show StableHlo.after hostOps0 _ _ = _
  simp only [hostOps0]
  after_results
  rfl

theorem V_4 : V (F := Ideal) m c main_v4 = shapeCast S1x256 (Gbm m c) shapeCasts_S256_S1x256 := by
  show StableHlo.after hostOps0 _ _ = _
  simp only [hostOps0]
  after_results
  rfl

theorem V_5 : V (F := Ideal) m c main_v5 = shapeCast S1x256 (Gg3 m c) shapeCasts_S256_S1x256 := by
  show StableHlo.after hostOps0 _ _ = _
  simp only [hostOps0]
  after_results
  rfl

theorem V_6 : V (F := Ideal) m c main_v6 = shapeCast S1x256 (Gb3 m c) shapeCasts_S256_S1x256 := by
  show StableHlo.after hostOps0 _ _ = _
  simp only [hostOps0]
  after_results
  rfl

theorem blk_4 (t : Fin cfg0.N) (d : Fin 256) : iblk (F := Ideal) m c 4 t (ix2 0 d) = Gbo m c (ix1 d) := by
  rw [← row_of (Gbo m c) d, ← V_0 m c]
  refine congrArg (V m c main_v0) (funext fun a => Fin.ext ?_)
  fin_cases a <;> blk_simp [e4] <;> simp

theorem blk_5 (t : Fin cfg0.N) (d : Fin 256) : iblk (F := Ideal) m c 5 t (ix2 0 d) = Gg2 m c (ix1 d) := by
  rw [← row_of (Gg2 m c) d, ← V_1 m c]
  refine congrArg (V m c main_v1) (funext fun a => Fin.ext ?_)
  fin_cases a <;> blk_simp [e5] <;> simp

theorem blk_6 (t : Fin cfg0.N) (d : Fin 256) : iblk (F := Ideal) m c 6 t (ix2 0 d) = Gb2 m c (ix1 d) := by
  rw [← row_of (Gb2 m c) d, ← V_2 m c]
  refine congrArg (V m c main_v2) (funext fun a => Fin.ext ?_)
  fin_cases a <;> blk_simp [e6] <;> simp

theorem blk_8 (t : Fin cfg0.N) (d : Fin 2048) : iblk (F := Ideal) m c 8 t (ix2 0 d) = Gb1 m c (ix1 d) := by
  rw [← row_of_long (Gb1 m c) d, ← V_3 m c]
  refine congrArg (V m c main_v3) (funext fun a => Fin.ext ?_)
  fin_cases a <;> blk_simp [e8] <;> simp

theorem blk_10 (t : Fin cfg0.N) (d : Fin 256) : iblk (F := Ideal) m c 10 t (ix2 0 d) = Gbm m c (ix1 d) := by
  rw [← row_of (Gbm m c) d, ← V_4 m c]
  refine congrArg (V m c main_v4) (funext fun a => Fin.ext ?_)
  fin_cases a <;> blk_simp [e10] <;> simp

theorem blk_11 (t : Fin cfg0.N) (d : Fin 256) : iblk (F := Ideal) m c 11 t (ix2 0 d) = Gg3 m c (ix1 d) := by
  rw [← row_of (Gg3 m c) d, ← V_5 m c]
  refine congrArg (V m c main_v5) (funext fun a => Fin.ext ?_)
  fin_cases a <;> blk_simp [e11] <;> simp

theorem blk_12 (t : Fin cfg0.N) (d : Fin 256) : iblk (F := Ideal) m c 12 t (ix2 0 d) = Gb3 m c (ix1 d) := by
  rw [← row_of (Gb3 m c) d, ← V_6 m c]
  refine congrArg (V m c main_v6) (funext fun a => Fin.ext ?_)
  fin_cases a <;> blk_simp [e12] <;> simp

/-- The rows a point leaves. -/
theorem out_row (x0 : Vec Ideal S160x128 .f32) (x1 : Vec Ideal S160x256 .f32) (x2 : Vec Ideal S160x256 .bf16) (x3 : Vec Ideal S128x256 .f32) (x4 x5 x6 : Vec Ideal S1x256 .f32) (x7 : Vec Ideal S256x2048 .f32) (x8 : Vec Ideal S1x2048 .f32) (x9 : Vec Ideal S2048x256 .f32) (x10 x11 x12 : Vec Ideal S1x256 .f32) (x13 x14 : Vec Ideal S256x128 .f32) (x15 : Vec Ideal S1x128 .f32) (r : Fin 160) (d : Fin 256) :
    out0_16 x0 x1 x2 x3 x4 x5 x6 x7 x8 x9 x10 x11 x12 x13 x14 x15 (ix2 r d)
      = rowE (fun x => x0 (ix2 r x)) (fun d => x1 (ix2 r d)) (fun x d => x3 (ix2 x d)) (fun d => x4 (ix2 0 d)) (fun d => x5 (ix2 0 d)) (fun d => x6 (ix2 0 d))
        (fun x h => x7 (ix2 x h)) (fun h => x8 (ix2 0 h)) (fun x d => x9 (ix2 x d)) (fun d => x10 (ix2 0 d)) (fun d => x11 (ix2 0 d)) (fun d => x12 (ix2 0 d)) d := by
  unfold_out out0_16
  rw [View.canon_unit_zero (by funext x; fin_cases x <;> rfl)]
  refine (row_apply ..).trans ?_
  have z : ∀ {a b : ℕ} {e : EltTy} (X : (⟨2, ![a, b]⟩ : Shape).Idx → Elt Ideal e) (h : ∀ x, (![0, 0] : Fin 2 → ℕ) x + (![a, b] : Fin 2 → ℕ) x ≤ (⟨2, ![a, b]⟩ : Shape).size x) (p : Fin a) (q : Fin b),
      View.ld X (Rect.unit (s := ⟨2, ![a, b]⟩) ![0, 0] ![a, b] h) (ix2 p q) = X (ix2 p q) := fun X h p q =>
    Cert.Tile.ld_apply₂ X ![0, 0] h p q p q (Nat.zero_add _).symm (Nat.zero_add _).symm
  have z0 := fun p q => z x0 inb_S160x128_S160x128_0_0 p q
  have z1 := fun p q => z x1 inb_S160x256_S160x256_0_0 p q
  have z3 := fun p q => z x3 inb_S128x256_S128x256_0_0 p q
  have z4 := fun p q => z x4 inb_S1x256_S1x256_0_0 p q
  have z5 := fun p q => z x5 inb_S1x256_S1x256_0_0 p q
  have z6 := fun p q => z x6 inb_S1x256_S1x256_0_0 p q
  have z7 := fun p q => z x7 inb_S256x2048_S256x2048_0_0 p q
  have z8 := fun p q => z x8 inb_S1x2048_S1x2048_0_0 p q
  have z9 := fun p q => z x9 inb_S2048x256_S2048x256_0_0 p q
  have z10 := fun p q => z x10 inb_S1x256_S1x256_0_0 p q
  have z11 := fun p q => z x11 inb_S1x256_S1x256_0_0 p q
  have z12 := fun p q => z x12 inb_S1x256_S1x256_0_0 p q
  simp only [z0, z1, z3, z4, z5, z6, z7, z8, z9, z10, z11, z12]

/-- A token's row of the arguments. -/
def rowG (a : (⟨2, ![2240, 128]⟩ : Shape).Idx → EReal) (t : (⟨2, ![2240, 256]⟩ : Shape).Idx → EReal) (wo : (⟨2, ![128, 256]⟩ : Shape).Idx → EReal) (bo g2 b2 : (⟨1, ![256]⟩ : Shape).Idx → EReal)
    (w1 : (⟨2, ![256, 2048]⟩ : Shape).Idx → EReal) (b1 : (⟨1, ![2048]⟩ : Shape).Idx → EReal) (w2 : (⟨2, ![2048, 256]⟩ : Shape).Idx → EReal) (bm g3 b3 : (⟨1, ![256]⟩ : Shape).Idx → EReal)
    (n : Fin 2240) (d : Fin 256) : EReal :=
  rowE (fun x => a (ix2 n x)) (fun d => t (ix2 n d)) (fun x d => wo (ix2 x d)) (fun d => bo (ix1 d)) (fun d => g2 (ix1 d)) (fun d => b2 (ix1 d))
    (fun x h => w1 (ix2 x h)) (fun h => b1 (ix1 h)) (fun x d => w2 (ix2 x d)) (fun d => bm (ix1 d)) (fun d => g3 (ix1 d)) (fun d => b3 (ix1 d)) d

/-- The call's tokens. -/
theorem tokens : (dats (F := Ideal) m 0 c).arrAt 16 cfg0.N
    = (fun y : S2240x256.Idx => rowG (Ga m c) (Gt m c) (Gwo m c) (Gbo m c) (Gg2 m c) (Gb2 m c) (Gw1 m c) (Gb1 m c) (Gw2 m c) (Gbm m c) (Gg3 m c) (Gb3 m c) (y 0) (y 1)
        : S2240x256.Idx → EReal) := by
  refine (dats m 0 c).arrAt_eq_of_covers 16 _ (by decide +kernel) fun t hf y => ?_
  obtain ⟨r, d, rfl⟩ : ∃ (r : Fin 160) (d : Fin 256), y = ix2 r d := ⟨y 0, y 1, eq_ix2 (n0 := 160) (n1 := 256) y⟩
  blk_simp
  rw [after0_16]
  refine (out_row ..).trans ?_
  have key : ∀ (n : Fin 2240) (d' : Fin 256), n.val = 160 * t.val + r.val → d'.val = d.val →
      rowE (fun x => iblk (F := Ideal) m c 0 t (ix2 r x)) (fun d => iblk (F := Ideal) m c 1 t (ix2 r d)) (fun x d => iblk (F := Ideal) m c 3 t (ix2 x d)) (fun d => iblk (F := Ideal) m c 4 t (ix2 0 d)) (fun d => iblk (F := Ideal) m c 5 t (ix2 0 d)) (fun d => iblk (F := Ideal) m c 6 t (ix2 0 d))
        (fun x h => iblk (F := Ideal) m c 7 t (ix2 x h)) (fun h => iblk (F := Ideal) m c 8 t (ix2 0 h)) (fun x d => iblk (F := Ideal) m c 9 t (ix2 x d)) (fun d => iblk (F := Ideal) m c 10 t (ix2 0 d)) (fun d => iblk (F := Ideal) m c 11 t (ix2 0 d)) (fun d => iblk (F := Ideal) m c 12 t (ix2 0 d)) d
      = rowG (Ga m c) (Gt m c) (Gwo m c) (Gbo m c) (Gg2 m c) (Gb2 m c) (Gw1 m c) (Gb1 m c) (Gw2 m c) (Gbm m c) (Gg3 m c) (Gb3 m c) n d' := by
    intro n d' hn hd
    obtain rfl : d' = d := Fin.ext hd
    have h0 := fun x => blk_0 m c t r x n hn
    have h1 := fun x => blk_1 m c t r x n hn
    unfold rowG
    simp only [h0, h1, blk_3, blk_4, blk_5, blk_6, blk_7, blk_8, blk_9, blk_10, blk_11, blk_12]
  refine key _ _ ?_ ?_
  · blk_simp [e16]; omega
  · blk_simp [e16]

end Cert.Tok

end
-- ==== Proof.TokRef.lean ====
/- What the token reference computes at a row, over the extended reals. -/
module

public import proofs.«01_k».proof.Proof.Gen.TokenReferenceIdeal.Run
public import proofs.«01_k».proof.Proof.TokCore

@[expose] public section

set_option maxRecDepth 16384

noncomputable section

namespace Cert.TokRef

open Cert.TokenReferenceIdeal Cert.TokenReferenceIdeal.Gen Idealize.ShloMosaic Idealize.ShloMosaic.TcCoe Idealize.ShloMosaic.StableHlo Cert.TokCore

variable {F : FTy → Type} [FloatOps F] [Named F]

/-- A row vector over all tokens. -/
def rows (b : FVec F S256 .f32) : FVec F S2240x256 .f32 :=
  broadcastInDim S2240x256 ![0, 1] bcast_S1x256_S2240x256_0_1 (broadcastInDim S1x256 ![1] bcast_S256_S1x256_1 b)

/-- The tokens with their attention. -/
def resid (a : FVec F S2240x128 .f32) (t : FVec F S2240x256 .f32) (wo : FVec F S128x256 .f32) (bo : FVec F S256 .f32) : FVec F S2240x256 .f32 :=
  addf t (addf (Host.dotGeneral dot_S2240x128_S128x256_S2240x256_1_0_0_1_n_n (some .fp32) a wo) (rows bo))

/-- The tokens' means, of a matrix of their features. -/
def mean (x : FVec F S2240x256 .f32) : FVec F S2240x1 .f32 :=
  Host.divf (broadcastInDim S2240x1 ![0] bcast_S2240_S2240x1_0 (Host.reduceAdd x (constant S_ .f32 0x00000000#32) reducesTo_S2240x256_S2240_d1 h_S_))
    (broadcastInDim S2240x1 ![] bcast_S_S2240x1 (constant S_ .f32 0x43800000#32))

/-- The tokens less their means. -/
def centred (x : FVec F S2240x256 .f32) : FVec F S2240x256 .f32 :=
  subf x (broadcastInDim S2240x256 ![0, 1] bcast_S2240x1_S2240x256_0_1 (mean x))

/-- The tokens normalised. -/
def norm (x : FVec F S2240x256 .f32) (g b : FVec F S256 .f32) : FVec F S2240x256 .f32 :=
  addf (mulf (mulf (centred x) (broadcastInDim S2240x256 ![0, 1] bcast_S2240x1_S2240x256_0_1
    (Host.rsqrt (addf (mean (mulf (centred x) (centred x))) (broadcastInDim S2240x1 ![] bcast_S_S2240x1 (constant S_ .f32 0x3727C5AC#32)))))) (rows g)) (rows b)

/-- The hidden layer. -/
def hidden (u : FVec F S2240x256 .f32) (w : FVec F S256x2048 .f32) (b : FVec F S2048 .f32) : FVec F S2240x2048 .f32 :=
  maximumf (addf (Host.dotGeneral dot_S2240x256_S256x2048_S2240x2048_1_0_0_1_n_n (some .fp32) u w)
    (broadcastInDim S2240x2048 ![0, 1] bcast_S1x2048_S2240x2048_0_1 (broadcastInDim S1x2048 ![1] bcast_S2048_S1x2048_1 b)))
    (broadcastInDim S2240x2048 ![] bcast_S_S2240x2048 (constant S_ .f32 0x00000000#32))

/-- The tokens with their hidden layer. -/
def mixed (u : FVec F S2240x256 .f32) (h : FVec F S2240x2048 .f32) (w : FVec F S2048x256 .f32) (b : FVec F S256 .f32) : FVec F S2240x256 .f32 :=
  addf (addf u (Host.dotGeneral dot_S2240x2048_S2048x256_S2240x256_1_0_0_1_n_n (some .fp32) h w)) (rows b)

/-- The tokens after their projection and norm. -/
def first (a : FVec F S2240x128 .f32) (t : FVec F S2240x256 .f32) (wo : FVec F S128x256 .f32) (bo g2 b2 : FVec F S256 .f32) : FVec F S2240x256 .f32 :=
  norm (resid a t wo bo) g2 b2

variable (m : (ℓ : Loc nD τ sig) → Buf (Elt F) ℓ) (c : Dev nD)

set_option maxHeartbeats 4000000 in
/-- The reference's term. -/
theorem res_eq : Value.res_main_v60 m c
    = truncf .bf16 (norm (mixed (first (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
        (hidden (first (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))
        (m ((c.tc : Thread nD τ).loc main_arg9)) (m ((c.tc : Thread nD τ).loc main_arg10))) (m ((c.tc : Thread nD τ).loc main_arg11)) (m ((c.tc : Thread nD τ).loc main_arg12))) bitsLt_bf16_f32 := by
  unfold Value.res_main_v60 norm mixed first hidden norm resid centred mean rows
  rfl

/-- A row vector, at an index. -/
theorem rows_apply (b : FVec Ideal S256 .f32) (n : Fin 2240) (d : Fin 256) : rows b (ix2 n d) = b (ix1 d) := by
  pointwise [rows]

/-- The tokens with their attention, at an index. -/
theorem resid_apply (a : FVec Ideal S2240x128 .f32) (t : FVec Ideal S2240x256 .f32) (wo : FVec Ideal S128x256 .f32) (bo : FVec Ideal S256 .f32) (n : Fin 2240) (d : Fin 256) :
    resid a t wo bo (ix2 n d) = resE (fun d => t (ix2 n d)) (fun x => a (ix2 n x)) (fun x d => wo (ix2 x d)) (fun d => bo (ix1 d)) d := by
  unfold resE
  pointwise [resid]
  rw [rows_apply]

/-- The means, at an index. -/
theorem mean_apply (x : FVec Ideal S2240x256 .f32) (n : Fin 2240) : mean x (ix2 n 0) = meanE fun d => x (ix2 n d) := by
  unfold meanE
  pointwise [mean]

/-- The tokens less their means, at an index. -/
theorem centred_apply (x : FVec Ideal S2240x256 .f32) (n : Fin 2240) (d : Fin 256) : centred x (ix2 n d) = x (ix2 n d) - meanE fun d => x (ix2 n d) := by
  pointwise [centred]
  rw [mean_apply]

/-- The tokens normalised, at an index. -/
theorem norm_apply (x : FVec Ideal S2240x256 .f32) (g b : FVec Ideal S256 .f32) (n : Fin 2240) (d : Fin 256) :
    norm x g b (ix2 n d) = normE (fun d => x (ix2 n d)) (fun d => g (ix1 d)) (fun d => b (ix1 d)) d := by
  unfold normE
  pointwise [norm]
  rw [rows_apply, rows_apply, mean_apply, centred_apply]
  unfold meanE
  simp only [mulf_apply, centred_apply]
  unfold meanE
  rfl

/-- The hidden layer, at an index. -/
theorem hidden_apply (u : FVec Ideal S2240x256 .f32) (w : FVec Ideal S256x2048 .f32) (b : FVec Ideal S2048 .f32) (n : Fin 2240) (h : Fin 2048) :
    hidden u w b (ix2 n h) = hidE (fun d => u (ix2 n d)) (fun x h => w (ix2 x h)) (fun h => b (ix1 h)) h := by
  unfold hidE
  pointwise [hidden]

/-- The tokens with their hidden layer, at an index. -/
theorem mixed_apply (u : FVec Ideal S2240x256 .f32) (h : FVec Ideal S2240x2048 .f32) (w : FVec Ideal S2048x256 .f32) (b : FVec Ideal S256 .f32) (n : Fin 2240) (d : Fin 256) :
    mixed u h w b (ix2 n d) = outE (fun d => u (ix2 n d)) (fun x => h (ix2 n x)) (fun x d => w (ix2 x d)) (fun d => b (ix1 d)) d := by
  unfold outE
  pointwise [mixed]
  rw [rows_apply]

end Cert.TokRef

end
-- ==== Proof.TokEqual.lean ====
/- The token call and its reference leave the same tokens. -/
module

public import proofs.«01_k».proof.Defs
public import proofs.«01_k».proof.Proof.TokArr
public import proofs.«01_k».proof.Proof.TokRef

@[expose] public section

set_option maxRecDepth 16384

noncomputable section

namespace Cert.TokRef

open Cert.TokenReferenceIdeal Cert.TokenReferenceIdeal.Gen Idealize.ShloMosaic Idealize.ShloMosaic.TcCoe Cert.TokCore

variable (m : (ℓ : Loc nD τ sig) → Buf (Elt Ideal) ℓ) (c : Dev nD)

/-- The reference's tokens, at an index. -/
theorem tokens (n : Fin 2240) (d : Fin 256) : (Value.res_main_v60 m c : FVec Ideal S2240x256 .bf16) (ix2 n d)
    = Cert.Tok.rowG (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) n d := by
  rw [res_eq]
  refine (norm_apply _ _ _ n d).trans ?_
  simp only [mixed_apply, hidden_apply, first, norm_apply, resid_apply]
  rfl

end Cert.TokRef

namespace Cert.Proof

open Idealize.ShloMosaic Idealize.SL.Sem

/-- The token call and its reference leave the same tokens of arguments that agree. -/
theorem algebraic_token : Cert.algebraic_TokenIdeal_TokenReferenceIdeal := by
  intro m ρ m' ρ' _ hagree
  refine ⟨_, (θ_run Cert.TokenIdeal.defs _ _).mono (fun _ h c => ⟨(h c).1, (h c).2.2.2⟩) (Cert.TokenIdeal.Value.run_blocks (F := Ideal) m ρ), ?_⟩
  refine (θ_run Cert.TokenReferenceIdeal.defs _ _).mono (fun _ h c => ⟨(h c).1.trans ?_, (h c).2⟩) (Cert.TokenReferenceIdeal.Value.run (F := Ideal) m' ρ')
  obtain ⟨a0, a1, -, a3, a4, a5, a6, a7, a8, a9, a10, a11, a12, -⟩ := hagree c
  refine Eq.trans ?_ (Cert.Tok.tokens m c).symm
  funext y
  obtain ⟨n, d, rfl⟩ : ∃ (n : Fin 2240) (d : Fin 256), y = ix2 n d := ⟨y 0, y 1, eq_ix2 (n0 := 2240) (n1 := 256) y⟩
  refine (Cert.TokRef.tokens m' c n d).trans ?_
  rw [a0, a1, a3, a4, a5, a6, a7, a8, a9, a10, a11, a12]
  rfl

/-- The token reference runs to an end and leaves its arguments and counters as they were. -/
theorem quiescent_tokenReference : Cert.quiescent_TokenReferenceIdeal := fun m ρ _ =>
  (θ_run Cert.TokenReferenceIdeal.defs _ _).mono (fun r h => ⟨fun c => (h c).2, sem_eq_zero_of_no_sems (by decide) r.2⟩) (Cert.TokenReferenceIdeal.Value.run (F := Ideal) m ρ)

end Cert.Proof

end
-- ==== Proof.ImgRun.lean ====
/-
  The run of the image call's body: what it stores into the codes', scales', queries' and residual's staging buffers.
-/
module

public import proofs.«01_k».proof.Proof.Gen.Image.Frame
public import proofs.«01_k».proof.Proof.Gen.Image.Skeleton

@[expose] public section

set_option maxRecDepth 16384

noncomputable section

namespace Cert.Image.Body

open Cert.Image Cert.Image.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at any point, whether or not it takes its branch: on whole staging memrefs, the inputs' at their
    contents and the outputs' at anything, it ends with the inputs as they were, the codes', scales', queries' and
    residual's buffers with the pieces found here written, and the keys', values' and weight's buffers at anything. -/
noncomputable def run (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    Σ' (L13 : List (View.Piece (Elt F) (S512x256) .fp8e4m3)), Σ' (L14 : List (View.Piece (Elt F) (S1x512) .f32)), Σ' (L15 : List (View.Piece (Elt F) (S512x256) .fp8e4m3)), Σ' (L16 : List (View.Piece (Elt F) (S1x512) .f32)), Σ' (L19 : List (View.Piece (Elt F) (S384x512) .bf16)), { L20 : List (View.Piece (Elt F) S256x512 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (∃ f, a16.view.loc (c : Thread nD τ) ↦[a16.view.set]{fullShare} a16.view.writes (Elt F) f L16) ∗ (∃ d, owns (c : Thread nD τ) a17 fullShare d) ∗ (∃ d, owns (c : Thread nD τ) a18 fullShare d) ∗ (∃ f, a19.view.loc (c : Thread nD τ) ↦[a19.view.set]{fullShare} a19.view.writes (Elt F) f L19) ∗ (∃ f, a20.view.loc (c : Thread nD τ) ↦[a20.view.set]{fullShare} a20.view.writes (Elt F) f L20) ∗ (∃ d, owns (c : Thread nD τ) a21 fullShare d)) -∗ K ⟨⟩))
          ⊢ wp frame (wpE (defs₀ (F := F)) Variants.none c none) E (cc0_image i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) K } := by
  refine ⟨?_, ?_, ?_, ?_, ?_, ?_, fun E K => ?run⟩
  case run =>
    simp only [cc0_image_eq_skeleton]; unfold cc0_image_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12
    by_cases hc : k0_cond1 i = 1#1
    all_goals
      sl_exec (disch := sl_exact hc)
      sl_step
      iapply Hk
      isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; iexact H13
      isplitl [H14]
      · iexists _; iexact H14
      isplitl [H15]
      · iexists _; iexact H15
      isplitl [H16]
      · iexists _; iexact H16
      isplitl [H17]
      · iexists _; iexists _; isplitr; swap; · iexact H17
        ipureintro; rfl
      isplitl [H18]
      · iexists _; iexists _; isplitr; swap; · iexact H18
        ipureintro; rfl
      isplitl [H19]
      · iexists _; iexact H19
      isplitl [H20]
      · iexists _; iexact H20
      iexists _; iexists _; isplitr; swap; · iexact H21
      ipureintro; rfl

end Cert.Image.Body

end
-- ==== Proof.ImgBody.lean ====
/-
  The image call's pipeline: what each point leaves, the body's obligation at every point, and the frame.
-/
module

public import proofs.«01_k».proof.Proof.ImgRun
public import Idealize.ShloMosaic.Lib.Pipeline.ValueKit
public import Idealize.ShloMosaic.Lib.Claim

@[expose] public section

set_option maxRecDepth 16384

noncomputable section

namespace Cert.Image.Body

open Cert.Image Cert.Image.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole memref's whole block reads what the memref holds. -/
theorem loaded {κ : Kind} {sp : Space} {S : Shape} {e : EltTy} {a : Memref sig κ sp S e} (h : a.IsWhole) (X : S.Idx → Elt F e)
    {off : Fin S.rank → ℕ} (z : off = fun _ => 0) (inb : ∀ x, off x + S.size x ≤ S.size x) :
    View.readAt (Elt F) a.view (Rect.unit off S.size inb).toLoadRect (h.unread X) = X := by
  rw [View.readAt_eq_ld, h.read_unread, View.ld_unit_zero z]

/-- One store of a whole block leaves what it stores. -/
theorem stored {κ : Kind} {sp : Space} {S : Shape} {e : EltTy} (v : View sig κ sp S e) (f : v.ty.Contents (Elt F))
    {off : Fin S.rank → ℕ} (z : off = fun _ => 0) (inb : ∀ x, off x + S.size x ≤ S.size x) (w : S.Idx → Elt F e)
    (L : List (View.Piece (Elt F) S e)) (hL : L = [(⟨Rect.unit off S.size inb, w⟩ : View.Piece (Elt F) S e)]) :
    v.read (Elt F) (v.writes (Elt F) f L) = w := by
  subst hL
  rw [View.read_writes_eq_canon v f _ fun y => ⟨_, List.mem_singleton_self _, View.mem_set_unit_zero z inb y⟩, View.canon_unit_zero z inb w]

/-- The two offsets of a whole block. -/
theorem zz : (![0, 0] : Fin 2 → ℕ) = fun _ => 0 := by funext x; fin_cases x <;> rfl

/-- What a point stores of the codes of the rows with their places added. -/
def o13 (x0 : Vec F S512x256 .bf16) (x1 : Vec F S512x256 .bf16) : Vec F S512x256 .fp8e4m3 := k0_pay13 (k0_pay12 (k0_pay3 x0 x1)) (FloatOps.ofBits .f32 0xC3E00000#32) (FloatOps.ofBits .f32 0x43E00000#32)

/-- What a point stores of their scales. -/
def o14 (x0 : Vec F S512x256 .bf16) (x1 : Vec F S512x256 .bf16) : Vec F S1x512 .f32 := k0_pay5 x0 x1

/-- What a point stores of the codes of the rows. -/
def o15 (x0 : Vec F S512x256 .bf16) : Vec F S512x256 .fp8e4m3 := k0_pay14 (k0_pay2 x0) (k0_pay11 (k0_pay2 x0))

/-- What a point stores of their scales. -/
def o16 (x0 : Vec F S512x256 .bf16) : Vec F S1x512 .f32 := k0_pay6 x0

/-- What a point stores of the queries' limbs. -/
def o19 (x0 : Vec F S512x256 .bf16) (x1 : Vec F S512x256 .bf16) (x7 : Vec F S256x128 .fp8e4m3) (x8 : Vec F S1x128 .f32) (x9 : Vec F S1x128 .f32) : Vec F S384x512 .bf16 := k0_pay46 (k0_pay19 (k0_pay17 (k0_pay12 (k0_pay3 x0 x1)) (FloatOps.ofBits .f32 0xC3E00000#32) (FloatOps.ofBits .f32 0x43E00000#32) x7) (k0_pay18 (k0_pay8 (k0_pay3 x0 x1))) x8 x9)

/-- What a point stores of the residual. -/
def o20 (x0 : Vec F S512x256 .bf16) (x12 : Vec F S256x1 .f32) : Vec F S256x512 .f32 := k0_pay47 (k0_pay4 x0) x12

/-- The one piece the run writes of the codes of the rows with their places added. -/
theorem piece13 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).1 = [⟨Rect.unit ![0, 0] S512x256.size inb_S512x256_S512x256_0_0, o13 x0 x1⟩] := by
  show [(⟨Rect.unit ![0, 0] S512x256.size inb_S512x256_S512x256_0_0, _⟩ : View.Piece (Elt F) S512x256 .fp8e4m3)] = _
  refine congrArg (fun p => [(⟨Rect.unit ![0, 0] S512x256.size inb_S512x256_S512x256_0_0, p⟩ : View.Piece (Elt F) S512x256 .fp8e4m3)]) ?_
  show o13 (View.readAt (Elt F) a0.view (Rect.unit ![0, 0] S512x256.size inb_S512x256_S512x256_0_0).toLoadRect (h0.unread x0)) (View.readAt (Elt F) a1.view (Rect.unit ![0, 0] S512x256.size inb_S512x256_S512x256_0_0).toLoadRect (h1.unread x1)) = _
  rw [(loaded h0 x0 zz inb_S512x256_S512x256_0_0), (loaded h1 x1 zz inb_S512x256_S512x256_0_0)]

/-- The one piece the run writes of their scales. -/
theorem piece14 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.1 = [⟨Rect.unit ![0, 0] S1x512.size inb_S1x512_S1x512_0_0, o14 x0 x1⟩] := by
  show [(⟨Rect.unit ![0, 0] S1x512.size inb_S1x512_S1x512_0_0, _⟩ : View.Piece (Elt F) S1x512 .f32)] = _
  refine congrArg (fun p => [(⟨Rect.unit ![0, 0] S1x512.size inb_S1x512_S1x512_0_0, p⟩ : View.Piece (Elt F) S1x512 .f32)]) ?_
  show o14 (View.readAt (Elt F) a0.view (Rect.unit ![0, 0] S512x256.size inb_S512x256_S512x256_0_0).toLoadRect (h0.unread x0)) (View.readAt (Elt F) a1.view (Rect.unit ![0, 0] S512x256.size inb_S512x256_S512x256_0_0).toLoadRect (h1.unread x1)) = _
  rw [(loaded h0 x0 zz inb_S512x256_S512x256_0_0), (loaded h1 x1 zz inb_S512x256_S512x256_0_0)]

/-- The one piece the run writes of the codes of the rows. -/
theorem piece15 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.1 = [⟨Rect.unit ![0, 0] S512x256.size inb_S512x256_S512x256_0_0, o15 x0⟩] := by
  show [(⟨Rect.unit ![0, 0] S512x256.size inb_S512x256_S512x256_0_0, _⟩ : View.Piece (Elt F) S512x256 .fp8e4m3)] = _
  refine congrArg (fun p => [(⟨Rect.unit ![0, 0] S512x256.size inb_S512x256_S512x256_0_0, p⟩ : View.Piece (Elt F) S512x256 .fp8e4m3)]) ?_
  show o15 (View.readAt (Elt F) a0.view (Rect.unit ![0, 0] S512x256.size inb_S512x256_S512x256_0_0).toLoadRect (h0.unread x0)) = _
  rw [(loaded h0 x0 zz inb_S512x256_S512x256_0_0)]

/-- The one piece the run writes of their scales. -/
theorem piece16 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.2.1 = [⟨Rect.unit ![0, 0] S1x512.size inb_S1x512_S1x512_0_0, o16 x0⟩] := by
  show [(⟨Rect.unit ![0, 0] S1x512.size inb_S1x512_S1x512_0_0, _⟩ : View.Piece (Elt F) S1x512 .f32)] = _
  refine congrArg (fun p => [(⟨Rect.unit ![0, 0] S1x512.size inb_S1x512_S1x512_0_0, p⟩ : View.Piece (Elt F) S1x512 .f32)]) ?_
  show o16 (View.readAt (Elt F) a0.view (Rect.unit ![0, 0] S512x256.size inb_S512x256_S512x256_0_0).toLoadRect (h0.unread x0)) = _
  rw [(loaded h0 x0 zz inb_S512x256_S512x256_0_0)]

/-- The one piece the run writes of the queries' limbs. -/
theorem piece19 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.2.2.1 = [⟨Rect.unit ![0, 0] S384x512.size inb_S384x512_S384x512_0_0, o19 x0 x1 x7 x8 x9⟩] := by
  show [(⟨Rect.unit ![0, 0] S384x512.size inb_S384x512_S384x512_0_0, _⟩ : View.Piece (Elt F) S384x512 .bf16)] = _
  refine congrArg (fun p => [(⟨Rect.unit ![0, 0] S384x512.size inb_S384x512_S384x512_0_0, p⟩ : View.Piece (Elt F) S384x512 .bf16)]) ?_
  show o19 (View.readAt (Elt F) a0.view (Rect.unit ![0, 0] S512x256.size inb_S512x256_S512x256_0_0).toLoadRect (h0.unread x0)) (View.readAt (Elt F) a1.view (Rect.unit ![0, 0] S512x256.size inb_S512x256_S512x256_0_0).toLoadRect (h1.unread x1)) (View.readAt (Elt F) a7.view (Rect.unit ![0, 0] S256x128.size inb_S256x128_S256x128_0_0).toLoadRect (h7.unread x7)) (View.readAt (Elt F) a8.view (Rect.unit ![0, 0] S1x128.size inb_S1x128_S1x128_0_0).toLoadRect (h8.unread x8)) (View.readAt (Elt F) a9.view (Rect.unit ![0, 0] S1x128.size inb_S1x128_S1x128_0_0).toLoadRect (h9.unread x9)) = _
  rw [(loaded h0 x0 zz inb_S512x256_S512x256_0_0), (loaded h1 x1 zz inb_S512x256_S512x256_0_0), (loaded h7 x7 zz inb_S256x128_S256x128_0_0), (loaded h8 x8 zz inb_S1x128_S1x128_0_0), (loaded h9 x9 zz inb_S1x128_S1x128_0_0)]

/-- The one piece the run writes of the residual. -/
theorem piece20 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.2.2.2.1 = [⟨Rect.unit ![0, 0] S256x512.size inb_S256x512_S256x512_0_0, o20 x0 x12⟩] := by
  show [(⟨Rect.unit ![0, 0] S256x512.size inb_S256x512_S256x512_0_0, _⟩ : View.Piece (Elt F) S256x512 .f32)] = _
  refine congrArg (fun p => [(⟨Rect.unit ![0, 0] S256x512.size inb_S256x512_S256x512_0_0, p⟩ : View.Piece (Elt F) S256x512 .f32)]) ?_
  show o20 (View.readAt (Elt F) a0.view (Rect.unit ![0, 0] S512x256.size inb_S512x256_S512x256_0_0).toLoadRect (h0.unread x0)) (View.readAt (Elt F) a12.view (Rect.unit ![0, 0] S256x1.size inb_S256x1_S256x1_0_0).toLoadRect (h12.unread x12)) = _
  rw [(loaded h0 x0 zz inb_S512x256_S512x256_0_0), (loaded h12 x12 zz inb_S256x1_S256x1_0_0)]

/-- The windows whose contents are not named: the keys', the values' and the weight's. -/
def fgt (w : Fin cfg0.W) : Bool := w.val == 17 || (w.val == 18 || w.val == 21)

/-- The proof data: the arrays as the region finds them; after the body each input's buffer at its block, the codes',
    scales', queries' and residual's at what the point stores, the other three unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => o13 (iblk m c 0 t) (iblk m c 1 t)
    | ⟨14, _⟩ => o14 (iblk m c 0 t) (iblk m c 1 t)
    | ⟨15, _⟩ => o15 (iblk m c 0 t)
    | ⟨16, _⟩ => o16 (iblk m c 0 t)
    | ⟨17, _⟩ => Dat.unnamed (cfg := cfg0) 17 t
    | ⟨18, _⟩ => Dat.unnamed (cfg := cfg0) 18 t
    | ⟨19, _⟩ => o19 (iblk m c 0 t) (iblk m c 1 t) (iblk m c 7 t) (iblk m c 8 t) (iblk m c 9 t)
    | ⟨20, _⟩ => o20 (iblk m c 0 t) (iblk m c 12 t)
    | ⟨21, _⟩ => Dat.unnamed (cfg := cfg0) 21 t
    | ⟨_ + 22, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = o13 (iblk m c 0 t) (iblk m c 1 t) := by dsimp only [dats]
theorem after0_14 (c : Dev nD) (t : Fin cfg0.N) : (dats m 0 c).after 14 t = o14 (iblk m c 0 t) (iblk m c 1 t) := by dsimp only [dats]
theorem after0_15 (c : Dev nD) (t : Fin cfg0.N) : (dats m 0 c).after 15 t = o15 (iblk m c 0 t) := by dsimp only [dats]
theorem after0_16 (c : Dev nD) (t : Fin cfg0.N) : (dats m 0 c).after 16 t = o16 (iblk m c 0 t) := by dsimp only [dats]
theorem after0_19 (c : Dev nD) (t : Fin cfg0.N) : (dats m 0 c).after 19 t = o19 (iblk m c 0 t) (iblk m c 1 t) (iblk m c 7 t) (iblk m c 8 t) (iblk m c 9 t) := by dsimp only [dats]
theorem after0_20 (c : Dev nD) (t : Fin cfg0.N) : (dats m 0 c).after 20 t = o20 (iblk m c 0 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .fp8e4m3 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x256 .fp8e4m3 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S256x1 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x256 .fp8e4m3 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x512 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x256 .fp8e4m3 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x512 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S4x512x192 .bf16 := win0_17.stage (cfg0.slots t 17)
abbrev hs17 (t : Fin cfg0.N) : (ms17 t).IsWhole := hstage0_17 ((cfg0.slots t 17).cast nbuf0_17)
abbrev ms18 (t : Fin cfg0.N) : Memref sig .tc .vmem S4x112x512 .bf16 := win0_18.stage (cfg0.slots t 18)
abbrev hs18 (t : Fin cfg0.N) : (ms18 t).IsWhole := hstage0_18 ((cfg0.slots t 18).cast nbuf0_18)
abbrev ms19 (t : Fin cfg0.N) : Memref sig .tc .vmem S384x512 .bf16 := win0_19.stage (cfg0.slots t 19)
abbrev hs19 (t : Fin cfg0.N) : (ms19 t).IsWhole := hstage0_19 ((cfg0.slots t 19).cast nbuf0_19)
abbrev ms20 (t : Fin cfg0.N) : Memref sig .tc .vmem S256x512 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S256x256 .bf16 := win0_21.stage (cfg0.slots t 21)
abbrev hs21 (t : Fin cfg0.N) : (ms21 t).IsWhole := hstage0_21 ((cfg0.slots t 21).cast nbuf0_21)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare d)
    ∗ (∃ d, owns (c : Thread nD τ) (ms18 t) fullShare d)
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ (∃ d, owns (c : Thread nD τ) (ms17 t) fullShare d)
    ∗ (∃ d, owns (c : Thread nD τ) (ms18 t) fullShare d)
    ∗ owns (c : Thread nD τ) (ms19 t) fullShare ((dats m 0 c).after 19 t)
    ∗ owns (c : Thread nD τ) (ms20 t) fullShare ((dats m 0 c).after 20 t)
    ∗ (∃ d, owns (c : Thread nD τ) (ms21 t) fullShare d))

set_option maxHeartbeats 4000000 in
/-- The body at any point: the inputs' buffers hold their blocks, so the run applies; what it writes is what the proof
    data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl]
  rw [after0_0, after0_1, after0_2, after0_3, after0_4, after0_5, after0_6, after0_7, after0_8, after0_9, after0_10, after0_11, after0_12, after0_13, after0_14, after0_15, after0_16, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((run (F := F) c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, ⟨%e13, H13⟩, ⟨%e14, H14⟩, ⟨%e15, H15⟩, ⟨%e16, H16⟩, H17, H18, ⟨%e19, H19⟩, ⟨%e20, H20⟩, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact stored _ _ zz inb_S512x256_S512x256_0_0 _ _ (piece13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact stored _ _ zz inb_S1x512_S1x512_0_0 _ _ (piece14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact stored _ _ zz inb_S512x256_S512x256_0_0 _ _ (piece15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact stored _ _ zz inb_S1x512_S1x512_0_0 _ _ (piece16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]; · iexact H17
  isplitl [H18]; · iexact H18
  isplitl [H19]
  · unfold owns; iexists _; isplitr
    swap; · iexact H19
    ipureintro; exact stored _ _ zz inb_S384x512_S384x512_0_0 _ _ (piece19 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact stored _ _ zz inb_S256x512_S256x512_0_0 _ _ (piece20 c _ _ _ _ _ _ _ _ _ _ _ _ _ _ _ _ _ _ _ _ _ _ _ _ _ _ _ _ _ _ _ _ _ _ _ _ _ _ _ _ _ _ _ _ _ _ _ _ _ _ _ _ _ _ _ _ _ _)
  iexact H21

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: every array ends at what the proof data allows, every other buffer as the region found it, the counters at
    zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the run's arrays say of the arguments: they are as launched. -/
theorem kept (r : PUnit × MemSt nD τ sig (Elt F)) (h : RDat.FramePost cfg0 (fun c => (dats m 0 c).toRForget fgt) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    ((h c).2 main_arg3 (Pipeline.mem_restRefs_of main_arg3 (by decide) (by decide))).trans (V_main_arg3 m c),
    (h.arr_in c 4 rfl).trans ((A_eq m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (h.arr_in c 7 rfl).trans ((A_eq m c 7).trans (V_main_arg7 m c)),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    (h.arr_in c 10 rfl).trans ((A_eq m c 10).trans (V_main_arg10 m c)),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- THE FRAME: the arguments and the counters end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => kept m r h.1 c, h.2⟩) (run_main m ρ)

end Cert.Image.Body

end
-- ==== Proof.ImgCore.lean ====
/- The arithmetic of one image position, over the extended reals: what the call and the reference both compute. -/
module

public import Idealize.ShloMosaic.Lib.Pointwise

@[expose] public section

noncomputable section

namespace Cert.ImgCore

open Idealize.ShloMosaic

/-- The named constant's value. -/
abbrev log2e : EReal := (((Real.log 2)⁻¹ : ℝ) : EReal)

/-- The largest magnitude. -/
def amE (o : Fin 256 → EReal) : EReal :=
  Finset.univ.fold max (Ideal.ofBits .f32 0xFF800000#32) fun c => (FloatOps.absf (F := Ideal) (φ := .f32) (o c) : EReal)

/-- The exponent of the scale: of the power of two above the largest magnitude over 448, and 0 for a zero row. -/
def expE (o : Fin 256 → EReal) : EReal :=
  if amE o = 0 then 0 else Ideal.liftRound Int.floor (Ideal.log (amE o * Ideal.ofBits .f32 0x3B124925#32) * log2e) + 1

/-- The scale. -/
def scaleE (o : Fin 256 → EReal) : EReal := Ideal.exp2 (expE o)

/-- The code of a channel. -/
def codeE (o : Fin 256 → EReal) (c : Fin 256) : EReal :=
  min (Ideal.ofBits .f32 0x43E00000#32) (max (Ideal.ofBits .f32 0xC3E00000#32) (o c * Ideal.exp2 (0 - expE o)))

/-- The query of a position: the codes' product with the weight's codes, at both scales, plus the bias, scaled. -/
def queryE (o : Fin 256 → EReal) (w : Fin 256 → Fin 128 → EReal) (s b : Fin 128 → EReal) (h : Fin 128) : EReal :=
  ((∑ x, codeE o x * w x h) * scaleE o * s h + b h) * Ideal.ofBits .f32 0x3E8293EE#32

/-- The three limbs of a query, one after the other. -/
def limbE (q : Fin 128 → EReal) (k : Fin 384) : EReal :=
  if h : k.val < 128 then q ⟨k.val, h⟩
  else if h' : k.val - 128 < 128 then q ⟨k.val - 128, h'⟩ - q ⟨k.val - 128, h'⟩
  else q ⟨k.val - 128 - 128, by omega⟩ - q ⟨k.val - 128 - 128, by omega⟩ - (q ⟨k.val - 128 - 128, by omega⟩ - q ⟨k.val - 128 - 128, by omega⟩)

/-- A position's row and the bias, less their mean. -/
def centreE (o b : Fin 256 → EReal) (d : Fin 256) : EReal :=
  (o d + b d) - Ideal.div (∑ e, (o e + b e)) (Ideal.ofBits .f32 0x43800000#32)

/-- A position's row with its place added. -/
def placedG (x p : (⟨2, ![4096, 256]⟩ : Shape).Idx → EReal) (n : Fin 4096) (d : Fin 256) : EReal := x (ix2 n d) + p (ix2 n d)

/-- A position's row. -/
def rowG (x : (⟨2, ![4096, 256]⟩ : Shape).Idx → EReal) (n : Fin 4096) (d : Fin 256) : EReal := x (ix2 n d)

/-- A position's query. -/
def queryG (x p : (⟨2, ![4096, 256]⟩ : Shape).Idx → EReal) (w : (⟨2, ![256, 128]⟩ : Shape).Idx → EReal) (s b : (⟨1, ![128]⟩ : Shape).Idx → EReal) (n : Fin 4096) : Fin 128 → EReal :=
  queryE (placedG x p n) (fun x h => w (ix2 x h)) (fun h => s (ix1 h)) (fun h => b (ix1 h))

/-- A position's row and the bias, less their mean. -/
def centreG (x : (⟨2, ![4096, 256]⟩ : Shape).Idx → EReal) (b : (⟨1, ![256]⟩ : Shape).Idx → EReal) (n : Fin 4096) : Fin 256 → EReal :=
  centreE (rowG x n) fun d => b (ix1 d)

end Cert.ImgCore

end
-- ==== Proof.ImgPoint.lean ====
/- What the image call's body computes at a position, over the extended reals. -/
module

public import proofs.«01_k».proof.Proof.Gen.ImageIdeal.Skeleton
public import proofs.«01_k».proof.Proof.ImgCore

@[expose] public section

set_option maxRecDepth 16384

noncomputable section

namespace Cert.Img

open Cert.ImageIdeal Cert.ImageIdeal.Gen Idealize.ShloMosaic Cert.ImgCore

/-- The named constant's value. -/
theorem log2e_eq : (Named.named (F := Ideal) κ "log2e" (φ := .f32) 0x3FB8AA3B#32 : EReal) = ImgCore.log2e := rfl

/-- The exponent's formula at an index. -/
theorem exp_apply {s : Shape} (m : FVec Ideal s .f32) (i : s.Idx) :
    select (cmpf .oeq m (broadcast s (FloatOps.ofBits .f32 0x00000000#32))) (broadcast s (FloatOps.ofBits .f32 0x00000000#32))
      (addf (floor (mulf (log (mulf m (broadcast s (FloatOps.ofBits .f32 0x3B124925#32)))) (broadcast s (Named.named κ "log2e" 0x3FB8AA3B#32))))
        (broadcast s (FloatOps.ofBits .f32 0x3F800000#32))) i
      = if m i = 0 then 0 else Ideal.liftRound Int.floor (Ideal.log (m i * Ideal.ofBits .f32 0x3B124925#32) * ImgCore.log2e) + 1 := by
  pointwise []
  rw [log2e_eq]

/-- Two to a number. -/
theorem two_apply {S : Shape} (e : FVec Ideal S .f32) (i : S.Idx) : exp2 e i = Ideal.exp2 (e i) := rfl

/-- Two to minus a number. -/
theorem neg_apply {S : Shape} (e : FVec Ideal S .f32) (i : S.Idx) :
    exp2 (subf (broadcast S (FloatOps.ofBits .f32 0x00000000#32)) e) i = Ideal.exp2 (0 - e i) := by
  pointwise []
  rfl

/-- The codes' formula at an index. -/
theorem code_apply {S : Shape} (x y : FVec Ideal S .f32) (i : S.Idx) :
    truncf .fp8e4m3 (minimumf (broadcast S (FloatOps.ofBits .f32 0x43E00000#32)) (maximumf (broadcast S (FloatOps.ofBits .f32 0xC3E00000#32)) (mulf x y))) bitsLt_fp8e4m3_f32 i
      = min (Ideal.ofBits .f32 0x43E00000#32) (max (Ideal.ofBits .f32 0xC3E00000#32) (x i * y i)) := rfl

/-- The largest magnitude of a row. -/
theorem am_row (w : FVec Ideal S512x256 .f32) (r : Fin 512) :
    shapeCast S512x1 (multiReduction .maximumf [1] S512 (absf w) 0xFF800000#32 reduces_S512x256_S512 (.inl rfl) rfl) shapeCasts_S512_S512x1 (ix2 r 0) = amE fun d => w (ix2 r d) := by
  pointwise []
  rfl

/-- The largest magnitude of a column. -/
theorem am_col (w : FVec Ideal S256x512 .f32) (r : Fin 512) :
    shapeCast S1x512 (multiReduction .maximumf [0] S512 (absf w) 0xFF800000#32 reduces_S256x512_S512 (.inl rfl) rfl) shapeCasts_S512_S1x512 (ix2 0 r) = amE fun d => w (ix2 d r) := by
  pointwise []
  rfl

/-- Rows as columns. -/
theorem tr_apply (w : FVec Ideal S512x256 .f32) (r : Fin 512) (d : Fin 256) : transpose S256x512 [1, 0] w transposes_S512x256_p1_0_S256x512 (ix2 d r) = w (ix2 r d) := by
  pointwise []

/-- A column spread over a row. -/
theorem spread (e : FVec Ideal S512x1 .f32) (r : Fin 512) (d : Fin 256) : broadcastTo S512x256 e broadcasts_S512x1_S512x256 (ix2 r d) = e (ix2 r 0) := by
  pointwise []

/-- The rows with their places added. -/
theorem pay3_apply (x0 x1 : Vec Ideal S512x256 .bf16) (r : Fin 512) (d : Fin 256) : k0_pay3 x0 x1 (ix2 r d) = x0 (ix2 r d) + x1 (ix2 r d) := rfl

/-- The rows. -/
theorem pay2_apply (x0 : Vec Ideal S512x256 .bf16) (r : Fin 512) (d : Fin 256) : k0_pay2 x0 (ix2 r d) = x0 (ix2 r d) := rfl

/-- The rows as columns. -/
theorem pay4_apply (x0 : Vec Ideal S512x256 .bf16) (r : Fin 512) (d : Fin 256) : k0_pay4 x0 (ix2 d r) = x0 (ix2 r d) := by
  unfold k0_pay4
  exact tr_apply _ r d

/-- The exponent of a row's scale. -/
theorem pay7_apply (v : FVec Ideal S512x256 .f32) (r : Fin 512) : k0_pay7 v (ix2 r 0) = expE fun d => v (ix2 r d) := by
  have h := am_row v r
  unfold k0_pay7
  dsimp only
  unfold expE
  rw [← h]
  exact exp_apply (s := S512x1) _ _

/-- The exponent of a row's scale. -/
theorem pay9_apply (v : FVec Ideal S512x256 .f32) (r : Fin 512) : k0_pay9 v (ix2 r 0) = expE fun d => v (ix2 r d) := pay7_apply v r

/-- The scale of a row. -/
theorem pay8_apply (v : FVec Ideal S512x256 .f32) (r : Fin 512) : k0_pay8 v (ix2 r 0) = scaleE fun d => v (ix2 r d) := by
  unfold k0_pay8
  refine (two_apply (S := S512x1) _ _).trans ?_
  rw [pay7_apply]
  unfold scaleE
  with_reducible rfl

/-- The scale of a row with its place added, as a column's. -/
theorem pay5_apply (x0 x1 : Vec Ideal S512x256 .bf16) (r : Fin 512) : k0_pay5 x0 x1 (ix2 0 r) = scaleE fun d => x0 (ix2 r d) + x1 (ix2 r d) := by
  have h := (am_col (transpose S256x512 [1, 0] (k0_pay3 x0 x1) transposes_S512x256_p1_0_S256x512) r).trans
    (congrArg amE (funext fun d => (tr_apply (k0_pay3 x0 x1) r d).trans (pay3_apply x0 x1 r d)))
  unfold k0_pay5
  dsimp only
  refine (two_apply (S := S1x512) _ _).trans ?_
  unfold scaleE expE
  rw [← h]
  exact congrArg Ideal.exp2 (exp_apply (s := S1x512) _ _)

/-- The scale of a row, as a column's. -/
theorem pay6_apply (x0 : Vec Ideal S512x256 .bf16) (r : Fin 512) : k0_pay6 x0 (ix2 0 r) = scaleE fun d => x0 (ix2 r d) := by
  have h := (am_col (k0_pay4 x0) r).trans (congrArg amE (funext fun d => pay4_apply x0 r d))
  unfold k0_pay6
  dsimp only
  refine (two_apply (S := S1x512) _ _).trans ?_
  unfold scaleE expE
  rw [← h]
  exact congrArg Ideal.exp2 (exp_apply (s := S1x512) _ _)

/-- The codes of a row. -/
theorem codes_apply (v : FVec Ideal S512x256 .f32) (r : Fin 512) (d : Fin 256) :
    k0_pay13 (k0_pay12 v) (FloatOps.ofBits .f32 0xC3E00000#32) (FloatOps.ofBits .f32 0x43E00000#32) (ix2 r d) = codeE (fun d => v (ix2 r d)) d := by
  unfold k0_pay13 k0_pay12
  refine (code_apply (S := S512x256) _ _ _).trans ?_
  rw [spread, neg_apply, pay7_apply]
  unfold codeE
  with_reducible rfl

/-- The codes of a row. -/
theorem codes'_apply (v : FVec Ideal S512x256 .f32) (r : Fin 512) (d : Fin 256) : k0_pay14 v (k0_pay11 v) (ix2 r d) = codeE (fun d => v (ix2 r d)) d := by
  unfold k0_pay14 k0_pay11
  refine (code_apply (S := S512x256) _ _ _).trans ?_
  rw [spread, neg_apply, pay9_apply]
  unfold codeE
  with_reducible rfl

/-- Codes times the weight's codes. -/
theorem prod_apply (a : FVec Ideal S512x256 .fp8e4m3) (w : FVec Ideal S256x128 .fp8e4m3) (r : Fin 512) (h : Fin 128) :
    (matmul dot_S512x256_S256x128_S512x128_1_0_0_1_n_n none a w (constant S512x128 .f32 0x00000000#32) : FVec Ideal S512x128 .f32) (ix2 r h) = ∑ x : Fin 256, a (ix2 r x) * w (ix2 x h) := by
  pointwise []

/-- A row's product at the scales, with the bias. -/
theorem pay19_apply (p : FVec Ideal S512x128 .f32) (e : FVec Ideal S512x1 .f32) (s b : Vec Ideal S1x128 .f32) (r : Fin 512) (h : Fin 128) :
    k0_pay19 p (k0_pay18 e) s b (ix2 r h) = p (ix2 r h) * e (ix2 r 0) * s (ix2 0 h) + b (ix2 0 h) := by
  pointwise [k0_pay19, k0_pay18]

/-- Three parts of 128 rows on top of each other. -/
theorem three_apply (a b c : FVec Ideal S128x512 .bf16) (k : Fin 384) (r : Fin 512) :
    concatenate S384x512 0 [⟨S128x512, a⟩, ⟨S128x512, b⟩, ⟨S128x512, c⟩] concatenates_S128x512_S128x512_S128x512_S384x512_d0 (ix2 k r)
      = if h : k.val < 128 then a (ix2 ⟨k.val, h⟩ r) else if h' : k.val - 128 < 128 then b (ix2 ⟨k.val - 128, h'⟩ r) else c (ix2 ⟨k.val - 128 - 128, by omega⟩ r) := by
  pointwise []

/-- The limbs of a row's scaled query. -/
theorem pay46_apply (v : FVec Ideal S512x128 .f32) (k : Fin 384) (r : Fin 512) :
    k0_pay46 v (ix2 k r) = limbE (fun h => v (ix2 r h) * Ideal.ofBits .f32 0x3E8293EE#32) k := by
  unfold k0_pay46
  refine (three_apply _ _ _ k r).trans ?_
  unfold limbE
  pointwise []

/-- A row and the bias, less their mean. -/
theorem pay47_apply (x0 : Vec Ideal S512x256 .bf16) (b : Vec Ideal S256x1 .f32) (d : Fin 256) (r : Fin 512) :
    k0_pay47 (k0_pay4 x0) b (ix2 d r) = centreE (fun d => x0 (ix2 r d)) (fun d => b (ix2 d 0)) d := by
  have h := fun d => pay4_apply x0 r d
  generalize k0_pay4 x0 = y at h
  unfold centreE
  simp only [← h]
  pointwise [k0_pay47]

end Cert.Img

end
-- ==== Proof.ImgRunIdeal.lean ====
/-
  The run of the image call's body: what it stores into the codes', scales', queries' and residual's staging buffers.
-/
module

public import proofs.«01_k».proof.Proof.Gen.ImageIdeal.Frame
public import proofs.«01_k».proof.Proof.Gen.ImageIdeal.Skeleton

@[expose] public section

set_option maxRecDepth 16384

noncomputable section

namespace Cert.ImageIdeal.Body

open Cert.ImageIdeal Cert.ImageIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body's run at any point, whether or not it takes its branch: on whole staging memrefs, the inputs' at their
    contents and the outputs' at anything, it ends with the inputs as they were, the codes', scales', queries' and
    residual's buffers with the pieces found here written, and the keys', values' and weight's buffers at anything. -/
noncomputable def run (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    Σ' (L13 : List (View.Piece (Elt F) (S512x256) .fp8e4m3)), Σ' (L14 : List (View.Piece (Elt F) (S1x512) .f32)), Σ' (L15 : List (View.Piece (Elt F) (S512x256) .fp8e4m3)), Σ' (L16 : List (View.Piece (Elt F) (S1x512) .f32)), Σ' (L19 : List (View.Piece (Elt F) (S384x512) .bf16)), { L20 : List (View.Piece (Elt F) S256x512 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (∃ f, a16.view.loc (c : Thread nD τ) ↦[a16.view.set]{fullShare} a16.view.writes (Elt F) f L16) ∗ (∃ d, owns (c : Thread nD τ) a17 fullShare d) ∗ (∃ d, owns (c : Thread nD τ) a18 fullShare d) ∗ (∃ f, a19.view.loc (c : Thread nD τ) ↦[a19.view.set]{fullShare} a19.view.writes (Elt F) f L19) ∗ (∃ f, a20.view.loc (c : Thread nD τ) ↦[a20.view.set]{fullShare} a20.view.writes (Elt F) f L20) ∗ (∃ d, owns (c : Thread nD τ) a21 fullShare d)) -∗ K ⟨⟩))
          ⊢ wp frame (wpE (defs₀ (F := F)) Variants.none c none) E (cc0_image i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) K } := by
  refine ⟨?_, ?_, ?_, ?_, ?_, ?_, fun E K => ?run⟩
  case run =>
    simp only [cc0_image_eq_skeleton]; unfold cc0_image_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12
    by_cases hc : k0_cond1 i = 1#1
    all_goals
      sl_exec (disch := sl_exact hc)
      sl_step
      iapply Hk
      isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; iexact H13
      isplitl [H14]
      · iexists _; iexact H14
      isplitl [H15]
      · iexists _; iexact H15
      isplitl [H16]
      · iexists _; iexact H16
      isplitl [H17]
      · iexists _; iexists _; isplitr; swap; · iexact H17
        ipureintro; rfl
      isplitl [H18]
      · iexists _; iexists _; isplitr; swap; · iexact H18
        ipureintro; rfl
      isplitl [H19]
      · iexists _; iexact H19
      isplitl [H20]
      · iexists _; iexact H20
      iexists _; iexists _; isplitr; swap; · iexact H21
      ipureintro; rfl

end Cert.ImageIdeal.Body

end
-- ==== Proof.ImgBodyIdeal.lean ====
/-
  The image call's pipeline: what each point leaves, the body's obligation at every point, and the frame.
-/
module

public import proofs.«01_k».proof.Proof.ImgRunIdeal
public import Idealize.ShloMosaic.Lib.Pipeline.ValueKit
public import Idealize.ShloMosaic.Lib.Claim

@[expose] public section

set_option maxRecDepth 16384

noncomputable section

namespace Cert.ImageIdeal.Body

open Cert.ImageIdeal Cert.ImageIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A load of a whole memref's whole block reads what the memref holds. -/
theorem loaded {κ : Kind} {sp : Space} {S : Shape} {e : EltTy} {a : Memref sig κ sp S e} (h : a.IsWhole) (X : S.Idx → Elt F e)
    {off : Fin S.rank → ℕ} (z : off = fun _ => 0) (inb : ∀ x, off x + S.size x ≤ S.size x) :
    View.readAt (Elt F) a.view (Rect.unit off S.size inb).toLoadRect (h.unread X) = X := by
  rw [View.readAt_eq_ld, h.read_unread, View.ld_unit_zero z]

/-- One store of a whole block leaves what it stores. -/
theorem stored {κ : Kind} {sp : Space} {S : Shape} {e : EltTy} (v : View sig κ sp S e) (f : v.ty.Contents (Elt F))
    {off : Fin S.rank → ℕ} (z : off = fun _ => 0) (inb : ∀ x, off x + S.size x ≤ S.size x) (w : S.Idx → Elt F e)
    (L : List (View.Piece (Elt F) S e)) (hL : L = [(⟨Rect.unit off S.size inb, w⟩ : View.Piece (Elt F) S e)]) :
    v.read (Elt F) (v.writes (Elt F) f L) = w := by
  subst hL
  rw [View.read_writes_eq_canon v f _ fun y => ⟨_, List.mem_singleton_self _, View.mem_set_unit_zero z inb y⟩, View.canon_unit_zero z inb w]

/-- The two offsets of a whole block. -/
theorem zz : (![0, 0] : Fin 2 → ℕ) = fun _ => 0 := by funext x; fin_cases x <;> rfl

/-- What a point stores of the codes of the rows with their places added. -/
def o13 (x0 : Vec F S512x256 .bf16) (x1 : Vec F S512x256 .bf16) : Vec F S512x256 .fp8e4m3 := k0_pay13 (k0_pay12 (k0_pay3 x0 x1)) (FloatOps.ofBits .f32 0xC3E00000#32) (FloatOps.ofBits .f32 0x43E00000#32)

/-- What a point stores of their scales. -/
def o14 (x0 : Vec F S512x256 .bf16) (x1 : Vec F S512x256 .bf16) : Vec F S1x512 .f32 := k0_pay5 x0 x1

/-- What a point stores of the codes of the rows. -/
def o15 (x0 : Vec F S512x256 .bf16) : Vec F S512x256 .fp8e4m3 := k0_pay14 (k0_pay2 x0) (k0_pay11 (k0_pay2 x0))

/-- What a point stores of their scales. -/
def o16 (x0 : Vec F S512x256 .bf16) : Vec F S1x512 .f32 := k0_pay6 x0

/-- What a point stores of the queries' limbs. -/
def o19 (x0 : Vec F S512x256 .bf16) (x1 : Vec F S512x256 .bf16) (x7 : Vec F S256x128 .fp8e4m3) (x8 : Vec F S1x128 .f32) (x9 : Vec F S1x128 .f32) : Vec F S384x512 .bf16 := k0_pay46 (k0_pay19 (k0_pay17 (k0_pay12 (k0_pay3 x0 x1)) (FloatOps.ofBits .f32 0xC3E00000#32) (FloatOps.ofBits .f32 0x43E00000#32) x7) (k0_pay18 (k0_pay8 (k0_pay3 x0 x1))) x8 x9)

/-- What a point stores of the residual. -/
def o20 (x0 : Vec F S512x256 .bf16) (x12 : Vec F S256x1 .f32) : Vec F S256x512 .f32 := k0_pay47 (k0_pay4 x0) x12

/-- The one piece the run writes of the codes of the rows with their places added. -/
theorem piece13 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).1 = [⟨Rect.unit ![0, 0] S512x256.size inb_S512x256_S512x256_0_0, o13 x0 x1⟩] := by
  show [(⟨Rect.unit ![0, 0] S512x256.size inb_S512x256_S512x256_0_0, _⟩ : View.Piece (Elt F) S512x256 .fp8e4m3)] = _
  refine congrArg (fun p => [(⟨Rect.unit ![0, 0] S512x256.size inb_S512x256_S512x256_0_0, p⟩ : View.Piece (Elt F) S512x256 .fp8e4m3)]) ?_
  show o13 (View.readAt (Elt F) a0.view (Rect.unit ![0, 0] S512x256.size inb_S512x256_S512x256_0_0).toLoadRect (h0.unread x0)) (View.readAt (Elt F) a1.view (Rect.unit ![0, 0] S512x256.size inb_S512x256_S512x256_0_0).toLoadRect (h1.unread x1)) = _
  rw [(loaded h0 x0 zz inb_S512x256_S512x256_0_0), (loaded h1 x1 zz inb_S512x256_S512x256_0_0)]

/-- The one piece the run writes of their scales. -/
theorem piece14 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.1 = [⟨Rect.unit ![0, 0] S1x512.size inb_S1x512_S1x512_0_0, o14 x0 x1⟩] := by
  show [(⟨Rect.unit ![0, 0] S1x512.size inb_S1x512_S1x512_0_0, _⟩ : View.Piece (Elt F) S1x512 .f32)] = _
  refine congrArg (fun p => [(⟨Rect.unit ![0, 0] S1x512.size inb_S1x512_S1x512_0_0, p⟩ : View.Piece (Elt F) S1x512 .f32)]) ?_
  show o14 (View.readAt (Elt F) a0.view (Rect.unit ![0, 0] S512x256.size inb_S512x256_S512x256_0_0).toLoadRect (h0.unread x0)) (View.readAt (Elt F) a1.view (Rect.unit ![0, 0] S512x256.size inb_S512x256_S512x256_0_0).toLoadRect (h1.unread x1)) = _
  rw [(loaded h0 x0 zz inb_S512x256_S512x256_0_0), (loaded h1 x1 zz inb_S512x256_S512x256_0_0)]

/-- The one piece the run writes of the codes of the rows. -/
theorem piece15 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.1 = [⟨Rect.unit ![0, 0] S512x256.size inb_S512x256_S512x256_0_0, o15 x0⟩] := by
  show [(⟨Rect.unit ![0, 0] S512x256.size inb_S512x256_S512x256_0_0, _⟩ : View.Piece (Elt F) S512x256 .fp8e4m3)] = _
  refine congrArg (fun p => [(⟨Rect.unit ![0, 0] S512x256.size inb_S512x256_S512x256_0_0, p⟩ : View.Piece (Elt F) S512x256 .fp8e4m3)]) ?_
  show o15 (View.readAt (Elt F) a0.view (Rect.unit ![0, 0] S512x256.size inb_S512x256_S512x256_0_0).toLoadRect (h0.unread x0)) = _
  rw [(loaded h0 x0 zz inb_S512x256_S512x256_0_0)]

/-- The one piece the run writes of their scales. -/
theorem piece16 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.2.1 = [⟨Rect.unit ![0, 0] S1x512.size inb_S1x512_S1x512_0_0, o16 x0⟩] := by
  show [(⟨Rect.unit ![0, 0] S1x512.size inb_S1x512_S1x512_0_0, _⟩ : View.Piece (Elt F) S1x512 .f32)] = _
  refine congrArg (fun p => [(⟨Rect.unit ![0, 0] S1x512.size inb_S1x512_S1x512_0_0, p⟩ : View.Piece (Elt F) S1x512 .f32)]) ?_
  show o16 (View.readAt (Elt F) a0.view (Rect.unit ![0, 0] S512x256.size inb_S512x256_S512x256_0_0).toLoadRect (h0.unread x0)) = _
  rw [(loaded h0 x0 zz inb_S512x256_S512x256_0_0)]

/-- The one piece the run writes of the queries' limbs. -/
theorem piece19 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.2.2.1 = [⟨Rect.unit ![0, 0] S384x512.size inb_S384x512_S384x512_0_0, o19 x0 x1 x7 x8 x9⟩] := by
  show [(⟨Rect.unit ![0, 0] S384x512.size inb_S384x512_S384x512_0_0, _⟩ : View.Piece (Elt F) S384x512 .bf16)] = _
  refine congrArg (fun p => [(⟨Rect.unit ![0, 0] S384x512.size inb_S384x512_S384x512_0_0, p⟩ : View.Piece (Elt F) S384x512 .bf16)]) ?_
  show o19 (View.readAt (Elt F) a0.view (Rect.unit ![0, 0] S512x256.size inb_S512x256_S512x256_0_0).toLoadRect (h0.unread x0)) (View.readAt (Elt F) a1.view (Rect.unit ![0, 0] S512x256.size inb_S512x256_S512x256_0_0).toLoadRect (h1.unread x1)) (View.readAt (Elt F) a7.view (Rect.unit ![0, 0] S256x128.size inb_S256x128_S256x128_0_0).toLoadRect (h7.unread x7)) (View.readAt (Elt F) a8.view (Rect.unit ![0, 0] S1x128.size inb_S1x128_S1x128_0_0).toLoadRect (h8.unread x8)) (View.readAt (Elt F) a9.view (Rect.unit ![0, 0] S1x128.size inb_S1x128_S1x128_0_0).toLoadRect (h9.unread x9)) = _
  rw [(loaded h0 x0 zz inb_S512x256_S512x256_0_0), (loaded h1 x1 zz inb_S512x256_S512x256_0_0), (loaded h7 x7 zz inb_S256x128_S256x128_0_0), (loaded h8 x8 zz inb_S1x128_S1x128_0_0), (loaded h9 x9 zz inb_S1x128_S1x128_0_0)]

/-- The one piece the run writes of the residual. -/
theorem piece20 (c : Dev nD) (i : grid0.Coords) (a0 : Memref sig .tc .vmem S512x256 .bf16) (h0 : a0.IsWhole) (a1 : Memref sig .tc .vmem S512x256 .bf16) (h1 : a1.IsWhole) (a2 : Memref sig .tc .vmem S256x128 .fp8e4m3) (h2 : a2.IsWhole) (a3 : Memref sig .tc .vmem S1x128 .f32) (h3 : a3.IsWhole) (a4 : Memref sig .tc .vmem S256x128 .fp8e4m3) (h4 : a4.IsWhole) (a5 : Memref sig .tc .vmem S1x128 .f32) (h5 : a5.IsWhole) (a6 : Memref sig .tc .vmem S1x128 .f32) (h6 : a6.IsWhole) (a7 : Memref sig .tc .vmem S256x128 .fp8e4m3) (h7 : a7.IsWhole) (a8 : Memref sig .tc .vmem S1x128 .f32) (h8 : a8.IsWhole) (a9 : Memref sig .tc .vmem S1x128 .f32) (h9 : a9.IsWhole) (a10 : Memref sig .tc .vmem S128x256 .fp8e4m3) (h10 : a10.IsWhole) (a11 : Memref sig .tc .vmem S1x256 .f32) (h11 : a11.IsWhole) (a12 : Memref sig .tc .vmem S256x1 .f32) (h12 : a12.IsWhole) (a13 : Memref sig .tc .vmem S512x256 .fp8e4m3) (h13 : a13.IsWhole) (a14 : Memref sig .tc .vmem S1x512 .f32) (h14 : a14.IsWhole) (a15 : Memref sig .tc .vmem S512x256 .fp8e4m3) (h15 : a15.IsWhole) (a16 : Memref sig .tc .vmem S1x512 .f32) (h16 : a16.IsWhole) (a17 : Memref sig .tc .vmem S4x512x192 .bf16) (h17 : a17.IsWhole) (a18 : Memref sig .tc .vmem S4x112x512 .bf16) (h18 : a18.IsWhole) (a19 : Memref sig .tc .vmem S384x512 .bf16) (h19 : a19.IsWhole) (a20 : Memref sig .tc .vmem S256x512 .f32) (h20 : a20.IsWhole) (a21 : Memref sig .tc .vmem S256x256 .bf16) (h21 : a21.IsWhole)
    (x0 : Vec F S512x256 .bf16) (x1 : Vec F S512x256 .bf16) (x2 : Vec F S256x128 .fp8e4m3) (x3 : Vec F S1x128 .f32) (x4 : Vec F S256x128 .fp8e4m3) (x5 : Vec F S1x128 .f32) (x6 : Vec F S1x128 .f32) (x7 : Vec F S256x128 .fp8e4m3) (x8 : Vec F S1x128 .f32) (x9 : Vec F S1x128 .f32) (x10 : Vec F S128x256 .fp8e4m3) (x11 : Vec F S1x256 .f32) (x12 : Vec F S256x1 .f32) :
    (run (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12).2.2.2.2.2.1 = [⟨Rect.unit ![0, 0] S256x512.size inb_S256x512_S256x512_0_0, o20 x0 x12⟩] := by
  show [(⟨Rect.unit ![0, 0] S256x512.size inb_S256x512_S256x512_0_0, _⟩ : View.Piece (Elt F) S256x512 .f32)] = _
  refine congrArg (fun p => [(⟨Rect.unit ![0, 0] S256x512.size inb_S256x512_S256x512_0_0, p⟩ : View.Piece (Elt F) S256x512 .f32)]) ?_
  show o20 (View.readAt (Elt F) a0.view (Rect.unit ![0, 0] S512x256.size inb_S512x256_S512x256_0_0).toLoadRect (h0.unread x0)) (View.readAt (Elt F) a12.view (Rect.unit ![0, 0] S256x1.size inb_S256x1_S256x1_0_0).toLoadRect (h12.unread x12)) = _
  rw [(loaded h0 x0 zz inb_S512x256_S512x256_0_0), (loaded h12 x12 zz inb_S256x1_S256x1_0_0)]

/-- The windows whose contents are not named: the keys', the values' and the weight's. -/
def fgt (w : Fin cfg0.W) : Bool := w.val == 17 || (w.val == 18 || w.val == 21)

/-- The proof data: the arrays as the region finds them; after the body each input's buffer at its block, the codes',
    scales', queries' and residual's at what the point stores, the other three unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => o13 (iblk m c 0 t) (iblk m c 1 t)
    | ⟨14, _⟩ => o14 (iblk m c 0 t) (iblk m c 1 t)
    | ⟨15, _⟩ => o15 (iblk m c 0 t)
    | ⟨16, _⟩ => o16 (iblk m c 0 t)
    | ⟨17, _⟩ => Dat.unnamed (cfg := cfg0) 17 t
    | ⟨18, _⟩ => Dat.unnamed (cfg := cfg0) 18 t
    | ⟨19, _⟩ => o19 (iblk m c 0 t) (iblk m c 1 t) (iblk m c 7 t) (iblk m c 8 t) (iblk m c 9 t)
    | ⟨20, _⟩ => o20 (iblk m c 0 t) (iblk m c 12 t)
    | ⟨21, _⟩ => Dat.unnamed (cfg := cfg0) 21 t
    | ⟨_ + 22, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = o13 (iblk m c 0 t) (iblk m c 1 t) := by dsimp only [dats]
theorem after0_14 (c : Dev nD) (t : Fin cfg0.N) : (dats m 0 c).after 14 t = o14 (iblk m c 0 t) (iblk m c 1 t) := by dsimp only [dats]
theorem after0_15 (c : Dev nD) (t : Fin cfg0.N) : (dats m 0 c).after 15 t = o15 (iblk m c 0 t) := by dsimp only [dats]
theorem after0_16 (c : Dev nD) (t : Fin cfg0.N) : (dats m 0 c).after 16 t = o16 (iblk m c 0 t) := by dsimp only [dats]
theorem after0_19 (c : Dev nD) (t : Fin cfg0.N) : (dats m 0 c).after 19 t = o19 (iblk m c 0 t) (iblk m c 1 t) (iblk m c 7 t) (iblk m c 8 t) (iblk m c 9 t) := by dsimp only [dats]
theorem after0_20 (c : Dev nD) (t : Fin cfg0.N) : (dats m 0 c).after 20 t = o20 (iblk m c 0 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .fp8e4m3 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x256 .fp8e4m3 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S256x1 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x256 .fp8e4m3 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x512 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x256 .fp8e4m3 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x512 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S4x512x192 .bf16 := win0_17.stage (cfg0.slots t 17)
abbrev hs17 (t : Fin cfg0.N) : (ms17 t).IsWhole := hstage0_17 ((cfg0.slots t 17).cast nbuf0_17)
abbrev ms18 (t : Fin cfg0.N) : Memref sig .tc .vmem S4x112x512 .bf16 := win0_18.stage (cfg0.slots t 18)
abbrev hs18 (t : Fin cfg0.N) : (ms18 t).IsWhole := hstage0_18 ((cfg0.slots t 18).cast nbuf0_18)
abbrev ms19 (t : Fin cfg0.N) : Memref sig .tc .vmem S384x512 .bf16 := win0_19.stage (cfg0.slots t 19)
abbrev hs19 (t : Fin cfg0.N) : (ms19 t).IsWhole := hstage0_19 ((cfg0.slots t 19).cast nbuf0_19)
abbrev ms20 (t : Fin cfg0.N) : Memref sig .tc .vmem S256x512 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S256x256 .bf16 := win0_21.stage (cfg0.slots t 21)
abbrev hs21 (t : Fin cfg0.N) : (ms21 t).IsWhole := hstage0_21 ((cfg0.slots t 21).cast nbuf0_21)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare d)
    ∗ (∃ d, owns (c : Thread nD τ) (ms18 t) fullShare d)
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ (∃ d, owns (c : Thread nD τ) (ms17 t) fullShare d)
    ∗ (∃ d, owns (c : Thread nD τ) (ms18 t) fullShare d)
    ∗ owns (c : Thread nD τ) (ms19 t) fullShare ((dats m 0 c).after 19 t)
    ∗ owns (c : Thread nD τ) (ms20 t) fullShare ((dats m 0 c).after 20 t)
    ∗ (∃ d, owns (c : Thread nD τ) (ms21 t) fullShare d))

set_option maxHeartbeats 4000000 in
/-- The body at any point: the inputs' buffers hold their blocks, so the run applies; what it writes is what the proof
    data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl]
  rw [after0_0, after0_1, after0_2, after0_3, after0_4, after0_5, after0_6, after0_7, after0_8, after0_9, after0_10, after0_11, after0_12, after0_13, after0_14, after0_15, after0_16, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((run (F := F) c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, ⟨%e13, H13⟩, ⟨%e14, H14⟩, ⟨%e15, H15⟩, ⟨%e16, H16⟩, H17, H18, ⟨%e19, H19⟩, ⟨%e20, H20⟩, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact stored _ _ zz inb_S512x256_S512x256_0_0 _ _ (piece13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact stored _ _ zz inb_S1x512_S1x512_0_0 _ _ (piece14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact stored _ _ zz inb_S512x256_S512x256_0_0 _ _ (piece15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact stored _ _ zz inb_S1x512_S1x512_0_0 _ _ (piece16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]; · iexact H17
  isplitl [H18]; · iexact H18
  isplitl [H19]
  · unfold owns; iexists _; isplitr
    swap; · iexact H19
    ipureintro; exact stored _ _ zz inb_S384x512_S384x512_0_0 _ _ (piece19 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact stored _ _ zz inb_S256x512_S256x512_0_0 _ _ (piece20 c _ _ _ _ _ _ _ _ _ _ _ _ _ _ _ _ _ _ _ _ _ _ _ _ _ _ _ _ _ _ _ _ _ _ _ _ _ _ _ _ _ _ _ _ _ _ _ _ _ _ _ _ _ _ _ _ _ _)
  iexact H21

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: every array ends at what the proof data allows, every other buffer as the region found it, the counters at
    zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the run's arrays say of the arguments: they are as launched. -/
theorem kept (r : PUnit × MemSt nD τ sig (Elt F)) (h : RDat.FramePost cfg0 (fun c => (dats m 0 c).toRForget fgt) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    ((h c).2 main_arg3 (Pipeline.mem_restRefs_of main_arg3 (by decide) (by decide))).trans (V_main_arg3 m c),
    (h.arr_in c 4 rfl).trans ((A_eq m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (h.arr_in c 7 rfl).trans ((A_eq m c 7).trans (V_main_arg7 m c)),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    (h.arr_in c 10 rfl).trans ((A_eq m c 10).trans (V_main_arg10 m c)),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

/-- THE FRAME: the arguments and the counters end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => kept m r h.1 c, h.2⟩) (run_main m ρ)

end Cert.ImageIdeal.Body

end
-- ==== Proof.ImgArr.lean ====
/- What the image call leaves, at an index: functions of the arguments. -/
module

public import proofs.«01_k».proof.Proof.ImgPoint
public import proofs.«01_k».proof.Proof.ImgBodyIdeal

@[expose] public section

set_option maxRecDepth 16384

noncomputable section

namespace Cert.Img

open Cert.ImageIdeal Cert.ImageIdeal.Gen Cert.ImageIdeal.Body Cert.ImgCore Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- The image's rows as launched. -/
abbrev Gx : Vec Ideal S4096x256 .bf16 := m ((c : Thread nD τ).loc main_arg0)
/-- Their places as launched. -/
abbrev Gp : Vec Ideal S4096x256 .bf16 := m ((c : Thread nD τ).loc main_arg1)
/-- The queries' weight as launched. -/
abbrev Gw : Vec Ideal S256x128 .fp8e4m3 := m ((c : Thread nD τ).loc main_arg7)
/-- Its scales as launched. -/
abbrev Gs : Vec Ideal S128 .f32 := m ((c : Thread nD τ).loc main_arg8)
/-- Its bias as launched. -/
abbrev Gb : Vec Ideal S128 .f32 := m ((c : Thread nD τ).loc main_arg9)
/-- The output's bias as launched. -/
abbrev Go : Vec Ideal S256 .f32 := m ((c : Thread nD τ).loc main_arg12)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![0, t.val] := (by decide +kernel : ∀ t : Fin grid0.N, _)
theorem e15 : ∀ t : Fin cfg0.N, win0_15.index t = ![t.val, 0] := (by decide +kernel : ∀ t : Fin grid0.N, _)
theorem e16 : ∀ t : Fin cfg0.N, win0_16.index t = ![0, t.val] := (by decide +kernel : ∀ t : Fin grid0.N, _)
theorem e19 : ∀ t : Fin cfg0.N, win0_19.index t = ![0, t.val] := (by decide +kernel : ∀ t : Fin grid0.N, _)
theorem e20 : ∀ t : Fin cfg0.N, win0_20.index t = ![0, t.val] := (by decide +kernel : ∀ t : Fin grid0.N, _)

/-- A vector as the one row of a matrix. -/
theorem row_of (x : FVec Ideal S128 .f32) (d : Fin 128) : shapeCast S1x128 x shapeCasts_S128_S1x128 (ix2 0 d) = x (ix1 d) := by
  pointwise []

/-- A vector as the one column of a matrix. -/
theorem col_of (x : FVec Ideal S256 .f32) (d : Fin 256) : shapeCast S256x1 x shapeCasts_S256_S256x1 (ix2 d 0) = x (ix1 d) := by
  pointwise []

/-- A point's rows. -/
theorem blk_0 (t : Fin cfg0.N) (r : Fin 512) (x : Fin 256) (n : Fin 4096) (h : n.val = 512 * t.val + r.val) :
    iblk (F := Ideal) m c 0 t (ix2 r x) = Gx m c (ix2 n x) := by
  unfold Gx
  rw [← V_main_arg0 m c]
  refine congrArg (V m c main_arg0) (funext fun a => Fin.ext ?_)
  fin_cases a <;> blk_simp [e0] <;> simp [h] <;> omega

/-- A point's places. -/
theorem blk_1 (t : Fin cfg0.N) (r : Fin 512) (x : Fin 256) (n : Fin 4096) (h : n.val = 512 * t.val + r.val) :
    iblk (F := Ideal) m c 1 t (ix2 r x) = Gp m c (ix2 n x) := by
  unfold Gp
  rw [← V_main_arg1 m c]
  refine congrArg (V m c main_arg1) (funext fun a => Fin.ext ?_)
  fin_cases a <;> blk_simp [e1] <;> simp [h] <;> omega

/-- The queries' weight. -/
theorem blk_7 (t : Fin cfg0.N) (x : Fin 256) (h : Fin 128) : iblk (F := Ideal) m c 7 t (ix2 x h) = Gw m c (ix2 x h) := by
  unfold Gw
  rw [← V_main_arg7 m c]
  refine congrArg (V m c main_arg7) (funext fun a => Fin.ext ?_)
  fin_cases a <;> blk_simp [e7] <;> simp

theorem V_3 : V (F := Ideal) m c main_v3 = shapeCast S1x128 (Gs m c) shapeCasts_S128_S1x128 := by
  show StableHlo.after hostOps0 _ _ = _
  simp only [hostOps0]
  after_results
  rfl

theorem V_4 : V (F := Ideal) m c main_v4 = shapeCast S1x128 (Gb m c) shapeCasts_S128_S1x128 := by
  show StableHlo.after hostOps0 _ _ = _
  simp only [hostOps0]
  after_results
  rfl

theorem V_6 : V (F := Ideal) m c main_v6 = shapeCast S256x1 (Go m c) shapeCasts_S256_S256x1 := by
  show StableHlo.after hostOps0 _ _ = _
  simp only [hostOps0]
  after_results
  rfl

/-- The queries' scales. -/
theorem blk_8 (t : Fin cfg0.N) (h : Fin 128) : iblk (F := Ideal) m c 8 t (ix2 0 h) = Gs m c (ix1 h) := by
  rw [← row_of (Gs m c) h, ← V_3 m c]
  refine congrArg (V m c main_v3) (funext fun a => Fin.ext ?_)
  fin_cases a <;> blk_simp [e8] <;> simp

/-- The queries' bias. -/
theorem blk_9 (t : Fin cfg0.N) (h : Fin 128) : iblk (F := Ideal) m c 9 t (ix2 0 h) = Gb m c (ix1 h) := by
  rw [← row_of (Gb m c) h, ← V_4 m c]
  refine congrArg (V m c main_v4) (funext fun a => Fin.ext ?_)
  fin_cases a <;> blk_simp [e9] <;> simp

/-- The output's bias. -/
theorem blk_12 (t : Fin cfg0.N) (h : Fin 256) : iblk (F := Ideal) m c 12 t (ix2 h 0) = Go m c (ix1 h) := by
  rw [← col_of (Go m c) h, ← V_6 m c]
  refine congrArg (V m c main_v6) (funext fun a => Fin.ext ?_)
  fin_cases a <;> blk_simp [e12] <;> simp

/-- A point's rows with their places added are the arguments'. -/
theorem placed (t : Fin cfg0.N) (r : Fin 512) (n : Fin 4096) (h : n.val = 512 * t.val + r.val) :
    (fun d => k0_pay3 (iblk (F := Ideal) m c 0 t) (iblk (F := Ideal) m c 1 t) (ix2 r d)) = placedG (Gx m c) (Gp m c) n :=
  funext fun d => (pay3_apply _ _ r d).trans (congrArg₂ (· + ·) (blk_0 m c t r d n h) (blk_1 m c t r d n h))

/-- A point's rows are the arguments'. -/
theorem rows (t : Fin cfg0.N) (r : Fin 512) (n : Fin 4096) (h : n.val = 512 * t.val + r.val) :
    (fun d => iblk (F := Ideal) m c 0 t (ix2 r d)) = rowG (Gx m c) n :=
  funext fun d => blk_0 m c t r d n h

/-- A point's codes of the rows with their places added. -/
theorem out_13 (t : Fin cfg0.N) (r : Fin 512) (d : Fin 256) (n : Fin 4096) (h : n.val = 512 * t.val + r.val) :
    o13 (iblk (F := Ideal) m c 0 t) (iblk (F := Ideal) m c 1 t) (ix2 r d) = codeE (placedG (Gx m c) (Gp m c) n) d := by
  rw [← placed m c t r n h]
  exact codes_apply _ r d

/-- A point's scales of the rows with their places added. -/
theorem out_14 (t : Fin cfg0.N) (r : Fin 512) (n : Fin 4096) (h : n.val = 512 * t.val + r.val) :
    o14 (iblk (F := Ideal) m c 0 t) (iblk (F := Ideal) m c 1 t) (ix2 0 r) = scaleE (placedG (Gx m c) (Gp m c) n) := by
  rw [← placed m c t r n h]
  exact pay5_apply _ _ r

/-- A point's codes of the rows. -/
theorem out_15 (t : Fin cfg0.N) (r : Fin 512) (d : Fin 256) (n : Fin 4096) (h : n.val = 512 * t.val + r.val) :
    o15 (iblk (F := Ideal) m c 0 t) (ix2 r d) = codeE (rowG (Gx m c) n) d := by
  rw [← rows m c t r n h]
  exact codes'_apply _ r d

/-- A point's scales of the rows. -/
theorem out_16 (t : Fin cfg0.N) (r : Fin 512) (n : Fin 4096) (h : n.val = 512 * t.val + r.val) :
    o16 (iblk (F := Ideal) m c 0 t) (ix2 0 r) = scaleE (rowG (Gx m c) n) := by
  rw [← rows m c t r n h]
  exact pay6_apply _ r

/-- A point's limbs of the queries. -/
theorem out_19 (t : Fin cfg0.N) (k : Fin 384) (r : Fin 512) (n : Fin 4096) (h : n.val = 512 * t.val + r.val) :
    o19 (iblk (F := Ideal) m c 0 t) (iblk (F := Ideal) m c 1 t) (iblk (F := Ideal) m c 7 t) (iblk (F := Ideal) m c 8 t) (iblk (F := Ideal) m c 9 t) (ix2 k r)
      = limbE (queryG (Gx m c) (Gp m c) (Gw m c) (Gs m c) (Gb m c) n) k := by
  unfold o19
  refine (pay46_apply _ k r).trans (congrArg (limbE · k) (funext fun q => ?_))
  unfold queryG queryE
  rw [pay19_apply, pay8_apply, placed m c t r n h, blk_8, blk_9]
  refine congrArg (fun z => (z * _ * _ + _) * _) ?_
  refine (prod_apply _ _ r q).trans (Finset.sum_congr rfl fun x _ => ?_)
  rw [blk_7, codes_apply, placed m c t r n h]

/-- A point's residual. -/
theorem out_20 (t : Fin cfg0.N) (d : Fin 256) (r : Fin 512) (n : Fin 4096) (h : n.val = 512 * t.val + r.val) :
    o20 (iblk (F := Ideal) m c 0 t) (iblk (F := Ideal) m c 12 t) (ix2 d r) = centreG (Gx m c) (Go m c) n d := by
  unfold o20
  refine (pay47_apply _ _ d r).trans ?_
  unfold centreG
  rw [rows m c t r n h]
  exact congrArg (centreE _ · d) (funext fun d => blk_12 m c t d)

/-- The call's codes of the rows with their places added. -/
theorem placed_codes : (dats (F := Ideal) m 0 c).arrAt 13 cfg0.N = (fun y : S4096x256.Idx => codeE (placedG (Gx m c) (Gp m c) (y 0)) (y 1) : S4096x256.Idx → EReal) := by
  refine (dats m 0 c).arrAt_eq_of_covers 13 _ (by decide +kernel) fun t hf y => ?_
  obtain ⟨r, d, rfl⟩ : ∃ (r : Fin 512) (d : Fin 256), y = ix2 r d := ⟨y 0, y 1, eq_ix2 (n0 := 512) (n1 := 256) y⟩
  blk_simp
  rw [after0_13]
  have key : ∀ (n : Fin 4096) (d' : Fin 256), n.val = 512 * t.val + r.val → d'.val = d.val →
      o13 (iblk (F := Ideal) m c 0 t) (iblk (F := Ideal) m c 1 t) (ix2 r d) = codeE (placedG (Gx m c) (Gp m c) n) d' := by
    intro n d' hn hd
    obtain rfl : d' = d := Fin.ext hd
    exact out_13 m c t r d' n hn
  refine key _ _ ?_ ?_
  · blk_simp [e13]; omega
  · blk_simp [e13] <;> simp

/-- The call's scales of the rows with their places added. -/
theorem placed_scales : (dats (F := Ideal) m 0 c).arrAt 14 cfg0.N = (fun y : S1x4096.Idx => scaleE (placedG (Gx m c) (Gp m c) (y 1)) : S1x4096.Idx → EReal) := by
  refine (dats m 0 c).arrAt_eq_of_covers 14 _ (by decide +kernel) fun t hf y => ?_
  obtain ⟨d, r, rfl⟩ : ∃ (d : Fin 1) (r : Fin 512), y = ix2 d r := ⟨y 0, y 1, eq_ix2 (n0 := 1) (n1 := 512) y⟩
  blk_simp
  rw [after0_14]
  have key : ∀ (n : Fin 4096), n.val = 512 * t.val + r.val →
      o14 (iblk (F := Ideal) m c 0 t) (iblk (F := Ideal) m c 1 t) (ix2 d r) = scaleE (placedG (Gx m c) (Gp m c) n) := by
    intro n hn
    obtain rfl : d = 0 := Subsingleton.elim _ _
    exact out_14 m c t r n hn
  refine key _ ?_
  blk_simp [e14]; omega

/-- The call's codes of the rows. -/
theorem row_codes : (dats (F := Ideal) m 0 c).arrAt 15 cfg0.N = (fun y : S4096x256.Idx => codeE (rowG (Gx m c) (y 0)) (y 1) : S4096x256.Idx → EReal) := by
  refine (dats m 0 c).arrAt_eq_of_covers 15 _ (by decide +kernel) fun t hf y => ?_
  obtain ⟨r, d, rfl⟩ : ∃ (r : Fin 512) (d : Fin 256), y = ix2 r d := ⟨y 0, y 1, eq_ix2 (n0 := 512) (n1 := 256) y⟩
  blk_simp
  rw [after0_15]
  have key : ∀ (n : Fin 4096) (d' : Fin 256), n.val = 512 * t.val + r.val → d'.val = d.val →
      o15 (iblk (F := Ideal) m c 0 t) (ix2 r d) = codeE (rowG (Gx m c) n) d' := by
    intro n d' hn hd
    obtain rfl : d' = d := Fin.ext hd
    exact out_15 m c t r d' n hn
  refine key _ _ ?_ ?_
  · blk_simp [e15]; omega
  · blk_simp [e15] <;> simp

/-- The call's scales of the rows. -/
theorem row_scales : (dats (F := Ideal) m 0 c).arrAt 16 cfg0.N = (fun y : S1x4096.Idx => scaleE (rowG (Gx m c) (y 1)) : S1x4096.Idx → EReal) := by
  refine (dats m 0 c).arrAt_eq_of_covers 16 _ (by decide +kernel) fun t hf y => ?_
  obtain ⟨d, r, rfl⟩ : ∃ (d : Fin 1) (r : Fin 512), y = ix2 d r := ⟨y 0, y 1, eq_ix2 (n0 := 1) (n1 := 512) y⟩
  blk_simp
  rw [after0_16]
  have key : ∀ (n : Fin 4096), n.val = 512 * t.val + r.val →
      o16 (iblk (F := Ideal) m c 0 t) (ix2 d r) = scaleE (rowG (Gx m c) n) := by
    intro n hn
    obtain rfl : d = 0 := Subsingleton.elim _ _
    exact out_16 m c t r n hn
  refine key _ ?_
  blk_simp [e16]; omega

/-- The limbs of the call's queries. -/
theorem queries : (dats (F := Ideal) m 0 c).arrAt 19 cfg0.N = (fun y : S384x4096.Idx => limbE (queryG (Gx m c) (Gp m c) (Gw m c) (Gs m c) (Gb m c) (y 1)) (y 0) : S384x4096.Idx → EReal) := by
  refine (dats m 0 c).arrAt_eq_of_covers 19 _ (by decide +kernel) fun t hf y => ?_
  obtain ⟨d, r, rfl⟩ : ∃ (d : Fin 384) (r : Fin 512), y = ix2 d r := ⟨y 0, y 1, eq_ix2 (n0 := 384) (n1 := 512) y⟩
  blk_simp
  rw [after0_19]
  have key : ∀ (d' : Fin 384) (n : Fin 4096), d'.val = d.val → n.val = 512 * t.val + r.val →
      o19 (iblk (F := Ideal) m c 0 t) (iblk (F := Ideal) m c 1 t) (iblk (F := Ideal) m c 7 t) (iblk (F := Ideal) m c 8 t) (iblk (F := Ideal) m c 9 t) (ix2 d r) = limbE (queryG (Gx m c) (Gp m c) (Gw m c) (Gs m c) (Gb m c) n) d' := by
    intro d' n hd hn
    obtain rfl : d' = d := Fin.ext hd
    exact out_19 m c t d' r n hn
  refine key _ _ ?_ ?_
  · blk_simp [e19] <;> simp
  · blk_simp [e19]; omega

/-- The call's residual. -/
theorem residual : (dats (F := Ideal) m 0 c).arrAt 20 cfg0.N = (fun y : S256x4096.Idx => centreG (Gx m c) (Go m c) (y 1) (y 0) : S256x4096.Idx → EReal) := by
  refine (dats m 0 c).arrAt_eq_of_covers 20 _ (by decide +kernel) fun t hf y => ?_
  obtain ⟨d, r, rfl⟩ : ∃ (d : Fin 256) (r : Fin 512), y = ix2 d r := ⟨y 0, y 1, eq_ix2 (n0 := 256) (n1 := 512) y⟩
  blk_simp
  rw [after0_20]
  have key : ∀ (d' : Fin 256) (n : Fin 4096), d'.val = d.val → n.val = 512 * t.val + r.val →
      o20 (iblk (F := Ideal) m c 0 t) (iblk (F := Ideal) m c 12 t) (ix2 d r) = centreG (Gx m c) (Go m c) n d' := by
    intro d' n hd hn
    obtain rfl : d' = d := Fin.ext hd
    exact out_20 m c t d' r n hn
  refine key _ _ ?_ ?_
  · blk_simp [e20] <;> simp
  · blk_simp [e20]; omega

end Cert.Img

end
-- ==== Proof.ImgRefBody.lean ====
/- What the image reference's body stores, as functions of what it reads, and its quantiser at an index. -/
module

public import proofs.«01_k».proof.Proof.Gen.ImageReferenceIdeal.Run
public import proofs.«01_k».proof.Proof.ImgCore
public import Idealize.ShloMosaic.Lib.Pipeline.ValueKit

@[expose] public section

set_option maxRecDepth 16384

noncomputable section

namespace Cert.ImgRef

open Cert.ImageReferenceIdeal Cert.ImageReferenceIdeal.Gen Cert.ImgCore Idealize.ShloMosaic Idealize.ShloMosaic.TcCoe Idealize.ShloMosaic.StableHlo Idealize.SL.Sem
open Idealize.ShloMosaic.Pipeline (Dat)

section Pieces

variable {F : FTy → Type} [FloatOps F] [Named F]

/-- A load of a whole block reads all of it. -/
theorem loaded {κ : Kind} {sp : Space} {S : Shape} {e : EltTy} {a : Memref sig κ sp S e} (h : a.IsWhole) (X : S.Idx → Elt F e)
    {off : Fin S.rank → ℕ} (z : off = fun _ => 0) (inb : ∀ x, off x + S.size x ≤ S.size x) :
    View.readAt (Elt F) a.view (Rect.unit off S.size inb).toLoadRect (h.unread X) = X := by
  rw [View.readAt_eq_ld, h.read_unread, View.ld_unit_zero z]

/-- One store of a whole block leaves what it stores. -/
theorem stored {κ : Kind} {sp : Space} {S : Shape} {e : EltTy} (v : View sig κ sp S e) (f : v.ty.Contents (Elt F))
    {off : Fin S.rank → ℕ} (z : off = fun _ => 0) (inb : ∀ x, off x + S.size x ≤ S.size x) (w : S.Idx → Elt F e)
    (L : List (View.Piece (Elt F) S e)) (hL : L = [(⟨Rect.unit off S.size inb, w⟩ : View.Piece (Elt F) S e)]) :
    v.read (Elt F) (v.writes (Elt F) f L) = w := by
  subst hL
  rw [View.read_writes_eq_canon v f _ fun y => ⟨_, List.mem_singleton_self _, View.mem_set_unit_zero z inb y⟩, View.canon_unit_zero z inb w]

/-- The two offsets of a whole block. -/
theorem zz : (![0, 0] : Fin 2 → ℕ) = fun _ => 0 := by funext x; fin_cases x <;> rfl

/-- The codes the body stores of the rows with their places added. -/
def r3 (x0 x1 : Vec F S4096x256 .bf16) : Vec F S4096x256 .fp8e4m3 := k0_pay8 x0 x1

/-- Their scales. -/
def r4 (x0 x1 : Vec F S4096x256 .bf16) : Vec F S4096x1 .f32 := k0_pay9 x0 x1

/-- The codes the body stores of the rows. -/
def r5 (x0 : Vec F S4096x256 .bf16) : Vec F S4096x256 .fp8e4m3 := k0_pay2 (k0_pay5 x0) (k0_pay10 x0) (k0_pay11 x0) (FloatOps.ofBits .f32 0x3B124925#32)

/-- Their scales. -/
def r6 (x0 : Vec F S4096x256 .bf16) : Vec F S4096x1 .f32 := k0_pay3 (k0_pay10 x0) (k0_pay11 x0) (FloatOps.ofBits .f32 0x3B124925#32)

/-- The product the body stores. -/
def r7 (x0 x1 : Vec F S4096x256 .bf16) (x2 : Vec F S256x128 .fp8e4m3) : Vec F S4096x128 .f32 := k0_pay4 (r3 x0 x1) x2

/-- The one piece the body stores of the codes of the rows with their places added. -/
theorem piece3 (c : Dev nD) (arg0 : Memref sig .tc .vmem S4096x256 .bf16) (harg0 : arg0.IsWhole) (arg1 : Memref sig .tc .vmem S4096x256 .bf16) (harg1 : arg1.IsWhole) (arg2 : Memref sig .tc .vmem S256x128 .fp8e4m3) (harg2 : arg2.IsWhole) (arg3 : Memref sig .tc .vmem S4096x256 .fp8e4m3) (harg3 : arg3.IsWhole) (arg4 : Memref sig .tc .vmem S4096x1 .f32) (harg4 : arg4.IsWhole) (arg5 : Memref sig .tc .vmem S4096x256 .fp8e4m3) (harg5 : arg5.IsWhole) (arg6 : Memref sig .tc .vmem S4096x1 .f32) (harg6 : arg6.IsWhole) (arg7 : Memref sig .tc .vmem S4096x128 .f32) (harg7 : arg7.IsWhole)
    (x0 : Vec F S4096x256 .bf16) (x1 : Vec F S4096x256 .bf16) (x2 : Vec F S256x128 .fp8e4m3) :
    (kernelRun0_A (F := F) c arg0 harg0 arg1 harg1 arg2 harg2 arg3 harg3 arg4 harg4 arg5 harg5 arg6 harg6 arg7 harg7 x0 x1 x2).1 = [⟨Rect.unit ![0, 0] S4096x256.size inb_S4096x256_S4096x256_0_0, r3 x0 x1⟩] := by
  show [(⟨Rect.unit ![0, 0] S4096x256.size inb_S4096x256_S4096x256_0_0, _⟩ : View.Piece (Elt F) S4096x256 .fp8e4m3)] = _
  refine congrArg (fun p => [(⟨Rect.unit ![0, 0] S4096x256.size inb_S4096x256_S4096x256_0_0, p⟩ : View.Piece (Elt F) S4096x256 .fp8e4m3)]) ?_
  show r3 (View.readAt (Elt F) arg0.view (Rect.unit ![0, 0] S4096x256.size inb_S4096x256_S4096x256_0_0).toLoadRect (harg0.unread x0)) (View.readAt (Elt F) arg1.view (Rect.unit ![0, 0] S4096x256.size inb_S4096x256_S4096x256_0_0).toLoadRect (harg1.unread x1)) = _
  rw [loaded harg0 x0 zz inb_S4096x256_S4096x256_0_0, loaded harg1 x1 zz inb_S4096x256_S4096x256_0_0]

/-- The one piece the body stores of their scales. -/
theorem piece4 (c : Dev nD) (arg0 : Memref sig .tc .vmem S4096x256 .bf16) (harg0 : arg0.IsWhole) (arg1 : Memref sig .tc .vmem S4096x256 .bf16) (harg1 : arg1.IsWhole) (arg2 : Memref sig .tc .vmem S256x128 .fp8e4m3) (harg2 : arg2.IsWhole) (arg3 : Memref sig .tc .vmem S4096x256 .fp8e4m3) (harg3 : arg3.IsWhole) (arg4 : Memref sig .tc .vmem S4096x1 .f32) (harg4 : arg4.IsWhole) (arg5 : Memref sig .tc .vmem S4096x256 .fp8e4m3) (harg5 : arg5.IsWhole) (arg6 : Memref sig .tc .vmem S4096x1 .f32) (harg6 : arg6.IsWhole) (arg7 : Memref sig .tc .vmem S4096x128 .f32) (harg7 : arg7.IsWhole)
    (x0 : Vec F S4096x256 .bf16) (x1 : Vec F S4096x256 .bf16) (x2 : Vec F S256x128 .fp8e4m3) :
    (kernelRun0_A (F := F) c arg0 harg0 arg1 harg1 arg2 harg2 arg3 harg3 arg4 harg4 arg5 harg5 arg6 harg6 arg7 harg7 x0 x1 x2).2.1 = [⟨Rect.unit ![0, 0] S4096x1.size inb_S4096x1_S4096x1_0_0, r4 x0 x1⟩] := by
  show [(⟨Rect.unit ![0, 0] S4096x1.size inb_S4096x1_S4096x1_0_0, _⟩ : View.Piece (Elt F) S4096x1 .f32)] = _
  refine congrArg (fun p => [(⟨Rect.unit ![0, 0] S4096x1.size inb_S4096x1_S4096x1_0_0, p⟩ : View.Piece (Elt F) S4096x1 .f32)]) ?_
  show r4 (View.readAt (Elt F) arg0.view (Rect.unit ![0, 0] S4096x256.size inb_S4096x256_S4096x256_0_0).toLoadRect (harg0.unread x0)) (View.readAt (Elt F) arg1.view (Rect.unit ![0, 0] S4096x256.size inb_S4096x256_S4096x256_0_0).toLoadRect (harg1.unread x1)) = _
  rw [loaded harg0 x0 zz inb_S4096x256_S4096x256_0_0, loaded harg1 x1 zz inb_S4096x256_S4096x256_0_0]

/-- The one piece the body stores of the codes of the rows. -/
theorem piece5 (c : Dev nD) (arg0 : Memref sig .tc .vmem S4096x256 .bf16) (harg0 : arg0.IsWhole) (arg1 : Memref sig .tc .vmem S4096x256 .bf16) (harg1 : arg1.IsWhole) (arg2 : Memref sig .tc .vmem S256x128 .fp8e4m3) (harg2 : arg2.IsWhole) (arg3 : Memref sig .tc .vmem S4096x256 .fp8e4m3) (harg3 : arg3.IsWhole) (arg4 : Memref sig .tc .vmem S4096x1 .f32) (harg4 : arg4.IsWhole) (arg5 : Memref sig .tc .vmem S4096x256 .fp8e4m3) (harg5 : arg5.IsWhole) (arg6 : Memref sig .tc .vmem S4096x1 .f32) (harg6 : arg6.IsWhole) (arg7 : Memref sig .tc .vmem S4096x128 .f32) (harg7 : arg7.IsWhole)
    (x0 : Vec F S4096x256 .bf16) (x1 : Vec F S4096x256 .bf16) (x2 : Vec F S256x128 .fp8e4m3) :
    (kernelRun0_A (F := F) c arg0 harg0 arg1 harg1 arg2 harg2 arg3 harg3 arg4 harg4 arg5 harg5 arg6 harg6 arg7 harg7 x0 x1 x2).2.2.1 = [⟨Rect.unit ![0, 0] S4096x256.size inb_S4096x256_S4096x256_0_0, r5 x0⟩] := by
  show [(⟨Rect.unit ![0, 0] S4096x256.size inb_S4096x256_S4096x256_0_0, _⟩ : View.Piece (Elt F) S4096x256 .fp8e4m3)] = _
  refine congrArg (fun p => [(⟨Rect.unit ![0, 0] S4096x256.size inb_S4096x256_S4096x256_0_0, p⟩ : View.Piece (Elt F) S4096x256 .fp8e4m3)]) ?_
  show r5 (View.readAt (Elt F) arg0.view (Rect.unit ![0, 0] S4096x256.size inb_S4096x256_S4096x256_0_0).toLoadRect (harg0.unread x0)) = _
  rw [loaded harg0 x0 zz inb_S4096x256_S4096x256_0_0]

/-- The one piece the body stores of their scales. -/
theorem piece6 (c : Dev nD) (arg0 : Memref sig .tc .vmem S4096x256 .bf16) (harg0 : arg0.IsWhole) (arg1 : Memref sig .tc .vmem S4096x256 .bf16) (harg1 : arg1.IsWhole) (arg2 : Memref sig .tc .vmem S256x128 .fp8e4m3) (harg2 : arg2.IsWhole) (arg3 : Memref sig .tc .vmem S4096x256 .fp8e4m3) (harg3 : arg3.IsWhole) (arg4 : Memref sig .tc .vmem S4096x1 .f32) (harg4 : arg4.IsWhole) (arg5 : Memref sig .tc .vmem S4096x256 .fp8e4m3) (harg5 : arg5.IsWhole) (arg6 : Memref sig .tc .vmem S4096x1 .f32) (harg6 : arg6.IsWhole) (arg7 : Memref sig .tc .vmem S4096x128 .f32) (harg7 : arg7.IsWhole)
    (x0 : Vec F S4096x256 .bf16) (x1 : Vec F S4096x256 .bf16) (x2 : Vec F S256x128 .fp8e4m3) :
    (kernelRun0_A (F := F) c arg0 harg0 arg1 harg1 arg2 harg2 arg3 harg3 arg4 harg4 arg5 harg5 arg6 harg6 arg7 harg7 x0 x1 x2).2.2.2.1 = [⟨Rect.unit ![0, 0] S4096x1.size inb_S4096x1_S4096x1_0_0, r6 x0⟩] := by
  show [(⟨Rect.unit ![0, 0] S4096x1.size inb_S4096x1_S4096x1_0_0, _⟩ : View.Piece (Elt F) S4096x1 .f32)] = _
  refine congrArg (fun p => [(⟨Rect.unit ![0, 0] S4096x1.size inb_S4096x1_S4096x1_0_0, p⟩ : View.Piece (Elt F) S4096x1 .f32)]) ?_
  show r6 (View.readAt (Elt F) arg0.view (Rect.unit ![0, 0] S4096x256.size inb_S4096x256_S4096x256_0_0).toLoadRect (harg0.unread x0)) = _
  rw [loaded harg0 x0 zz inb_S4096x256_S4096x256_0_0]

/-- The one piece the body stores of the product. -/
theorem piece7 (c : Dev nD) (arg0 : Memref sig .tc .vmem S4096x256 .bf16) (harg0 : arg0.IsWhole) (arg1 : Memref sig .tc .vmem S4096x256 .bf16) (harg1 : arg1.IsWhole) (arg2 : Memref sig .tc .vmem S256x128 .fp8e4m3) (harg2 : arg2.IsWhole) (arg3 : Memref sig .tc .vmem S4096x256 .fp8e4m3) (harg3 : arg3.IsWhole) (arg4 : Memref sig .tc .vmem S4096x1 .f32) (harg4 : arg4.IsWhole) (arg5 : Memref sig .tc .vmem S4096x256 .fp8e4m3) (harg5 : arg5.IsWhole) (arg6 : Memref sig .tc .vmem S4096x1 .f32) (harg6 : arg6.IsWhole) (arg7 : Memref sig .tc .vmem S4096x128 .f32) (harg7 : arg7.IsWhole)
    (x0 : Vec F S4096x256 .bf16) (x1 : Vec F S4096x256 .bf16) (x2 : Vec F S256x128 .fp8e4m3) :
    (kernelRun0_A (F := F) c arg0 harg0 arg1 harg1 arg2 harg2 arg3 harg3 arg4 harg4 arg5 harg5 arg6 harg6 arg7 harg7 x0 x1 x2).2.2.2.2.1 = [⟨Rect.unit ![0, 0] S4096x128.size inb_S4096x128_S4096x128_0_0, r7 x0 x1 x2⟩] := by
  show [(⟨Rect.unit ![0, 0] S4096x128.size inb_S4096x128_S4096x128_0_0, _⟩ : View.Piece (Elt F) S4096x128 .f32)] = _
  refine congrArg (fun p => [(⟨Rect.unit ![0, 0] S4096x128.size inb_S4096x128_S4096x128_0_0, p⟩ : View.Piece (Elt F) S4096x128 .f32)]) ?_
  have hb : kernelRun0_A.sl.v61 (F := F) c arg0 harg0 arg1 harg1 arg3 x0 x1 = r3 x0 x1 := by
    unfold kernelRun0_A.sl.v61
    rw [show kernelRun0_A.sl.H3_1 (F := F) c arg0 harg0 arg1 harg1 x0 x1 = [⟨Rect.unit ![0, 0] S4096x256.size inb_S4096x256_S4096x256_0_0, r3 x0 x1⟩] from
      piece3 c arg0 harg0 arg1 harg1 arg2 harg2 arg3 harg3 arg4 harg4 arg5 harg5 arg6 harg6 arg7 harg7 x0 x1 x2]
    exact View.readCov_cons_toLoadRect _ _ _ _
  show k0_pay4 (kernelRun0_A.sl.v61 (F := F) c arg0 harg0 arg1 harg1 arg3 x0 x1) (View.readAt (Elt F) arg2.view (Rect.unit ![0, 0] S256x128.size inb_S256x128_S256x128_0_0).toLoadRect (harg2.unread x2)) = _
  rw [hb, loaded harg2 x2 zz inb_S256x128_S256x128_0_0]
  rfl

variable (m : (ℓ : Loc nD τ sig) → Buf (Elt F) ℓ) (c : Dev nD) (t : Fin cfg0.N)

/-- What the body leaves in output 3. -/
theorem left3 : (outsAt0 m c t).1 = r3 (iblk m c 0 t) (iblk m c 1 t) := by
  dsimp only [outsAt0]
  unfold out0_A_3
  exact stored VO0_3 _ zz inb_S4096x256_S4096x256_0_0 _ _ (piece3 ..)

/-- What the body leaves in output 4. -/
theorem left4 : (outsAt0 m c t).2.1 = r4 (iblk m c 0 t) (iblk m c 1 t) := by
  dsimp only [outsAt0]
  unfold out0_A_4
  exact stored VO0_4 _ zz inb_S4096x1_S4096x1_0_0 _ _ (piece4 ..)

/-- What the body leaves in output 5. -/
theorem left5 : (outsAt0 m c t).2.2.1 = r5 (iblk m c 0 t) := by
  dsimp only [outsAt0]
  unfold out0_A_5
  exact stored VO0_5 _ zz inb_S4096x256_S4096x256_0_0 _ _ (piece5 ..)

/-- What the body leaves in output 6. -/
theorem left6 : (outsAt0 m c t).2.2.2.1 = r6 (iblk m c 0 t) := by
  dsimp only [outsAt0]
  unfold out0_A_6
  exact stored VO0_6 _ zz inb_S4096x1_S4096x1_0_0 _ _ (piece6 ..)

/-- What the body leaves in output 7. -/
theorem left7 : (outsAt0 m c t).2.2.2.2 = r7 (iblk m c 0 t) (iblk m c 1 t) (iblk m c 2 t) := by
  dsimp only [outsAt0]
  unfold out0_A_7
  exact stored VO0_7 _ zz inb_S4096x128_S4096x128_0_0 _ _ (piece7 ..)

end Pieces

end Cert.ImgRef

end
-- ==== Proof.ImgRef.lean ====
/- What the image reference leaves in its results, at an index: functions of the arguments. -/
module

public import proofs.«01_k».proof.Proof.ImgRefBody

@[expose] public section

set_option maxRecDepth 16384

noncomputable section

namespace Cert.ImgRef

open Cert.ImageReferenceIdeal Cert.ImageReferenceIdeal.Gen Cert.ImgCore Idealize.ShloMosaic Idealize.ShloMosaic.TcCoe Idealize.ShloMosaic.StableHlo Idealize.SL.Sem
open Idealize.ShloMosaic.Pipeline (Dat)

/-- The named constant's value. -/
theorem log2e_eq : (Named.named (F := Ideal) κ "log2e" (φ := .f32) 0x3FB8AA3B#32 : EReal) = ImgCore.log2e := rfl

/-- The exponent's formula at an index. -/
theorem exp_apply {s : Shape} (m : FVec Ideal s .f32) (i : s.Idx) :
    select (cmpf .oeq m (broadcast s (FloatOps.ofBits .f32 0x00000000#32))) (broadcast s (FloatOps.ofBits .f32 0x00000000#32))
      (addf (floor (mulf (log (mulf m (broadcast s (FloatOps.ofBits .f32 0x3B124925#32)))) (broadcast s (Named.named κ "log2e" 0x3FB8AA3B#32))))
        (broadcast s (FloatOps.ofBits .f32 0x3F800000#32))) i
      = if m i = 0 then 0 else Ideal.liftRound Int.floor (Ideal.log (m i * Ideal.ofBits .f32 0x3B124925#32) * ImgCore.log2e) + 1 := by
  pointwise []
  rw [log2e_eq]

/-- Two to a number. -/
theorem two_apply {S : Shape} (e : FVec Ideal S .f32) (i : S.Idx) : exp2 e i = Ideal.exp2 (e i) := rfl

/-- Two to minus a number. -/
theorem neg_apply {S : Shape} (e : FVec Ideal S .f32) (i : S.Idx) :
    exp2 (subf (broadcast S (FloatOps.ofBits .f32 0x00000000#32)) e) i = Ideal.exp2 (0 - e i) := by
  pointwise []
  rfl

/-- The codes' formula at an index. -/
theorem code_apply {S : Shape} (x y : FVec Ideal S .f32) (i : S.Idx) :
    truncf .fp8e4m3 (minimumf (broadcast S (FloatOps.ofBits .f32 0x43E00000#32)) (maximumf (broadcast S (FloatOps.ofBits .f32 0xC3E00000#32)) (mulf x y))) bitsLt_fp8e4m3_f32 i
      = min (Ideal.ofBits .f32 0x43E00000#32) (max (Ideal.ofBits .f32 0xC3E00000#32) (x i * y i)) := rfl

/-- The largest magnitude of a row. -/
theorem am_row (w : FVec Ideal S4096x256 .f32) (n : Fin 4096) :
    shapeCast S4096x1 (multiReduction .maximumf [1] S4096 (absf w) 0xFF800000#32 reduces_S4096x256_S4096 (.inl rfl) rfl) shapeCasts_S4096_S4096x1 (ix2 n 0) = amE fun d => w (ix2 n d) := by
  pointwise []
  rfl

/-- A column spread over a row. -/
theorem spread (e : FVec Ideal S4096x1 .f32) (n : Fin 4096) (d : Fin 256) : broadcastTo S4096x256 e broadcasts_S4096x1_S4096x256 (ix2 n d) = e (ix2 n 0) := by
  pointwise []

/-- The rows with their places added. -/
theorem pay6_apply (x0 x1 : Vec Ideal S4096x256 .bf16) (n : Fin 4096) (d : Fin 256) : k0_pay6 x0 x1 (ix2 n d) = placedG x0 x1 n d := rfl

/-- The rows. -/
theorem pay5_apply (x0 : Vec Ideal S4096x256 .bf16) (n : Fin 4096) (d : Fin 256) : k0_pay5 x0 (ix2 n d) = rowG x0 n d := rfl

/-- The exponent of the scale of a row with its place added. -/
theorem pay7_apply (x0 x1 : Vec Ideal S4096x256 .bf16) (n : Fin 4096) : k0_pay7 x0 x1 (ix2 n 0) = expE (placedG x0 x1 n) := by
  have h := (am_row (k0_pay6 x0 x1) n).trans (congrArg amE (funext fun d => pay6_apply x0 x1 n d))
  unfold k0_pay7
  dsimp only
  unfold expE
  rw [← h]
  exact exp_apply (s := S4096x1) _ _

/-- The exponent of a row's scale. -/
theorem pay1_apply (x0 : Vec Ideal S4096x256 .bf16) (n : Fin 4096) :
    k0_pay1 (k0_pay10 x0) (k0_pay11 x0) (FloatOps.ofBits .f32 0x3B124925#32) (ix2 n 0) = expE (rowG x0 n) := by
  have h := (am_row (k0_pay5 x0) n).trans (congrArg amE (funext fun d => pay5_apply x0 n d))
  unfold k0_pay1 k0_pay11 k0_pay10
  dsimp only
  unfold expE
  rw [← h]
  exact exp_apply (s := S4096x1) _ _

/-- The codes of a row with its place added. -/
theorem r3_apply (x0 x1 : Vec Ideal S4096x256 .bf16) (n : Fin 4096) (d : Fin 256) : r3 x0 x1 (ix2 n d) = codeE (placedG x0 x1 n) d := by
  unfold r3 k0_pay8
  refine (code_apply (S := S4096x256) _ _ _).trans ?_
  rw [spread, neg_apply, pay7_apply, pay6_apply]
  unfold codeE
  with_reducible rfl

/-- The scale of a row with its place added. -/
theorem r4_apply (x0 x1 : Vec Ideal S4096x256 .bf16) (n : Fin 4096) : r4 x0 x1 (ix2 n 0) = scaleE (placedG x0 x1 n) := by
  unfold r4 k0_pay9
  refine (two_apply (S := S4096x1) _ _).trans ?_
  rw [pay7_apply]
  unfold scaleE
  with_reducible rfl

/-- The codes of a row. -/
theorem r5_apply (x0 : Vec Ideal S4096x256 .bf16) (n : Fin 4096) (d : Fin 256) : r5 x0 (ix2 n d) = codeE (rowG x0 n) d := by
  unfold r5 k0_pay2
  refine (code_apply (S := S4096x256) _ _ _).trans ?_
  rw [spread, neg_apply, pay1_apply, pay5_apply]
  unfold codeE
  with_reducible rfl

/-- The scale of a row. -/
theorem r6_apply (x0 : Vec Ideal S4096x256 .bf16) (n : Fin 4096) : r6 x0 (ix2 n 0) = scaleE (rowG x0 n) := by
  unfold r6 k0_pay3
  refine (two_apply (S := S4096x1) _ _).trans ?_
  rw [pay1_apply]
  unfold scaleE
  with_reducible rfl

/-- Codes times the weight's codes. -/
theorem pay4_apply (a : Vec Ideal S4096x256 .fp8e4m3) (w : Vec Ideal S256x128 .fp8e4m3) (n : Fin 4096) (h : Fin 128) :
    k0_pay4 a w (ix2 n h) = ∑ x : Fin 256, a (ix2 n x) * w (ix2 x h) := by
  pointwise [k0_pay4]

/-- A row's codes times the weight's codes. -/
theorem r7_apply (x0 x1 : Vec Ideal S4096x256 .bf16) (w : Vec Ideal S256x128 .fp8e4m3) (n : Fin 4096) (h : Fin 128) :
    r7 x0 x1 w (ix2 n h) = ∑ x : Fin 256, codeE (placedG x0 x1 n) x * w (ix2 x h) := by
  unfold r7
  refine (pay4_apply _ _ n h).trans (Finset.sum_congr rfl fun x _ => ?_)
  rw [r3_apply]

section Host

variable {F : FTy → Type} [FloatOps F] [Named F]

/-- The scaled queries. -/
def scaledT (a : FVec F S4096x128 .f32) (e : FVec F S4096x1 .f32) (s b : FVec F S128 .f32) : FVec F S4096x128 .f32 :=
  mulf (addf (mulf (mulf a (broadcastInDim S4096x128 ![0, 1] bcast_S4096x1_S4096x128_0_1 e)) (broadcastInDim S4096x128 ![0, 1] bcast_S1x128_S4096x128_0_1 (broadcastInDim S1x128 ![1] bcast_S128_S1x128_1 s)))
    (broadcastInDim S4096x128 ![0, 1] bcast_S1x128_S4096x128_0_1 (broadcastInDim S1x128 ![1] bcast_S128_S1x128_1 b))) (broadcastInDim S4096x128 ![] bcast_S_S4096x128 (constant S_ .f32 0x3E8293EE#32))

/-- What rounding leaves over. -/
def overT (q : FVec F S4096x128 .f32) : FVec F S4096x128 .f32 := subf q (extf .f32 (truncf .bf16 q bitsLt_bf16_f32) bitsLt_bf16_f32)

/-- A limb, as columns. -/
def limbT (q : FVec F S4096x128 .f32) : FVec F S128x4096 .bf16 := transpose S128x4096 [1, 0] (truncf .bf16 q bitsLt_bf16_f32) transposes_S4096x128_S128x4096_1_0

/-- The three limbs on top of each other. -/
def limbsT (q : FVec F S4096x128 .f32) : FVec F S384x4096 .bf16 :=
  concatenate S384x4096 0 [⟨S128x4096, limbT q⟩, ⟨S128x4096, limbT (overT q)⟩, ⟨S128x4096, limbT (overT (overT q))⟩] concatenates_S128x4096_S128x4096_S128x4096_S384x4096_d0

/-- The rows with the bias. -/
def biasedT (x : FVec F S4096x256 .bf16) (b : FVec F S256 .f32) : FVec F S4096x256 .f32 :=
  addf (extf .f32 x bitsLt_bf16_f32) (broadcastInDim S4096x256 ![0, 1] bcast_S1x256_S4096x256_0_1 (broadcastInDim S1x256 ![1] bcast_S256_S1x256_1 b))

/-- The rows less their means, as columns. -/
def centreT (u : FVec F S4096x256 .f32) : FVec F S256x4096 .f32 :=
  transpose S256x4096 [1, 0] (subf u (broadcastInDim S4096x256 ![0, 1] bcast_S4096x1_S4096x256_0_1 (Host.divf (broadcastInDim S4096x1 ![0] bcast_S4096_S4096x1_0 (Host.reduceAdd u (constant S_ .f32 0x00000000#32) reducesTo_S4096x256_S4096_d1 h_S_))
    (broadcastInDim S4096x1 ![] bcast_S_S4096x1 (constant S_ .f32 0x43800000#32))))) transposes_S4096x256_S256x4096_1_0

variable (m : (ℓ : Loc nD τ sig) → Buf (Elt F) ℓ) (c : Dev nD)

set_option maxHeartbeats 4000000 in
/-- The reference's queries are the limbs of the scaled queries. -/
theorem queries_eq : Value.res_main_v23 m c
    = limbsT (scaledT (Value.reg_main_v0_4 m c) (Value.reg_main_v0_1 m c) (m ((c.tc : Thread nD τ).loc main_arg8)) (m ((c.tc : Thread nD τ).loc main_arg9))) := by
  unfold Value.res_main_v23 limbsT limbT overT scaledT
  rfl

end Host

/-- The scaled queries, at an index. -/
theorem scaledT_apply (a : FVec Ideal S4096x128 .f32) (e : FVec Ideal S4096x1 .f32) (s b : FVec Ideal S128 .f32) (n : Fin 4096) (h : Fin 128) :
    scaledT a e s b (ix2 n h) = (a (ix2 n h) * e (ix2 n 0) * s (ix1 h) + b (ix1 h)) * Ideal.ofBits .f32 0x3E8293EE#32 := by
  pointwise [scaledT]

/-- What rounding leaves over, at an index. -/
theorem overT_apply (q : FVec Ideal S4096x128 .f32) (i : S4096x128.Idx) : overT q i = q i - q i := rfl

/-- A limb, at an index. -/
theorem limbT_apply (q : FVec Ideal S4096x128 .f32) (n : Fin 4096) (h : Fin 128) : limbT q (ix2 h n) = q (ix2 n h) := by
  pointwise [limbT]

/-- Three parts of 128 rows on top of each other. -/
theorem three_apply (a b c : FVec Ideal S128x4096 .bf16) (k : Fin 384) (n : Fin 4096) :
    concatenate S384x4096 0 [⟨S128x4096, a⟩, ⟨S128x4096, b⟩, ⟨S128x4096, c⟩] concatenates_S128x4096_S128x4096_S128x4096_S384x4096_d0 (ix2 k n)
      = if h : k.val < 128 then a (ix2 ⟨k.val, h⟩ n) else if h' : k.val - 128 < 128 then b (ix2 ⟨k.val - 128, h'⟩ n) else c (ix2 ⟨k.val - 128 - 128, by omega⟩ n) := by
  pointwise []

/-- The limbs, at an index. -/
theorem limbsT_apply (q : FVec Ideal S4096x128 .f32) (k : Fin 384) (n : Fin 4096) : limbsT q (ix2 k n) = limbE (fun h => q (ix2 n h)) k := by
  unfold limbsT
  refine (three_apply _ _ _ k n).trans ?_
  unfold limbE
  simp only [limbT_apply, overT_apply]

/-- The rows with the bias, at an index. -/
theorem biasedT_apply (x : FVec Ideal S4096x256 .bf16) (b : FVec Ideal S256 .f32) (n : Fin 4096) (d : Fin 256) : biasedT x b (ix2 n d) = x (ix2 n d) + b (ix1 d) := by
  pointwise [biasedT]

/-- The rows less their means, at an index. -/
theorem centreT_apply (u : FVec Ideal S4096x256 .f32) (n : Fin 4096) (d : Fin 256) :
    centreT u (ix2 d n) = u (ix2 n d) - Ideal.div (∑ e, u (ix2 n e)) (Ideal.ofBits .f32 0x43800000#32) := by
  pointwise [centreT]

/-- The rows and the bias less their mean, at an index. -/
theorem residual_apply (x : FVec Ideal S4096x256 .bf16) (b : FVec Ideal S256 .f32) (n : Fin 4096) (d : Fin 256) : centreT (biasedT x b) (ix2 d n) = centreG x b n d := by
  refine (centreT_apply _ n d).trans ?_
  simp only [biasedT_apply]
  rfl

/-- A column as a row. -/
abbrev turnT (e : FVec Ideal S4096x1 .f32) : FVec Ideal S1x4096 .f32 := shapeCast S1x4096 e shapeCasts_S4096x1_S1x4096

/-- A column as a row, at an index. -/
theorem turned (e : FVec Ideal S4096x1 .f32) (n : Fin 4096) : turnT e (ix2 0 n) = e (ix2 n 0) := by
  pointwise []

variable (m : (ℓ : Loc nD τ sig) → Buf (Elt Ideal) ℓ) (c : Dev nD)

/-- The image's rows as launched. -/
abbrev Gx : Vec Ideal S4096x256 .bf16 := m ((c : Thread nD τ).loc main_arg0)
/-- Their places as launched. -/
abbrev Gp : Vec Ideal S4096x256 .bf16 := m ((c : Thread nD τ).loc main_arg1)
/-- The queries' weight as launched. -/
abbrev Gw : Vec Ideal S256x128 .fp8e4m3 := m ((c : Thread nD τ).loc main_arg7)
/-- Its scales as launched. -/
abbrev Gs : Vec Ideal S128 .f32 := m ((c : Thread nD τ).loc main_arg8)
/-- Its bias as launched. -/
abbrev Gb : Vec Ideal S128 .f32 := m ((c : Thread nD τ).loc main_arg9)

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)

/-- The region's rows are the arguments'. -/
theorem blk_0 (t : Fin cfg0.N) : iblk (F := Ideal) m c 0 t = Gx m c := by
  funext y
  obtain ⟨n, d, rfl⟩ : ∃ (n : Fin 4096) (d : Fin 256), y = ix2 n d := ⟨y 0, y 1, eq_ix2 (n0 := 4096) (n1 := 256) y⟩
  unfold Gx
  rw [← V_main_arg0 m c]
  refine congrArg (V m c main_arg0) (funext fun a => Fin.ext ?_)
  fin_cases a <;> blk_simp [e0] <;> simp

/-- The region's places are the arguments'. -/
theorem blk_1 (t : Fin cfg0.N) : iblk (F := Ideal) m c 1 t = Gp m c := by
  funext y
  obtain ⟨n, d, rfl⟩ : ∃ (n : Fin 4096) (d : Fin 256), y = ix2 n d := ⟨y 0, y 1, eq_ix2 (n0 := 4096) (n1 := 256) y⟩
  unfold Gp
  rw [← V_main_arg1 m c]
  refine congrArg (V m c main_arg1) (funext fun a => Fin.ext ?_)
  fin_cases a <;> blk_simp [e1] <;> simp

/-- The region's weight is the argument's. -/
theorem blk_2 (t : Fin cfg0.N) : iblk (F := Ideal) m c 2 t = Gw m c := by
  funext y
  obtain ⟨n, d, rfl⟩ : ∃ (n : Fin 256) (d : Fin 128), y = ix2 n d := ⟨y 0, y 1, eq_ix2 (n0 := 256) (n1 := 128) y⟩
  unfold Gw
  rw [← V_main_arg7 m c]
  refine congrArg (V m c main_arg7) (funext fun a => Fin.ext ?_)
  fin_cases a <;> blk_simp [e2] <;> simp

/-- The region's codes of the rows with their places added. -/
theorem placed_codes : Value.reg_main_v0_0 (F := Ideal) m c = (fun y : S4096x256.Idx => codeE (placedG (Gx m c) (Gp m c) (y 0)) (y 1) : S4096x256.Idx → EReal) := by
  unfold Value.reg_main_v0_0
  refine (dats m 0 c).arrAt_eq_of_covers 3 _ (by decide +kernel) fun t hf y => ?_
  obtain ⟨n, d, rfl⟩ : ∃ (n : Fin 4096) (d : Fin 256), y = ix2 n d := ⟨y 0, y 1, eq_ix2 (n0 := 4096) (n1 := 256) y⟩
  blk_simp
  rw [after0_3, left3, blk_0, blk_1]
  have key : ∀ (n' : Fin 4096) (d' : Fin 256), n'.val = n.val → d'.val = d.val → r3 (Gx m c) (Gp m c) (ix2 n d) = codeE (placedG (Gx m c) (Gp m c) n') d' := by
    intro n' d' hn hd
    obtain rfl : n' = n := Fin.ext hn
    obtain rfl : d' = d := Fin.ext hd
    exact r3_apply _ _ n' d'
  refine key _ _ ?_ ?_ <;> blk_simp [e3] <;> simp

/-- Their scales. -/
theorem placed_scales : Value.reg_main_v0_1 (F := Ideal) m c = (fun y : S4096x1.Idx => scaleE (placedG (Gx m c) (Gp m c) (y 0)) : S4096x1.Idx → EReal) := by
  unfold Value.reg_main_v0_1
  refine (dats m 0 c).arrAt_eq_of_covers 4 _ (by decide +kernel) fun t hf y => ?_
  obtain ⟨n, d, rfl⟩ : ∃ (n : Fin 4096) (d : Fin 1), y = ix2 n d := ⟨y 0, y 1, eq_ix2 (n0 := 4096) (n1 := 1) y⟩
  blk_simp
  rw [after0_4, left4, blk_0, blk_1]
  have key : ∀ n' : Fin 4096, n'.val = n.val → r4 (Gx m c) (Gp m c) (ix2 n d) = scaleE (placedG (Gx m c) (Gp m c) n') := by
    intro n' hn
    obtain rfl : n' = n := Fin.ext hn
    obtain rfl : d = 0 := Subsingleton.elim _ _
    exact r4_apply _ _ n'
  refine key _ ?_
  blk_simp [e4] <;> simp

/-- The region's codes of the rows. -/
theorem row_codes : Value.reg_main_v0_2 (F := Ideal) m c = (fun y : S4096x256.Idx => codeE (rowG (Gx m c) (y 0)) (y 1) : S4096x256.Idx → EReal) := by
  unfold Value.reg_main_v0_2
  refine (dats m 0 c).arrAt_eq_of_covers 5 _ (by decide +kernel) fun t hf y => ?_
  obtain ⟨n, d, rfl⟩ : ∃ (n : Fin 4096) (d : Fin 256), y = ix2 n d := ⟨y 0, y 1, eq_ix2 (n0 := 4096) (n1 := 256) y⟩
  blk_simp
  rw [after0_5, left5, blk_0]
  have key : ∀ (n' : Fin 4096) (d' : Fin 256), n'.val = n.val → d'.val = d.val → r5 (Gx m c) (ix2 n d) = codeE (rowG (Gx m c) n') d' := by
    intro n' d' hn hd
    obtain rfl : n' = n := Fin.ext hn
    obtain rfl : d' = d := Fin.ext hd
    exact r5_apply _ n' d'
  refine key _ _ ?_ ?_ <;> blk_simp [e5] <;> simp

/-- Their scales. -/
theorem row_scales : Value.reg_main_v0_3 (F := Ideal) m c = (fun y : S4096x1.Idx => scaleE (rowG (Gx m c) (y 0)) : S4096x1.Idx → EReal) := by
  unfold Value.reg_main_v0_3
  refine (dats m 0 c).arrAt_eq_of_covers 6 _ (by decide +kernel) fun t hf y => ?_
  obtain ⟨n, d, rfl⟩ : ∃ (n : Fin 4096) (d : Fin 1), y = ix2 n d := ⟨y 0, y 1, eq_ix2 (n0 := 4096) (n1 := 1) y⟩
  blk_simp
  rw [after0_6, left6, blk_0]
  have key : ∀ n' : Fin 4096, n'.val = n.val → r6 (Gx m c) (ix2 n d) = scaleE (rowG (Gx m c) n') := by
    intro n' hn
    obtain rfl : n' = n := Fin.ext hn
    obtain rfl : d = 0 := Subsingleton.elim _ _
    exact r6_apply _ n'
  refine key _ ?_
  blk_simp [e6] <;> simp

/-- The region's product. -/
theorem product : Value.reg_main_v0_4 (F := Ideal) m c = (fun y : S4096x128.Idx => ∑ x : Fin 256, codeE (placedG (Gx m c) (Gp m c) (y 0)) x * Gw m c (ix2 x (y 1)) : S4096x128.Idx → EReal) := by
  unfold Value.reg_main_v0_4
  refine (dats m 0 c).arrAt_eq_of_covers 7 _ (by decide +kernel) fun t hf y => ?_
  obtain ⟨n, d, rfl⟩ : ∃ (n : Fin 4096) (d : Fin 128), y = ix2 n d := ⟨y 0, y 1, eq_ix2 (n0 := 4096) (n1 := 128) y⟩
  blk_simp
  rw [after0_7, left7, blk_0, blk_1, blk_2]
  have key : ∀ (n' : Fin 4096) (d' : Fin 128), n'.val = n.val → d'.val = d.val → r7 (Gx m c) (Gp m c) (Gw m c) (ix2 n d) = ∑ x : Fin 256, codeE (placedG (Gx m c) (Gp m c) n') x * Gw m c (ix2 x d') := by
    intro n' d' hn hd
    obtain rfl : n' = n := Fin.ext hn
    obtain rfl : d' = d := Fin.ext hd
    exact r7_apply _ _ _ n' d'
  refine key _ _ ?_ ?_ <;> blk_simp [e7] <;> simp

/-- The reference's queries, at an index. -/
theorem queries (k : Fin 384) (n : Fin 4096) : (Value.res_main_v23 (F := Ideal) m c : FVec Ideal S384x4096 .bf16) (ix2 k n)
    = limbE (queryG (Gx m c) (Gp m c) (Gw m c) (Gs m c) (Gb m c) n) k := by
  rw [queries_eq]
  refine (limbsT_apply _ k n).trans (congrArg (limbE · k) (funext fun h => ?_))
  refine (scaledT_apply _ _ _ _ n h).trans ?_
  rw [product, placed_scales]
  rfl

end Cert.ImgRef

end
-- ==== Proof.ImgEqual.lean ====
/- The image call and its reference leave the same codes, scales, queries and residual. -/
module

public import proofs.«01_k».proof.Defs
public import proofs.«01_k».proof.Proof.ImgArr
public import proofs.«01_k».proof.Proof.ImgRef

@[expose] public section

set_option maxRecDepth 16384

noncomputable section

namespace Cert.Proof

open Idealize.ShloMosaic Idealize.ShloMosaic.TcCoe Idealize.SL.Sem

/-- The image call's six results, from its run. -/
theorem image_run (m : (ℓ : Loc Cert.ImageIdeal.nD Cert.ImageIdeal.τ Cert.ImageIdeal.sig) → Buf (Elt Ideal) ℓ)
    (r : PUnit × MemSt Cert.ImageIdeal.nD Cert.ImageIdeal.τ Cert.ImageIdeal.sig (Elt Ideal))
    (h : Pipeline.RDat.FramePost Cert.ImageIdeal.cfg0 (fun c => (Cert.ImageIdeal.Body.dats m 0 c).toRForget Cert.ImageIdeal.Body.fgt) (Cert.ImageIdeal.Gen.V m) r) (c : Dev Cert.ImageIdeal.nD) :
    r.2.mem ((c.tc : Thread Cert.ImageIdeal.nD Cert.ImageIdeal.τ).loc Cert.ImageIdeal.main_v7_0) = (Cert.ImageIdeal.Body.dats m 0 c).arrAt 13 Cert.ImageIdeal.cfg0.N
      ∧ r.2.mem ((c.tc : Thread Cert.ImageIdeal.nD Cert.ImageIdeal.τ).loc Cert.ImageIdeal.main_v7_1) = (Cert.ImageIdeal.Body.dats m 0 c).arrAt 14 Cert.ImageIdeal.cfg0.N
      ∧ r.2.mem ((c.tc : Thread Cert.ImageIdeal.nD Cert.ImageIdeal.τ).loc Cert.ImageIdeal.main_v7_2) = (Cert.ImageIdeal.Body.dats m 0 c).arrAt 15 Cert.ImageIdeal.cfg0.N
      ∧ r.2.mem ((c.tc : Thread Cert.ImageIdeal.nD Cert.ImageIdeal.τ).loc Cert.ImageIdeal.main_v7_3) = (Cert.ImageIdeal.Body.dats m 0 c).arrAt 16 Cert.ImageIdeal.cfg0.N
      ∧ r.2.mem ((c.tc : Thread Cert.ImageIdeal.nD Cert.ImageIdeal.τ).loc Cert.ImageIdeal.main_v7_6) = (Cert.ImageIdeal.Body.dats m 0 c).arrAt 19 Cert.ImageIdeal.cfg0.N
      ∧ r.2.mem ((c.tc : Thread Cert.ImageIdeal.nD Cert.ImageIdeal.τ).loc Cert.ImageIdeal.main_v7_7) = (Cert.ImageIdeal.Body.dats m 0 c).arrAt 20 Cert.ImageIdeal.cfg0.N :=
  ⟨((Cert.ImageIdeal.Body.dats m 0 c).toRForget_arrAt_iff (w := 13) rfl _ _).mp ((h c).1 13),
    ((Cert.ImageIdeal.Body.dats m 0 c).toRForget_arrAt_iff (w := 14) rfl _ _).mp ((h c).1 14),
    ((Cert.ImageIdeal.Body.dats m 0 c).toRForget_arrAt_iff (w := 15) rfl _ _).mp ((h c).1 15),
    ((Cert.ImageIdeal.Body.dats m 0 c).toRForget_arrAt_iff (w := 16) rfl _ _).mp ((h c).1 16),
    ((Cert.ImageIdeal.Body.dats m 0 c).toRForget_arrAt_iff (w := 19) rfl _ _).mp ((h c).1 19),
    ((Cert.ImageIdeal.Body.dats m 0 c).toRForget_arrAt_iff (w := 20) rfl _ _).mp ((h c).1 20)⟩

section Same

variable (m : (ℓ : Loc Cert.ImageIdeal.nD Cert.ImageIdeal.τ Cert.ImageIdeal.sig) → Buf (Elt Ideal) ℓ)
  (m' : (ℓ : Loc Cert.ImageReferenceIdeal.nD Cert.ImageReferenceIdeal.τ Cert.ImageReferenceIdeal.sig) → Buf (Elt Ideal) ℓ) (c : Dev Cert.ImageIdeal.nD)
  (hx : Cert.ImgRef.Gx m' c = Cert.Img.Gx m c) (hp : Cert.ImgRef.Gp m' c = Cert.Img.Gp m c)

include hx hp in
/-- The same codes of the rows with their places. -/
theorem image_placed_codes : Cert.ImageReferenceIdeal.Value.reg_main_v0_0 (F := Ideal) m' c = (Cert.ImageIdeal.Body.dats (F := Ideal) m 0 c).arrAt 13 Cert.ImageIdeal.cfg0.N := by
  refine Eq.trans ?_ (Cert.Img.placed_codes m c).symm
  rw [Cert.ImgRef.placed_codes, hx, hp]

include hx hp in
/-- The same scales of them. -/
theorem image_placed_scales : Cert.ImgRef.turnT (Cert.ImageReferenceIdeal.Value.reg_main_v0_1 (F := Ideal) m' c)
    = (Cert.ImageIdeal.Body.dats (F := Ideal) m 0 c).arrAt 14 Cert.ImageIdeal.cfg0.N := by
  refine Eq.trans ?_ (Cert.Img.placed_scales m c).symm
  funext y
  obtain ⟨z, n, rfl⟩ : ∃ (z : Fin 1) (n : Fin 4096), y = ix2 z n := ⟨y 0, y 1, eq_ix2 (n0 := 1) (n1 := 4096) y⟩
  obtain rfl : z = 0 := Subsingleton.elim _ _
  refine (Cert.ImgRef.turned _ n).trans ?_
  rw [Cert.ImgRef.placed_scales, hx, hp]
  rfl

include hx in
/-- The same codes of the rows. -/
theorem image_row_codes : Cert.ImageReferenceIdeal.Value.reg_main_v0_2 (F := Ideal) m' c = (Cert.ImageIdeal.Body.dats (F := Ideal) m 0 c).arrAt 15 Cert.ImageIdeal.cfg0.N := by
  refine Eq.trans ?_ (Cert.Img.row_codes m c).symm
  rw [Cert.ImgRef.row_codes, hx]

include hx in
/-- The same scales of them. -/
theorem image_row_scales : Cert.ImgRef.turnT (Cert.ImageReferenceIdeal.Value.reg_main_v0_3 (F := Ideal) m' c)
    = (Cert.ImageIdeal.Body.dats (F := Ideal) m 0 c).arrAt 16 Cert.ImageIdeal.cfg0.N := by
  refine Eq.trans ?_ (Cert.Img.row_scales m c).symm
  funext y
  obtain ⟨z, n, rfl⟩ : ∃ (z : Fin 1) (n : Fin 4096), y = ix2 z n := ⟨y 0, y 1, eq_ix2 (n0 := 1) (n1 := 4096) y⟩
  obtain rfl : z = 0 := Subsingleton.elim _ _
  refine (Cert.ImgRef.turned _ n).trans ?_
  rw [Cert.ImgRef.row_scales, hx]
  rfl

include hx hp in
/-- The same queries. -/
theorem image_queries (hw : Cert.ImgRef.Gw m' c = Cert.Img.Gw m c) (hs : Cert.ImgRef.Gs m' c = Cert.Img.Gs m c) (hb : Cert.ImgRef.Gb m' c = Cert.Img.Gb m c) :
    Cert.ImageReferenceIdeal.Value.res_main_v23 (F := Ideal) m' c = (Cert.ImageIdeal.Body.dats (F := Ideal) m 0 c).arrAt 19 Cert.ImageIdeal.cfg0.N := by
  refine Eq.trans ?_ (Cert.Img.queries m c).symm
  funext y
  obtain ⟨k, n, rfl⟩ : ∃ (k : Fin 384) (n : Fin 4096), y = ix2 k n := ⟨y 0, y 1, eq_ix2 (n0 := 384) (n1 := 4096) y⟩
  refine (Cert.ImgRef.queries m' c k n).trans ?_
  rw [hx, hp, hw, hs, hb]
  rfl

include hx in
/-- The same residual. -/
theorem image_residual (b : FVec Ideal Cert.ImageReferenceIdeal.S256 .f32) (hb : b = Cert.Img.Go m c) :
    Cert.ImgRef.centreT (Cert.ImgRef.biasedT (Cert.ImgRef.Gx m' c) b) = (Cert.ImageIdeal.Body.dats (F := Ideal) m 0 c).arrAt 20 Cert.ImageIdeal.cfg0.N := by
  refine Eq.trans ?_ (Cert.Img.residual m c).symm
  funext y
  obtain ⟨d, n, rfl⟩ : ∃ (d : Fin 256) (n : Fin 4096), y = ix2 d n := ⟨y 0, y 1, eq_ix2 (n0 := 256) (n1 := 4096) y⟩
  refine (Cert.ImgRef.residual_apply _ _ n d).trans ?_
  rw [hx, hb]
  rfl

end Same

/-- The image call and its reference leave the same results of arguments that agree. -/
theorem algebraic_image : Cert.algebraic_ImageIdeal_ImageReferenceIdeal := by
  intro m ρ m' ρ' _ hagree
  refine ⟨fun c => (Cert.ImageIdeal.Body.dats (F := Ideal) m 0 c).arrAt 13 Cert.ImageIdeal.cfg0.N, fun c => (Cert.ImageIdeal.Body.dats (F := Ideal) m 0 c).arrAt 14 Cert.ImageIdeal.cfg0.N, fun c => (Cert.ImageIdeal.Body.dats (F := Ideal) m 0 c).arrAt 15 Cert.ImageIdeal.cfg0.N, fun c => (Cert.ImageIdeal.Body.dats (F := Ideal) m 0 c).arrAt 16 Cert.ImageIdeal.cfg0.N, fun c => (Cert.ImageIdeal.Body.dats (F := Ideal) m 0 c).arrAt 19 Cert.ImageIdeal.cfg0.N, fun c => (Cert.ImageIdeal.Body.dats (F := Ideal) m 0 c).arrAt 20 Cert.ImageIdeal.cfg0.N,
    (θ_run Cert.ImageIdeal.defs _ _).mono (fun r h c => ?_) (Cert.ImageIdeal.Body.run_main (F := Ideal) m ρ), ?_⟩
  · obtain ⟨h0, h1, h2, h3, h4, h5⟩ := image_run m r h.1 c
    exact ⟨h0, h1, h2, h3, h4, h5, Cert.ImageIdeal.Body.kept m r h.1 c⟩
  refine (θ_run Cert.ImageReferenceIdeal.defs _ _).mono (fun r h c => ?_) (Cert.ImageReferenceIdeal.Value.run (F := Ideal) m' ρ')
  obtain ⟨a0, a1, -, -, -, -, -, a7, a8, a9, -, -, a12⟩ := hagree c
  obtain ⟨h0, h1, h2, h3, h4, h5, hk⟩ := h c
  exact ⟨h0.trans (image_placed_codes m m' c a0 a1), h1.trans (image_placed_scales m m' c a0 a1), h2.trans (image_row_codes m m' c a0), h3.trans (image_row_scales m m' c a0),
    h4.trans (image_queries m m' c a0 a1 a7 a8 a9), h5.trans (image_residual m m' c a0 _ a12), hk⟩

end Cert.Proof

end
-- ==== Proof.SelfCore.lean ====
/- The arithmetic of the self-attention of one token, over the extended reals. -/
module

public import proofs.«01_k».proof.Proof.TokCore

@[expose] public section

noncomputable section

namespace Cert.SelfCore

open Idealize.ShloMosaic

/-- Minus infinity, as the maxima start from it. -/
abbrev ninf : EReal := Ideal.ofBits .f32 0xFF800000#32

theorem ninf_eq : ninf = ⊥ := by simp [ninf, Ideal.ofBits, Ideal.ieee]

/-- A number that is neither infinity. -/
def IsFin (x : EReal) : Prop := x ≠ ⊥ ∧ x ≠ ⊤

theorem IsFin.add {x y : EReal} (hx : IsFin x) (hy : IsFin y) : IsFin (x + y) := by
  lift x to ℝ using ⟨hx.2, hx.1⟩
  lift y to ℝ using ⟨hy.2, hy.1⟩
  rw [← EReal.coe_add]
  exact ⟨EReal.coe_ne_bot _, EReal.coe_ne_top _⟩

theorem IsFin.mul {x y : EReal} (hx : IsFin x) (hy : IsFin y) : IsFin (x * y) := by
  lift x to ℝ using ⟨hx.2, hx.1⟩
  lift y to ℝ using ⟨hy.2, hy.1⟩
  rw [← EReal.coe_mul]
  exact ⟨EReal.coe_ne_bot _, EReal.coe_ne_top _⟩

theorem IsFin.sum {n : ℕ} {f : Fin n → EReal} (h : ∀ i, IsFin (f i)) : IsFin (∑ i, f i) := by
  refine Finset.sum_induction f IsFin (fun _ _ => IsFin.add) ⟨EReal.zero_ne_bot, EReal.zero_ne_top⟩ fun i _ => h i

/-- A row's largest score. -/
def mxE {n : ℕ} (s : Fin n → EReal) : EReal := Finset.univ.fold max ninf s

/-- The softmax weight of an entry of a row of scores. -/
def wE {n : ℕ} (s : Fin n → EReal) (j : Fin n) : EReal := Ideal.div (Ideal.exp (s j - mxE s)) (∑ k, Ideal.exp (s k - mxE s))

/-- A row's weighted sum of values. -/
def attE {n : ℕ} (s v : Fin n → EReal) : EReal := ∑ j, wE s j * v j

/-- The exponential is not negative. -/
theorem exp_nonneg (x : EReal) : 0 ≤ Ideal.exp x := by
  induction x using EReal.rec with
  | bot => exact le_rfl
  | top => exact le_top
  | coe x => exact EReal.coe_nonneg.2 (Real.exp_pos x).le

/-- Entries of minus infinity among finite ones change nothing: their weights are 0, and so is what they weigh. -/
theorem att_masked {k n : ℕ} (e : Fin k → Fin n) (he : Function.Injective e) (hk : 0 < k) (s v : Fin n → EReal)
    (hin : ∀ a, IsFin (s (e a))) (hout : ∀ j, j ∉ Set.range e → s j = ⊥) : attE s v = attE (fun a => s (e a)) fun a => v (e a) := by
  have hm : mxE s = mxE fun a => s (e a) := by
    refine eq_of_forall_ge_iff fun c => ?_
    simp only [mxE, Finset.fold_max_le, Finset.mem_univ, true_implies]
    refine and_congr_right fun _ => ⟨fun h a => h _, fun h j => ?_⟩
    by_cases hj : j ∈ Set.range e
    · obtain ⟨a, rfl⟩ := hj
      exact h a
    · rw [hout j hj]
      exact bot_le
  have ht : mxE s ≠ ⊤ := by
    rw [hm]
    refine ne_of_lt ?_
    rw [mxE, Finset.fold_max_lt]
    refine ⟨?_, fun a _ => lt_top_iff_ne_top.2 (hin a).2⟩
    rw [ninf_eq]
    exact bot_lt_top
  have hb : mxE s ≠ ⊥ := by
    intro h
    have := ((Finset.fold_max_le (b := ninf) (f := s) (s := Finset.univ) (c := mxE s)).1 le_rfl).2 (e ⟨0, hk⟩) (Finset.mem_univ _)
    rw [h, le_bot_iff] at this
    exact (hin _).1 this
  have hx : ∀ j, j ∉ Set.range e → Ideal.exp (s j - mxE s) = 0 := by
    intro j hj
    rw [hout j hj, EReal.bot_sub]
    rfl
  have hz : ∑ j, Ideal.exp (s j - mxE s) = ∑ a, Ideal.exp (s (e a) - mxE s) :=
    (Fintype.sum_of_injective e he _ _ hx fun _ => rfl).symm
  have h0 : ∑ j, Ideal.exp (s j - mxE s) ≠ 0 := by
    intro h
    have := (Finset.sum_eq_zero_iff_of_nonneg fun j _ => exp_nonneg (s j - mxE s)).1 h (e ⟨0, hk⟩) (Finset.mem_univ _)
    generalize mxE s = m at *
    have hs := hin ⟨0, hk⟩
    generalize s (e ⟨0, hk⟩) = y at *
    lift m to ℝ using ⟨ht, hb⟩
    lift y to ℝ using ⟨hs.2, hs.1⟩
    rw [← EReal.coe_sub, Ideal.exp_coe, EReal.coe_eq_zero] at this
    exact (Real.exp_pos _).ne' this
  unfold attE
  refine (Fintype.sum_of_injective e he _ _ (fun j hj => ?_) fun a => ?_).symm
  · unfold wE
    rw [hx j hj, Ideal.div, if_neg h0, zero_mul, zero_mul]
  · unfold wE
    rw [← hm, hz]

/-- Channel `x` of head `h`. -/
abbrev hd (h : Fin 4) (x : Fin 64) : Fin 256 := ⟨h.val * 64 + x.val, by omega⟩

/-- The score of a query with a key in a head. -/
def scE (q k : Fin 256 → EReal) (h : Fin 4) : EReal := (∑ x : Fin 64, q (hd h x) * k (hd h x)) * Ideal.ofBits .f32 0x3E000000#32

/-- A row's product with a weight. -/
def linE {n : ℕ} (x : Fin 256 → EReal) (w : Fin 256 → Fin n → EReal) (d : Fin n) : EReal := ∑ e, x e * w e d

/-- The attention of a token among those with the keys `k` and the values `v`. -/
def oE {n : ℕ} (q : Fin 256 → EReal) (k v : Fin n → Fin 256 → EReal) (h : Fin 4) (x : Fin 64) : EReal := attE (fun j => scE q (k j) h) fun j => v j (hd h x)

/-- A channel of the attention's projection. -/
def projE (o : Fin 4 → Fin 64 → EReal) (wo : Fin 256 → Fin 256 → EReal) (d : Fin 256) : EReal := ∑ h, ∑ x, o h x * wo (hd h x) d

/-- The sum over heads and their channels is the sum over the channels. -/
theorem sum_heads (f : Fin 256 → EReal) : ∑ h, ∑ x, f (hd h x) = ∑ c, f c := by
  rw [← Fintype.sum_prod_type']
  exact Fintype.sum_equiv (finProdFinEquiv (m := 4) (n := 64)) _ _ fun p => congrArg f (Fin.ext (by simp [finProdFinEquiv]; omega))

/-- The heads' products, added to the bias one after the other. -/
theorem proj_fold (o : Fin 4 → Fin 64 → EReal) (wo : Fin 256 → Fin 256 → EReal) (b : EReal) (d : Fin 256) :
    b + (∑ x, o 0 x * wo (hd 0 x) d) + (∑ x, o 1 x * wo (hd 1 x) d) + (∑ x, o 2 x * wo (hd 2 x) d) + (∑ x, o 3 x * wo (hd 3 x) d) = projE o wo d + b := by
  unfold projE
  rw [Fin.sum_univ_four]
  abel

/-- The constant of the scores is finite. -/
theorem scale_fin : IsFin (Ideal.ofBits .f32 0x3E000000#32) := by
  have : Ideal.ofBits .f32 0x3E000000#32 = ((1 / 8 : ℝ) : EReal) := by
    simp [Ideal.ofBits, Ideal.ieee, -EReal.coe_mul]
    norm_num
  rw [this]
  exact ⟨EReal.coe_ne_bot _, EReal.coe_ne_top _⟩

/-- Finite queries and keys have finite scores. -/
theorem sc_fin {q k : Fin 256 → EReal} (hq : ∀ d, IsFin (q d)) (hk : ∀ d, IsFin (k d)) (h : Fin 4) : IsFin (scE q k h) :=
  (IsFin.sum fun x => (hq _).mul (hk _)).mul scale_fin

theorem lin_fin {n : ℕ} {x : Fin 256 → EReal} {w : Fin 256 → Fin n → EReal} (hx : ∀ e, IsFin (x e)) (hw : ∀ e d, IsFin (w e d)) (d : Fin n) : IsFin (linE x w d) :=
  IsFin.sum fun e => (hx e).mul (hw e d)

/-- A token's row after its attention, projection, residual and norm. -/
def rowE (t : Fin 256 → EReal) (o : Fin 4 → Fin 64 → EReal) (wo : Fin 256 → Fin 256 → EReal) (bo g b : Fin 256 → EReal) : Fin 256 → EReal :=
  TokCore.normE (fun d => t d + (projE o wo d + bo d)) g b

/-- A row after the attention among the ten rows of its set. -/
def tokE (t p : Fin 10 → Fin 256 → EReal) (wq wk wv wo : Fin 256 → Fin 256 → EReal) (bq bv bo g b : Fin 256 → EReal) (n : Fin 10) : Fin 256 → EReal :=
  rowE (t n) (oE (fun d => linE (fun e => t n e + p n e) wq d + bq d) (fun a d => linE (fun e => t a e + p a e) wk d) fun a d => linE (t a) wv d + bv d) wo bo g b

/-- The set of a token. -/
abbrev setAt (n : Fin 2240) : Fin 224 := ⟨n.val / 10, by omega⟩
/-- Its place in the set. -/
abbrev place (n : Fin 2240) : Fin 10 := ⟨n.val % 10, by omega⟩

/-- A token after its attention, of the arguments. -/
def tokG (t p : (⟨3, ![224, 10, 256]⟩ : Shape).Idx → EReal) (wq wk wv wo : (⟨2, ![256, 256]⟩ : Shape).Idx → EReal) (bq bv bo g b : (⟨1, ![256]⟩ : Shape).Idx → EReal) (s : Fin 224) (n : Fin 10) : Fin 256 → EReal :=
  tokE (fun a e => t (ix3 s a e)) (fun a e => p (ix3 s a e)) (fun e d => wq (ix2 e d)) (fun e d => wk (ix2 e d)) (fun e d => wv (ix2 e d)) (fun e d => wo (ix2 e d))
    (fun d => bq (ix1 d)) (fun d => bv (ix1 d)) (fun d => bo (ix1 d)) (fun d => g (ix1 d)) (fun d => b (ix1 d)) n

/-- The next query of a row. -/
def queryE (u p : Fin 256 → EReal) (w : Fin 256 → Fin 128 → EReal) (b : Fin 128 → EReal) (x : Fin 128) : EReal := linE (fun d => u d + p d) w x + b x

/-- A token's next query, of the arguments. -/
def queryG (t p : (⟨3, ![224, 10, 256]⟩ : Shape).Idx → EReal) (wq wk wv wo : (⟨2, ![256, 256]⟩ : Shape).Idx → EReal) (bq bv bo g b : (⟨1, ![256]⟩ : Shape).Idx → EReal)
    (w : (⟨2, ![256, 128]⟩ : Shape).Idx → EReal) (c : (⟨1, ![128]⟩ : Shape).Idx → EReal) (s : Fin 224) (n : Fin 10) : Fin 128 → EReal :=
  queryE (tokG t p wq wk wv wo bq bv bo g b s n) (fun d => p (ix3 s n d)) (fun e x => w (ix2 e x)) fun x => c (ix1 x)

end Cert.SelfCore

end
-- ==== Proof.SelfPoint.lean ====
/- What the self-attention call's body computes at a row, over the extended reals. -/
module

public import proofs.«01_k».proof.Proof.Gen.SelfIdeal.Skeleton
public import proofs.«01_k».proof.Proof.SelfCore

@[expose] public section

set_option maxRecDepth 16384

noncomputable section

namespace Cert.SelfAtt

open Cert.SelfIdeal Cert.SelfIdeal.Gen Idealize.ShloMosaic Cert.SelfCore

section Terms

variable {F : FTy → Type} [FloatOps F] [Named F]

/-- A head's scores, masked. -/
def scores (off : Fin 2 → ℕ) (hs : S160x256.Slices off S160x64) (q k : FVec F S160x256 .f32) (own : IVec S160x160 1) : FVec F S160x160 .f32 :=
  select own (mulf (matmul dot_S160x64_S160x64_S160x160_1_1_0_0_n_n (some .fp32) (extractStridedSlice S160x64 off q hs) (extractStridedSlice S160x64 off k hs) (constant S160x160 .f32 0x00000000#32))
    (broadcast S160x160 (Scalar.ofBits .f32 0x3E000000#32))) (broadcast S160x160 (Scalar.ofBits .f32 0xFF800000#32))

/-- The exponentials of scores less the largest of the row. -/
def powers (s : FVec F S160x160 .f32) : FVec F S160x160 .f32 :=
  exp (subf s (broadcastTo S160x160 (shapeCast S160x1 (multiReduction .maximumf [1] S160 s 0xFF800000#32 reduces_S160x160_S160 (.inl rfl) rfl) shapeCasts_S160_S160x1) broadcasts_S160x1_S160x160))

/-- The weights. -/
def weights (e : FVec F S160x160 .f32) : FVec F S160x160 .f32 :=
  divf e (broadcastTo S160x160 (shapeCast S160x1 (multiReduction .add [1] S160 e 0x00000000#32 reduces_S160x160_S160 (.inl rfl) rfl) shapeCasts_S160_S160x1) broadcasts_S160x1_S160x160)

/-- A head's attention. -/
def att (off : Fin 2 → ℕ) (hs : S160x256.Slices off S160x64) (p : FVec F S160x160 .f32) (v : FVec F S160x256 .f32) : FVec F S160x64 .f32 :=
  matmul dot_S160x160_S160x64_S160x64_1_0_0_1_n_n (some .fp32) p (extractStridedSlice S160x64 off v hs) (constant S160x64 .f32 0x00000000#32)

/-- A head's part of the projection. -/
def part (off : Fin 2 → ℕ) (hs : S160x256.Slices off S160x64) (q k v : FVec F S160x256 .f32) (own : IVec S160x160 1) (w : FVec F S64x256 .f32) : FVec F S160x256 .f32 :=
  matmul dot_S160x64_S64x256_S160x256_1_0_0_1_n_n (some .fp32) (att off hs (weights (powers (scores off hs q k own))) v) w (constant S160x256 .f32 0x00000000#32)

/-- The rows normalised. -/
def norm (x : FVec F S160x256 .f32) (g b : Vec F S1x256 .f32) : FVec F S160x256 .f32 :=
  have c : FVec F S160x256 .f32 := subf x (broadcastTo S160x256 (divf (shapeCast S160x1 (multiReduction .add [1] S160 x 0x00000000#32 reduces_S160x256_S160 (.inl rfl) rfl) shapeCasts_S160_S160x1)
    (broadcast S160x1 (Scalar.ofBits .f32 0x43800000#32))) broadcasts_S160x1_S160x256)
  have s : FVec F S160x1 .f32 := rsqrt (addf (divf (shapeCast S160x1 (multiReduction .add [1] S160 (mulf c c) 0x00000000#32 reduces_S160x256_S160 (.inl rfl) rfl) shapeCasts_S160_S160x1)
    (broadcast S160x1 (Scalar.ofBits .f32 0x43800000#32))) (broadcast S160x1 (Scalar.ofBits .f32 0x3727C5AC#32)))
  addf (mulf (mulf c (broadcastTo S160x256 s broadcasts_S160x1_S160x256)) (broadcastTo S160x256 (shapeCast S1x256 g shapeCasts_S1x256_S1x256) broadcasts_S1x256_S160x256))
    (broadcastTo S160x256 (shapeCast S1x256 b shapeCasts_S1x256_S1x256) broadcasts_S1x256_S160x256)

/-- The mask. -/
abbrev own : IVec S160x160 1 := k0_pay12 (iota .tc S160x160 32 [0] iota_S160x160_d0_w32) 10#32 k0_pay9 k0_pay10 k0_pay11

/-- The rows with their attention's projection, before the norm. -/
def resid (t : FVec F S160x256 .f32) (q k v : FVec F S160x256 .f32) (bo : Vec F S1x256 .f32) (w0 w1 w2 w3 : Vec F S64x256 .f32) : FVec F S160x256 .f32 :=
  addf t (addf (addf (addf (addf (broadcastTo S160x256 (shapeCast S1x256 bo shapeCasts_S1x256_S1x256) broadcasts_S1x256_S160x256)
    (part ![0, 0] slices_S160x256_o0_0_S160x64 q k v own w0)) (part ![0, 64] slices_S160x256_o0_64_S160x64 q k v own w1))
    (part ![0, 128] slices_S160x256_o0_128_S160x64 q k v own w2)) (part ![0, 192] slices_S160x256_o0_192_S160x64 q k v own w3))

/-- The body's rows before the norm. -/
theorem pay18_eq (t q k v : FVec F S160x256 .f32) (bo : Vec F S1x256 .f32) (w0 w1 w2 w3 : Vec F S64x256 .f32) :
    k0_pay18 t q k v own (k0_pay16 q k v own (k0_pay13 bo) (k0_pay14 q k (iota .tc S160x160 32 [0] iota_S160x160_d0_w32) 10#32 k0_pay9 k0_pay10 k0_pay11)
        (k0_pay15 q k (iota .tc S160x160 32 [0] iota_S160x160_d0_w32) 10#32 k0_pay9 k0_pay10 k0_pay11) w0 w1) (k0_pay17 q k own) w2 w3
      = resid t q k v bo w0 w1 w2 w3 := rfl

/-- The norm of the body. -/
theorem pay1_eq (x : FVec F S160x256 .f32) (g b : Vec F S1x256 .f32) :
    k0_pay1 x (k0_pay19 g) (k0_pay20 b) (multiReduction .add [1] S160 x 0x00000000#32 reduces_S160x256_S160 (.inl rfl) rfl) = norm x g b := rfl

end Terms

/-- The set of a row, as the body computes it: a quotient rounded towards minus infinity. -/
def setOf (i : Fin 160) : BitVec 32 :=
  Scalar.select
    (IntOp.andi
      (IntOp.cmpi CmpIPredicate.ne
        (IntOp.subi (BitVec.setWidth 32 (IntOp.cmpi CmpIPredicate.sgt (BitVec.ofNat 32 i) 0#32)) (BitVec.setWidth 32 (IntOp.cmpi CmpIPredicate.slt (BitVec.ofNat 32 i) 0#32)))
        (Scalar.subi (Scalar.extui (Scalar.cmpi CmpIPredicate.sgt 10#32 0#32)) (Scalar.extui (Scalar.cmpi CmpIPredicate.slt 10#32 0#32))))
      (IntOp.cmpi CmpIPredicate.ne (IntOp.remsi ArithUnit.vector (BitVec.ofNat 32 i) 10#32) 0#32))
    (IntOp.subi (IntOp.divsi ArithUnit.vector (BitVec.ofNat 32 i) 10#32) 1#32)
    (IntOp.divsi ArithUnit.vector (BitVec.ofNat 32 i) 10#32)

/-- It is the row over ten. -/
theorem setOf_eq : ∀ i : Fin 160, setOf i = BitVec.ofNat 32 (i.val / 10) := by decide +kernel

/-- Which rows belong to the same set. -/
theorem own_apply (i j : Fin 160) : own (ix2 i j) = if i.val / 10 = j.val / 10 then 1#1 else 0#1 := by
  have h : own (ix2 i j) = IntOp.cmpi CmpIPredicate.eq (setOf i) (setOf j) := by
    pointwise [own, k0_pay12, k0_pay9, k0_pay10, k0_pay11]
    rfl
  rw [h, setOf_eq, setOf_eq]
  have hi : i.val / 10 < 16 := by omega
  have hj : j.val / 10 < 16 := by omega
  generalize i.val / 10 = a at *
  generalize j.val / 10 = b at *
  have key : ∀ a b : Fin 16, IntOp.cmpi CmpIPredicate.eq (BitVec.ofNat 32 a.val) (BitVec.ofNat 32 b.val) = if a.val = b.val then 1#1 else 0#1 := by decide +kernel
  exact key ⟨a, hi⟩ ⟨b, hj⟩

/-- A head's scores, at an index. -/
theorem scores_apply (h : Fin 4) (hs : S160x256.Slices ![0, h.val * 64] S160x64) (q k : FVec Ideal S160x256 .f32) (m : IVec S160x160 1) (i j : Fin 160) :
    scores ![0, h.val * 64] hs q k m (ix2 i j) = if m (ix2 i j) = 1#1 then scE (fun d => q (ix2 i d)) (fun d => k (ix2 j d)) h else ninf := by
  unfold scE
  pointwise [scores]
  rfl

/-- The weights, at an index. -/
theorem weights_apply (s : FVec Ideal S160x160 .f32) (i j : Fin 160) : weights (powers s) (ix2 i j) = wE (fun j => s (ix2 i j)) j := by
  unfold wE mxE
  pointwise [weights, powers]

/-- A head's attention, at an index. -/
theorem att_apply (h : Fin 4) (hs : S160x256.Slices ![0, h.val * 64] S160x64) (p : FVec Ideal S160x160 .f32) (v : FVec Ideal S160x256 .f32) (i : Fin 160) (x : Fin 64) :
    att ![0, h.val * 64] hs p v (ix2 i x) = ∑ j, p (ix2 i j) * v (ix2 j (hd h x)) := by
  pointwise [att]

/-- The rows of a row's set. -/
def mates (r : Fin 160) (a : Fin 10) : Fin 160 := ⟨r.val / 10 * 10 + a.val, by omega⟩

theorem mates_injective (r : Fin 160) : Function.Injective (mates r) := fun a b h => Fin.ext (by have := congrArg Fin.val h; simp only [mates] at this; omega)

/-- A head's attention among the rows of the block is that among the rows of the set. -/
theorem head_apply (h : Fin 4) (hs : S160x256.Slices ![0, h.val * 64] S160x64) (q k v : FVec Ideal S160x256 .f32) (i : Fin 160) (x : Fin 64)
    (hq : ∀ d, IsFin (q (ix2 i d))) (hk : ∀ j d, IsFin (k (ix2 j d))) :
    att ![0, h.val * 64] hs (weights (powers (scores ![0, h.val * 64] hs q k own))) v (ix2 i x)
      = oE (fun d => q (ix2 i d)) (fun a d => k (ix2 (mates i a) d)) (fun a d => v (ix2 (mates i a) d)) h x := by
  refine (att_apply h hs _ v i x).trans ?_
  simp only [weights_apply, scores_apply, own_apply]
  have hin : ∀ a, i.val / 10 = (mates i a).val / 10 := fun a => by simp only [mates]; omega
  refine (att_masked (mates i) (mates_injective i) (by decide) (fun j => if (if i.val / 10 = j.val / 10 then 1#1 else 0#1 : BitVec 1) = 1#1 then scE (fun d => q (ix2 i d)) (fun d => k (ix2 j d)) h else ninf)
    (fun j => v (ix2 j (hd h x))) (fun a => ?_) fun j hj => ?_).trans ?_
  · rw [if_pos (hin a), if_pos rfl]
    exact sc_fin hq (hk _) h
  · have : ¬ i.val / 10 = j.val / 10 := fun e => hj ⟨⟨j.val % 10, by omega⟩, Fin.ext (by simp only [mates]; omega)⟩
    rw [if_neg this, if_neg (by decide), ninf_eq]
  · unfold oE
    refine congrArg (fun s => attE s _) (funext fun a => ?_)
    rw [if_pos (hin a), if_pos rfl]

/-- A head's part of the projection, at an index. -/
theorem part_apply (h : Fin 4) (hs : S160x256.Slices ![0, h.val * 64] S160x64) (q k v : FVec Ideal S160x256 .f32) (w : FVec Ideal S64x256 .f32) (i : Fin 160) (d : Fin 256)
    (hq : ∀ d, IsFin (q (ix2 i d))) (hk : ∀ j d, IsFin (k (ix2 j d))) :
    part ![0, h.val * 64] hs q k v own w (ix2 i d)
      = ∑ x, oE (fun d => q (ix2 i d)) (fun a d => k (ix2 (mates i a) d)) (fun a d => v (ix2 (mates i a) d)) h x * w (ix2 x d) := by
  have e := fun x => head_apply h hs q k v i x hq hk
  unfold part
  generalize att ![0, h.val * 64] hs (weights (powers (scores ![0, h.val * 64] hs q k own))) v = o at *
  simp only [← e]
  pointwise []

/-- The rows before the norm, at an index. -/
theorem resid_apply (t q k v : FVec Ideal S160x256 .f32) (bo : Vec Ideal S1x256 .f32) (w0 w1 w2 w3 : Vec Ideal S64x256 .f32) (wo : Fin 256 → Fin 256 → EReal) (i : Fin 160) (d : Fin 256)
    (hq : ∀ d, IsFin (q (ix2 i d))) (hk : ∀ j d, IsFin (k (ix2 j d)))
    (h0 : ∀ x d, w0 (ix2 x d) = wo (hd 0 x) d) (h1 : ∀ x d, w1 (ix2 x d) = wo (hd 1 x) d) (h2 : ∀ x d, w2 (ix2 x d) = wo (hd 2 x) d) (h3 : ∀ x d, w3 (ix2 x d) = wo (hd 3 x) d) :
    resid t q k v bo w0 w1 w2 w3 (ix2 i d)
      = t (ix2 i d) + (projE (oE (fun d => q (ix2 i d)) (fun a d => k (ix2 (mates i a) d)) fun a d => v (ix2 (mates i a) d)) wo d + bo (ix2 0 d)) := by
  rw [← proj_fold]
  simp only [← h0, ← h1, ← h2, ← h3]
  have p0 := part_apply 0 slices_S160x256_o0_0_S160x64 q k v w0 i d hq hk
  have p1 := part_apply 1 slices_S160x256_o0_64_S160x64 q k v w1 i d hq hk
  have p2 := part_apply 2 slices_S160x256_o0_128_S160x64 q k v w2 i d hq hk
  have p3 := part_apply 3 slices_S160x256_o0_192_S160x64 q k v w3 i d hq hk
  have pb : broadcastTo S160x256 (shapeCast S1x256 bo shapeCasts_S1x256_S1x256) broadcasts_S1x256_S160x256 (ix2 i d) = bo (ix2 0 d) := by pointwise []
  exact congrArg₂ (· + ·) rfl (congrArg₂ (· + ·) (congrArg₂ (· + ·) (congrArg₂ (· + ·) (congrArg₂ (· + ·) pb p0) p1) p2) p3)

/-- The rows normalised, at an index. -/
theorem norm_apply (x : FVec Ideal S160x256 .f32) (g b : Vec Ideal S1x256 .f32) (r : Fin 160) (d : Fin 256) :
    norm x g b (ix2 r d) = TokCore.normE (fun d => x (ix2 r d)) (fun d => g (ix2 0 d)) (fun d => b (ix2 0 d)) d := by
  unfold TokCore.normE TokCore.meanE
  pointwise [norm]

/-- The queries. -/
theorem pay6_apply (x0 x1 : Vec Ideal S160x256 .bf16) (w : Vec Ideal S256x256 .f32) (b : Vec Ideal S1x256 .f32) (r : Fin 160) (d : Fin 256) :
    k0_pay6 x0 x1 w b (ix2 r d) = linE (fun e => x0 (ix2 r e) + x1 (ix2 r e)) (fun e d => w (ix2 e d)) d + b (ix2 0 d) := by
  unfold linE
  pointwise [k0_pay6, k0_pay5, k0_pay4, k0_pay3]

/-- The keys. -/
theorem pay7_apply (x0 x1 : Vec Ideal S160x256 .bf16) (w : Vec Ideal S256x256 .f32) (r : Fin 160) (d : Fin 256) :
    k0_pay7 x0 x1 w (ix2 r d) = linE (fun e => x0 (ix2 r e) + x1 (ix2 r e)) (fun e d => w (ix2 e d)) d := by
  unfold linE
  pointwise [k0_pay7, k0_pay5, k0_pay4, k0_pay3]

/-- The values. -/
theorem pay8_apply (x0 : Vec Ideal S160x256 .bf16) (w : Vec Ideal S256x256 .f32) (b : Vec Ideal S1x256 .f32) (r : Fin 160) (d : Fin 256) :
    k0_pay8 x0 w b (ix2 r d) = linE (fun e => x0 (ix2 r e)) (fun e d => w (ix2 e d)) d + b (ix2 0 d) := by
  unfold linE
  pointwise [k0_pay8, k0_pay3]

/-- The next queries. -/
theorem pay2_apply (p y : FVec Ideal S160x256 .f32) (g b : FVec Ideal S1x256 .f32) (z : FVec Ideal S160 .f32) (w : Vec Ideal S256x128 .f32) (c : Vec Ideal S1x128 .f32) (r : Fin 160) (x : Fin 128) :
    k0_pay2 p y g b z w c (ix2 r x) = queryE (fun d => k0_pay1 y g b z (ix2 r d)) (fun d => p (ix2 r d)) (fun e x => w (ix2 e x)) (fun x => c (ix2 0 x)) x := by
  unfold queryE linE k0_pay2
  generalize k0_pay1 y g b z = u
  pointwise []

/-- A row's place in its set. -/
abbrev spot (r : Fin 160) : Fin 10 := ⟨r.val % 10, by omega⟩

theorem mates_spot (r : Fin 160) : mates r (spot r) = r := Fin.ext (by simp only [mates, spot]; omega)

/-- The body's rows, at an index. -/
theorem row_apply (x0 x1 : Vec Ideal S160x256 .bf16) (wq wk wv : Vec Ideal S256x256 .f32) (w0 w1 w2 w3 : Vec Ideal S64x256 .f32) (bq bv bo g b : Vec Ideal S1x256 .f32)
    (wo : Fin 256 → Fin 256 → EReal) (r : Fin 160) (d : Fin 256)
    (f0 : ∀ i, IsFin (x0 i)) (f1 : ∀ i, IsFin (x1 i)) (fq : ∀ i, IsFin (wq i)) (fk : ∀ i, IsFin (wk i)) (fb : ∀ i, IsFin (bq i))
    (h0 : ∀ x d, w0 (ix2 x d) = wo (hd 0 x) d) (h1 : ∀ x d, w1 (ix2 x d) = wo (hd 1 x) d) (h2 : ∀ x d, w2 (ix2 x d) = wo (hd 2 x) d) (h3 : ∀ x d, w3 (ix2 x d) = wo (hd 3 x) d) :
    norm (resid (k0_pay3 x0) (k0_pay6 x0 x1 wq bq) (k0_pay7 x0 x1 wk) (k0_pay8 x0 wv bv) bo w0 w1 w2 w3) g b (ix2 r d)
      = tokE (fun a e => x0 (ix2 (mates r a) e)) (fun a e => x1 (ix2 (mates r a) e)) (fun e d => wq (ix2 e d)) (fun e d => wk (ix2 e d)) (fun e d => wv (ix2 e d)) wo
        (fun d => bq (ix2 0 d)) (fun d => bv (ix2 0 d)) (fun d => bo (ix2 0 d)) (fun d => g (ix2 0 d)) (fun d => b (ix2 0 d)) (spot r) d := by
  refine (norm_apply _ g b r d).trans ?_
  unfold tokE rowE
  beta_reduce
  rw [mates_spot]
  refine congrArg (fun v => TokCore.normE v _ _ d) (funext fun d => ?_)
  refine (resid_apply _ _ _ _ bo w0 w1 w2 w3 wo r d (fun d => ?_) (fun j d => ?_) h0 h1 h2 h3).trans ?_
  · rw [pay6_apply]
    exact (lin_fin (fun e => (f0 _).add (f1 _)) (fun e d => fq _) d).add (fb _)
  · rw [pay7_apply]
    exact lin_fin (fun e => (f0 _).add (f1 _)) (fun e d => fk _) d
  · have e : k0_pay3 x0 (ix2 r d) = x0 (ix2 r d) := by pointwise [k0_pay3]
    simp only [pay6_apply, pay7_apply, pay8_apply, e]

end Cert.SelfAtt

end
-- ==== Proof.SelfArr.lean ====
/- What the self-attention call leaves, at an index: a function of the arguments. -/
module

public import proofs.«01_k».proof.Proof.SelfPoint
public import proofs.«01_k».proof.Proof.BlockVal
public import proofs.«01_k».proof.Proof.Gen.SelfIdeal.Value

@[expose] public section

set_option maxRecDepth 16384

noncomputable section

namespace Cert.SelfAtt

open Cert.SelfIdeal Cert.SelfIdeal.Gen Cert.SelfCore Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-- The tokens as launched. -/
abbrev Gt : Vec Ideal S224x10x256 .bf16 := m ((c : Thread nD τ).loc main_arg0)
/-- Their positions as launched. -/
abbrev Gp : Vec Ideal S224x10x256 .bf16 := m ((c : Thread nD τ).loc main_arg1)
/-- The queries' projection as launched. -/
abbrev Gwq : Vec Ideal S256x256 .f32 := m ((c : Thread nD τ).loc main_arg2)
/-- The keys' projection as launched. -/
abbrev Gwk : Vec Ideal S256x256 .f32 := m ((c : Thread nD τ).loc main_arg3)
/-- The values' projection as launched. -/
abbrev Gwv : Vec Ideal S256x256 .f32 := m ((c : Thread nD τ).loc main_arg4)
/-- The output's projection as launched. -/
abbrev Gwo : Vec Ideal S256x256 .f32 := m ((c : Thread nD τ).loc main_arg5)
/-- The queries' bias as launched. -/
abbrev Gbq : Vec Ideal S256 .f32 := m ((c : Thread nD τ).loc main_arg6)
/-- The values' bias as launched. -/
abbrev Gbv : Vec Ideal S256 .f32 := m ((c : Thread nD τ).loc main_arg7)
/-- The output's bias as launched. -/
abbrev Gbo : Vec Ideal S256 .f32 := m ((c : Thread nD τ).loc main_arg8)
/-- The norm's gain as launched. -/
abbrev Gg : Vec Ideal S256 .f32 := m ((c : Thread nD τ).loc main_arg9)
/-- The norm's bias as launched. -/
abbrev Gb : Vec Ideal S256 .f32 := m ((c : Thread nD τ).loc main_arg10)
/-- The next query's projection as launched. -/
abbrev Gwt : Vec Ideal S256x128 .f32 := m ((c : Thread nD τ).loc main_arg11)
/-- Its bias as launched. -/
abbrev Gbt : Vec Ideal S128 .f32 := m ((c : Thread nD τ).loc main_arg12)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![t.val, 0] := (by decide +kernel : ∀ t : Fin grid0.N, _)
theorem lt14 : ∀ t : Fin cfg0.N, t.val < 14 := (by decide +kernel : ∀ t : Fin grid0.N, _)

/-- A vector as the one row of a matrix. -/
theorem row_of (x : FVec Ideal S256 .f32) (d : Fin 256) : shapeCast S1x256 x shapeCasts_S256_S1x256 (ix2 0 d) = x (ix1 d) := by
  pointwise []

/-- A short vector as the one row of a matrix. -/
theorem row_of_short (x : FVec Ideal S128 .f32) (d : Fin 128) : shapeCast S1x128 x shapeCasts_S128_S1x128 (ix2 0 d) = x (ix1 d) := by
  pointwise []

/-- The sets' rows, one below the other. -/
theorem rows_of (x : FVec Ideal S224x10x256 .bf16) (n : Fin 2240) (d : Fin 256) :
    shapeCast S2240x256 x shapeCasts_S224x10x256_S2240x256 (ix2 n d) = x (ix3 (setAt n) (place n) d) := by
  pointwise []

theorem V_0 : V (F := Ideal) m c main_v0 = shapeCast S2240x256 (Gt m c) shapeCasts_S224x10x256_S2240x256 := by
  show StableHlo.after hostOps0 _ _ = _
  simp only [hostOps0]
  after_results
  rfl

theorem V_1 : V (F := Ideal) m c main_v1 = shapeCast S2240x256 (Gp m c) shapeCasts_S224x10x256_S2240x256 := by
  show StableHlo.after hostOps0 _ _ = _
  simp only [hostOps0]
  after_results
  rfl

theorem V_2 : V (F := Ideal) m c main_v2 = shapeCast S1x256 (Gbq m c) shapeCasts_S256_S1x256 := by
  show StableHlo.after hostOps0 _ _ = _
  simp only [hostOps0]
  after_results
  rfl

theorem V_3 : V (F := Ideal) m c main_v3 = shapeCast S1x256 (Gbv m c) shapeCasts_S256_S1x256 := by
  show StableHlo.after hostOps0 _ _ = _
  simp only [hostOps0]
  after_results
  rfl

theorem V_4 : V (F := Ideal) m c main_v4 = shapeCast S1x256 (Gbo m c) shapeCasts_S256_S1x256 := by
  show StableHlo.after hostOps0 _ _ = _
  simp only [hostOps0]
  after_results
  rfl

theorem V_5 : V (F := Ideal) m c main_v5 = shapeCast S1x256 (Gg m c) shapeCasts_S256_S1x256 := by
  show StableHlo.after hostOps0 _ _ = _
  simp only [hostOps0]
  after_results
  rfl

theorem V_6 : V (F := Ideal) m c main_v6 = shapeCast S1x256 (Gb m c) shapeCasts_S256_S1x256 := by
  show StableHlo.after hostOps0 _ _ = _
  simp only [hostOps0]
  after_results
  rfl

theorem V_7 : V (F := Ideal) m c main_v7 = shapeCast S1x128 (Gbt m c) shapeCasts_S128_S1x128 := by
  show StableHlo.after hostOps0 _ _ = _
  simp only [hostOps0]
  after_results
  rfl

/-- The block of a point: the set of the row. -/
theorem blk_0 (t : Fin cfg0.N) (r : Fin 160) (a : Fin 10) (x : Fin 256) (n : Fin 2240) (h : n.val = 160 * t.val + r.val) :
    iblk (F := Ideal) m c 0 t (ix2 (mates r a) x) = Gt m c (ix3 (setAt n) a x) := by
  have ht := lt14 t
  have hk : 160 * t.val + (mates r a).val < 2240 := by simp only [mates]; omega
  have hs : setAt ⟨160 * t.val + (mates r a).val, hk⟩ = setAt n := Fin.ext (by simp only [setAt, mates]; omega)
  have hp : place ⟨160 * t.val + (mates r a).val, hk⟩ = a := Fin.ext (by simp only [place, mates]; omega)
  rw [← hs]
  refine Eq.trans ?_ ((rows_of (Gt m c) ⟨160 * t.val + (mates r a).val, hk⟩ x).trans (by rw [hp]))
  rw [← V_0 m c]
  refine congrArg (V m c main_v0) (funext fun a => Fin.ext ?_)
  fin_cases a <;> blk_simp [e0] <;> simp <;> omega

theorem fin_0 (H : ∀ i, IsFin (Gt m c i)) (t : Fin cfg0.N) (i : S160x256.Idx) : IsFin (iblk (F := Ideal) m c 0 t i) := by
  obtain ⟨r, x, rfl⟩ : ∃ (r : Fin 160) (x : Fin 256), i = ix2 r x := ⟨i 0, i 1, eq_ix2 (n0 := 160) (n1 := 256) i⟩
  have ht := lt14 t
  have e := blk_0 m c t r (spot r) x ⟨160 * t.val + r.val, by omega⟩ rfl
  rw [mates_spot] at e
  rw [e]
  exact H _

/-- The block of a point: the set of the row. -/
theorem blk_1 (t : Fin cfg0.N) (r : Fin 160) (a : Fin 10) (x : Fin 256) (n : Fin 2240) (h : n.val = 160 * t.val + r.val) :
    iblk (F := Ideal) m c 1 t (ix2 (mates r a) x) = Gp m c (ix3 (setAt n) a x) := by
  have ht := lt14 t
  have hk : 160 * t.val + (mates r a).val < 2240 := by simp only [mates]; omega
  have hs : setAt ⟨160 * t.val + (mates r a).val, hk⟩ = setAt n := Fin.ext (by simp only [setAt, mates]; omega)
  have hp : place ⟨160 * t.val + (mates r a).val, hk⟩ = a := Fin.ext (by simp only [place, mates]; omega)
  rw [← hs]
  refine Eq.trans ?_ ((rows_of (Gp m c) ⟨160 * t.val + (mates r a).val, hk⟩ x).trans (by rw [hp]))
  rw [← V_1 m c]
  refine congrArg (V m c main_v1) (funext fun a => Fin.ext ?_)
  fin_cases a <;> blk_simp [e1] <;> simp <;> omega

theorem fin_1 (H : ∀ i, IsFin (Gp m c i)) (t : Fin cfg0.N) (i : S160x256.Idx) : IsFin (iblk (F := Ideal) m c 1 t i) := by
  obtain ⟨r, x, rfl⟩ : ∃ (r : Fin 160) (x : Fin 256), i = ix2 r x := ⟨i 0, i 1, eq_ix2 (n0 := 160) (n1 := 256) i⟩
  have ht := lt14 t
  have e := blk_1 m c t r (spot r) x ⟨160 * t.val + r.val, by omega⟩ rfl
  rw [mates_spot] at e
  rw [e]
  exact H _

theorem blk_2 (t : Fin cfg0.N) (x : Fin 256) (d : Fin 256) : iblk (F := Ideal) m c 2 t (ix2 x d) = Gwq m c (ix2 x d) := by
  unfold Gwq
  rw [← V_main_arg2 m c]
  refine congrArg (V m c main_arg2) (funext fun a => Fin.ext ?_)
  fin_cases a <;> blk_simp [e2] <;> simp

theorem blk_3 (t : Fin cfg0.N) (x : Fin 256) (d : Fin 256) : iblk (F := Ideal) m c 3 t (ix2 x d) = Gwk m c (ix2 x d) := by
  unfold Gwk
  rw [← V_main_arg3 m c]
  refine congrArg (V m c main_arg3) (funext fun a => Fin.ext ?_)
  fin_cases a <;> blk_simp [e3] <;> simp

theorem blk_4 (t : Fin cfg0.N) (x : Fin 256) (d : Fin 256) : iblk (F := Ideal) m c 4 t (ix2 x d) = Gwv m c (ix2 x d) := by
  unfold Gwv
  rw [← V_main_arg4 m c]
  refine congrArg (V m c main_arg4) (funext fun a => Fin.ext ?_)
  fin_cases a <;> blk_simp [e4] <;> simp

theorem blk_5 (t : Fin cfg0.N) (x : Fin 256) (d : Fin 256) : iblk (F := Ideal) m c 5 t (ix2 x d) = Gwo m c (ix2 x d) := by
  unfold Gwo
  rw [← V_main_arg5 m c]
  refine congrArg (V m c main_arg5) (funext fun a => Fin.ext ?_)
  fin_cases a <;> blk_simp [e5] <;> simp

theorem blk_11 (t : Fin cfg0.N) (x : Fin 256) (d : Fin 128) : iblk (F := Ideal) m c 11 t (ix2 x d) = Gwt m c (ix2 x d) := by
  unfold Gwt
  rw [← V_main_arg11 m c]
  refine congrArg (V m c main_arg11) (funext fun a => Fin.ext ?_)
  fin_cases a <;> blk_simp [e11] <;> simp

theorem blk_6 (t : Fin cfg0.N) (d : Fin 256) : iblk (F := Ideal) m c 6 t (ix2 0 d) = Gbq m c (ix1 d) := by
  rw [← row_of (Gbq m c) d, ← V_2 m c]
  refine congrArg (V m c main_v2) (funext fun a => Fin.ext ?_)
  fin_cases a <;> blk_simp [e6] <;> simp

theorem blk_7 (t : Fin cfg0.N) (d : Fin 256) : iblk (F := Ideal) m c 7 t (ix2 0 d) = Gbv m c (ix1 d) := by
  rw [← row_of (Gbv m c) d, ← V_3 m c]
  refine congrArg (V m c main_v3) (funext fun a => Fin.ext ?_)
  fin_cases a <;> blk_simp [e7] <;> simp

theorem blk_8 (t : Fin cfg0.N) (d : Fin 256) : iblk (F := Ideal) m c 8 t (ix2 0 d) = Gbo m c (ix1 d) := by
  rw [← row_of (Gbo m c) d, ← V_4 m c]
  refine congrArg (V m c main_v4) (funext fun a => Fin.ext ?_)
  fin_cases a <;> blk_simp [e8] <;> simp

theorem blk_9 (t : Fin cfg0.N) (d : Fin 256) : iblk (F := Ideal) m c 9 t (ix2 0 d) = Gg m c (ix1 d) := by
  rw [← row_of (Gg m c) d, ← V_5 m c]
  refine congrArg (V m c main_v5) (funext fun a => Fin.ext ?_)
  fin_cases a <;> blk_simp [e9] <;> simp

theorem blk_10 (t : Fin cfg0.N) (d : Fin 256) : iblk (F := Ideal) m c 10 t (ix2 0 d) = Gb m c (ix1 d) := by
  rw [← row_of (Gb m c) d, ← V_6 m c]
  refine congrArg (V m c main_v6) (funext fun a => Fin.ext ?_)
  fin_cases a <;> blk_simp [e10] <;> simp

theorem blk_12 (t : Fin cfg0.N) (d : Fin 128) : iblk (F := Ideal) m c 12 t (ix2 0 d) = Gbt m c (ix1 d) := by
  rw [← row_of_short (Gbt m c) d, ← V_7 m c]
  refine congrArg (V m c main_v7) (funext fun a => Fin.ext ?_)
  fin_cases a <;> blk_simp [e12] <;> simp

theorem fin_2 (H : ∀ i, IsFin (Gwq m c i)) (t : Fin cfg0.N) (i : S256x256.Idx) : IsFin (iblk (F := Ideal) m c 2 t i) := by
  obtain ⟨x, d, rfl⟩ : ∃ (x d : Fin 256), i = ix2 x d := ⟨i 0, i 1, eq_ix2 (n0 := 256) (n1 := 256) i⟩
  rw [blk_2]
  exact H _

theorem fin_3 (H : ∀ i, IsFin (Gwk m c i)) (t : Fin cfg0.N) (i : S256x256.Idx) : IsFin (iblk (F := Ideal) m c 3 t i) := by
  obtain ⟨x, d, rfl⟩ : ∃ (x d : Fin 256), i = ix2 x d := ⟨i 0, i 1, eq_ix2 (n0 := 256) (n1 := 256) i⟩
  rw [blk_3]
  exact H _

theorem fin_6 (H : ∀ i, IsFin (Gbq m c i)) (t : Fin cfg0.N) (i : S1x256.Idx) : IsFin (iblk (F := Ideal) m c 6 t i) := by
  obtain ⟨x, d, rfl⟩ : ∃ (x : Fin 1) (d : Fin 256), i = ix2 x d := ⟨i 0, i 1, eq_ix2 (n0 := 1) (n1 := 256) i⟩
  obtain rfl : x = 0 := Subsingleton.elim _ _
  rw [blk_6]
  exact H _

section Out
variable (x0 x1 : Vec Ideal S160x256 .bf16) (x2 x3 x4 x5 : Vec Ideal S256x256 .f32) (x6 x7 x8 x9 x10 : Vec Ideal S1x256 .f32) (x11 : Vec Ideal S256x128 .f32) (x12 : Vec Ideal S1x128 .f32)

/-- The rows the body leaves. -/
abbrev left : FVec Ideal S160x256 .f32 :=
  norm (resid (k0_pay3 (View.ld x0 r0_0)) (k0_pay6 (View.ld x0 r0_0) (View.ld x1 r0_0) (View.ld x2 r0_1) (View.ld x6 r0_2)) (k0_pay7 (View.ld x0 r0_0) (View.ld x1 r0_0) (View.ld x3 r0_1))
    (k0_pay8 (View.ld x0 r0_0) (View.ld x4 r0_1) (View.ld x7 r0_2)) (View.ld x8 r0_2) (View.ld x5 r0_3) (View.ld x5 r0_4) (View.ld x5 r0_5) (View.ld x5 r0_6)) (View.ld x9 r0_2) (View.ld x10 r0_2)

theorem left_eq : k0_pay1 (k0_pay33 x0 x1 x2 x3 x4 x5 x6 x7 x8 x9 x10 x11 x12) (k0_pay34 x0 x1 x2 x3 x4 x5 x6 x7 x8 x9 x10 x11 x12) (k0_pay35 x0 x1 x2 x3 x4 x5 x6 x7 x8 x9 x10 x11 x12) (k0_pay36 x0 x1 x2 x3 x4 x5 x6 x7 x8 x9 x10 x11 x12) = left x0 x1 x2 x3 x4 x5 x6 x7 x8 x9 x10 := rfl

/-- A whole block read at an index. -/
theorem whole {a b : ℕ} {e : EltTy} (X : (⟨2, ![a, b]⟩ : Shape).Idx → Elt Ideal e) (h : ∀ x, (![0, 0] : Fin 2 → ℕ) x + (![a, b] : Fin 2 → ℕ) x ≤ (⟨2, ![a, b]⟩ : Shape).size x) (p : Fin a) (q : Fin b) :
    View.ld X (Rect.unit (s := ⟨2, ![a, b]⟩) ![0, 0] ![a, b] h) (ix2 p q) = X (ix2 p q) :=
  Cert.Tile.ld_apply₂ X ![0, 0] h p q p q (Nat.zero_add _).symm (Nat.zero_add _).symm

theorem left_apply (r : Fin 160) (d : Fin 256) (f0 : ∀ i, IsFin (x0 i)) (f1 : ∀ i, IsFin (x1 i)) (f2 : ∀ i, IsFin (x2 i)) (f3 : ∀ i, IsFin (x3 i)) (f6 : ∀ i, IsFin (x6 i)) :
    left x0 x1 x2 x3 x4 x5 x6 x7 x8 x9 x10 (ix2 r d)
      = tokE (fun a e => x0 (ix2 (mates r a) e)) (fun a e => x1 (ix2 (mates r a) e)) (fun e d => x2 (ix2 e d)) (fun e d => x3 (ix2 e d)) (fun e d => x4 (ix2 e d)) (fun e d => x5 (ix2 e d))
        (fun d => x6 (ix2 0 d)) (fun d => x7 (ix2 0 d)) (fun d => x8 (ix2 0 d)) (fun d => x9 (ix2 0 d)) (fun d => x10 (ix2 0 d)) (spot r) d := by
  refine (row_apply _ _ _ _ _ _ _ _ _ _ _ _ _ _ (fun e d => x5 (ix2 e d)) r d (fun i => f0 _) (fun i => f1 _) (fun i => f2 _) (fun i => f3 _) (fun i => f6 _)
    (fun x d => Cert.Tile.ld_apply₂ x5 ![0, 0] inb_S256x256_S64x256_0_0 x d (hd 0 x) d (by simp [hd]) (Nat.zero_add _).symm)
    (fun x d => Cert.Tile.ld_apply₂ x5 ![64, 0] inb_S256x256_S64x256_64_0 x d (hd 1 x) d (by simp [hd]) (Nat.zero_add _).symm)
    (fun x d => Cert.Tile.ld_apply₂ x5 ![128, 0] inb_S256x256_S64x256_128_0 x d (hd 2 x) d (by simp [hd]) (Nat.zero_add _).symm)
    (fun x d => Cert.Tile.ld_apply₂ x5 ![192, 0] inb_S256x256_S64x256_192_0 x d (hd 3 x) d (by simp [hd]) (Nat.zero_add _).symm)).trans ?_
  have z0 := fun p q => whole x0 inb_S160x256_S160x256_0_0 p q
  have z1 := fun p q => whole x1 inb_S160x256_S160x256_0_0 p q
  have z2 := fun p q => whole x2 inb_S256x256_S256x256_0_0 p q
  have z3 := fun p q => whole x3 inb_S256x256_S256x256_0_0 p q
  have z4 := fun p q => whole x4 inb_S256x256_S256x256_0_0 p q
  have z6 := fun p q => whole x6 inb_S1x256_S1x256_0_0 p q
  have z7 := fun p q => whole x7 inb_S1x256_S1x256_0_0 p q
  have z8 := fun p q => whole x8 inb_S1x256_S1x256_0_0 p q
  have z9 := fun p q => whole x9 inb_S1x256_S1x256_0_0 p q
  have z10 := fun p q => whole x10 inb_S1x256_S1x256_0_0 p q
  simp only [z0, z1, z2, z3, z4, z6, z7, z8, z9, z10]

/-- The rows a point leaves. -/
theorem out_row (r : Fin 160) (d : Fin 256) (f0 : ∀ i, IsFin (x0 i)) (f1 : ∀ i, IsFin (x1 i)) (f2 : ∀ i, IsFin (x2 i)) (f3 : ∀ i, IsFin (x3 i)) (f6 : ∀ i, IsFin (x6 i)) :
    out0_13 x0 x1 x2 x3 x4 x5 x6 x7 x8 x9 x10 x11 x12 (ix2 r d)
      = tokE (fun a e => x0 (ix2 (mates r a) e)) (fun a e => x1 (ix2 (mates r a) e)) (fun e d => x2 (ix2 e d)) (fun e d => x3 (ix2 e d)) (fun e d => x4 (ix2 e d)) (fun e d => x5 (ix2 e d))
        (fun d => x6 (ix2 0 d)) (fun d => x7 (ix2 0 d)) (fun d => x8 (ix2 0 d)) (fun d => x9 (ix2 0 d)) (fun d => x10 (ix2 0 d)) (spot r) d := by
  unfold out0_13
  rw [View.canon_unit_zero (by funext x; fin_cases x <;> rfl), left_eq]
  exact left_apply _ _ _ _ _ _ _ _ _ _ _ r d f0 f1 f2 f3 f6

/-- The queries a point leaves. -/
theorem out_query (r : Fin 160) (x : Fin 128) (f0 : ∀ i, IsFin (x0 i)) (f1 : ∀ i, IsFin (x1 i)) (f2 : ∀ i, IsFin (x2 i)) (f3 : ∀ i, IsFin (x3 i)) (f6 : ∀ i, IsFin (x6 i)) :
    out0_14 x0 x1 x2 x3 x4 x5 x6 x7 x8 x9 x10 x11 x12 (ix2 r x)
      = queryE (tokE (fun a e => x0 (ix2 (mates r a) e)) (fun a e => x1 (ix2 (mates r a) e)) (fun e d => x2 (ix2 e d)) (fun e d => x3 (ix2 e d)) (fun e d => x4 (ix2 e d)) (fun e d => x5 (ix2 e d))
        (fun d => x6 (ix2 0 d)) (fun d => x7 (ix2 0 d)) (fun d => x8 (ix2 0 d)) (fun d => x9 (ix2 0 d)) (fun d => x10 (ix2 0 d)) (spot r))
        (fun d => x1 (ix2 r d)) (fun e x => x11 (ix2 e x)) (fun x => x12 (ix2 0 x)) x := by
  unfold out0_14
  rw [View.canon_unit_zero (by funext x; fin_cases x <;> rfl)]
  refine (pay2_apply _ _ _ _ _ _ _ r x).trans ?_
  rw [left_eq]
  have h1 : ∀ d, k0_pay4 (View.ld x1 r0_0) (ix2 r d) = x1 (ix2 r d) := fun d =>
    Eq.trans (by pointwise [k0_pay4]) (whole x1 inb_S160x256_S160x256_0_0 r d)
  have z11 := fun p q => whole x11 inb_S256x128_S256x128_0_0 p q
  have z12 := fun p q => whole x12 inb_S1x128_S1x128_0_0 p q
  simp only [h1, z11, z12, left_apply _ _ _ _ _ _ _ _ _ _ _ r _ f0 f1 f2 f3 f6]

end Out

/-- A point's rows, of the arguments. -/
theorem point_row (t : Fin cfg0.N) (r : Fin 160) (n : Fin 2240) (hn : n.val = 160 * t.val + r.val) :
    tokE (fun a e => iblk (F := Ideal) m c 0 t (ix2 (mates r a) e)) (fun a e => iblk (F := Ideal) m c 1 t (ix2 (mates r a) e)) (fun e d => iblk (F := Ideal) m c 2 t (ix2 e d)) (fun e d => iblk (F := Ideal) m c 3 t (ix2 e d)) (fun e d => iblk (F := Ideal) m c 4 t (ix2 e d)) (fun e d => iblk (F := Ideal) m c 5 t (ix2 e d))
        (fun d => iblk (F := Ideal) m c 6 t (ix2 0 d)) (fun d => iblk (F := Ideal) m c 7 t (ix2 0 d)) (fun d => iblk (F := Ideal) m c 8 t (ix2 0 d)) (fun d => iblk (F := Ideal) m c 9 t (ix2 0 d)) (fun d => iblk (F := Ideal) m c 10 t (ix2 0 d)) (spot r)
      = tokG (Gt m c) (Gp m c) (Gwq m c) (Gwk m c) (Gwv m c) (Gwo m c) (Gbq m c) (Gbv m c) (Gbo m c) (Gg m c) (Gb m c) (setAt n) (place n) := by
  have h0 := fun a x => blk_0 m c t r a x n hn
  have h1 := fun a x => blk_1 m c t r a x n hn
  have hp : place n = spot r := Fin.ext (by simp only [place, spot]; omega)
  unfold tokG
  simp only [h0, h1, hp, blk_2, blk_3, blk_4, blk_5, blk_6, blk_7, blk_8, blk_9, blk_10]

/-- The call's tokens. -/
theorem tokens (Ht : ∀ i, IsFin (Gt m c i)) (Hp : ∀ i, IsFin (Gp m c i)) (Hq : ∀ i, IsFin (Gwq m c i)) (Hk : ∀ i, IsFin (Gwk m c i)) (Hb : ∀ i, IsFin (Gbq m c i)) :
    (dats (F := Ideal) m 0 c).arrAt 13 cfg0.N
      = (fun y : S2240x256.Idx => tokG (Gt m c) (Gp m c) (Gwq m c) (Gwk m c) (Gwv m c) (Gwo m c) (Gbq m c) (Gbv m c) (Gbo m c) (Gg m c) (Gb m c) (setAt (y 0)) (place (y 0)) (y 1) : S2240x256.Idx → EReal) := by
  refine (dats m 0 c).arrAt_eq_of_covers 13 _ (by decide +kernel) fun t hf y => ?_
  obtain ⟨r, d, rfl⟩ : ∃ (r : Fin 160) (d : Fin 256), y = ix2 r d := ⟨y 0, y 1, eq_ix2 (n0 := 160) (n1 := 256) y⟩
  blk_simp
  rw [after0_13]
  refine (out_row _ _ _ _ _ _ _ _ _ _ _ _ _ r d (fin_0 m c Ht t) (fin_1 m c Hp t) (fin_2 m c Hq t) (fin_3 m c Hk t) (fin_6 m c Hb t)).trans ?_
  have key : ∀ (n : Fin 2240) (d' : Fin 256), n.val = 160 * t.val + r.val → d'.val = d.val →
      tokE (fun a e => iblk (F := Ideal) m c 0 t (ix2 (mates r a) e)) (fun a e => iblk (F := Ideal) m c 1 t (ix2 (mates r a) e)) (fun e d => iblk (F := Ideal) m c 2 t (ix2 e d)) (fun e d => iblk (F := Ideal) m c 3 t (ix2 e d)) (fun e d => iblk (F := Ideal) m c 4 t (ix2 e d)) (fun e d => iblk (F := Ideal) m c 5 t (ix2 e d))
        (fun d => iblk (F := Ideal) m c 6 t (ix2 0 d)) (fun d => iblk (F := Ideal) m c 7 t (ix2 0 d)) (fun d => iblk (F := Ideal) m c 8 t (ix2 0 d)) (fun d => iblk (F := Ideal) m c 9 t (ix2 0 d)) (fun d => iblk (F := Ideal) m c 10 t (ix2 0 d)) (spot r) d
      = tokG (Gt m c) (Gp m c) (Gwq m c) (Gwk m c) (Gwv m c) (Gwo m c) (Gbq m c) (Gbv m c) (Gbo m c) (Gg m c) (Gb m c) (setAt n) (place n) d' := by
    intro n d' hn hd
    obtain rfl : d' = d := Fin.ext hd
    exact congrFun (point_row m c t r n hn) _
  refine key _ _ ?_ ?_
  · blk_simp [e13]; omega
  · blk_simp [e13]

/-- The call's queries. -/
theorem queries (Ht : ∀ i, IsFin (Gt m c i)) (Hp : ∀ i, IsFin (Gp m c i)) (Hq : ∀ i, IsFin (Gwq m c i)) (Hk : ∀ i, IsFin (Gwk m c i)) (Hb : ∀ i, IsFin (Gbq m c i)) :
    (dats (F := Ideal) m 0 c).arrAt 14 cfg0.N
      = (fun y : S2240x128.Idx => queryG (Gt m c) (Gp m c) (Gwq m c) (Gwk m c) (Gwv m c) (Gwo m c) (Gbq m c) (Gbv m c) (Gbo m c) (Gg m c) (Gb m c) (Gwt m c) (Gbt m c) (setAt (y 0)) (place (y 0)) (y 1) : S2240x128.Idx → EReal) := by
  refine (dats m 0 c).arrAt_eq_of_covers 14 _ (by decide +kernel) fun t hf y => ?_
  obtain ⟨r, x, rfl⟩ : ∃ (r : Fin 160) (x : Fin 128), y = ix2 r x := ⟨y 0, y 1, eq_ix2 (n0 := 160) (n1 := 128) y⟩
  blk_simp
  rw [after0_14]
  refine (out_query _ _ _ _ _ _ _ _ _ _ _ _ _ r x (fin_0 m c Ht t) (fin_1 m c Hp t) (fin_2 m c Hq t) (fin_3 m c Hk t) (fin_6 m c Hb t)).trans ?_
  have key : ∀ (n : Fin 2240) (x' : Fin 128), n.val = 160 * t.val + r.val → x'.val = x.val →
      queryE (tokE (fun a e => iblk (F := Ideal) m c 0 t (ix2 (mates r a) e)) (fun a e => iblk (F := Ideal) m c 1 t (ix2 (mates r a) e)) (fun e d => iblk (F := Ideal) m c 2 t (ix2 e d)) (fun e d => iblk (F := Ideal) m c 3 t (ix2 e d)) (fun e d => iblk (F := Ideal) m c 4 t (ix2 e d)) (fun e d => iblk (F := Ideal) m c 5 t (ix2 e d))
        (fun d => iblk (F := Ideal) m c 6 t (ix2 0 d)) (fun d => iblk (F := Ideal) m c 7 t (ix2 0 d)) (fun d => iblk (F := Ideal) m c 8 t (ix2 0 d)) (fun d => iblk (F := Ideal) m c 9 t (ix2 0 d)) (fun d => iblk (F := Ideal) m c 10 t (ix2 0 d)) (spot r))
        (fun d => iblk (F := Ideal) m c 1 t (ix2 r d)) (fun e x => iblk (F := Ideal) m c 11 t (ix2 e x)) (fun x => iblk (F := Ideal) m c 12 t (ix2 0 x)) x
      = queryG (Gt m c) (Gp m c) (Gwq m c) (Gwk m c) (Gwv m c) (Gwo m c) (Gbq m c) (Gbv m c) (Gbo m c) (Gg m c) (Gb m c) (Gwt m c) (Gbt m c) (setAt n) (place n) x' := by
    intro n x' hn hx
    obtain rfl : x' = x := Fin.ext hx
    have h1 : ∀ d, iblk (F := Ideal) m c 1 t (ix2 r d) = Gp m c (ix3 (setAt n) (place n) d) := fun d => by
      have hp : place n = spot r := Fin.ext (by simp only [place, spot]; omega)
      have e := blk_1 m c t r (spot r) d n hn
      rw [mates_spot] at e
      rw [e, hp]
    unfold queryG
    rw [point_row m c t r n hn]
    simp only [h1, blk_11, blk_12]
  refine key _ _ ?_ ?_
  · blk_simp [e14]; omega
  · blk_simp [e14]

end Cert.SelfAtt

end
-- ==== Proof.SelfRef.lean ====
/- What the self-attention reference computes at a token, over the extended reals. -/
module

public import proofs.«01_k».proof.Proof.Gen.SelfReferenceIdeal.Run
public import proofs.«01_k».proof.Proof.SelfCore

@[expose] public section

set_option maxRecDepth 16384

noncomputable section

namespace Cert.SelfRef

open Cert.SelfReferenceIdeal Cert.SelfReferenceIdeal.Gen Idealize.ShloMosaic Idealize.ShloMosaic.TcCoe Idealize.ShloMosaic.StableHlo Cert.SelfCore

section Terms

variable {F : FTy → Type} [FloatOps F] [Named F]

/-- A vector over all tokens. -/
def rows (b : FVec F S256 .f32) : FVec F S224x10x256 .f32 :=
  broadcastInDim S224x10x256 ![0, 1, 2] bcast_S1x1x256_S224x10x256_0_1_2 (broadcastInDim S1x1x256 ![2] bcast_S256_S1x1x256_2 b)

/-- A product with a weight. -/
def dense (x : FVec F S224x10x256 .f32) (w : FVec F S256x256 .f32) : FVec F S224x10x256 .f32 :=
  Host.dotGeneral dot_S224x10x256_S256x256_S224x10x256_2_0_01_1_n_n (some .fp32) x w

/-- The features cut into heads. -/
def heads (x : FVec F S224x10x256 .f32) : FVec F S224x10x4x64 .f32 := shapeCast S224x10x4x64 x shapeCasts_S224x10x256_S224x10x4x64

/-- The scores. -/
def scores (q k : FVec F S224x10x256 .f32) : FVec F S224x4x10x10 .f32 :=
  mulf (Host.dotGeneral dot_S224x10x4x64_S224x10x4x64_S224x4x10x10_3_3_1_1_02_02 (some .fp32) (heads q) (heads k))
    (broadcastInDim S224x4x10x10 ![] bcast_S_S224x4x10x10 (constant S_ .f32 0x3E000000#32))

/-- A number for each row of scores, over the row. -/
def over (x : FVec F S224x4x10 .f32) : FVec F S224x4x10x10 .f32 :=
  broadcastInDim S224x4x10x10 ![0, 1, 2, 3] bcast_S224x4x10x1_S224x4x10x10_0_1_2_3 (broadcastInDim S224x4x10x1 ![0, 1, 2] bcast_S224x4x10_S224x4x10x1_0_1_2 x)

/-- The exponentials. -/
def powers (s : FVec F S224x4x10x10 .f32) : FVec F S224x4x10x10 .f32 :=
  Host.exp (subf s (over (Host.reduce FloatOps.maximumf s (constant S_ .f32 0xFF800000#32) reducesTo_S224x4x10x10_S224x4x10_d3 h_S_)))

/-- The weights. -/
def weights (e : FVec F S224x4x10x10 .f32) : FVec F S224x4x10x10 .f32 :=
  Host.divf e (over (Host.reduceAdd e (constant S_ .f32 0x00000000#32) reducesTo_S224x4x10x10_S224x4x10_d3 h_S_))

/-- The attention. -/
def att (p : FVec F S224x4x10x10 .f32) (v : FVec F S224x10x256 .f32) : FVec F S224x10x256 .f32 :=
  shapeCast S224x10x256 (transpose S224x10x4x64 [0, 3, 1, 2] (Host.dotGeneral dot_S224x10x4x64_S224x4x10x10_S224x4x64x10_1_3_3_2_02_01 (some .fp32) (heads v) p) transposes_S224x4x64x10_S224x10x4x64_0_3_1_2)
    shapeCasts_S224x10x4x64_S224x10x256

/-- The tokens' means. -/
def mean (x : FVec F S224x10x256 .f32) : FVec F S224x10x1 .f32 :=
  Host.divf (broadcastInDim S224x10x1 ![0, 1] bcast_S224x10_S224x10x1_0_1 (Host.reduceAdd x (constant S_ .f32 0x00000000#32) reducesTo_S224x10x256_S224x10_d2 h_S_))
    (broadcastInDim S224x10x1 ![] bcast_S_S224x10x1 (constant S_ .f32 0x43800000#32))

/-- The tokens less their means. -/
def centred (x : FVec F S224x10x256 .f32) : FVec F S224x10x256 .f32 :=
  subf x (broadcastInDim S224x10x256 ![0, 1, 2] bcast_S224x10x1_S224x10x256_0_1_2 (mean x))

/-- The tokens normalised. -/
def norm (x : FVec F S224x10x256 .f32) (g b : FVec F S256 .f32) : FVec F S224x10x256 .f32 :=
  addf (mulf (mulf (centred x) (broadcastInDim S224x10x256 ![0, 1, 2] bcast_S224x10x1_S224x10x256_0_1_2
    (Host.rsqrt (addf (mean (mulf (centred x) (centred x))) (broadcastInDim S224x10x1 ![] bcast_S_S224x10x1 (constant S_ .f32 0x3727C5AC#32)))))) (rows g)) (rows b)

/-- The tokens in the wider format. -/
def wide (x : FVec F S224x10x256 .bf16) : FVec F S224x10x256 .f32 := extf .f32 x bitsLt_bf16_f32

/-- The queries, the keys and the values. -/
def projQ (t p : FVec F S224x10x256 .bf16) (w : FVec F S256x256 .f32) (b : FVec F S256 .f32) : FVec F S224x10x256 .f32 := addf (dense (addf (wide t) (wide p)) w) (rows b)
def projK (t p : FVec F S224x10x256 .bf16) (w : FVec F S256x256 .f32) : FVec F S224x10x256 .f32 := dense (addf (wide t) (wide p)) w
def projV (t : FVec F S224x10x256 .bf16) (w : FVec F S256x256 .f32) (b : FVec F S256 .f32) : FVec F S224x10x256 .f32 := addf (dense (wide t) w) (rows b)

/-- The tokens after their attention. -/
def after (t p : FVec F S224x10x256 .bf16) (wq wk wv wo : FVec F S256x256 .f32) (bq bv bo g b : FVec F S256 .f32) : FVec F S224x10x256 .f32 :=
  norm (addf (wide t) (addf (dense (att (weights (powers (scores (projQ t p wq bq) (projK t p wk)))) (projV t wv bv)) wo) (rows bo))) g b

/-- The next queries. -/
def next (u : FVec F S224x10x256 .f32) (p : FVec F S224x10x256 .bf16) (w : FVec F S256x128 .f32) (b : FVec F S128 .f32) : FVec F S224x10x128 .f32 :=
  addf (Host.dotGeneral dot_S224x10x256_S256x128_S224x10x128_2_0_01_1_n_n (some .fp32) (addf u (wide p)) w)
    (broadcastInDim S224x10x128 ![0, 1, 2] bcast_S1x1x128_S224x10x128_0_1_2 (broadcastInDim S1x1x128 ![2] bcast_S128_S1x1x128_2 b))

variable (m : (ℓ : Loc nD τ sig) → Buf (Elt F) ℓ) (c : Dev nD)

/-- The tokens after their attention, of the arguments. -/
def afterM : FVec F S224x10x256 .f32 :=
  after (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

set_option maxHeartbeats 4000000 in
/-- The reference's tokens. -/
theorem tokens_eq : Value.res_main_v58 m c = shapeCast S2240x256 (afterM m c) shapeCasts_S224x10x256_S2240x256 := by
  unfold Value.res_main_v58 afterM after norm centred mean att weights powers over scores heads projQ projK projV dense rows wide
  rfl

set_option maxHeartbeats 4000000 in
/-- The reference's queries. -/
theorem queries_eq : Value.res_main_v64 m c = shapeCast S2240x128 (next (afterM m c) (m ((c.tc : Thread nD τ).loc main_arg1)) (m ((c.tc : Thread nD τ).loc main_arg11)) (m ((c.tc : Thread nD τ).loc main_arg12))) shapeCasts_S224x10x128_S2240x128 := by
  unfold Value.res_main_v64 next afterM after norm centred mean att weights powers over scores heads projQ projK projV dense rows wide
  rfl

end Terms

/-- A vector over all tokens, at an index. -/
theorem rows_apply (b : FVec Ideal S256 .f32) (s : Fin 224) (n : Fin 10) (d : Fin 256) : rows b (ix3 s n d) = b (ix1 d) := by
  pointwise [rows]

/-- A product with a weight, at an index. -/
theorem dense_apply (x : FVec Ideal S224x10x256 .f32) (w : FVec Ideal S256x256 .f32) (s : Fin 224) (n : Fin 10) (d : Fin 256) :
    dense x w (ix3 s n d) = linE (fun e => x (ix3 s n e)) (fun e d => w (ix2 e d)) d := by
  unfold linE
  pointwise [dense]

/-- The features cut into heads, at an index. -/
theorem heads_apply (x : FVec Ideal S224x10x256 .f32) (s : Fin 224) (n : Fin 10) (h : Fin 4) (y : Fin 64) : heads x (ix4 s n h y) = x (ix3 s n (hd h y)) := by
  pointwise [heads]

/-- The scores, at an index. -/
theorem scores_apply (q k : FVec Ideal S224x10x256 .f32) (s : Fin 224) (h : Fin 4) (i j : Fin 10) :
    scores q k (ix4 s h i j) = scE (fun d => q (ix3 s i d)) (fun d => k (ix3 s j d)) h := by
  unfold scE
  pointwise [scores]
  simp only [heads_apply]

/-- The weights, at an index. -/
theorem weights_apply (x : FVec Ideal S224x4x10x10 .f32) (s : Fin 224) (h : Fin 4) (i j : Fin 10) :
    weights (powers x) (ix4 s h i j) = wE (fun j => x (ix4 s h i j)) j := by
  unfold wE mxE
  pointwise [weights, powers, over]

/-- The attention, at an index. -/
theorem att_apply (p : FVec Ideal S224x4x10x10 .f32) (v : FVec Ideal S224x10x256 .f32) (s : Fin 224) (i : Fin 10) (h : Fin 4) (x : Fin 64) :
    att p v (ix3 s i (hd h x)) = ∑ j, p (ix4 s h i j) * v (ix3 s j (hd h x)) := by
  pointwise [att]
  refine Finset.sum_congr rfl fun j _ => ?_
  have hh : (⟨(h.val * 64 + x.val) / 64, by omega⟩ : Fin 4) = h := Fin.ext (by simp only; omega)
  have hx : (⟨(h.val * 64 + x.val) % 64, by omega⟩ : Fin 64) = x := Fin.ext (by simp only; omega)
  rw [hh, hx, heads_apply, mul_comm]

/-- The means, at an index. -/
theorem mean_apply (x : FVec Ideal S224x10x256 .f32) (s : Fin 224) (n : Fin 10) : mean x (ix3 s n 0) = TokCore.meanE fun d => x (ix3 s n d) := by
  unfold TokCore.meanE
  pointwise [mean]

/-- The tokens less their means, at an index. -/
theorem centred_apply (x : FVec Ideal S224x10x256 .f32) (s : Fin 224) (n : Fin 10) (d : Fin 256) : centred x (ix3 s n d) = x (ix3 s n d) - TokCore.meanE fun d => x (ix3 s n d) := by
  pointwise [centred]
  rw [mean_apply]

/-- The tokens normalised, at an index. -/
theorem norm_apply (x : FVec Ideal S224x10x256 .f32) (g b : FVec Ideal S256 .f32) (s : Fin 224) (n : Fin 10) (d : Fin 256) :
    norm x g b (ix3 s n d) = TokCore.normE (fun d => x (ix3 s n d)) (fun d => g (ix1 d)) (fun d => b (ix1 d)) d := by
  unfold TokCore.normE
  pointwise [norm]
  rw [rows_apply, rows_apply, mean_apply, centred_apply]
  unfold TokCore.meanE
  simp only [mulf_apply, centred_apply]
  unfold TokCore.meanE
  rfl

/-- The tokens after their attention, at an index. -/
theorem after_apply (t p : FVec Ideal S224x10x256 .bf16) (wq wk wv wo : FVec Ideal S256x256 .f32) (bq bv bo g b : FVec Ideal S256 .f32) (s : Fin 224) (n : Fin 10) (d : Fin 256) :
    after t p wq wk wv wo bq bv bo g b (ix3 s n d) = tokG t p wq wk wv wo bq bv bo g b s n d := by
  unfold after
  refine (norm_apply _ g b s n d).trans ?_
  unfold tokG tokE rowE
  refine congrArg (fun v => TokCore.normE v _ _ d) (funext fun d => ?_)
  have hQ : ∀ a d, projQ t p wq bq (ix3 s a d) = linE (fun e => t (ix3 s a e) + p (ix3 s a e)) (fun e d => wq (ix2 e d)) d + bq (ix1 d) := fun a d =>
    congrArg₂ (· + ·) (dense_apply _ wq s a d) (rows_apply bq s a d)
  have hK : ∀ a d, projK t p wk (ix3 s a d) = linE (fun e => t (ix3 s a e) + p (ix3 s a e)) (fun e d => wk (ix2 e d)) d := fun a d => dense_apply _ wk s a d
  have hV : ∀ a d, projV t wv bv (ix3 s a d) = linE (fun e => t (ix3 s a e)) (fun e d => wv (ix2 e d)) d + bv (ix1 d) := fun a d =>
    congrArg₂ (· + ·) (dense_apply _ wv s a d) (rows_apply bv s a d)
  refine congrArg₂ (· + ·) rfl (congrArg₂ (· + ·) ?_ (rows_apply bo s n d))
  refine (dense_apply _ wo s n d).trans ?_
  unfold linE projE
  rw [← sum_heads]
  refine Finset.sum_congr rfl fun h _ => Finset.sum_congr rfl fun x _ => congrArg₂ (· * ·) ?_ rfl
  refine (att_apply _ _ s n h x).trans ?_
  unfold oE attE
  simp only [weights_apply, scores_apply, hQ, hK, hV]
  rfl

/-- The next queries, at an index. -/
theorem next_apply (u : FVec Ideal S224x10x256 .f32) (p : FVec Ideal S224x10x256 .bf16) (w : FVec Ideal S256x128 .f32) (b : FVec Ideal S128 .f32) (s : Fin 224) (n : Fin 10) (x : Fin 128) :
    next u p w b (ix3 s n x) = queryE (fun d => u (ix3 s n d)) (fun d => p (ix3 s n d)) (fun e x => w (ix2 e x)) (fun x => b (ix1 x)) x := by
  unfold queryE linE
  pointwise [next, wide]

variable (m : (ℓ : Loc nD τ sig) → Buf (Elt Ideal) ℓ) (c : Dev nD)

/-- The reference's tokens, at an index. -/
theorem tokens (n : Fin 2240) (d : Fin 256) : (Value.res_main_v58 m c : FVec Ideal S2240x256 .f32) (ix2 n d)
    = tokG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (setAt n) (place n) d := by
  rw [tokens_eq]
  have h : ∀ u : FVec Ideal S224x10x256 .f32, shapeCast S2240x256 u shapeCasts_S224x10x256_S2240x256 (ix2 n d) = u (ix3 (setAt n) (place n) d) := by
    intro u
    pointwise []
  exact (h _).trans (after_apply _ _ _ _ _ _ _ _ _ _ _ _ _ d)

/-- The reference's queries, at an index. -/
theorem queries (n : Fin 2240) (x : Fin 128) : (Value.res_main_v64 m c : FVec Ideal S2240x128 .f32) (ix2 n x)
    = queryG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (setAt n) (place n) x := by
  rw [queries_eq]
  have h : ∀ u : FVec Ideal S224x10x128 .f32, shapeCast S2240x128 u shapeCasts_S224x10x128_S2240x128 (ix2 n x) = u (ix3 (setAt n) (place n) x) := by
    intro u
    pointwise []
  refine (h _).trans ((next_apply _ _ _ _ _ _ x).trans ?_)
  unfold queryG
  exact congrArg (fun u => queryE u _ _ _ x) (funext fun d => after_apply _ _ _ _ _ _ _ _ _ _ _ _ _ d)

end Cert.SelfRef

end
-- ==== Proof.SelfPre.lean ====
/- What the precondition says: every token, position and weight the scores read is a real number. -/
module

public import proofs.«01_k».proof.Pre_finite
public import proofs.«01_k».proof.Proof.SelfCore
public import Idealize.ShloMosaic.Lib.Pointwise

@[expose] public section

set_option maxRecDepth 16384

noncomputable section

namespace Cert.SelfPre

open Cert.Pre_finite Cert.SelfCore Idealize.ShloMosaic

/-- The precondition's shape relations. -/
instance facts : Cert.Pre_finite.Facts where
  bitsLt_bf16_f32 := by decide
  shapeCasts_S224x10x256_S2240x256 := by decide
  bcast_S_S2240x256 := by decide
  bcast_S_S256x256 := by decide
  shapeCasts_S256_S1x256 := by decide
  bcast_S_S1x256 := by decide
  concatenates_S2240x256_S2240x256_S256x256_S256x256_S1x256_S4993x256_d0 := by decide

/-- A comparison with infinity that holds says its operand is a real number. -/
theorem fin_of {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : IsFin (x i) := by
  have t : (Ideal.ofBits .f32 0x7F800000#32 : EReal) = ⊤ := by simp [Ideal.ofBits, Ideal.ieee]
  have e' : BitVec.ofBool (decide (max (x i) (-x i) < (Ideal.ofBits .f32 0x7F800000#32 : EReal))) = 1#1 := e
  rw [t] at e'
  constructor
  · intro hx
    rw [hx] at e'
    simp at e'
  · intro hx
    rw [hx] at e'
    simp at e'

section Cat
variable (a b : IVec S2240x256 1) (u v : IVec S256x256 1) (w : IVec S1x256 1) (H : Shape.Concatenates [S2240x256, S2240x256, S256x256, S256x256, S1x256] S4993x256 0)

theorem cat_0 (n : Fin 2240) (d : Fin 256) :
    concatenate S4993x256 0 [⟨S2240x256, a⟩, ⟨S2240x256, b⟩, ⟨S256x256, u⟩, ⟨S256x256, v⟩, ⟨S1x256, w⟩] H (ix2 ⟨n.val, by omega⟩ d) = a (ix2 n d) := by
  have h0 : n.val < 2240 := n.isLt
  pointwise [h0]

theorem cat_1 (n : Fin 2240) (d : Fin 256) :
    concatenate S4993x256 0 [⟨S2240x256, a⟩, ⟨S2240x256, b⟩, ⟨S256x256, u⟩, ⟨S256x256, v⟩, ⟨S1x256, w⟩] H (ix2 ⟨2240 + n.val, by omega⟩ d) = b (ix2 n d) := by
  have h0 : ¬ 2240 + n.val < 2240 := by omega
  pointwise [h0]

theorem cat_2 (n : Fin 256) (d : Fin 256) :
    concatenate S4993x256 0 [⟨S2240x256, a⟩, ⟨S2240x256, b⟩, ⟨S256x256, u⟩, ⟨S256x256, v⟩, ⟨S1x256, w⟩] H (ix2 ⟨4480 + n.val, by omega⟩ d) = u (ix2 n d) := by
  have h0 : ¬ 4480 + n.val < 2240 := by omega
  have h1 : ¬ 4480 + n.val - 2240 < 2240 := by omega
  have h2 : 4480 + n.val - 2240 - 2240 < 256 := by omega
  pointwise [h0, h1, h2]
  exact congrArg (fun k => u (ix2 k d)) (Fin.ext (by simp only; omega))

theorem cat_3 (n : Fin 256) (d : Fin 256) :
    concatenate S4993x256 0 [⟨S2240x256, a⟩, ⟨S2240x256, b⟩, ⟨S256x256, u⟩, ⟨S256x256, v⟩, ⟨S1x256, w⟩] H (ix2 ⟨4736 + n.val, by omega⟩ d) = v (ix2 n d) := by
  have h0 : ¬ 4736 + n.val < 2240 := by omega
  have h1 : ¬ 4736 + n.val - 2240 < 2240 := by omega
  have h2 : ¬ 4736 + n.val - 2240 - 2240 < 256 := by omega
  have h3 : 4736 + n.val - 2240 - 2240 - 256 < 256 := by omega
  pointwise [h0, h1, h2, h3]
  exact congrArg (fun k => v (ix2 k d)) (Fin.ext (by simp only; omega))

theorem cat_4 (n : Fin 1) (d : Fin 256) :
    concatenate S4993x256 0 [⟨S2240x256, a⟩, ⟨S2240x256, b⟩, ⟨S256x256, u⟩, ⟨S256x256, v⟩, ⟨S1x256, w⟩] H (ix2 ⟨4992 + n.val, by omega⟩ d) = w (ix2 n d) := by
  have h0 : ¬ 4992 + n.val < 2240 := by omega
  have h1 : ¬ 4992 + n.val - 2240 < 2240 := by omega
  have h2 : ¬ 4992 + n.val - 2240 - 2240 < 256 := by omega
  have h3 : ¬ 4992 + n.val - 2240 - 2240 - 256 < 256 := by omega
  pointwise [h0, h1, h2, h3]
  rw [Subsingleton.elim n 0]

end Cat

variable (a0 a1 : FVec Ideal S224x10x256 .bf16) (a2 a3 a4 a5 : FVec Ideal S256x256 .f32) (a6 a7 a8 a9 a10 : FVec Ideal S256 .f32) (a11 : FVec Ideal S256x128 .f32) (a12 : FVec Ideal S128 .f32)

/-- A member of a set, as a row of the sets one below the other. -/
theorem rows_of (x : FVec Ideal S224x10x256 .bf16) (h : FTy.bits .bf16 < FTy.bits .f32) (h' : S224x10x256.ShapeCasts S2240x256) (s : Fin 224) (n : Fin 10) (d : Fin 256) :
    shapeCast S2240x256 (extf .f32 x h : FVec Ideal S224x10x256 .f32) h' (ix2 ⟨s.val * 10 + n.val, by omega⟩ d) = x (ix3 s n d) := by
  pointwise []

/-- Of arguments that meet the precondition, each entry the scores read is a real number. -/
theorem finite (H : fn (F := Ideal) a0 a1 a2 a3 a4 a5 a6 a7 a8 a9 a10 a11 a12 = fun _ => 1#1) :
    (∀ i, IsFin (a0 i)) ∧ (∀ i, IsFin (a1 i)) ∧ (∀ i, IsFin (a2 i)) ∧ (∀ i, IsFin (a3 i)) ∧ (∀ i, IsFin (a6 i)) := by
  refine ⟨fun i => ?_, fun i => ?_, fun i => ?_, fun i => ?_, fun i => ?_⟩
  · obtain ⟨s, n, d, rfl⟩ : ∃ (s : Fin 224) (n : Fin 10) (d : Fin 256), i = ix3 s n d := ⟨i 0, i 1, i 2, eq_ix3 (n0 := 224) (n1 := 10) (n2 := 256) i⟩
    have e := fin_of _ _ _ ((cat_0 _ _ _ _ _ Facts.concatenates_S2240x256_S2240x256_S256x256_S256x256_S1x256_S4993x256_d0 ⟨s.val * 10 + n.val, by omega⟩ d).symm.trans (congrFun H _))
    rwa [rows_of] at e
  · obtain ⟨s, n, d, rfl⟩ : ∃ (s : Fin 224) (n : Fin 10) (d : Fin 256), i = ix3 s n d := ⟨i 0, i 1, i 2, eq_ix3 (n0 := 224) (n1 := 10) (n2 := 256) i⟩
    have e := fin_of _ _ _ ((cat_1 _ _ _ _ _ Facts.concatenates_S2240x256_S2240x256_S256x256_S256x256_S1x256_S4993x256_d0 ⟨s.val * 10 + n.val, by omega⟩ d).symm.trans (congrFun H _))
    rwa [rows_of] at e
  · obtain ⟨x, d, rfl⟩ : ∃ (x d : Fin 256), i = ix2 x d := ⟨i 0, i 1, eq_ix2 (n0 := 256) (n1 := 256) i⟩
    exact fin_of _ _ _ ((cat_2 _ _ _ _ _ Facts.concatenates_S2240x256_S2240x256_S256x256_S256x256_S1x256_S4993x256_d0 x d).symm.trans (congrFun H _))
  · obtain ⟨x, d, rfl⟩ : ∃ (x d : Fin 256), i = ix2 x d := ⟨i 0, i 1, eq_ix2 (n0 := 256) (n1 := 256) i⟩
    exact fin_of _ _ _ ((cat_3 _ _ _ _ _ Facts.concatenates_S2240x256_S2240x256_S256x256_S256x256_S1x256_S4993x256_d0 x d).symm.trans (congrFun H _))
  · obtain ⟨d, rfl⟩ : ∃ (d : Fin 256), i = ix1 d := ⟨i 0, eq_ix1 (n0 := 256) i⟩
    have e : ∀ n : Fin 1, IsFin (shapeCast S1x256 a6 Facts.shapeCasts_S256_S1x256 (ix2 n d)) := fun n =>
      fin_of _ _ _ ((cat_4 _ _ _ _ _ Facts.concatenates_S2240x256_S2240x256_S256x256_S256x256_S1x256_S4993x256_d0 n d).symm.trans (congrFun H _))
    have h : shapeCast S1x256 a6 Facts.shapeCasts_S256_S1x256 (ix2 0 d) = a6 (ix1 d) := by pointwise []
    rw [← h]
    exact e 0

end Cert.SelfPre

end
-- ==== Proof.SelfEqual.lean ====
/- The self-attention call and its reference leave the same tokens and queries of finite arguments. -/
module

public import proofs.«01_k».proof.Defs
public import proofs.«01_k».proof.Proof.SelfArr
public import proofs.«01_k».proof.Proof.SelfRef
public import proofs.«01_k».proof.Proof.SelfPre

@[expose] public section

set_option maxRecDepth 16384

noncomputable section

namespace Cert.Proof

open Idealize.ShloMosaic Idealize.SL.Sem

/-- The self-attention call and its reference leave the same tokens and queries of finite arguments that agree. -/
theorem algebraic_self : Cert.algebraic_SelfIdeal_SelfReferenceIdeal_pre_finite := by
  intro m ρ m' ρ' hpre hagree
  refine ⟨_, _, (θ_run Cert.SelfIdeal.defs _ _).mono (fun _ h c => h c) (Cert.SelfIdeal.Value.run_blocks (F := Ideal) m ρ), ?_⟩
  refine (θ_run Cert.SelfReferenceIdeal.defs _ _).mono (fun _ h c => ⟨(h c).1.trans ?_, (h c).2.1.trans ?_, (h c).2.2⟩) (Cert.SelfReferenceIdeal.Value.run (F := Ideal) m' ρ')
  all_goals
    obtain ⟨ht, hp, hq, hk, hb⟩ := Cert.SelfPre.finite _ _ _ _ _ _ _ _ _ _ _ _ _ (hpre c)
    obtain ⟨a0, a1, a2, a3, a4, a5, a6, a7, a8, a9, a10, a11, a12⟩ := hagree c
  · refine Eq.trans ?_ (Cert.SelfAtt.tokens m c ht hp hq hk hb).symm
    funext y
    obtain ⟨n, d, rfl⟩ : ∃ (n : Fin 2240) (d : Fin 256), y = ix2 n d := ⟨y 0, y 1, eq_ix2 (n0 := 2240) (n1 := 256) y⟩
    refine (Cert.SelfRef.tokens m' c n d).trans ?_
    rw [a0, a1, a2, a3, a4, a5, a6, a7, a8, a9, a10]
    rfl
  · refine Eq.trans ?_ (Cert.SelfAtt.queries m c ht hp hq hk hb).symm
    funext y
    obtain ⟨n, x, rfl⟩ : ∃ (n : Fin 2240) (x : Fin 128), y = ix2 n x := ⟨y 0, y 1, eq_ix2 (n0 := 2240) (n1 := 128) y⟩
    refine (Cert.SelfRef.queries m' c n x).trans ?_
    rw [a0, a1, a2, a3, a4, a5, a6, a7, a8, a9, a10, a11, a12]
    rfl

/-- The self-attention reference runs to an end and leaves its arguments and counters as they were. -/
theorem quiescent_selfReference : Cert.quiescent_SelfReferenceIdeal := fun m ρ _ =>
  (θ_run Cert.SelfReferenceIdeal.defs _ _).mono (fun r h => ⟨fun c => (h c).2.2, sem_eq_zero_of_no_sems (by decide) r.2⟩) (Cert.SelfReferenceIdeal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.Image
public import proofs.«01_k».proof.Proof.Gen.Image.Skeleton
public import proofs.«01_k».proof.Proof.Gen.Image.Launch
public import proofs.«01_k».proof.Proof.Gen.Image.Points
public import proofs.«01_k».proof.Proof.Gen.Image.Frame
public import proofs.«01_k».proof.Proof.Gen.ImageIdeal
public import proofs.«01_k».proof.Proof.Gen.ImageIdeal.Skeleton
public import proofs.«01_k».proof.Proof.Gen.ImageIdeal.Launch
public import proofs.«01_k».proof.Proof.Gen.ImageIdeal.Points
public import proofs.«01_k».proof.Proof.Gen.ImageIdeal.Frame
public import proofs.«01_k».proof.Proof.Gen.ImageReferenceIdeal
public import proofs.«01_k».proof.Proof.Gen.ImageReferenceIdeal.Skeleton
public import proofs.«01_k».proof.Proof.Gen.ImageReferenceIdeal.Launch
public import proofs.«01_k».proof.Proof.Gen.ImageReferenceIdeal.Points
public import proofs.«01_k».proof.Proof.Gen.ImageReferenceIdeal.Frame
public import proofs.«01_k».proof.Proof.Gen.ImageReferenceIdeal.Run
public import proofs.«01_k».proof.Proof.Gen.Self
public import proofs.«01_k».proof.Proof.Gen.Self.Skeleton
public import proofs.«01_k».proof.Proof.Gen.Self.Launch
public import proofs.«01_k».proof.Proof.Gen.Self.Points
public import proofs.«01_k».proof.Proof.Gen.Self.Frame
public import proofs.«01_k».proof.Proof.Gen.SelfIdeal
public import proofs.«01_k».proof.Proof.Gen.SelfIdeal.Skeleton
public import proofs.«01_k».proof.Proof.Gen.SelfIdeal.Launch
public import proofs.«01_k».proof.Proof.Gen.SelfIdeal.Points
public import proofs.«01_k».proof.Proof.Gen.SelfIdeal.Frame
public import proofs.«01_k».proof.Proof.Gen.SelfIdeal.Value
public import proofs.«01_k».proof.Proof.Gen.SelfReferenceIdeal
public import proofs.«01_k».proof.Proof.Gen.SelfReferenceIdeal.Run
public import proofs.«01_k».proof.Proof.Gen.Token
public import proofs.«01_k».proof.Proof.Gen.Token.Skeleton
public import proofs.«01_k».proof.Proof.Gen.Token.Launch
public import proofs.«01_k».proof.Proof.Gen.Token.Points
public import proofs.«01_k».proof.Proof.Gen.Token.Frame
public import proofs.«01_k».proof.Proof.Gen.TokenIdeal
public import proofs.«01_k».proof.Proof.Gen.TokenIdeal.Skeleton
public import proofs.«01_k».proof.Proof.Gen.TokenIdeal.Launch
public import proofs.«01_k».proof.Proof.Gen.TokenIdeal.Points
public import proofs.«01_k».proof.Proof.Gen.TokenIdeal.Frame
public import proofs.«01_k».proof.Proof.Gen.TokenIdeal.Value
public import proofs.«01_k».proof.Proof.Gen.TokenReferenceIdeal
public import proofs.«01_k».proof.Proof.Gen.TokenReferenceIdeal.Run
public import proofs.«01_k».proof.Proof.Equal
public import proofs.«01_k».proof.Proof.TokEqual
public import proofs.«01_k».proof.Proof.ImgBody
public import proofs.«01_k».proof.Proof.ImgEqual
public import proofs.«01_k».proof.Proof.SelfEqual
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Image.Gen.facts, Cert.ImageIdeal.Gen.facts, Cert.ImageReferenceIdeal.Gen.facts,
  Cert.Self.Gen.facts, Cert.SelfIdeal.Gen.facts, Cert.SelfReferenceIdeal.Gen.facts,
  Cert.Token.Gen.facts, Cert.TokenIdeal.Gen.facts, Cert.TokenReferenceIdeal.Gen.facts, Cert.SelfPre.facts,
  fun m ρ _ => Cert.Kernel.Gen.frame m ρ, fun m ρ _ => Cert.KernelIdeal.Gen.frame m ρ, fun m ρ _ => Cert.ReferenceIdeal.Gen.frame m ρ,
  fun m ρ _ => Cert.Image.Body.frame m ρ, fun m ρ _ => Cert.ImageIdeal.Body.frame m ρ, fun m ρ _ => Cert.ImageReferenceIdeal.Gen.frame m ρ,
  fun m ρ _ => Cert.Self.Gen.frame m ρ, fun m ρ _ => Cert.SelfIdeal.Gen.frame m ρ, fun m ρ _ => Cert.SelfIdeal.Gen.frame m ρ,
  quiescent_selfReference, fun m ρ _ => quiescent_selfReference m ρ trivial,
  fun m ρ _ => Cert.Token.Gen.frame m ρ, fun m ρ _ => Cert.TokenIdeal.Gen.frame m ρ, quiescent_tokenReference,
  IdealRules.named_const.statement Cert.KernelIdeal.κ "log2e" .f32 0x3FB8AA3B#32 (((Real.log 2)⁻¹ : ℝ) : EReal) rfl,
  algebraic,
  IdealRules.named_const.statement Cert.ImageIdeal.κ "log2e" .f32 0x3FB8AA3B#32 (((Real.log 2)⁻¹ : ℝ) : EReal) rfl,
  algebraic_image, trivial, algebraic_self, trivial, algebraic_token⟩

end Cert.Proof

end
